-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitRefIdeal (m : (ℓ : Loc Cert.SplitRefIdeal.nD Cert.SplitRefIdeal.τ Cert.SplitRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Enter (m : (ℓ : Loc Cert.Enter.nD Cert.Enter.τ Cert.Enter.sig) → Buf (Elt Bits) ℓ) : Prop :=
  True

def Pre_EnterIdeal (m : (ℓ : Loc Cert.EnterIdeal.nD Cert.EnterIdeal.τ Cert.EnterIdeal.sig) → Buf (Elt Ideal) ℓ) : Prop :=
  True

def Pre_EnterRefIdeal (m : (ℓ : Loc Cert.EnterRefIdeal.nD Cert.EnterRefIdeal.τ Cert.EnterRefIdeal.sig) → Buf (Elt Ideal) ℓ) : Prop :=
  True

def Pre_Again (m : (ℓ : Loc Cert.Again.nD Cert.Again.τ Cert.Again.sig) → Buf (Elt Bits) ℓ) : Prop :=
  True

def Pre_AgainIdeal (m : (ℓ : Loc Cert.AgainIdeal.nD Cert.AgainIdeal.τ Cert.AgainIdeal.sig) → Buf (Elt Ideal) ℓ) : Prop :=
  True

def Pre_AgainRefIdeal (m : (ℓ : Loc Cert.AgainRefIdeal.nD Cert.AgainRefIdeal.τ Cert.AgainRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0)
      ∧ r.2.mem ((c.tc : Thread Cert.Split.nD Cert.Split.τ).loc Cert.Split.main_arg1) = m ((c.tc : Thread Cert.Split.nD Cert.Split.τ).loc Cert.Split.main_arg1)
      ∧ r.2.mem ((c.tc : Thread Cert.Split.nD Cert.Split.τ).loc Cert.Split.main_arg2) = m ((c.tc : Thread Cert.Split.nD Cert.Split.τ).loc Cert.Split.main_arg2)
      ∧ r.2.mem ((c.tc : Thread Cert.Split.nD Cert.Split.τ).loc Cert.Split.main_arg3) = m ((c.tc : Thread Cert.Split.nD Cert.Split.τ).loc Cert.Split.main_arg3)
      ∧ r.2.mem ((c.tc : Thread Cert.Split.nD Cert.Split.τ).loc Cert.Split.main_arg4) = m ((c.tc : Thread Cert.Split.nD Cert.Split.τ).loc Cert.Split.main_arg4)
      ∧ r.2.mem ((c.tc : Thread Cert.Split.nD Cert.Split.τ).loc Cert.Split.main_arg5) = m ((c.tc : Thread Cert.Split.nD Cert.Split.τ).loc Cert.Split.main_arg5)
      ∧ r.2.mem ((c.tc : Thread Cert.Split.nD Cert.Split.τ).loc Cert.Split.main_arg6) = m ((c.tc : Thread Cert.Split.nD Cert.Split.τ).loc Cert.Split.main_arg6)
      ∧ r.2.mem ((c.tc : Thread Cert.Split.nD Cert.Split.τ).loc Cert.Split.main_arg7) = m ((c.tc : Thread Cert.Split.nD Cert.Split.τ).loc Cert.Split.main_arg7)
      ∧ r.2.mem ((c.tc : Thread Cert.Split.nD Cert.Split.τ).loc Cert.Split.main_arg8) = m ((c.tc : Thread Cert.Split.nD Cert.Split.τ).loc Cert.Split.main_arg8)
      ∧ r.2.mem ((c.tc : Thread Cert.Split.nD Cert.Split.τ).loc Cert.Split.main_arg9) = m ((c.tc : Thread Cert.Split.nD Cert.Split.τ).loc Cert.Split.main_arg9))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
      ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2)
      ∧ r.2.mem ((c.tc : Thread Cert.SplitIdeal.nD Cert.SplitIdeal.τ).loc Cert.SplitIdeal.main_arg3) = m ((c.tc : Thread Cert.SplitIdeal.nD Cert.SplitIdeal.τ).loc Cert.SplitIdeal.main_arg3)
      ∧ r.2.mem ((c.tc : Thread Cert.SplitIdeal.nD Cert.SplitIdeal.τ).loc Cert.SplitIdeal.main_arg4) = m ((c.tc : Thread Cert.SplitIdeal.nD Cert.SplitIdeal.τ).loc Cert.SplitIdeal.main_arg4)
      ∧ r.2.mem ((c.tc : Thread Cert.SplitIdeal.nD Cert.SplitIdeal.τ).loc Cert.SplitIdeal.main_arg5) = m ((c.tc : Thread Cert.SplitIdeal.nD Cert.SplitIdeal.τ).loc Cert.SplitIdeal.main_arg5)
      ∧ r.2.mem ((c.tc : Thread Cert.SplitIdeal.nD Cert.SplitIdeal.τ).loc Cert.SplitIdeal.main_arg6) = m ((c.tc : Thread Cert.SplitIdeal.nD Cert.SplitIdeal.τ).loc Cert.SplitIdeal.main_arg6)
      ∧ r.2.mem ((c.tc : Thread Cert.SplitIdeal.nD Cert.SplitIdeal.τ).loc Cert.SplitIdeal.main_arg7) = m ((c.tc : Thread Cert.SplitIdeal.nD Cert.SplitIdeal.τ).loc Cert.SplitIdeal.main_arg7)
      ∧ r.2.mem ((c.tc : Thread Cert.SplitIdeal.nD Cert.SplitIdeal.τ).loc Cert.SplitIdeal.main_arg8) = m ((c.tc : Thread Cert.SplitIdeal.nD Cert.SplitIdeal.τ).loc Cert.SplitIdeal.main_arg8)
      ∧ r.2.mem ((c.tc : Thread Cert.SplitIdeal.nD Cert.SplitIdeal.τ).loc Cert.SplitIdeal.main_arg9) = m ((c.tc : Thread Cert.SplitIdeal.nD Cert.SplitIdeal.τ).loc Cert.SplitIdeal.main_arg9))
      ∧ r.2.sem = fun _ => 0)

def quiescent_SplitRefIdeal [hSplitRefIdeal : Cert.SplitRefIdeal.Facts] : Prop :=
  ∀ (m : (ℓ : Loc Cert.SplitRefIdeal.nD Cert.SplitRefIdeal.τ Cert.SplitRefIdeal.sig) → Buf (Elt Ideal) ℓ) (g : Dev Cert.SplitRefIdeal.nD → PrngReg), Pre_SplitRefIdeal m →
    θ_run (Cert.SplitRefIdeal.defs (F := Ideal)) (onTc (τ := Cert.SplitRefIdeal.τ) (Cert.SplitRefIdeal.main (F := Ideal))) ⟨m, fun _ => 0, g⟩ (fun r => (∀ c : Dev Cert.SplitRefIdeal.nD,
      r.2.mem ((c.tc : Thread Cert.SplitRefIdeal.nD Cert.SplitRefIdeal.τ).loc Cert.SplitRefIdeal.main_arg0) = m ((c.tc : Thread Cert.SplitRefIdeal.nD Cert.SplitRefIdeal.τ).loc Cert.SplitRefIdeal.main_arg0)
      ∧ r.2.mem ((c.tc : Thread Cert.SplitRefIdeal.nD Cert.SplitRefIdeal.τ).loc Cert.SplitRefIdeal.main_arg1) = m ((c.tc : Thread Cert.SplitRefIdeal.nD Cert.SplitRefIdeal.τ).loc Cert.SplitRefIdeal.main_arg1)
      ∧ r.2.mem ((c.tc : Thread Cert.SplitRefIdeal.nD Cert.SplitRefIdeal.τ).loc Cert.SplitRefIdeal.main_arg2) = m ((c.tc : Thread Cert.SplitRefIdeal.nD Cert.SplitRefIdeal.τ).loc Cert.SplitRefIdeal.main_arg2)
      ∧ r.2.mem ((c.tc : Thread Cert.SplitRefIdeal.nD Cert.SplitRefIdeal.τ).loc Cert.SplitRefIdeal.main_arg3) = m ((c.tc : Thread Cert.SplitRefIdeal.nD Cert.SplitRefIdeal.τ).loc Cert.SplitRefIdeal.main_arg3)
      ∧ r.2.mem ((c.tc : Thread Cert.SplitRefIdeal.nD Cert.SplitRefIdeal.τ).loc Cert.SplitRefIdeal.main_arg4) = m ((c.tc : Thread Cert.SplitRefIdeal.nD Cert.SplitRefIdeal.τ).loc Cert.SplitRefIdeal.main_arg4)
      ∧ r.2.mem ((c.tc : Thread Cert.SplitRefIdeal.nD Cert.SplitRefIdeal.τ).loc Cert.SplitRefIdeal.main_arg5) = m ((c.tc : Thread Cert.SplitRefIdeal.nD Cert.SplitRefIdeal.τ).loc Cert.SplitRefIdeal.main_arg5)
      ∧ r.2.mem ((c.tc : Thread Cert.SplitRefIdeal.nD Cert.SplitRefIdeal.τ).loc Cert.SplitRefIdeal.main_arg6) = m ((c.tc : Thread Cert.SplitRefIdeal.nD Cert.SplitRefIdeal.τ).loc Cert.SplitRefIdeal.main_arg6)
      ∧ r.2.mem ((c.tc : Thread Cert.SplitRefIdeal.nD Cert.SplitRefIdeal.τ).loc Cert.SplitRefIdeal.main_arg7) = m ((c.tc : Thread Cert.SplitRefIdeal.nD Cert.SplitRefIdeal.τ).loc Cert.SplitRefIdeal.main_arg7)
      ∧ r.2.mem ((c.tc : Thread Cert.SplitRefIdeal.nD Cert.SplitRefIdeal.τ).loc Cert.SplitRefIdeal.main_arg8) = m ((c.tc : Thread Cert.SplitRefIdeal.nD Cert.SplitRefIdeal.τ).loc Cert.SplitRefIdeal.main_arg8)
      ∧ r.2.mem ((c.tc : Thread Cert.SplitRefIdeal.nD Cert.SplitRefIdeal.τ).loc Cert.SplitRefIdeal.main_arg9) = m ((c.tc : Thread Cert.SplitRefIdeal.nD Cert.SplitRefIdeal.τ).loc Cert.SplitRefIdeal.main_arg9))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9)
      ∧ r.2.mem ((c.tc : Thread Cert.Last.nD Cert.Last.τ).loc Cert.Last.main_arg10) = m ((c.tc : Thread Cert.Last.nD Cert.Last.τ).loc Cert.Last.main_arg10)
      ∧ r.2.mem ((c.tc : Thread Cert.Last.nD Cert.Last.τ).loc Cert.Last.main_arg11) = m ((c.tc : Thread Cert.Last.nD Cert.Last.τ).loc Cert.Last.main_arg11)
      ∧ r.2.mem ((c.tc : Thread Cert.Last.nD Cert.Last.τ).loc Cert.Last.main_arg12) = m ((c.tc : Thread Cert.Last.nD Cert.Last.τ).loc Cert.Last.main_arg12)
      ∧ r.2.mem ((c.tc : Thread Cert.Last.nD Cert.Last.τ).loc Cert.Last.main_arg13) = m ((c.tc : Thread Cert.Last.nD Cert.Last.τ).loc Cert.Last.main_arg13)
      ∧ r.2.mem ((c.tc : Thread Cert.Last.nD Cert.Last.τ).loc Cert.Last.main_arg14) = m ((c.tc : Thread Cert.Last.nD Cert.Last.τ).loc Cert.Last.main_arg14)
      ∧ r.2.mem ((c.tc : Thread Cert.Last.nD Cert.Last.τ).loc Cert.Last.main_arg15) = m ((c.tc : Thread Cert.Last.nD Cert.Last.τ).loc Cert.Last.main_arg15))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
      ∧ r.2.mem ((c.tc : Thread Cert.LastIdeal.nD Cert.LastIdeal.τ).loc Cert.LastIdeal.main_arg11) = m ((c.tc : Thread Cert.LastIdeal.nD Cert.LastIdeal.τ).loc Cert.LastIdeal.main_arg11)
      ∧ r.2.mem ((c.tc : Thread Cert.LastIdeal.nD Cert.LastIdeal.τ).loc Cert.LastIdeal.main_arg12) = m ((c.tc : Thread Cert.LastIdeal.nD Cert.LastIdeal.τ).loc Cert.LastIdeal.main_arg12)
      ∧ r.2.mem ((c.tc : Thread Cert.LastIdeal.nD Cert.LastIdeal.τ).loc Cert.LastIdeal.main_arg13) = m ((c.tc : Thread Cert.LastIdeal.nD Cert.LastIdeal.τ).loc Cert.LastIdeal.main_arg13)
      ∧ r.2.mem ((c.tc : Thread Cert.LastIdeal.nD Cert.LastIdeal.τ).loc Cert.LastIdeal.main_arg14) = m ((c.tc : Thread Cert.LastIdeal.nD Cert.LastIdeal.τ).loc Cert.LastIdeal.main_arg14)
      ∧ r.2.mem ((c.tc : Thread Cert.LastIdeal.nD Cert.LastIdeal.τ).loc Cert.LastIdeal.main_arg15) = m ((c.tc : Thread Cert.LastIdeal.nD Cert.LastIdeal.τ).loc Cert.LastIdeal.main_arg15))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9)
      ∧ r.2.mem ((c.tc : Thread Cert.LastRefIdeal.nD Cert.LastRefIdeal.τ).loc Cert.LastRefIdeal.main_arg10) = m ((c.tc : Thread Cert.LastRefIdeal.nD Cert.LastRefIdeal.τ).loc Cert.LastRefIdeal.main_arg10)
      ∧ r.2.mem ((c.tc : Thread Cert.LastRefIdeal.nD Cert.LastRefIdeal.τ).loc Cert.LastRefIdeal.main_arg11) = m ((c.tc : Thread Cert.LastRefIdeal.nD Cert.LastRefIdeal.τ).loc Cert.LastRefIdeal.main_arg11)
      ∧ r.2.mem ((c.tc : Thread Cert.LastRefIdeal.nD Cert.LastRefIdeal.τ).loc Cert.LastRefIdeal.main_arg12) = m ((c.tc : Thread Cert.LastRefIdeal.nD Cert.LastRefIdeal.τ).loc Cert.LastRefIdeal.main_arg12)
      ∧ r.2.mem ((c.tc : Thread Cert.LastRefIdeal.nD Cert.LastRefIdeal.τ).loc Cert.LastRefIdeal.main_arg13) = m ((c.tc : Thread Cert.LastRefIdeal.nD Cert.LastRefIdeal.τ).loc Cert.LastRefIdeal.main_arg13)
      ∧ r.2.mem ((c.tc : Thread Cert.LastRefIdeal.nD Cert.LastRefIdeal.τ).loc Cert.LastRefIdeal.main_arg14) = m ((c.tc : Thread Cert.LastRefIdeal.nD Cert.LastRefIdeal.τ).loc Cert.LastRefIdeal.main_arg14)
      ∧ r.2.mem ((c.tc : Thread Cert.LastRefIdeal.nD Cert.LastRefIdeal.τ).loc Cert.LastRefIdeal.main_arg15) = m ((c.tc : Thread Cert.LastRefIdeal.nD Cert.LastRefIdeal.τ).loc Cert.LastRefIdeal.main_arg15))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8)
      ∧ r.2.mem ((c.tc : Thread Cert.First.nD Cert.First.τ).loc Cert.First.main_arg9) = m ((c.tc : Thread Cert.First.nD Cert.First.τ).loc Cert.First.main_arg9)
      ∧ r.2.mem ((c.tc : Thread Cert.First.nD Cert.First.τ).loc Cert.First.main_arg10) = m ((c.tc : Thread Cert.First.nD Cert.First.τ).loc Cert.First.main_arg10)
      ∧ r.2.mem ((c.tc : Thread Cert.First.nD Cert.First.τ).loc Cert.First.main_arg11) = m ((c.tc : Thread Cert.First.nD Cert.First.τ).loc Cert.First.main_arg11)
      ∧ r.2.mem ((c.tc : Thread Cert.First.nD Cert.First.τ).loc Cert.First.main_arg12) = m ((c.tc : Thread Cert.First.nD Cert.First.τ).loc Cert.First.main_arg12)
      ∧ r.2.mem ((c.tc : Thread Cert.First.nD Cert.First.τ).loc Cert.First.main_arg13) = m ((c.tc : Thread Cert.First.nD Cert.First.τ).loc Cert.First.main_arg13)
      ∧ r.2.mem ((c.tc : Thread Cert.First.nD Cert.First.τ).loc Cert.First.main_arg14) = m ((c.tc : Thread Cert.First.nD Cert.First.τ).loc Cert.First.main_arg14))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
      ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
      ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
      ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11)
      ∧ r.2.mem ((c.tc : Thread Cert.FirstIdeal.nD Cert.FirstIdeal.τ).loc Cert.FirstIdeal.main_arg12) = m ((c.tc : Thread Cert.FirstIdeal.nD Cert.FirstIdeal.τ).loc Cert.FirstIdeal.main_arg12)
      ∧ r.2.mem ((c.tc : Thread Cert.FirstIdeal.nD Cert.FirstIdeal.τ).loc Cert.FirstIdeal.main_arg13) = m ((c.tc : Thread Cert.FirstIdeal.nD Cert.FirstIdeal.τ).loc Cert.FirstIdeal.main_arg13)
      ∧ r.2.mem ((c.tc : Thread Cert.FirstIdeal.nD Cert.FirstIdeal.τ).loc Cert.FirstIdeal.main_arg14) = m ((c.tc : Thread Cert.FirstIdeal.nD Cert.FirstIdeal.τ).loc Cert.FirstIdeal.main_arg14))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7)
      ∧ r.2.mem ((c.tc : Thread Cert.FirstRefIdeal.nD Cert.FirstRefIdeal.τ).loc Cert.FirstRefIdeal.main_arg8) = m ((c.tc : Thread Cert.FirstRefIdeal.nD Cert.FirstRefIdeal.τ).loc Cert.FirstRefIdeal.main_arg8)
      ∧ r.2.mem ((c.tc : Thread Cert.FirstRefIdeal.nD Cert.FirstRefIdeal.τ).loc Cert.FirstRefIdeal.main_arg9) = m ((c.tc : Thread Cert.FirstRefIdeal.nD Cert.FirstRefIdeal.τ).loc Cert.FirstRefIdeal.main_arg9)
      ∧ r.2.mem ((c.tc : Thread Cert.FirstRefIdeal.nD Cert.FirstRefIdeal.τ).loc Cert.FirstRefIdeal.main_arg10) = m ((c.tc : Thread Cert.FirstRefIdeal.nD Cert.FirstRefIdeal.τ).loc Cert.FirstRefIdeal.main_arg10)
      ∧ r.2.mem ((c.tc : Thread Cert.FirstRefIdeal.nD Cert.FirstRefIdeal.τ).loc Cert.FirstRefIdeal.main_arg11) = m ((c.tc : Thread Cert.FirstRefIdeal.nD Cert.FirstRefIdeal.τ).loc Cert.FirstRefIdeal.main_arg11)
      ∧ r.2.mem ((c.tc : Thread Cert.FirstRefIdeal.nD Cert.FirstRefIdeal.τ).loc Cert.FirstRefIdeal.main_arg12) = m ((c.tc : Thread Cert.FirstRefIdeal.nD Cert.FirstRefIdeal.τ).loc Cert.FirstRefIdeal.main_arg12)
      ∧ r.2.mem ((c.tc : Thread Cert.FirstRefIdeal.nD Cert.FirstRefIdeal.τ).loc Cert.FirstRefIdeal.main_arg13) = m ((c.tc : Thread Cert.FirstRefIdeal.nD Cert.FirstRefIdeal.τ).loc Cert.FirstRefIdeal.main_arg13)
      ∧ r.2.mem ((c.tc : Thread Cert.FirstRefIdeal.nD Cert.FirstRefIdeal.τ).loc Cert.FirstRefIdeal.main_arg14) = m ((c.tc : Thread Cert.FirstRefIdeal.nD Cert.FirstRefIdeal.τ).loc Cert.FirstRefIdeal.main_arg14))
      ∧ r.2.sem = fun _ => 0)

def quiescent_Enter [hEnter : Cert.Enter.Facts] : Prop :=
  ∀ (m : (ℓ : Loc Cert.Enter.nD Cert.Enter.τ Cert.Enter.sig) → Buf (Elt Bits) ℓ) (g : Dev Cert.Enter.nD → PrngReg), Pre_Enter m →
    θ_run (Cert.Enter.defs (F := Bits)) (onTc (τ := Cert.Enter.τ) (Cert.Enter.main (F := Bits))) ⟨m, fun _ => 0, g⟩ (fun r => (∀ c : Dev Cert.Enter.nD,
      r.2.mem ((c.tc : Thread Cert.Enter.nD Cert.Enter.τ).loc Cert.Enter.main_arg0) = m ((c.tc : Thread Cert.Enter.nD Cert.Enter.τ).loc Cert.Enter.main_arg0)
      ∧ r.2.mem ((c.tc : Thread Cert.Enter.nD Cert.Enter.τ).loc Cert.Enter.main_arg1) = m ((c.tc : Thread Cert.Enter.nD Cert.Enter.τ).loc Cert.Enter.main_arg1)
      ∧ r.2.mem ((c.tc : Thread Cert.Enter.nD Cert.Enter.τ).loc Cert.Enter.main_arg2) = m ((c.tc : Thread Cert.Enter.nD Cert.Enter.τ).loc Cert.Enter.main_arg2)
      ∧ r.2.mem ((c.tc : Thread Cert.Enter.nD Cert.Enter.τ).loc Cert.Enter.main_arg3) = m ((c.tc : Thread Cert.Enter.nD Cert.Enter.τ).loc Cert.Enter.main_arg3)
      ∧ r.2.mem ((c.tc : Thread Cert.Enter.nD Cert.Enter.τ).loc Cert.Enter.main_arg4) = m ((c.tc : Thread Cert.Enter.nD Cert.Enter.τ).loc Cert.Enter.main_arg4)
      ∧ r.2.mem ((c.tc : Thread Cert.Enter.nD Cert.Enter.τ).loc Cert.Enter.main_arg5) = m ((c.tc : Thread Cert.Enter.nD Cert.Enter.τ).loc Cert.Enter.main_arg5))
      ∧ r.2.sem = fun _ => 0)

def quiescent_EnterIdeal [hEnterIdeal : Cert.EnterIdeal.Facts] : Prop :=
  ∀ (m : (ℓ : Loc Cert.EnterIdeal.nD Cert.EnterIdeal.τ Cert.EnterIdeal.sig) → Buf (Elt Ideal) ℓ) (g : Dev Cert.EnterIdeal.nD → PrngReg), Pre_EnterIdeal m →
    θ_run (Cert.EnterIdeal.defs (F := Ideal)) (onTc (τ := Cert.EnterIdeal.τ) (Cert.EnterIdeal.main (F := Ideal))) ⟨m, fun _ => 0, g⟩ (fun r => (∀ c : Dev Cert.EnterIdeal.nD,
      r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
      ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
      ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2)
      ∧ r.2.mem ((c.tc : Thread Cert.EnterIdeal.nD Cert.EnterIdeal.τ).loc Cert.EnterIdeal.main_arg3) = m ((c.tc : Thread Cert.EnterIdeal.nD Cert.EnterIdeal.τ).loc Cert.EnterIdeal.main_arg3)
      ∧ r.2.mem ((c.tc : Thread Cert.EnterIdeal.nD Cert.EnterIdeal.τ).loc Cert.EnterIdeal.main_arg4) = m ((c.tc : Thread Cert.EnterIdeal.nD Cert.EnterIdeal.τ).loc Cert.EnterIdeal.main_arg4)
      ∧ r.2.mem ((c.tc : Thread Cert.EnterIdeal.nD Cert.EnterIdeal.τ).loc Cert.EnterIdeal.main_arg5) = m ((c.tc : Thread Cert.EnterIdeal.nD Cert.EnterIdeal.τ).loc Cert.EnterIdeal.main_arg5))
      ∧ r.2.sem = fun _ => 0)

def quiescent_EnterRefIdeal [hEnterRefIdeal : Cert.EnterRefIdeal.Facts] : Prop :=
  ∀ (m : (ℓ : Loc Cert.EnterRefIdeal.nD Cert.EnterRefIdeal.τ Cert.EnterRefIdeal.sig) → Buf (Elt Ideal) ℓ) (g : Dev Cert.EnterRefIdeal.nD → PrngReg), Pre_EnterRefIdeal m →
    θ_run (Cert.EnterRefIdeal.defs (F := Ideal)) (onTc (τ := Cert.EnterRefIdeal.τ) (Cert.EnterRefIdeal.main (F := Ideal))) ⟨m, fun _ => 0, g⟩ (fun r => (∀ c : Dev Cert.EnterRefIdeal.nD,
      r.2.mem ((c.tc : Thread Cert.EnterRefIdeal.nD Cert.EnterRefIdeal.τ).loc Cert.EnterRefIdeal.main_arg0) = m ((c.tc : Thread Cert.EnterRefIdeal.nD Cert.EnterRefIdeal.τ).loc Cert.EnterRefIdeal.main_arg0)
      ∧ r.2.mem ((c.tc : Thread Cert.EnterRefIdeal.nD Cert.EnterRefIdeal.τ).loc Cert.EnterRefIdeal.main_arg1) = m ((c.tc : Thread Cert.EnterRefIdeal.nD Cert.EnterRefIdeal.τ).loc Cert.EnterRefIdeal.main_arg1)
      ∧ r.2.mem ((c.tc : Thread Cert.EnterRefIdeal.nD Cert.EnterRefIdeal.τ).loc Cert.EnterRefIdeal.main_arg2) = m ((c.tc : Thread Cert.EnterRefIdeal.nD Cert.EnterRefIdeal.τ).loc Cert.EnterRefIdeal.main_arg2)
      ∧ r.2.mem ((c.tc : Thread Cert.EnterRefIdeal.nD Cert.EnterRefIdeal.τ).loc Cert.EnterRefIdeal.main_arg3) = m ((c.tc : Thread Cert.EnterRefIdeal.nD Cert.EnterRefIdeal.τ).loc Cert.EnterRefIdeal.main_arg3)
      ∧ r.2.mem ((c.tc : Thread Cert.EnterRefIdeal.nD Cert.EnterRefIdeal.τ).loc Cert.EnterRefIdeal.main_arg4) = m ((c.tc : Thread Cert.EnterRefIdeal.nD Cert.EnterRefIdeal.τ).loc Cert.EnterRefIdeal.main_arg4)
      ∧ r.2.mem ((c.tc : Thread Cert.EnterRefIdeal.nD Cert.EnterRefIdeal.τ).loc Cert.EnterRefIdeal.main_arg5) = m ((c.tc : Thread Cert.EnterRefIdeal.nD Cert.EnterRefIdeal.τ).loc Cert.EnterRefIdeal.main_arg5))
      ∧ r.2.sem = fun _ => 0)

def quiescent_Again [hAgain : Cert.Again.Facts] : Prop :=
  ∀ (m : (ℓ : Loc Cert.Again.nD Cert.Again.τ Cert.Again.sig) → Buf (Elt Bits) ℓ) (g : Dev Cert.Again.nD → PrngReg), Pre_Again m →
    θ_run (Cert.Again.defs (F := Bits)) (onTc (τ := Cert.Again.τ) (Cert.Again.main (F := Bits))) ⟨m, fun _ => 0, g⟩ (fun r => (∀ c : Dev Cert.Again.nD,
      r.2.mem ((c.tc : Thread Cert.Again.nD Cert.Again.τ).loc Cert.Again.main_arg0) = m ((c.tc : Thread Cert.Again.nD Cert.Again.τ).loc Cert.Again.main_arg0)
      ∧ r.2.mem ((c.tc : Thread Cert.Again.nD Cert.Again.τ).loc Cert.Again.main_arg1) = m ((c.tc : Thread Cert.Again.nD Cert.Again.τ).loc Cert.Again.main_arg1)
      ∧ r.2.mem ((c.tc : Thread Cert.Again.nD Cert.Again.τ).loc Cert.Again.main_arg2) = m ((c.tc : Thread Cert.Again.nD Cert.Again.τ).loc Cert.Again.main_arg2)
      ∧ r.2.mem ((c.tc : Thread Cert.Again.nD Cert.Again.τ).loc Cert.Again.main_arg3) = m ((c.tc : Thread Cert.Again.nD Cert.Again.τ).loc Cert.Again.main_arg3)
      ∧ r.2.mem ((c.tc : Thread Cert.Again.nD Cert.Again.τ).loc Cert.Again.main_arg4) = m ((c.tc : Thread Cert.Again.nD Cert.Again.τ).loc Cert.Again.main_arg4)
      ∧ r.2.mem ((c.tc : Thread Cert.Again.nD Cert.Again.τ).loc Cert.Again.main_arg5) = m ((c.tc : Thread Cert.Again.nD Cert.Again.τ).loc Cert.Again.main_arg5))
      ∧ r.2.sem = fun _ => 0)

def quiescent_AgainIdeal [hAgainIdeal : Cert.AgainIdeal.Facts] : Prop :=
  ∀ (m : (ℓ : Loc Cert.AgainIdeal.nD Cert.AgainIdeal.τ Cert.AgainIdeal.sig) → Buf (Elt Ideal) ℓ) (g : Dev Cert.AgainIdeal.nD → PrngReg), Pre_AgainIdeal m →
    θ_run (Cert.AgainIdeal.defs (F := Ideal)) (onTc (τ := Cert.AgainIdeal.τ) (Cert.AgainIdeal.main (F := Ideal))) ⟨m, fun _ => 0, g⟩ (fun r => (∀ c : Dev Cert.AgainIdeal.nD,
      r.2.mem ((c.tc : Thread Cert.AgainIdeal.nD Cert.AgainIdeal.τ).loc Cert.AgainIdeal.main_arg0) = m ((c.tc : Thread Cert.AgainIdeal.nD Cert.AgainIdeal.τ).loc Cert.AgainIdeal.main_arg0)
      ∧ r.2.mem ((c.tc : Thread Cert.AgainIdeal.nD Cert.AgainIdeal.τ).loc Cert.AgainIdeal.main_arg1) = m ((c.tc : Thread Cert.AgainIdeal.nD Cert.AgainIdeal.τ).loc Cert.AgainIdeal.main_arg1)
      ∧ r.2.mem ((c.tc : Thread Cert.AgainIdeal.nD Cert.AgainIdeal.τ).loc Cert.AgainIdeal.main_arg2) = m ((c.tc : Thread Cert.AgainIdeal.nD Cert.AgainIdeal.τ).loc Cert.AgainIdeal.main_arg2)
      ∧ r.2.mem ((c.tc : Thread Cert.AgainIdeal.nD Cert.AgainIdeal.τ).loc Cert.AgainIdeal.main_arg3) = m ((c.tc : Thread Cert.AgainIdeal.nD Cert.AgainIdeal.τ).loc Cert.AgainIdeal.main_arg3)
      ∧ r.2.mem ((c.tc : Thread Cert.AgainIdeal.nD Cert.AgainIdeal.τ).loc Cert.AgainIdeal.main_arg4) = m ((c.tc : Thread Cert.AgainIdeal.nD Cert.AgainIdeal.τ).loc Cert.AgainIdeal.main_arg4)
      ∧ r.2.mem ((c.tc : Thread Cert.AgainIdeal.nD Cert.AgainIdeal.τ).loc Cert.AgainIdeal.main_arg5) = m ((c.tc : Thread Cert.AgainIdeal.nD Cert.AgainIdeal.τ).loc Cert.AgainIdeal.main_arg5))
      ∧ r.2.sem = fun _ => 0)

def quiescent_AgainRefIdeal [hAgainRefIdeal : Cert.AgainRefIdeal.Facts] : Prop :=
  ∀ (m : (ℓ : Loc Cert.AgainRefIdeal.nD Cert.AgainRefIdeal.τ Cert.AgainRefIdeal.sig) → Buf (Elt Ideal) ℓ) (g : Dev Cert.AgainRefIdeal.nD → PrngReg), Pre_AgainRefIdeal m →
    θ_run (Cert.AgainRefIdeal.defs (F := Ideal)) (onTc (τ := Cert.AgainRefIdeal.τ) (Cert.AgainRefIdeal.main (F := Ideal))) ⟨m, fun _ => 0, g⟩ (fun r => (∀ c : Dev Cert.AgainRefIdeal.nD,
      r.2.mem ((c.tc : Thread Cert.AgainRefIdeal.nD Cert.AgainRefIdeal.τ).loc Cert.AgainRefIdeal.main_arg0) = m ((c.tc : Thread Cert.AgainRefIdeal.nD Cert.AgainRefIdeal.τ).loc Cert.AgainRefIdeal.main_arg0)
      ∧ r.2.mem ((c.tc : Thread Cert.AgainRefIdeal.nD Cert.AgainRefIdeal.τ).loc Cert.AgainRefIdeal.main_arg1) = m ((c.tc : Thread Cert.AgainRefIdeal.nD Cert.AgainRefIdeal.τ).loc Cert.AgainRefIdeal.main_arg1)
      ∧ r.2.mem ((c.tc : Thread Cert.AgainRefIdeal.nD Cert.AgainRefIdeal.τ).loc Cert.AgainRefIdeal.main_arg2) = m ((c.tc : Thread Cert.AgainRefIdeal.nD Cert.AgainRefIdeal.τ).loc Cert.AgainRefIdeal.main_arg2)
      ∧ r.2.mem ((c.tc : Thread Cert.AgainRefIdeal.nD Cert.AgainRefIdeal.τ).loc Cert.AgainRefIdeal.main_arg3) = m ((c.tc : Thread Cert.AgainRefIdeal.nD Cert.AgainRefIdeal.τ).loc Cert.AgainRefIdeal.main_arg3)
      ∧ r.2.mem ((c.tc : Thread Cert.AgainRefIdeal.nD Cert.AgainRefIdeal.τ).loc Cert.AgainRefIdeal.main_arg4) = m ((c.tc : Thread Cert.AgainRefIdeal.nD Cert.AgainRefIdeal.τ).loc Cert.AgainRefIdeal.main_arg4)
      ∧ r.2.mem ((c.tc : Thread Cert.AgainRefIdeal.nD Cert.AgainRefIdeal.τ).loc Cert.AgainRefIdeal.main_arg5) = m ((c.tc : Thread Cert.AgainRefIdeal.nD Cert.AgainRefIdeal.τ).loc Cert.AgainRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def preserves_Kernel_KernelIdeal : Prop :=
  IdealRules.named_const.Statement Cert.KernelIdeal.κ "scale_log2e" .f32 0x3E38AA3B#32 ((8⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Split_SplitIdeal : Prop :=
  True

def algebraic_SplitIdeal_SplitRefIdeal [hSplitIdeal : Cert.SplitIdeal.Facts] [hSplitRefIdeal : Cert.SplitRefIdeal.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitRefIdeal.nD Cert.SplitRefIdeal.τ Cert.SplitRefIdeal.sig) → Buf (Elt Ideal) ℓ) (g' : Dev Cert.SplitRefIdeal.nD → PrngReg), Pre_SplitIdeal m →
    (∀ c : Dev Cert.SplitIdeal.nD,
      m' ((c.tc : Thread Cert.SplitRefIdeal.nD Cert.SplitRefIdeal.τ).loc Cert.SplitRefIdeal.main_arg0) = m ((c.tc : Thread Cert.SplitIdeal.nD Cert.SplitIdeal.τ).loc Cert.SplitIdeal.main_arg0)
      ∧ m' ((c.tc : Thread Cert.SplitRefIdeal.nD Cert.SplitRefIdeal.τ).loc Cert.SplitRefIdeal.main_arg1) = m ((c.tc : Thread Cert.SplitIdeal.nD Cert.SplitIdeal.τ).loc Cert.SplitIdeal.main_arg1)
      ∧ m' ((c.tc : Thread Cert.SplitRefIdeal.nD Cert.SplitRefIdeal.τ).loc Cert.SplitRefIdeal.main_arg2) = m ((c.tc : Thread Cert.SplitIdeal.nD Cert.SplitIdeal.τ).loc Cert.SplitIdeal.main_arg2)
      ∧ m' ((c.tc : Thread Cert.SplitRefIdeal.nD Cert.SplitRefIdeal.τ).loc Cert.SplitRefIdeal.main_arg3) = m ((c.tc : Thread Cert.SplitIdeal.nD Cert.SplitIdeal.τ).loc Cert.SplitIdeal.main_arg3)
      ∧ m' ((c.tc : Thread Cert.SplitRefIdeal.nD Cert.SplitRefIdeal.τ).loc Cert.SplitRefIdeal.main_arg4) = m ((c.tc : Thread Cert.SplitIdeal.nD Cert.SplitIdeal.τ).loc Cert.SplitIdeal.main_arg4)
      ∧ m' ((c.tc : Thread Cert.SplitRefIdeal.nD Cert.SplitRefIdeal.τ).loc Cert.SplitRefIdeal.main_arg5) = m ((c.tc : Thread Cert.SplitIdeal.nD Cert.SplitIdeal.τ).loc Cert.SplitIdeal.main_arg5)
      ∧ m' ((c.tc : Thread Cert.SplitRefIdeal.nD Cert.SplitRefIdeal.τ).loc Cert.SplitRefIdeal.main_arg6) = m ((c.tc : Thread Cert.SplitIdeal.nD Cert.SplitIdeal.τ).loc Cert.SplitIdeal.main_arg6)
      ∧ m' ((c.tc : Thread Cert.SplitRefIdeal.nD Cert.SplitRefIdeal.τ).loc Cert.SplitRefIdeal.main_arg7) = m ((c.tc : Thread Cert.SplitIdeal.nD Cert.SplitIdeal.τ).loc Cert.SplitIdeal.main_arg7)
      ∧ m' ((c.tc : Thread Cert.SplitRefIdeal.nD Cert.SplitRefIdeal.τ).loc Cert.SplitRefIdeal.main_arg8) = m ((c.tc : Thread Cert.SplitIdeal.nD Cert.SplitIdeal.τ).loc Cert.SplitIdeal.main_arg8)
      ∧ m' ((c.tc : Thread Cert.SplitRefIdeal.nD Cert.SplitRefIdeal.τ).loc Cert.SplitRefIdeal.main_arg9) = m ((c.tc : Thread Cert.SplitIdeal.nD Cert.SplitIdeal.τ).loc Cert.SplitIdeal.main_arg9)) →
    ∃ (v0 : (c : Dev Cert.SplitIdeal.nD) → Buf (Elt Ideal) ((c.tc : Thread Cert.SplitIdeal.nD Cert.SplitIdeal.τ).loc Cert.SplitIdeal.main_v13)),
      θ_run (Cert.SplitIdeal.defs (F := Ideal)) (onTc (τ := Cert.SplitIdeal.τ) (Cert.SplitIdeal.main (F := Ideal))) ⟨m, fun _ => 0, g⟩ (fun r => ∀ c : Dev Cert.SplitIdeal.nD,
          r.2.mem ((c.tc : Thread Cert.SplitIdeal.nD Cert.SplitIdeal.τ).loc Cert.SplitIdeal.main_v13) = v0 c
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
          ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
          ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2)
          ∧ r.2.mem ((c.tc : Thread Cert.SplitIdeal.nD Cert.SplitIdeal.τ).loc Cert.SplitIdeal.main_arg3) = m ((c.tc : Thread Cert.SplitIdeal.nD Cert.SplitIdeal.τ).loc Cert.SplitIdeal.main_arg3)
          ∧ r.2.mem ((c.tc : Thread Cert.SplitIdeal.nD Cert.SplitIdeal.τ).loc Cert.SplitIdeal.main_arg4) = m ((c.tc : Thread Cert.SplitIdeal.nD Cert.SplitIdeal.τ).loc Cert.SplitIdeal.main_arg4)
          ∧ r.2.mem ((c.tc : Thread Cert.SplitIdeal.nD Cert.SplitIdeal.τ).loc Cert.SplitIdeal.main_arg5) = m ((c.tc : Thread Cert.SplitIdeal.nD Cert.SplitIdeal.τ).loc Cert.SplitIdeal.main_arg5)
          ∧ r.2.mem ((c.tc : Thread Cert.SplitIdeal.nD Cert.SplitIdeal.τ).loc Cert.SplitIdeal.main_arg6) = m ((c.tc : Thread Cert.SplitIdeal.nD Cert.SplitIdeal.τ).loc Cert.SplitIdeal.main_arg6)
          ∧ r.2.mem ((c.tc : Thread Cert.SplitIdeal.nD Cert.SplitIdeal.τ).loc Cert.SplitIdeal.main_arg7) = m ((c.tc : Thread Cert.SplitIdeal.nD Cert.SplitIdeal.τ).loc Cert.SplitIdeal.main_arg7)
          ∧ r.2.mem ((c.tc : Thread Cert.SplitIdeal.nD Cert.SplitIdeal.τ).loc Cert.SplitIdeal.main_arg8) = m ((c.tc : Thread Cert.SplitIdeal.nD Cert.SplitIdeal.τ).loc Cert.SplitIdeal.main_arg8)
          ∧ r.2.mem ((c.tc : Thread Cert.SplitIdeal.nD Cert.SplitIdeal.τ).loc Cert.SplitIdeal.main_arg9) = m ((c.tc : Thread Cert.SplitIdeal.nD Cert.SplitIdeal.τ).loc Cert.SplitIdeal.main_arg9))
      ∧ θ_run (Cert.SplitRefIdeal.defs (F := Ideal)) (onTc (τ := Cert.SplitRefIdeal.τ) (Cert.SplitRefIdeal.main (F := Ideal))) ⟨m', fun _ => 0, g'⟩ (fun r => ∀ c : Dev Cert.SplitRefIdeal.nD,
          r.2.mem ((c.tc : Thread Cert.SplitRefIdeal.nD Cert.SplitRefIdeal.τ).loc Cert.SplitRefIdeal.main_v88) = v0 c
          ∧ r.2.mem ((c.tc : Thread Cert.SplitRefIdeal.nD Cert.SplitRefIdeal.τ).loc Cert.SplitRefIdeal.main_arg0) = m' ((c.tc : Thread Cert.SplitRefIdeal.nD Cert.SplitRefIdeal.τ).loc Cert.SplitRefIdeal.main_arg0)
          ∧ r.2.mem ((c.tc : Thread Cert.SplitRefIdeal.nD Cert.SplitRefIdeal.τ).loc Cert.SplitRefIdeal.main_arg1) = m' ((c.tc : Thread Cert.SplitRefIdeal.nD Cert.SplitRefIdeal.τ).loc Cert.SplitRefIdeal.main_arg1)
          ∧ r.2.mem ((c.tc : Thread Cert.SplitRefIdeal.nD Cert.SplitRefIdeal.τ).loc Cert.SplitRefIdeal.main_arg2) = m' ((c.tc : Thread Cert.SplitRefIdeal.nD Cert.SplitRefIdeal.τ).loc Cert.SplitRefIdeal.main_arg2)
          ∧ r.2.mem ((c.tc : Thread Cert.SplitRefIdeal.nD Cert.SplitRefIdeal.τ).loc Cert.SplitRefIdeal.main_arg3) = m' ((c.tc : Thread Cert.SplitRefIdeal.nD Cert.SplitRefIdeal.τ).loc Cert.SplitRefIdeal.main_arg3)
          ∧ r.2.mem ((c.tc : Thread Cert.SplitRefIdeal.nD Cert.SplitRefIdeal.τ).loc Cert.SplitRefIdeal.main_arg4) = m' ((c.tc : Thread Cert.SplitRefIdeal.nD Cert.SplitRefIdeal.τ).loc Cert.SplitRefIdeal.main_arg4)
          ∧ r.2.mem ((c.tc : Thread Cert.SplitRefIdeal.nD Cert.SplitRefIdeal.τ).loc Cert.SplitRefIdeal.main_arg5) = m' ((c.tc : Thread Cert.SplitRefIdeal.nD Cert.SplitRefIdeal.τ).loc Cert.SplitRefIdeal.main_arg5)
          ∧ r.2.mem ((c.tc : Thread Cert.SplitRefIdeal.nD Cert.SplitRefIdeal.τ).loc Cert.SplitRefIdeal.main_arg6) = m' ((c.tc : Thread Cert.SplitRefIdeal.nD Cert.SplitRefIdeal.τ).loc Cert.SplitRefIdeal.main_arg6)
          ∧ r.2.mem ((c.tc : Thread Cert.SplitRefIdeal.nD Cert.SplitRefIdeal.τ).loc Cert.SplitRefIdeal.main_arg7) = m' ((c.tc : Thread Cert.SplitRefIdeal.nD Cert.SplitRefIdeal.τ).loc Cert.SplitRefIdeal.main_arg7)
          ∧ r.2.mem ((c.tc : Thread Cert.SplitRefIdeal.nD Cert.SplitRefIdeal.τ).loc Cert.SplitRefIdeal.main_arg8) = m' ((c.tc : Thread Cert.SplitRefIdeal.nD Cert.SplitRefIdeal.τ).loc Cert.SplitRefIdeal.main_arg8)
          ∧ r.2.mem ((c.tc : Thread Cert.SplitRefIdeal.nD Cert.SplitRefIdeal.τ).loc Cert.SplitRefIdeal.main_arg9) = m' ((c.tc : Thread Cert.SplitRefIdeal.nD Cert.SplitRefIdeal.τ).loc Cert.SplitRefIdeal.main_arg9))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)
      ∧ m' ((c.tc : Thread Cert.LastRefIdeal.nD Cert.LastRefIdeal.τ).loc Cert.LastRefIdeal.main_arg9) = m ((c.tc : Thread Cert.LastIdeal.nD Cert.LastIdeal.τ).loc Cert.LastIdeal.main_arg9)
      ∧ m' ((c.tc : Thread Cert.LastRefIdeal.nD Cert.LastRefIdeal.τ).loc Cert.LastRefIdeal.main_arg10) = m ((c.tc : Thread Cert.LastIdeal.nD Cert.LastIdeal.τ).loc Cert.LastIdeal.main_arg10)
      ∧ m' ((c.tc : Thread Cert.LastRefIdeal.nD Cert.LastRefIdeal.τ).loc Cert.LastRefIdeal.main_arg11) = m ((c.tc : Thread Cert.LastIdeal.nD Cert.LastIdeal.τ).loc Cert.LastIdeal.main_arg11)
      ∧ m' ((c.tc : Thread Cert.LastRefIdeal.nD Cert.LastRefIdeal.τ).loc Cert.LastRefIdeal.main_arg12) = m ((c.tc : Thread Cert.LastIdeal.nD Cert.LastIdeal.τ).loc Cert.LastIdeal.main_arg12)
      ∧ m' ((c.tc : Thread Cert.LastRefIdeal.nD Cert.LastRefIdeal.τ).loc Cert.LastRefIdeal.main_arg13) = m ((c.tc : Thread Cert.LastIdeal.nD Cert.LastIdeal.τ).loc Cert.LastIdeal.main_arg13)
      ∧ m' ((c.tc : Thread Cert.LastRefIdeal.nD Cert.LastRefIdeal.τ).loc Cert.LastRefIdeal.main_arg14) = m ((c.tc : Thread Cert.LastIdeal.nD Cert.LastIdeal.τ).loc Cert.LastIdeal.main_arg14)
      ∧ m' ((c.tc : Thread Cert.LastRefIdeal.nD Cert.LastRefIdeal.τ).loc Cert.LastRefIdeal.main_arg15) = m ((c.tc : Thread Cert.LastIdeal.nD Cert.LastIdeal.τ).loc Cert.LastIdeal.main_arg15)) →
    ∃ (v0 : (c : Dev Cert.LastIdeal.nD) → Buf (Elt Ideal) ((c.tc : Thread Cert.LastIdeal.nD Cert.LastIdeal.τ).loc Cert.LastIdeal.main_v21)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v21) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
          ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
          ∧ r.2.mem ((c.tc : Thread Cert.LastIdeal.nD Cert.LastIdeal.τ).loc Cert.LastIdeal.main_arg11) = m ((c.tc : Thread Cert.LastIdeal.nD Cert.LastIdeal.τ).loc Cert.LastIdeal.main_arg11)
          ∧ r.2.mem ((c.tc : Thread Cert.LastIdeal.nD Cert.LastIdeal.τ).loc Cert.LastIdeal.main_arg12) = m ((c.tc : Thread Cert.LastIdeal.nD Cert.LastIdeal.τ).loc Cert.LastIdeal.main_arg12)
          ∧ r.2.mem ((c.tc : Thread Cert.LastIdeal.nD Cert.LastIdeal.τ).loc Cert.LastIdeal.main_arg13) = m ((c.tc : Thread Cert.LastIdeal.nD Cert.LastIdeal.τ).loc Cert.LastIdeal.main_arg13)
          ∧ r.2.mem ((c.tc : Thread Cert.LastIdeal.nD Cert.LastIdeal.τ).loc Cert.LastIdeal.main_arg14) = m ((c.tc : Thread Cert.LastIdeal.nD Cert.LastIdeal.τ).loc Cert.LastIdeal.main_arg14)
          ∧ r.2.mem ((c.tc : Thread Cert.LastIdeal.nD Cert.LastIdeal.τ).loc Cert.LastIdeal.main_arg15) = m ((c.tc : Thread Cert.LastIdeal.nD Cert.LastIdeal.τ).loc Cert.LastIdeal.main_arg15))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v83) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8)
          ∧ r.2.mem ((c.tc : Thread Cert.LastRefIdeal.nD Cert.LastRefIdeal.τ).loc Cert.LastRefIdeal.main_arg9) = m' ((c.tc : Thread Cert.LastRefIdeal.nD Cert.LastRefIdeal.τ).loc Cert.LastRefIdeal.main_arg9)
          ∧ r.2.mem ((c.tc : Thread Cert.LastRefIdeal.nD Cert.LastRefIdeal.τ).loc Cert.LastRefIdeal.main_arg10) = m' ((c.tc : Thread Cert.LastRefIdeal.nD Cert.LastRefIdeal.τ).loc Cert.LastRefIdeal.main_arg10)
          ∧ r.2.mem ((c.tc : Thread Cert.LastRefIdeal.nD Cert.LastRefIdeal.τ).loc Cert.LastRefIdeal.main_arg11) = m' ((c.tc : Thread Cert.LastRefIdeal.nD Cert.LastRefIdeal.τ).loc Cert.LastRefIdeal.main_arg11)
          ∧ r.2.mem ((c.tc : Thread Cert.LastRefIdeal.nD Cert.LastRefIdeal.τ).loc Cert.LastRefIdeal.main_arg12) = m' ((c.tc : Thread Cert.LastRefIdeal.nD Cert.LastRefIdeal.τ).loc Cert.LastRefIdeal.main_arg12)
          ∧ r.2.mem ((c.tc : Thread Cert.LastRefIdeal.nD Cert.LastRefIdeal.τ).loc Cert.LastRefIdeal.main_arg13) = m' ((c.tc : Thread Cert.LastRefIdeal.nD Cert.LastRefIdeal.τ).loc Cert.LastRefIdeal.main_arg13)
          ∧ r.2.mem ((c.tc : Thread Cert.LastRefIdeal.nD Cert.LastRefIdeal.τ).loc Cert.LastRefIdeal.main_arg14) = m' ((c.tc : Thread Cert.LastRefIdeal.nD Cert.LastRefIdeal.τ).loc Cert.LastRefIdeal.main_arg14)
          ∧ r.2.mem ((c.tc : Thread Cert.LastRefIdeal.nD Cert.LastRefIdeal.τ).loc Cert.LastRefIdeal.main_arg15) = m' ((c.tc : Thread Cert.LastRefIdeal.nD Cert.LastRefIdeal.τ).loc Cert.LastRefIdeal.main_arg15))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)
      ∧ m' ((c.tc : Thread Cert.FirstRefIdeal.nD Cert.FirstRefIdeal.τ).loc Cert.FirstRefIdeal.main_arg7) = m ((c.tc : Thread Cert.FirstIdeal.nD Cert.FirstIdeal.τ).loc Cert.FirstIdeal.main_arg7)
      ∧ m' ((c.tc : Thread Cert.FirstRefIdeal.nD Cert.FirstRefIdeal.τ).loc Cert.FirstRefIdeal.main_arg8) = m ((c.tc : Thread Cert.FirstIdeal.nD Cert.FirstIdeal.τ).loc Cert.FirstIdeal.main_arg8)
      ∧ m' ((c.tc : Thread Cert.FirstRefIdeal.nD Cert.FirstRefIdeal.τ).loc Cert.FirstRefIdeal.main_arg9) = m ((c.tc : Thread Cert.FirstIdeal.nD Cert.FirstIdeal.τ).loc Cert.FirstIdeal.main_arg9)
      ∧ m' ((c.tc : Thread Cert.FirstRefIdeal.nD Cert.FirstRefIdeal.τ).loc Cert.FirstRefIdeal.main_arg10) = m ((c.tc : Thread Cert.FirstIdeal.nD Cert.FirstIdeal.τ).loc Cert.FirstIdeal.main_arg10)
      ∧ m' ((c.tc : Thread Cert.FirstRefIdeal.nD Cert.FirstRefIdeal.τ).loc Cert.FirstRefIdeal.main_arg11) = m ((c.tc : Thread Cert.FirstIdeal.nD Cert.FirstIdeal.τ).loc Cert.FirstIdeal.main_arg11)
      ∧ m' ((c.tc : Thread Cert.FirstRefIdeal.nD Cert.FirstRefIdeal.τ).loc Cert.FirstRefIdeal.main_arg12) = m ((c.tc : Thread Cert.FirstIdeal.nD Cert.FirstIdeal.τ).loc Cert.FirstIdeal.main_arg12)
      ∧ m' ((c.tc : Thread Cert.FirstRefIdeal.nD Cert.FirstRefIdeal.τ).loc Cert.FirstRefIdeal.main_arg13) = m ((c.tc : Thread Cert.FirstIdeal.nD Cert.FirstIdeal.τ).loc Cert.FirstIdeal.main_arg13)
      ∧ m' ((c.tc : Thread Cert.FirstRefIdeal.nD Cert.FirstRefIdeal.τ).loc Cert.FirstRefIdeal.main_arg14) = m ((c.tc : Thread Cert.FirstIdeal.nD Cert.FirstIdeal.τ).loc Cert.FirstIdeal.main_arg14)) →
    ∃ (v0 : (c : Dev Cert.FirstIdeal.nD) → Buf (Elt Ideal) ((c.tc : Thread Cert.FirstIdeal.nD Cert.FirstIdeal.τ).loc Cert.FirstIdeal.main_v19)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v19) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
          ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
          ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
          ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11)
          ∧ r.2.mem ((c.tc : Thread Cert.FirstIdeal.nD Cert.FirstIdeal.τ).loc Cert.FirstIdeal.main_arg12) = m ((c.tc : Thread Cert.FirstIdeal.nD Cert.FirstIdeal.τ).loc Cert.FirstIdeal.main_arg12)
          ∧ r.2.mem ((c.tc : Thread Cert.FirstIdeal.nD Cert.FirstIdeal.τ).loc Cert.FirstIdeal.main_arg13) = m ((c.tc : Thread Cert.FirstIdeal.nD Cert.FirstIdeal.τ).loc Cert.FirstIdeal.main_arg13)
          ∧ r.2.mem ((c.tc : Thread Cert.FirstIdeal.nD Cert.FirstIdeal.τ).loc Cert.FirstIdeal.main_arg14) = m ((c.tc : Thread Cert.FirstIdeal.nD Cert.FirstIdeal.τ).loc Cert.FirstIdeal.main_arg14))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v142) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7)
          ∧ r.2.mem ((c.tc : Thread Cert.FirstRefIdeal.nD Cert.FirstRefIdeal.τ).loc Cert.FirstRefIdeal.main_arg8) = m' ((c.tc : Thread Cert.FirstRefIdeal.nD Cert.FirstRefIdeal.τ).loc Cert.FirstRefIdeal.main_arg8)
          ∧ r.2.mem ((c.tc : Thread Cert.FirstRefIdeal.nD Cert.FirstRefIdeal.τ).loc Cert.FirstRefIdeal.main_arg9) = m' ((c.tc : Thread Cert.FirstRefIdeal.nD Cert.FirstRefIdeal.τ).loc Cert.FirstRefIdeal.main_arg9)
          ∧ r.2.mem ((c.tc : Thread Cert.FirstRefIdeal.nD Cert.FirstRefIdeal.τ).loc Cert.FirstRefIdeal.main_arg10) = m' ((c.tc : Thread Cert.FirstRefIdeal.nD Cert.FirstRefIdeal.τ).loc Cert.FirstRefIdeal.main_arg10)
          ∧ r.2.mem ((c.tc : Thread Cert.FirstRefIdeal.nD Cert.FirstRefIdeal.τ).loc Cert.FirstRefIdeal.main_arg11) = m' ((c.tc : Thread Cert.FirstRefIdeal.nD Cert.FirstRefIdeal.τ).loc Cert.FirstRefIdeal.main_arg11)
          ∧ r.2.mem ((c.tc : Thread Cert.FirstRefIdeal.nD Cert.FirstRefIdeal.τ).loc Cert.FirstRefIdeal.main_arg12) = m' ((c.tc : Thread Cert.FirstRefIdeal.nD Cert.FirstRefIdeal.τ).loc Cert.FirstRefIdeal.main_arg12)
          ∧ r.2.mem ((c.tc : Thread Cert.FirstRefIdeal.nD Cert.FirstRefIdeal.τ).loc Cert.FirstRefIdeal.main_arg13) = m' ((c.tc : Thread Cert.FirstRefIdeal.nD Cert.FirstRefIdeal.τ).loc Cert.FirstRefIdeal.main_arg13)
          ∧ r.2.mem ((c.tc : Thread Cert.FirstRefIdeal.nD Cert.FirstRefIdeal.τ).loc Cert.FirstRefIdeal.main_arg14) = m' ((c.tc : Thread Cert.FirstRefIdeal.nD Cert.FirstRefIdeal.τ).loc Cert.FirstRefIdeal.main_arg14))

def preserves_Enter_EnterIdeal : Prop :=
  True

def algebraic_EnterIdeal_EnterRefIdeal [hEnterIdeal : Cert.EnterIdeal.Facts] [hEnterRefIdeal : Cert.EnterRefIdeal.Facts] : Prop :=
  ∀ (m : (ℓ : Loc Cert.EnterIdeal.nD Cert.EnterIdeal.τ Cert.EnterIdeal.sig) → Buf (Elt Ideal) ℓ) (g : Dev Cert.EnterIdeal.nD → PrngReg)
    (m' : (ℓ : Loc Cert.EnterRefIdeal.nD Cert.EnterRefIdeal.τ Cert.EnterRefIdeal.sig) → Buf (Elt Ideal) ℓ) (g' : Dev Cert.EnterRefIdeal.nD → PrngReg), Pre_EnterIdeal m →
    (∀ c : Dev Cert.EnterIdeal.nD,
      m' ((c.tc : Thread Cert.EnterRefIdeal.nD Cert.EnterRefIdeal.τ).loc Cert.EnterRefIdeal.main_arg0) = m ((c.tc : Thread Cert.EnterIdeal.nD Cert.EnterIdeal.τ).loc Cert.EnterIdeal.main_arg0)
      ∧ m' ((c.tc : Thread Cert.EnterRefIdeal.nD Cert.EnterRefIdeal.τ).loc Cert.EnterRefIdeal.main_arg1) = m ((c.tc : Thread Cert.EnterIdeal.nD Cert.EnterIdeal.τ).loc Cert.EnterIdeal.main_arg1)
      ∧ m' ((c.tc : Thread Cert.EnterRefIdeal.nD Cert.EnterRefIdeal.τ).loc Cert.EnterRefIdeal.main_arg2) = m ((c.tc : Thread Cert.EnterIdeal.nD Cert.EnterIdeal.τ).loc Cert.EnterIdeal.main_arg2)
      ∧ m' ((c.tc : Thread Cert.EnterRefIdeal.nD Cert.EnterRefIdeal.τ).loc Cert.EnterRefIdeal.main_arg3) = m ((c.tc : Thread Cert.EnterIdeal.nD Cert.EnterIdeal.τ).loc Cert.EnterIdeal.main_arg3)
      ∧ m' ((c.tc : Thread Cert.EnterRefIdeal.nD Cert.EnterRefIdeal.τ).loc Cert.EnterRefIdeal.main_arg4) = m ((c.tc : Thread Cert.EnterIdeal.nD Cert.EnterIdeal.τ).loc Cert.EnterIdeal.main_arg4)
      ∧ m' ((c.tc : Thread Cert.EnterRefIdeal.nD Cert.EnterRefIdeal.τ).loc Cert.EnterRefIdeal.main_arg5) = m ((c.tc : Thread Cert.EnterIdeal.nD Cert.EnterIdeal.τ).loc Cert.EnterIdeal.main_arg5)) →
    ∃ (v0 : (c : Dev Cert.EnterIdeal.nD) → Buf (Elt Ideal) ((c.tc : Thread Cert.EnterIdeal.nD Cert.EnterIdeal.τ).loc Cert.EnterIdeal.main_v23_0)) (v1 : (c : Dev Cert.EnterIdeal.nD) → Buf (Elt Ideal) ((c.tc : Thread Cert.EnterIdeal.nD Cert.EnterIdeal.τ).loc Cert.EnterIdeal.main_v23_1)) (v2 : (c : Dev Cert.EnterIdeal.nD) → Buf (Elt Ideal) ((c.tc : Thread Cert.EnterIdeal.nD Cert.EnterIdeal.τ).loc Cert.EnterIdeal.main_v23_2)) (v3 : (c : Dev Cert.EnterIdeal.nD) → Buf (Elt Ideal) ((c.tc : Thread Cert.EnterIdeal.nD Cert.EnterIdeal.τ).loc Cert.EnterIdeal.main_v23_3)) (v4 : (c : Dev Cert.EnterIdeal.nD) → Buf (Elt Ideal) ((c.tc : Thread Cert.EnterIdeal.nD Cert.EnterIdeal.τ).loc Cert.EnterIdeal.main_v23_4)),
      θ_run (Cert.EnterIdeal.defs (F := Ideal)) (onTc (τ := Cert.EnterIdeal.τ) (Cert.EnterIdeal.main (F := Ideal))) ⟨m, fun _ => 0, g⟩ (fun r => ∀ c : Dev Cert.EnterIdeal.nD,
          r.2.mem ((c.tc : Thread Cert.EnterIdeal.nD Cert.EnterIdeal.τ).loc Cert.EnterIdeal.main_v23_0) = v0 c
          ∧ r.2.mem ((c.tc : Thread Cert.EnterIdeal.nD Cert.EnterIdeal.τ).loc Cert.EnterIdeal.main_v23_1) = v1 c
          ∧ r.2.mem ((c.tc : Thread Cert.EnterIdeal.nD Cert.EnterIdeal.τ).loc Cert.EnterIdeal.main_v23_2) = v2 c
          ∧ r.2.mem ((c.tc : Thread Cert.EnterIdeal.nD Cert.EnterIdeal.τ).loc Cert.EnterIdeal.main_v23_3) = v3 c
          ∧ r.2.mem ((c.tc : Thread Cert.EnterIdeal.nD Cert.EnterIdeal.τ).loc Cert.EnterIdeal.main_v23_4) = v4 c
          ∧ r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
          ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
          ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2)
          ∧ r.2.mem ((c.tc : Thread Cert.EnterIdeal.nD Cert.EnterIdeal.τ).loc Cert.EnterIdeal.main_arg3) = m ((c.tc : Thread Cert.EnterIdeal.nD Cert.EnterIdeal.τ).loc Cert.EnterIdeal.main_arg3)
          ∧ r.2.mem ((c.tc : Thread Cert.EnterIdeal.nD Cert.EnterIdeal.τ).loc Cert.EnterIdeal.main_arg4) = m ((c.tc : Thread Cert.EnterIdeal.nD Cert.EnterIdeal.τ).loc Cert.EnterIdeal.main_arg4)
          ∧ r.2.mem ((c.tc : Thread Cert.EnterIdeal.nD Cert.EnterIdeal.τ).loc Cert.EnterIdeal.main_arg5) = m ((c.tc : Thread Cert.EnterIdeal.nD Cert.EnterIdeal.τ).loc Cert.EnterIdeal.main_arg5))
      ∧ θ_run (Cert.EnterRefIdeal.defs (F := Ideal)) (onTc (τ := Cert.EnterRefIdeal.τ) (Cert.EnterRefIdeal.main (F := Ideal))) ⟨m', fun _ => 0, g'⟩ (fun r => ∀ c : Dev Cert.EnterRefIdeal.nD,
          r.2.mem ((c.tc : Thread Cert.EnterRefIdeal.nD Cert.EnterRefIdeal.τ).loc Cert.EnterRefIdeal.main_v78) = v0 c
          ∧ r.2.mem ((c.tc : Thread Cert.EnterRefIdeal.nD Cert.EnterRefIdeal.τ).loc Cert.EnterRefIdeal.main_v80) = v1 c
          ∧ r.2.mem ((c.tc : Thread Cert.EnterRefIdeal.nD Cert.EnterRefIdeal.τ).loc Cert.EnterRefIdeal.main_v81) = v2 c
          ∧ r.2.mem ((c.tc : Thread Cert.EnterRefIdeal.nD Cert.EnterRefIdeal.τ).loc Cert.EnterRefIdeal.main_v82) = v3 c
          ∧ r.2.mem ((c.tc : Thread Cert.EnterRefIdeal.nD Cert.EnterRefIdeal.τ).loc Cert.EnterRefIdeal.main_v77) = v4 c
          ∧ r.2.mem ((c.tc : Thread Cert.EnterRefIdeal.nD Cert.EnterRefIdeal.τ).loc Cert.EnterRefIdeal.main_arg0) = m' ((c.tc : Thread Cert.EnterRefIdeal.nD Cert.EnterRefIdeal.τ).loc Cert.EnterRefIdeal.main_arg0)
          ∧ r.2.mem ((c.tc : Thread Cert.EnterRefIdeal.nD Cert.EnterRefIdeal.τ).loc Cert.EnterRefIdeal.main_arg1) = m' ((c.tc : Thread Cert.EnterRefIdeal.nD Cert.EnterRefIdeal.τ).loc Cert.EnterRefIdeal.main_arg1)
          ∧ r.2.mem ((c.tc : Thread Cert.EnterRefIdeal.nD Cert.EnterRefIdeal.τ).loc Cert.EnterRefIdeal.main_arg2) = m' ((c.tc : Thread Cert.EnterRefIdeal.nD Cert.EnterRefIdeal.τ).loc Cert.EnterRefIdeal.main_arg2)
          ∧ r.2.mem ((c.tc : Thread Cert.EnterRefIdeal.nD Cert.EnterRefIdeal.τ).loc Cert.EnterRefIdeal.main_arg3) = m' ((c.tc : Thread Cert.EnterRefIdeal.nD Cert.EnterRefIdeal.τ).loc Cert.EnterRefIdeal.main_arg3)
          ∧ r.2.mem ((c.tc : Thread Cert.EnterRefIdeal.nD Cert.EnterRefIdeal.τ).loc Cert.EnterRefIdeal.main_arg4) = m' ((c.tc : Thread Cert.EnterRefIdeal.nD Cert.EnterRefIdeal.τ).loc Cert.EnterRefIdeal.main_arg4)
          ∧ r.2.mem ((c.tc : Thread Cert.EnterRefIdeal.nD Cert.EnterRefIdeal.τ).loc Cert.EnterRefIdeal.main_arg5) = m' ((c.tc : Thread Cert.EnterRefIdeal.nD Cert.EnterRefIdeal.τ).loc Cert.EnterRefIdeal.main_arg5))

def preserves_Again_AgainIdeal : Prop :=
  True

def algebraic_AgainIdeal_AgainRefIdeal [hAgainIdeal : Cert.AgainIdeal.Facts] [hAgainRefIdeal : Cert.AgainRefIdeal.Facts] : Prop :=
  ∀ (m : (ℓ : Loc Cert.AgainIdeal.nD Cert.AgainIdeal.τ Cert.AgainIdeal.sig) → Buf (Elt Ideal) ℓ) (g : Dev Cert.AgainIdeal.nD → PrngReg)
    (m' : (ℓ : Loc Cert.AgainRefIdeal.nD Cert.AgainRefIdeal.τ Cert.AgainRefIdeal.sig) → Buf (Elt Ideal) ℓ) (g' : Dev Cert.AgainRefIdeal.nD → PrngReg), Pre_AgainIdeal m →
    (∀ c : Dev Cert.AgainIdeal.nD,
      m' ((c.tc : Thread Cert.AgainRefIdeal.nD Cert.AgainRefIdeal.τ).loc Cert.AgainRefIdeal.main_arg0) = m ((c.tc : Thread Cert.AgainIdeal.nD Cert.AgainIdeal.τ).loc Cert.AgainIdeal.main_arg0)
      ∧ m' ((c.tc : Thread Cert.AgainRefIdeal.nD Cert.AgainRefIdeal.τ).loc Cert.AgainRefIdeal.main_arg1) = m ((c.tc : Thread Cert.AgainIdeal.nD Cert.AgainIdeal.τ).loc Cert.AgainIdeal.main_arg1)
      ∧ m' ((c.tc : Thread Cert.AgainRefIdeal.nD Cert.AgainRefIdeal.τ).loc Cert.AgainRefIdeal.main_arg2) = m ((c.tc : Thread Cert.AgainIdeal.nD Cert.AgainIdeal.τ).loc Cert.AgainIdeal.main_arg2)
      ∧ m' ((c.tc : Thread Cert.AgainRefIdeal.nD Cert.AgainRefIdeal.τ).loc Cert.AgainRefIdeal.main_arg3) = m ((c.tc : Thread Cert.AgainIdeal.nD Cert.AgainIdeal.τ).loc Cert.AgainIdeal.main_arg3)
      ∧ m' ((c.tc : Thread Cert.AgainRefIdeal.nD Cert.AgainRefIdeal.τ).loc Cert.AgainRefIdeal.main_arg4) = m ((c.tc : Thread Cert.AgainIdeal.nD Cert.AgainIdeal.τ).loc Cert.AgainIdeal.main_arg4)
      ∧ m' ((c.tc : Thread Cert.AgainRefIdeal.nD Cert.AgainRefIdeal.τ).loc Cert.AgainRefIdeal.main_arg5) = m ((c.tc : Thread Cert.AgainIdeal.nD Cert.AgainIdeal.τ).loc Cert.AgainIdeal.main_arg5)) →
    ∃ (v0 : (c : Dev Cert.AgainIdeal.nD) → Buf (Elt Ideal) ((c.tc : Thread Cert.AgainIdeal.nD Cert.AgainIdeal.τ).loc Cert.AgainIdeal.main_v24_0)) (v1 : (c : Dev Cert.AgainIdeal.nD) → Buf (Elt Ideal) ((c.tc : Thread Cert.AgainIdeal.nD Cert.AgainIdeal.τ).loc Cert.AgainIdeal.main_v24_1)) (v2 : (c : Dev Cert.AgainIdeal.nD) → Buf (Elt Ideal) ((c.tc : Thread Cert.AgainIdeal.nD Cert.AgainIdeal.τ).loc Cert.AgainIdeal.main_v24_2)) (v3 : (c : Dev Cert.AgainIdeal.nD) → Buf (Elt Ideal) ((c.tc : Thread Cert.AgainIdeal.nD Cert.AgainIdeal.τ).loc Cert.AgainIdeal.main_v24_3)) (v4 : (c : Dev Cert.AgainIdeal.nD) → Buf (Elt Ideal) ((c.tc : Thread Cert.AgainIdeal.nD Cert.AgainIdeal.τ).loc Cert.AgainIdeal.main_v24_4)),
      θ_run (Cert.AgainIdeal.defs (F := Ideal)) (onTc (τ := Cert.AgainIdeal.τ) (Cert.AgainIdeal.main (F := Ideal))) ⟨m, fun _ => 0, g⟩ (fun r => ∀ c : Dev Cert.AgainIdeal.nD,
          r.2.mem ((c.tc : Thread Cert.AgainIdeal.nD Cert.AgainIdeal.τ).loc Cert.AgainIdeal.main_v24_0) = v0 c
          ∧ r.2.mem ((c.tc : Thread Cert.AgainIdeal.nD Cert.AgainIdeal.τ).loc Cert.AgainIdeal.main_v24_1) = v1 c
          ∧ r.2.mem ((c.tc : Thread Cert.AgainIdeal.nD Cert.AgainIdeal.τ).loc Cert.AgainIdeal.main_v24_2) = v2 c
          ∧ r.2.mem ((c.tc : Thread Cert.AgainIdeal.nD Cert.AgainIdeal.τ).loc Cert.AgainIdeal.main_v24_3) = v3 c
          ∧ r.2.mem ((c.tc : Thread Cert.AgainIdeal.nD Cert.AgainIdeal.τ).loc Cert.AgainIdeal.main_v24_4) = v4 c
          ∧ r.2.mem ((c.tc : Thread Cert.AgainIdeal.nD Cert.AgainIdeal.τ).loc Cert.AgainIdeal.main_arg0) = m ((c.tc : Thread Cert.AgainIdeal.nD Cert.AgainIdeal.τ).loc Cert.AgainIdeal.main_arg0)
          ∧ r.2.mem ((c.tc : Thread Cert.AgainIdeal.nD Cert.AgainIdeal.τ).loc Cert.AgainIdeal.main_arg1) = m ((c.tc : Thread Cert.AgainIdeal.nD Cert.AgainIdeal.τ).loc Cert.AgainIdeal.main_arg1)
          ∧ r.2.mem ((c.tc : Thread Cert.AgainIdeal.nD Cert.AgainIdeal.τ).loc Cert.AgainIdeal.main_arg2) = m ((c.tc : Thread Cert.AgainIdeal.nD Cert.AgainIdeal.τ).loc Cert.AgainIdeal.main_arg2)
          ∧ r.2.mem ((c.tc : Thread Cert.AgainIdeal.nD Cert.AgainIdeal.τ).loc Cert.AgainIdeal.main_arg3) = m ((c.tc : Thread Cert.AgainIdeal.nD Cert.AgainIdeal.τ).loc Cert.AgainIdeal.main_arg3)
          ∧ r.2.mem ((c.tc : Thread Cert.AgainIdeal.nD Cert.AgainIdeal.τ).loc Cert.AgainIdeal.main_arg4) = m ((c.tc : Thread Cert.AgainIdeal.nD Cert.AgainIdeal.τ).loc Cert.AgainIdeal.main_arg4)
          ∧ r.2.mem ((c.tc : Thread Cert.AgainIdeal.nD Cert.AgainIdeal.τ).loc Cert.AgainIdeal.main_arg5) = m ((c.tc : Thread Cert.AgainIdeal.nD Cert.AgainIdeal.τ).loc Cert.AgainIdeal.main_arg5))
      ∧ θ_run (Cert.AgainRefIdeal.defs (F := Ideal)) (onTc (τ := Cert.AgainRefIdeal.τ) (Cert.AgainRefIdeal.main (F := Ideal))) ⟨m', fun _ => 0, g'⟩ (fun r => ∀ c : Dev Cert.AgainRefIdeal.nD,
          r.2.mem ((c.tc : Thread Cert.AgainRefIdeal.nD Cert.AgainRefIdeal.τ).loc Cert.AgainRefIdeal.main_v78) = v0 c
          ∧ r.2.mem ((c.tc : Thread Cert.AgainRefIdeal.nD Cert.AgainRefIdeal.τ).loc Cert.AgainRefIdeal.main_v80) = v1 c
          ∧ r.2.mem ((c.tc : Thread Cert.AgainRefIdeal.nD Cert.AgainRefIdeal.τ).loc Cert.AgainRefIdeal.main_v81) = v2 c
          ∧ r.2.mem ((c.tc : Thread Cert.AgainRefIdeal.nD Cert.AgainRefIdeal.τ).loc Cert.AgainRefIdeal.main_v82) = v3 c
          ∧ r.2.mem ((c.tc : Thread Cert.AgainRefIdeal.nD Cert.AgainRefIdeal.τ).loc Cert.AgainRefIdeal.main_v77) = v4 c
          ∧ r.2.mem ((c.tc : Thread Cert.AgainRefIdeal.nD Cert.AgainRefIdeal.τ).loc Cert.AgainRefIdeal.main_arg0) = m' ((c.tc : Thread Cert.AgainRefIdeal.nD Cert.AgainRefIdeal.τ).loc Cert.AgainRefIdeal.main_arg0)
          ∧ r.2.mem ((c.tc : Thread Cert.AgainRefIdeal.nD Cert.AgainRefIdeal.τ).loc Cert.AgainRefIdeal.main_arg1) = m' ((c.tc : Thread Cert.AgainRefIdeal.nD Cert.AgainRefIdeal.τ).loc Cert.AgainRefIdeal.main_arg1)
          ∧ r.2.mem ((c.tc : Thread Cert.AgainRefIdeal.nD Cert.AgainRefIdeal.τ).loc Cert.AgainRefIdeal.main_arg2) = m' ((c.tc : Thread Cert.AgainRefIdeal.nD Cert.AgainRefIdeal.τ).loc Cert.AgainRefIdeal.main_arg2)
          ∧ r.2.mem ((c.tc : Thread Cert.AgainRefIdeal.nD Cert.AgainRefIdeal.τ).loc Cert.AgainRefIdeal.main_arg3) = m' ((c.tc : Thread Cert.AgainRefIdeal.nD Cert.AgainRefIdeal.τ).loc Cert.AgainRefIdeal.main_arg3)
          ∧ r.2.mem ((c.tc : Thread Cert.AgainRefIdeal.nD Cert.AgainRefIdeal.τ).loc Cert.AgainRefIdeal.main_arg4) = m' ((c.tc : Thread Cert.AgainRefIdeal.nD Cert.AgainRefIdeal.τ).loc Cert.AgainRefIdeal.main_arg4)
          ∧ r.2.mem ((c.tc : Thread Cert.AgainRefIdeal.nD Cert.AgainRefIdeal.τ).loc Cert.AgainRefIdeal.main_arg5) = m' ((c.tc : Thread Cert.AgainRefIdeal.nD Cert.AgainRefIdeal.τ).loc Cert.AgainRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v40) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def Claim : Prop :=
  ∃ (hKernel : Cert.Kernel.Facts) (hKernelIdeal : Cert.KernelIdeal.Facts) (hReferenceIdeal : Cert.ReferenceIdeal.Facts) (hSplit : Cert.Split.Facts) (hSplitIdeal : Cert.SplitIdeal.Facts) (hSplitRefIdeal : Cert.SplitRefIdeal.Facts) (hLast : Cert.Last.Facts) (hLastIdeal : Cert.LastIdeal.Facts) (hLastRefIdeal : Cert.LastRefIdeal.Facts) (hFirst : Cert.First.Facts) (hFirstIdeal : Cert.FirstIdeal.Facts) (hFirstRefIdeal : Cert.FirstRefIdeal.Facts) (hEnter : Cert.Enter.Facts) (hEnterIdeal : Cert.EnterIdeal.Facts) (hEnterRefIdeal : Cert.EnterRefIdeal.Facts) (hAgain : Cert.Again.Facts) (hAgainIdeal : Cert.AgainIdeal.Facts) (hAgainRefIdeal : Cert.AgainRefIdeal.Facts) (hAda : Cert.Ada.Facts) (hAdaIdeal : Cert.AdaIdeal.Facts) (hAdaRefIdeal : Cert.AdaRefIdeal.Facts),
    quiescent_Kernel (hKernel := hKernel)
    ∧ quiescent_KernelIdeal (hKernelIdeal := hKernelIdeal)
    ∧ quiescent_ReferenceIdeal (hReferenceIdeal := hReferenceIdeal)
    ∧ quiescent_Split (hSplit := hSplit)
    ∧ quiescent_SplitIdeal (hSplitIdeal := hSplitIdeal)
    ∧ quiescent_SplitRefIdeal (hSplitRefIdeal := hSplitRefIdeal)
    ∧ quiescent_Last (hLast := hLast)
    ∧ quiescent_LastIdeal (hLastIdeal := hLastIdeal)
    ∧ quiescent_LastRefIdeal (hLastRefIdeal := hLastRefIdeal)
    ∧ quiescent_First (hFirst := hFirst)
    ∧ quiescent_FirstIdeal (hFirstIdeal := hFirstIdeal)
    ∧ quiescent_FirstRefIdeal (hFirstRefIdeal := hFirstRefIdeal)
    ∧ quiescent_Enter (hEnter := hEnter)
    ∧ quiescent_EnterIdeal (hEnterIdeal := hEnterIdeal)
    ∧ quiescent_EnterRefIdeal (hEnterRefIdeal := hEnterRefIdeal)
    ∧ quiescent_Again (hAgain := hAgain)
    ∧ quiescent_AgainIdeal (hAgainIdeal := hAgainIdeal)
    ∧ quiescent_AgainRefIdeal (hAgainRefIdeal := hAgainRefIdeal)
    ∧ quiescent_Ada (hAda := hAda)
    ∧ quiescent_AdaIdeal (hAdaIdeal := hAdaIdeal)
    ∧ quiescent_AdaRefIdeal (hAdaRefIdeal := hAdaRefIdeal)
    ∧ preserves_Kernel_KernelIdeal
    ∧ algebraic_KernelIdeal_ReferenceIdeal (hKernelIdeal := hKernelIdeal) (hReferenceIdeal := hReferenceIdeal)
    ∧ preserves_Split_SplitIdeal
    ∧ algebraic_SplitIdeal_SplitRefIdeal (hSplitIdeal := hSplitIdeal) (hSplitRefIdeal := hSplitRefIdeal)
    ∧ preserves_Last_LastIdeal
    ∧ algebraic_LastIdeal_LastRefIdeal (hLastIdeal := hLastIdeal) (hLastRefIdeal := hLastRefIdeal)
    ∧ preserves_First_FirstIdeal
    ∧ algebraic_FirstIdeal_FirstRefIdeal (hFirstIdeal := hFirstIdeal) (hFirstRefIdeal := hFirstRefIdeal)
    ∧ preserves_Enter_EnterIdeal
    ∧ algebraic_EnterIdeal_EnterRefIdeal (hEnterIdeal := hEnterIdeal) (hEnterRefIdeal := hEnterRefIdeal)
    ∧ preserves_Again_AgainIdeal
    ∧ algebraic_AgainIdeal_AgainRefIdeal (hAgainIdeal := hAgainIdeal) (hAgainRefIdeal := hAgainRefIdeal)
    ∧ preserves_Ada_AdaIdeal
    ∧ algebraic_AdaIdeal_AdaRefIdeal (hAdaIdeal := hAdaIdeal) (hAdaRefIdeal := hAdaRefIdeal)
-- ==== Kernel.lean ====
abbrev S8x256x1024 : Shape := ⟨3, ![8, 256, 1024]⟩
abbrev S8x2048x1024 : Shape := ⟨3, ![8, 2048, 1024]⟩
abbrev S64 : Shape := ⟨1, ![64]⟩
abbrev S1024 : Shape := ⟨1, ![1024]⟩
abbrev S8x2304x1024 : Shape := ⟨3, ![8, 2304, 1024]⟩
abbrev S8x1024x2304 : Shape := ⟨3, ![8, 1024, 2304]⟩
abbrev S1x64 : Shape := ⟨2, ![1, 64]⟩
abbrev S4x64 : Shape := ⟨2, ![4, 64]⟩
abbrev S8x1x128 : Shape := ⟨3, ![8, 1, 128]⟩
abbrev S1x256x128 : Shape := ⟨3, ![1, 256, 128]⟩
abbrev S1x2304x128 : Shape := ⟨3, ![1, 2304, 128]⟩
abbrev S1x128x2304 : Shape := ⟨3, ![1, 128, 2304]⟩
abbrev S1x1x128 : Shape := ⟨3, ![1, 1, 128]⟩
abbrev S1x2048x128 : Shape := ⟨3, ![1, 2048, 128]⟩
abbrev S1 : Shape := ⟨1, ![1]⟩
abbrev S1x1 : Shape := ⟨2, ![1, 1]⟩
abbrev S256x128 : Shape := ⟨2, ![256, 128]⟩
abbrev S2048x128 : Shape := ⟨2, ![2048, 128]⟩
abbrev S1x128 : Shape := ⟨2, ![1, 128]⟩
abbrev S512x128 : Shape := ⟨2, ![512, 128]⟩
abbrev S256x512 : Shape := ⟨2, ![256, 512]⟩
abbrev S32x8x512 : Shape := ⟨3, ![32, 8, 512]⟩
abbrev S8x512 : Shape := ⟨2, ![8, 512]⟩
abbrev S512 : Shape := ⟨1, ![512]⟩
abbrev S1x512 : Shape := ⟨2, ![1, 512]⟩
abbrev S2304x512 : Shape := ⟨2, ![2304, 512]⟩
abbrev S128x2304 : Shape := ⟨2, ![128, 2304]⟩
abbrev S128x512 : Shape := ⟨2, ![128, 512]⟩
abbrev S512x1 : Shape := ⟨2, ![512, 1]⟩
abbrev S1x512x128 : Shape := ⟨3, ![1, 512, 128]⟩

abbrev nBuf : Space → Nat
  | .hbm => 24
  | .vmem => 25
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .f32⟩
  | .hbm, ⟨2, _⟩ => ⟨S8x256x1024, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1024, .f32⟩
  | .hbm, ⟨11, _⟩ => ⟨S8x2304x1024, .f32⟩
  | .hbm, ⟨12, _⟩ => ⟨S8x2304x1024, .f32⟩
  | .hbm, ⟨13, _⟩ => ⟨S8x2304x1024, .f32⟩
  | .hbm, ⟨14, _⟩ => ⟨S8x2304x1024, .bf16⟩
  | .hbm, ⟨15, _⟩ => ⟨S8x1024x2304, .f32⟩
  | .hbm, ⟨16, _⟩ => ⟨S8x1024x2304, .bf16⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S4x64, .f32⟩
  | .hbm, ⟨22, _⟩ => ⟨S8x1x128, .f32⟩
  | .hbm, ⟨23, _⟩ => ⟨S8x2048x1024, .bf16⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x2304x128, .bf16⟩
  | .local _ .vmem, ⟨17, _⟩ => ⟨S1x2304x128, .bf16⟩
  | .local _ .vmem, ⟨18, _⟩ => ⟨S1x128x2304, .bf16⟩
  | .local _ .vmem, ⟨19, _⟩ => ⟨S1x128x2304, .bf16⟩
  | .local _ .vmem, ⟨20, _⟩ => ⟨S4x64, .f32⟩
  | .local _ .vmem, ⟨21, _⟩ => ⟨S1x1x128, .f32⟩
  | .local _ .vmem, ⟨22, _⟩ => ⟨S1x1x128, .f32⟩
  | .local _ .vmem, ⟨23, _⟩ => ⟨S1x2048x128, .bf16⟩
  | .local _ .vmem, ⟨24, _⟩ => ⟨S1x2048x128, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  ![arg0.toNat, v2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.addi v0 c1_i32
  let c2_i32 : BitVec 32 := 2#32
  let v2 : BitVec 32 := Scalar.addi v1 c2_i32
  let c0_i32 : BitVec 32 := 0#32
  ![arg0.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.addi v0 c1_i32
  let c3_i32 : BitVec 32 := 3#32
  let v2 : BitVec 32 := Scalar.addi v1 c3_i32
  let c0_i32 : BitVec 32 := 0#32
  ![arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.addi v0 c1_i32
  let c4_i32 : BitVec 32 := 4#32
  let v2 : BitVec 32 := Scalar.addi v1 c4_i32
  let c0_i32 : BitVec 32 := 0#32
  ![arg0.toNat, v2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.addi v0 c1_i32
  let c5_i32 : BitVec 32 := 5#32
  let v2 : BitVec 32 := Scalar.addi v1 c5_i32
  let c0_i32 : BitVec 32 := 0#32
  ![arg0.toNat, v2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.addi v0 c1_i32
  let c6_i32 : BitVec 32 := 6#32
  let v2 : BitVec 32 := Scalar.addi v1 c6_i32
  let c0_i32 : BitVec 32 := 0#32
  ![arg0.toNat, v2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.addi v0 c1_i32
  let c7_i32 : BitVec 32 := 7#32
  let v2 : BitVec 32 := Scalar.addi v1 c7_i32
  let c0_i32 : BitVec 32 := 0#32
  ![arg0.toNat, v2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2304x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x128x2304 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S4x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== KernelIdeal.lean ====
variable {F : FTy → Type} [FloatOps F] [Named F]
def κ : String → Option EReal := fun
  | "scale_log2e" => some ((8⁻¹ * (Real.log 2)⁻¹ : ℝ) : EReal)
  | _ => none
-- ==== ReferenceIdeal.lean ====
abbrev S8x256x1024 : Shape := ⟨3, ![8, 256, 1024]⟩
abbrev S8x2048x1024 : Shape := ⟨3, ![8, 2048, 1024]⟩
abbrev S64 : Shape := ⟨1, ![64]⟩
abbrev S1024 : Shape := ⟨1, ![1024]⟩
abbrev S_ : Shape := ⟨0, ![]⟩
abbrev S8x256x8x2x64 : Shape := ⟨5, ![8, 256, 8, 2, 64]⟩
abbrev S8x256x8x128 : Shape := ⟨4, ![8, 256, 8, 128]⟩
abbrev S8x2048x8x2x64 : Shape := ⟨5, ![8, 2048, 8, 2, 64]⟩
abbrev S8x2048x8x128 : Shape := ⟨4, ![8, 2048, 8, 128]⟩
abbrev S8x8x2x2048x2048 : Shape := ⟨5, ![8, 8, 2, 2048, 2048]⟩
abbrev S8x8x2x2048x256 : Shape := ⟨5, ![8, 8, 2, 2048, 256]⟩
abbrev S8x8x2x2048 : Shape := ⟨4, ![8, 8, 2, 2048]⟩
abbrev S8x8x2x2048x1 : Shape := ⟨5, ![8, 8, 2, 2048, 1]⟩
abbrev S8x8x128x2x2048 : Shape := ⟨5, ![8, 8, 128, 2, 2048]⟩
abbrev S8x2048x8x2x128 : Shape := ⟨5, ![8, 2048, 8, 2, 128]⟩
abbrev S8x2048x8x2 : Shape := ⟨4, ![8, 2048, 8, 2]⟩
abbrev S8x2048x8x2x1 : Shape := ⟨5, ![8, 2048, 8, 2, 1]⟩
abbrev S8x2048x8x1x128 : Shape := ⟨5, ![8, 2048, 8, 1, 128]⟩
abbrev S8x2048x8 : Shape := ⟨3, ![8, 2048, 8]⟩
abbrev S8x2048x8x1 : Shape := ⟨4, ![8, 2048, 8, 1]⟩
abbrev S8x128 : Shape := ⟨2, ![8, 128]⟩
abbrev S1x1x8x128 : Shape := ⟨4, ![1, 1, 8, 128]⟩

abbrev nBuf : Space → Nat
  | .hbm => 90
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .f32⟩
  | .hbm, ⟨2, _⟩ => ⟨S8x256x1024, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1024, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x256x8x2x64, .f32⟩
  | .hbm, ⟨23, _⟩ => ⟨S8x256x8x128, .f32⟩
  | .hbm, ⟨24, _⟩ => ⟨S8x2048x8x2x64, .f32⟩
  | .hbm, ⟨25, _⟩ => ⟨S8x2048x8x2x64, .f32⟩
  | .hbm, ⟨26, _⟩ => ⟨S8x2048x8x128, .f32⟩
  | .hbm, ⟨27, _⟩ => ⟨S8x8x2x2048x2048, .f32⟩
  | .hbm, ⟨28, _⟩ => ⟨S_, .f32⟩
  | .hbm, ⟨29, _⟩ => ⟨S8x8x2x2048x2048, .f32⟩
  | .hbm, ⟨30, _⟩ => ⟨S8x8x2x2048x2048, .f32⟩
  | .hbm, ⟨31, _⟩ => ⟨S8x8x2x2048x256, .f32⟩
  | .hbm, ⟨32, _⟩ => ⟨S_, .f32⟩
  | .hbm, ⟨33, _⟩ => ⟨S8x8x2x2048x256, .f32⟩
  | .hbm, ⟨34, _⟩ => ⟨S8x8x2x2048x256, .f32⟩
  | .hbm, ⟨35, _⟩ => ⟨S_, .f32⟩
  | .hbm, ⟨36, _⟩ => ⟨S8x8x2x2048, .f32⟩
  | .hbm, ⟨37, _⟩ => ⟨S_, .f32⟩
  | .hbm, ⟨38, _⟩ => ⟨S8x8x2x2048, .f32⟩
  | .hbm, ⟨39, _⟩ => ⟨S8x8x2x2048, .f32⟩
  | .hbm, ⟨40, _⟩ => ⟨S8x8x2x2048x1, .f32⟩
  | .hbm, ⟨41, _⟩ => ⟨S8x8x2x2048x2048, .f32⟩
  | .hbm, ⟨42, _⟩ => ⟨S8x8x2x2048x2048, .f32⟩
  | .hbm, ⟨43, _⟩ => ⟨S8x8x2x2048x2048, .f32⟩
  | .hbm, ⟨44, _⟩ => ⟨S8x8x2x2048x256, .f32⟩
  | .hbm, ⟨45, _⟩ => ⟨S8x8x2x2048x256, .f32⟩
  | .hbm, ⟨46, _⟩ => ⟨S8x8x2x2048x256, .f32⟩
  | .hbm, ⟨47, _⟩ => ⟨S_, .f32⟩
  | .hbm, ⟨48, _⟩ => ⟨S8x8x2x2048, .f32⟩
  | .hbm, ⟨49, _⟩ => ⟨S_, .f32⟩
  | .hbm, ⟨50, _⟩ => ⟨S8x8x2x2048, .f32⟩
  | .hbm, ⟨51, _⟩ => ⟨S8x8x2x2048, .f32⟩
  | .hbm, ⟨52, _⟩ => ⟨S8x8x128x2x2048, .f32⟩
  | .hbm, ⟨53, _⟩ => ⟨S8x2048x8x2x128, .f32⟩
  | .hbm, ⟨54, _⟩ => ⟨S8x8x128x2x2048, .f32⟩
  | .hbm, ⟨55, _⟩ => ⟨S8x2048x8x2x128, .f32⟩
  | .hbm, ⟨56, _⟩ => ⟨S8x2048x8x2x128, .f32⟩
  | .hbm, ⟨57, _⟩ => ⟨S8x2048x8x2, .f32⟩
  | .hbm, ⟨58, _⟩ => ⟨S8x2048x8x2x1, .f32⟩
  | .hbm, ⟨59, _⟩ => ⟨S8x2048x8x2x128, .f32⟩
  | .hbm, ⟨60, _⟩ => ⟨S8x2048x8x2x128, .f32⟩
  | .hbm, ⟨61, _⟩ => ⟨S8x2048x8x1x128, .f32⟩
  | .hbm, ⟨62, _⟩ => ⟨S8x2048x8x128, .f32⟩
  | .hbm, ⟨63, _⟩ => ⟨S8x2048x8x1x128, .f32⟩
  | .hbm, ⟨64, _⟩ => ⟨S8x2048x8x128, .f32⟩
  | .hbm, ⟨65, _⟩ => ⟨S8x2048x8x128, .f32⟩
  | .hbm, ⟨66, _⟩ => ⟨S8x2048x8x128, .f32⟩
  | .hbm, ⟨67, _⟩ => ⟨S8x2048x8x128, .f32⟩
  | .hbm, ⟨68, _⟩ => ⟨S8x2048x8x128, .f32⟩
  | .hbm, ⟨69, _⟩ => ⟨S_, .f32⟩
  | .hbm, ⟨70, _⟩ => ⟨S8x2048x8, .f32⟩
  | .hbm, ⟨71, _⟩ => ⟨S8x2048x8x1, .f32⟩
  | .hbm, ⟨72, _⟩ => ⟨S_, .f32⟩
  | .hbm, ⟨73, _⟩ => ⟨S8x2048x8x1, .f32⟩
  | .hbm, ⟨74, _⟩ => ⟨S8x2048x8x1, .f32⟩
  | .hbm, ⟨75, _⟩ => ⟨S_, .f32⟩
  | .hbm, ⟨76, _⟩ => ⟨S8x2048x8x1, .f32⟩
  | .hbm, ⟨77, _⟩ => ⟨S8x2048x8x1, .f32⟩
  | .hbm, ⟨78, _⟩ => ⟨S8x2048x8x1, .f32⟩
  | .hbm, ⟨79, _⟩ => ⟨S8x2048x8x128, .f32⟩
  | .hbm, ⟨80, _⟩ => ⟨S8x2048x8x128, .f32⟩
  | .hbm, ⟨81, _⟩ => ⟨S8x128, .f32⟩
  | .hbm, ⟨82, _⟩ => ⟨S1x1x8x128, .f32⟩
  | .hbm, ⟨83, _⟩ => ⟨S8x2048x8x128, .f32⟩
  | .hbm, ⟨84, _⟩ => ⟨S8x2048x8x128, .f32⟩
  | .hbm, ⟨85, _⟩ => ⟨S_, .f32⟩
  | .hbm, ⟨86, _⟩ => ⟨S8x2048x8x128, .f32⟩
  | .hbm, ⟨87, _⟩ => ⟨S8x2048x8x128, .f32⟩
  | .hbm, ⟨88, _⟩ => ⟨S8x2048x1024, .f32⟩
  | .hbm, ⟨89, _⟩ => ⟨S8x2048x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Split.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S4x1024 : Shape := ⟨2, ![4, 1024]⟩
abbrev S1x1024x1024 : Shape := ⟨3, ![1, 1024, 1024]⟩
abbrev S4x1024x4096 : Shape := ⟨3, ![4, 1024, 4096]⟩
abbrev S4x4096x1024 : Shape := ⟨3, ![4, 4096, 1024]⟩
abbrev S8x2304x1024 : Shape := ⟨3, ![8, 2304, 1024]⟩
abbrev S_ : Shape := ⟨0, ![]⟩
abbrev S7x6144 : Shape := ⟨2, ![7, 6144]⟩
abbrev S1x6144 : Shape := ⟨2, ![1, 6144]⟩
abbrev S16x6144 : Shape := ⟨2, ![16, 6144]⟩
abbrev S16x1x6144 : Shape := ⟨3, ![16, 1, 6144]⟩
abbrev S1x1024 : Shape := ⟨2, ![1, 1024]⟩
abbrev S1024 : Shape := ⟨1, ![1024]⟩
abbrev S1x256x1024 : Shape := ⟨3, ![1, 256, 1024]⟩
abbrev S1x1x6144 : Shape := ⟨3, ![1, 1, 6144]⟩
abbrev S1x1024x4096 : Shape := ⟨3, ![1, 1024, 4096]⟩
abbrev S1x4096x1024 : Shape := ⟨3, ![1, 4096, 1024]⟩
abbrev S1x768x1024 : Shape := ⟨3, ![1, 768, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 25
  | .vmem => 30
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x256x1024, .f32⟩
  | .hbm, ⟨3, _⟩ => ⟨S8x2048x1024, .f32⟩
  | .hbm, ⟨4, _⟩ => ⟨S8x6144, .f32⟩
  | .hbm, ⟨5, _⟩ => ⟨S6144, .f32⟩
  | .hbm, ⟨6, _⟩ => ⟨S4x1024, .f32⟩
  | .hbm, ⟨7, _⟩ => ⟨S1x1024x1024, .f32⟩
  | .hbm, ⟨8, _⟩ => ⟨S4x1024x4096, .f32⟩
  | .hbm, ⟨9, _⟩ => ⟨S4x4096x1024, .f32⟩
  | .hbm, ⟨10, _⟩ => ⟨S1x1024x1024, .bf16⟩
  | .hbm, ⟨11, _⟩ => ⟨S4x1024x4096, .bf16⟩
  | .hbm, ⟨12, _⟩ => ⟨S4x4096x1024, .bf16⟩
  | .hbm, ⟨13, _⟩ => ⟨S8x2048x1024, .bf16⟩
  | .hbm, ⟨14, _⟩ => ⟨S8x256x1024, .bf16⟩
  | .hbm, ⟨15, _⟩ => ⟨S8x2304x1024, .f32⟩
  | .hbm, ⟨16, _⟩ => ⟨S_, .f32⟩
  | .hbm, ⟨17, _⟩ => ⟨S7x6144, .f32⟩
  | .hbm, ⟨18, _⟩ => ⟨S1x6144, .f32⟩
  | .hbm, ⟨19, _⟩ => ⟨S16x6144, .f32⟩
  | .hbm, ⟨20, _⟩ => ⟨S16x1x6144, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S8x2304x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x1x6144, .f32⟩
  | .local _ .vmem, ⟨15, _⟩ => ⟨S1x1x6144, .f32⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .f32⟩
  | .local _ .vmem, ⟨21, _⟩ => ⟨S1x256x1024, .f32⟩
  | .local _ .vmem, ⟨22, _⟩ => ⟨S1x1x6144, .f32⟩
  | .local _ .vmem, ⟨23, _⟩ => ⟨S1x1x6144, .f32⟩
  | .local _ .vmem, ⟨24, _⟩ => ⟨S1x1024, .f32⟩
  | .local _ .vmem, ⟨25, _⟩ => ⟨S1x1024x1024, .bf16⟩
  | .local _ .vmem, ⟨26, _⟩ => ⟨S1x1024x4096, .bf16⟩
  | .local _ .vmem, ⟨27, _⟩ => ⟨S1x4096x1024, .bf16⟩
  | .local _ .vmem, ⟨28, _⟩ => ⟨S1x768x1024, .f32⟩
  | .local _ .vmem, ⟨29, _⟩ => ⟨S1x768x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c1_i32 : BitVec 32 := 1#32
  let v3 : BitVec 32 := Scalar.subi v2 c1_i32
  let c0_i32_1 : BitVec 32 := 0#32
  let v4 : BitVec 32 := Scalar.maxsi v3 c0_i32_1
  let c0_i32_2 : BitVec 32 := 0#32
  let c0_i32_3 : BitVec 32 := 0#32
  ![arg0.toNat, v4.toNat, c0_i32_2.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  let v3 : BitVec 32 := Scalar.minsi v2 c0_i32_1
  let c0_i32_2 : BitVec 32 := 0#32
  let c0_i32_3 : BitVec 32 := 0#32
  ![arg0.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  let c0_i32_2 : BitVec 32 := 0#32
  ![arg0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c1_i32 : BitVec 32 := 1#32
  let v3 : BitVec 1 := Scalar.cmpi .slt v2 c1_i32
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c1_i32_0 : BitVec 32 := 1#32
  let v3 : BitVec 32 := Scalar.subi v2 c1_i32_0
  let c0_i32_1 : BitVec 32 := 0#32
  let v4 : BitVec 32 := Scalar.maxsi v3 c0_i32_1
  let c0_i32_2 : BitVec 32 := 0#32
  let c0_i32_3 : BitVec 32 := 0#32
  ![arg0.toNat, v4.toNat, c0_i32_2.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  let v3 : BitVec 32 := Scalar.minsi v2 c0_i32_0
  let c0_i32_1 : BitVec 32 := 0#32
  let c0_i32_2 : BitVec 32 := 0#32
  ![arg0.toNat, v3.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c1_i32_0 : BitVec 32 := 1#32
  let v3 : BitVec 1 := Scalar.cmpi .slt v2 c1_i32_0
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c1_i32 : BitVec 32 := 1#32
  let v3 : BitVec 32 := Scalar.subi v2 c1_i32
  let c0_i32_0 : BitVec 32 := 0#32
  let v4 : BitVec 32 := Scalar.maxsi v3 c0_i32_0
  let c0_i32_1 : BitVec 32 := 0#32
  let c0_i32_2 : BitVec 32 := 0#32
  ![arg0.toNat, v4.toNat, c0_i32_1.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  let v3 : BitVec 32 := Scalar.minsi v2 c0_i32_0
  let c0_i32_1 : BitVec 32 := 0#32
  let c0_i32_2 : BitVec 32 := 0#32
  ![arg0.toNat, v3.toNat, c0_i32_1.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  let c0_i32_1 : BitVec 32 := 0#32
  ![arg0.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c1_i32 : BitVec 32 := 1#32
  let v3 : BitVec 1 := Scalar.cmpi .slt v2 c1_i32
  let c8_i32 : BitVec 32 := 8#32
  let v4 : BitVec 32 := Scalar.select v3 c8_i32 arg0
  let c0_i32_0 : BitVec 32 := 0#32
  let c0_i32_1 : BitVec 32 := 0#32
  let c0_i32_2 : BitVec 32 := 0#32
  ![v4.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x6144 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x768x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== SplitRefIdeal.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S4x1024 : Shape := ⟨2, ![4, 1024]⟩
abbrev S1x1024x1024 : Shape := ⟨3, ![1, 1024, 1024]⟩
abbrev S4x1024x4096 : Shape := ⟨3, ![4, 1024, 4096]⟩
abbrev S4x4096x1024 : Shape := ⟨3, ![4, 4096, 1024]⟩
abbrev S8x1x6144 : Shape := ⟨3, ![8, 1, 6144]⟩
abbrev S8x1x1024 : Shape := ⟨3, ![8, 1, 1024]⟩
abbrev S1x1x6144 : Shape := ⟨3, ![1, 1, 6144]⟩
abbrev S1x1x1024 : Shape := ⟨3, ![1, 1, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S8x2048 : Shape := ⟨2, ![8, 2048]⟩
abbrev S8x2048x1 : Shape := ⟨3, ![8, 2048, 1]⟩
abbrev S8x2048x4096 : Shape := ⟨3, ![8, 2048, 4096]⟩
abbrev S8x256 : Shape := ⟨2, ![8, 256]⟩
abbrev S8x256x1 : Shape := ⟨3, ![8, 256, 1]⟩
abbrev S8x256x4096 : Shape := ⟨3, ![8, 256, 4096]⟩
abbrev S8x2304x1024 : Shape := ⟨3, ![8, 2304, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x256x1024, .f32⟩
  | .hbm, ⟨3, _⟩ => ⟨S8x2048x1024, .f32⟩
  | .hbm, ⟨4, _⟩ => ⟨S8x6144, .f32⟩
  | .hbm, ⟨5, _⟩ => ⟨S6144, .f32⟩
  | .hbm, ⟨6, _⟩ => ⟨S4x1024, .f32⟩
  | .hbm, ⟨7, _⟩ => ⟨S1x1024x1024, .f32⟩
  | .hbm, ⟨8, _⟩ => ⟨S4x1024x4096, .f32⟩
  | .hbm, ⟨9, _⟩ => ⟨S4x4096x1024, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S1x1x6144, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S1x1x1024, .f32⟩
  | .hbm, ⟨23, _⟩ => ⟨S1x1x1024, .f32⟩
  | .hbm, ⟨24, _⟩ => ⟨S1024x1024, .f32⟩
  | .hbm, ⟨25, _⟩ => ⟨S8x2048x1024, .f32⟩
  | .hbm, ⟨26, _⟩ => ⟨S1x1024, .f32⟩
  | .hbm, ⟨27, _⟩ => ⟨S1024, .f32⟩
  | .hbm, ⟨28, _⟩ => ⟨S1x1024x4096, .f32⟩
  | .hbm, ⟨29, _⟩ => ⟨S1024x4096, .f32⟩
  | .hbm, ⟨30, _⟩ => ⟨S1x4096x1024, .f32⟩
  | .hbm, ⟨31, _⟩ => ⟨S4096x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x1x1024, .f32⟩
  | .hbm, ⟨53, _⟩ => ⟨S8x1x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x4096, .f32⟩
  | .hbm, ⟨59, _⟩ => ⟨S_, .f32⟩
  | .hbm, ⟨60, _⟩ => ⟨S8x2048x4096, .f32⟩
  | .hbm, ⟨61, _⟩ => ⟨S8x2048x4096, .f32⟩
  | .hbm, ⟨62, _⟩ => ⟨S8x2048x4096, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S1024x1024, .f32⟩
  | .hbm, ⟨68, _⟩ => ⟨S8x256x1024, .f32⟩
  | .hbm, ⟨69, _⟩ => ⟨S1x1024, .f32⟩
  | .hbm, ⟨70, _⟩ => ⟨S1024, .f32⟩
  | .hbm, ⟨71, _⟩ => ⟨S1x1024x4096, .f32⟩
  | .hbm, ⟨72, _⟩ => ⟨S1024x4096, .f32⟩
  | .hbm, ⟨73, _⟩ => ⟨S1x4096x1024, .f32⟩
  | .hbm, ⟨74, _⟩ => ⟨S4096x1024, .f32⟩
  | .hbm, ⟨75, _⟩ => ⟨S8x256x1024, .f32⟩
  | .hbm, ⟨76, _⟩ => ⟨S8x256x1024, .f32⟩
  | .hbm, ⟨77, _⟩ => ⟨S8x256x1024, .f32⟩
  | .hbm, ⟨78, _⟩ => ⟨S8x256x1024, .f32⟩
  | .hbm, ⟨79, _⟩ => ⟨S_, .f32⟩
  | .hbm, ⟨80, _⟩ => ⟨S8x256, .f32⟩
  | .hbm, ⟨81, _⟩ => ⟨S8x256x1, .f32⟩
  | .hbm, ⟨82, _⟩ => ⟨S_, .f32⟩
  | .hbm, ⟨83, _⟩ => ⟨S8x256x1, .f32⟩
  | .hbm, ⟨84, _⟩ => ⟨S8x256x1, .f32⟩
  | .hbm, ⟨85, _⟩ => ⟨S_, .f32⟩
  | .hbm, ⟨86, _⟩ => ⟨S8x256x1, .f32⟩
  | .hbm, ⟨87, _⟩ => ⟨S8x256x1, .f32⟩
  | .hbm, ⟨88, _⟩ => ⟨S8x256x1, .f32⟩
  | .hbm, ⟨89, _⟩ => ⟨S8x256x1024, .f32⟩
  | .hbm, ⟨90, _⟩ => ⟨S8x256x1024, .f32⟩
  | .hbm, ⟨91, _⟩ => ⟨S1x1x1024, .f32⟩
  | .hbm, ⟨92, _⟩ => ⟨S8x256x1024, .f32⟩
  | .hbm, ⟨93, _⟩ => ⟨S8x256x1024, .f32⟩
  | .hbm, ⟨94, _⟩ => ⟨S_, .f32⟩
  | .hbm, ⟨95, _⟩ => ⟨S1x1x1024, .f32⟩
  | .hbm, ⟨96, _⟩ => ⟨S1x1x1024, .f32⟩
  | .hbm, ⟨97, _⟩ => ⟨S8x256x1024, .f32⟩
  | .hbm, ⟨98, _⟩ => ⟨S8x256x1024, .f32⟩
  | .hbm, ⟨99, _⟩ => ⟨S8x256x1024, .f32⟩
  | .hbm, ⟨100, _⟩ => ⟨S8x256x1024, .f32⟩
  | .hbm, ⟨101, _⟩ => ⟨S8x256x4096, .f32⟩
  | .hbm, ⟨102, _⟩ => ⟨S_, .f32⟩
  | .hbm, ⟨103, _⟩ => ⟨S8x256x4096, .f32⟩
  | .hbm, ⟨104, _⟩ => ⟨S8x256x4096, .f32⟩
  | .hbm, ⟨105, _⟩ => ⟨S8x256x4096, .f32⟩
  | .hbm, ⟨106, _⟩ => ⟨S8x256x1024, .f32⟩
  | .hbm, ⟨107, _⟩ => ⟨S8x256x1024, .f32⟩
  | .hbm, ⟨108, _⟩ => ⟨S8x256x1024, .f32⟩
  | .hbm, ⟨109, _⟩ => ⟨S8x256x1024, .f32⟩
  | .hbm, ⟨110, _⟩ => ⟨S8x2304x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_cst : Ref sig .tc := ⟨.hbm, 59, rfl⟩
abbrev main_call0_v0 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_3 : Ref sig .tc := ⟨.hbm, 79, rfl⟩
abbrev main_v63 : Ref sig .tc := ⟨.hbm, 80, rfl⟩
abbrev main_v64 : Ref sig .tc := ⟨.hbm, 81, rfl⟩
abbrev main_cst_4 : Ref sig .tc := ⟨.hbm, 82, rfl⟩
abbrev main_v65 : Ref sig .tc := ⟨.hbm, 83, rfl⟩
abbrev main_v66 : Ref sig .tc := ⟨.hbm, 84, rfl⟩
abbrev main_cst_5 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_6 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_call1_cst : Ref sig .tc := ⟨.hbm, 102, rfl⟩
abbrev main_call1_v0 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== Last.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S2x1024 : Shape := ⟨2, ![2, 1024]⟩
abbrev S4x1024 : Shape := ⟨2, ![4, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S1024 : Shape := ⟨1, ![1024]⟩
abbrev S8x2304x1024 : Shape := ⟨3, ![8, 2304, 1024]⟩
abbrev S1x1024 : Shape := ⟨2, ![1, 1024]⟩
abbrev S_ : Shape := ⟨0, ![]⟩
abbrev S7x6144 : Shape := ⟨2, ![7, 6144]⟩
abbrev S1x6144 : Shape := ⟨2, ![1, 6144]⟩
abbrev S16x6144 : Shape := ⟨2, ![16, 6144]⟩
abbrev S16x1x6144 : Shape := ⟨3, ![16, 1, 6144]⟩
abbrev S1x256x1024 : Shape := ⟨3, ![1, 256, 1024]⟩
abbrev S1x1x6144 : Shape := ⟨3, ![1, 1, 6144]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x512x1024 : Shape := ⟨3, ![1, 512, 1024]⟩
abbrev S256x1024 : Shape := ⟨2, ![256, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1024x1024 : Shape := ⟨2, ![1024, 1024]⟩

abbrev nBuf : Space → Nat
  | .hbm => 39
  | .vmem => 28
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x256x1024, .f32⟩
  | .hbm, ⟨3, _⟩ => ⟨S8x2048x1024, .f32⟩
  | .hbm, ⟨4, _⟩ => ⟨S8x256x1024, .f32⟩
  | .hbm, ⟨5, _⟩ => ⟨S8x2048x1024, .f32⟩
  | .hbm, ⟨6, _⟩ => ⟨S8x256x1024, .f32⟩
  | .hbm, ⟨7, _⟩ => ⟨S8x2048x1024, .f32⟩
  | .hbm, ⟨8, _⟩ => ⟨S8x6144, .f32⟩
  | .hbm, ⟨9, _⟩ => ⟨S6144, .f32⟩
  | .hbm, ⟨10, _⟩ => ⟨S2x1024, .f32⟩
  | .hbm, ⟨11, _⟩ => ⟨S4x1024, .f32⟩
  | .hbm, ⟨12, _⟩ => ⟨S2x1024x1024, .f32⟩
  | .hbm, ⟨13, _⟩ => ⟨S4x1024x4096, .f32⟩
  | .hbm, ⟨14, _⟩ => ⟨S4x4096x1024, .f32⟩
  | .hbm, ⟨15, _⟩ => ⟨S1024, .f32⟩
  | .hbm, ⟨16, _⟩ => ⟨S2x1024x1024, .bf16⟩
  | .hbm, ⟨17, _⟩ => ⟨S4x1024x4096, .bf16⟩
  | .hbm, ⟨18, _⟩ => ⟨S4x4096x1024, .bf16⟩
  | .hbm, ⟨19, _⟩ => ⟨S8x2304x1024, .f32⟩
  | .hbm, ⟨20, _⟩ => ⟨S8x2304x1024, .bf16⟩
  | .hbm, ⟨21, _⟩ => ⟨S8x2304x1024, .f32⟩
  | .hbm, ⟨22, _⟩ => ⟨S8x2304x1024, .bf16⟩
  | .hbm, ⟨23, _⟩ => ⟨S8x2304x1024, .f32⟩
  | .hbm, ⟨24, _⟩ => ⟨S8x2304x1024, .bf16⟩
  | .hbm, ⟨25, _⟩ => ⟨S1x1024, .f32⟩
  | .hbm, ⟨26, _⟩ => ⟨S1024, .f32⟩
  | .hbm, ⟨27, _⟩ => ⟨S8x2304x1024, .f32⟩
  | .hbm, ⟨28, _⟩ => ⟨S_, .f32⟩
  | .hbm, ⟨29, _⟩ => ⟨S7x6144, .f32⟩
  | .hbm, ⟨30, _⟩ => ⟨S1x6144, .f32⟩
  | .hbm, ⟨31, _⟩ => ⟨S16x6144, .f32⟩
  | .hbm, ⟨32, _⟩ => ⟨S16x1x6144, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S8x2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x6144, .f32⟩
  | .local _ .vmem, ⟨9, _⟩ => ⟨S1x1x6144, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .f32⟩
  | .local _ .vmem, ⟨17, _⟩ => ⟨S1x256x1024, .f32⟩
  | .local _ .vmem, ⟨18, _⟩ => ⟨S1x1x6144, .f32⟩
  | .local _ .vmem, ⟨19, _⟩ => ⟨S1x1x6144, .f32⟩
  | .local _ .vmem, ⟨20, _⟩ => ⟨S1x1024, .f32⟩
  | .local _ .vmem, ⟨21, _⟩ => ⟨S1x1024, .f32⟩
  | .local _ .vmem, ⟨22, _⟩ => ⟨S1x1024x1024, .bf16⟩
  | .local _ .vmem, ⟨23, _⟩ => ⟨S1x1024x4096, .bf16⟩
  | .local _ .vmem, ⟨24, _⟩ => ⟨S1x4096x1024, .bf16⟩
  | .local _ .vmem, ⟨25, _⟩ => ⟨S1x1024, .f32⟩
  | .local _ .vmem, ⟨26, _⟩ => ⟨S1x512x1024, .f32⟩
  | .local _ .vmem, ⟨27, _⟩ => ⟨S1x512x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c1_i32 : BitVec 32 := 1#32
  let v2 : BitVec 32 := Scalar.addi v1 c1_i32
  let c1_i32_0 : BitVec 32 := 1#32
  let v3 : BitVec 1 := Scalar.cmpi .slt v2 c1_i32_0
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c1_i32_0 : BitVec 32 := 1#32
  let v2 : BitVec 32 := Scalar.addi v1 c1_i32_0
  let c1_i32_1 : BitVec 32 := 1#32
  let v3 : BitVec 1 := Scalar.cmpi .slt v2 c1_i32_1
  let c8_i32 : BitVec 32 := 8#32
  let v4 : BitVec 32 := Scalar.select v3 c8_i32 arg0
  let c0_i32 : BitVec 32 := 0#32
  let c0_i32_2 : BitVec 32 := 0#32
  let c0_i32_3 : BitVec 32 := 0#32
  ![v4.toNat, c0_i32.toNat, c0_i32_2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x6144 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== LastRefIdeal.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S2x1024 : Shape := ⟨2, ![2, 1024]⟩
abbrev S4x1024 : Shape := ⟨2, ![4, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S1024 : Shape := ⟨1, ![1024]⟩
abbrev S8x1x6144 : Shape := ⟨3, ![8, 1, 6144]⟩
abbrev S8x1x1024 : Shape := ⟨3, ![8, 1, 1024]⟩
abbrev S1x1024 : Shape := ⟨2, ![1, 1024]⟩
abbrev S1x1024x1024 : Shape := ⟨3, ![1, 1024, 1024]⟩
abbrev S1024x1024 : Shape := ⟨2, ![1024, 1024]⟩
abbrev S8x2048x8x128 : Shape := ⟨4, ![8, 2048, 8, 128]⟩
abbrev S_ : Shape := ⟨0, ![]⟩
abbrev S8x2048x8 : Shape := ⟨3, ![8, 2048, 8]⟩
abbrev S8x2048x8x1 : Shape := ⟨4, ![8, 2048, 8, 1]⟩
abbrev S8x128 : Shape := ⟨2, ![8, 128]⟩
abbrev S1x1x8x128 : Shape := ⟨4, ![1, 1, 8, 128]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩

abbrev nBuf : Space → Nat
  | .hbm => 114
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x256x1024, .f32⟩
  | .hbm, ⟨3, _⟩ => ⟨S8x2048x1024, .f32⟩
  | .hbm, ⟨4, _⟩ => ⟨S8x256x1024, .f32⟩
  | .hbm, ⟨5, _⟩ => ⟨S8x2048x1024, .f32⟩
  | .hbm, ⟨6, _⟩ => ⟨S8x256x1024, .f32⟩
  | .hbm, ⟨7, _⟩ => ⟨S8x2048x1024, .f32⟩
  | .hbm, ⟨8, _⟩ => ⟨S8x6144, .f32⟩
  | .hbm, ⟨9, _⟩ => ⟨S6144, .f32⟩
  | .hbm, ⟨10, _⟩ => ⟨S2x1024, .f32⟩
  | .hbm, ⟨11, _⟩ => ⟨S4x1024, .f32⟩
  | .hbm, ⟨12, _⟩ => ⟨S2x1024x1024, .f32⟩
  | .hbm, ⟨13, _⟩ => ⟨S4x1024x4096, .f32⟩
  | .hbm, ⟨14, _⟩ => ⟨S4x4096x1024, .f32⟩
  | .hbm, ⟨15, _⟩ => ⟨S1024, .f32⟩
  | .hbm, ⟨16, _⟩ => ⟨S8x1x6144, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S1x1024, .f32⟩
  | .hbm, ⟨24, _⟩ => ⟨S1024, .f32⟩
  | .hbm, ⟨25, _⟩ => ⟨S1x1024x1024, .f32⟩
  | .hbm, ⟨26, _⟩ => ⟨S1024x1024, .f32⟩
  | .hbm, ⟨27, _⟩ => ⟨S8x2048x1024, .f32⟩
  | .hbm, ⟨28, _⟩ => ⟨S8x2048x8x128, .f32⟩
  | .hbm, ⟨29, _⟩ => ⟨S8x2048x8x128, .f32⟩
  | .hbm, ⟨30, _⟩ => ⟨S_, .f32⟩
  | .hbm, ⟨31, _⟩ => ⟨S8x2048x8, .f32⟩
  | .hbm, ⟨32, _⟩ => ⟨S8x2048x8x1, .f32⟩
  | .hbm, ⟨33, _⟩ => ⟨S_, .f32⟩
  | .hbm, ⟨34, _⟩ => ⟨S8x2048x8x1, .f32⟩
  | .hbm, ⟨35, _⟩ => ⟨S8x2048x8x1, .f32⟩
  | .hbm, ⟨36, _⟩ => ⟨S_, .f32⟩
  | .hbm, ⟨37, _⟩ => ⟨S8x2048x8x1, .f32⟩
  | .hbm, ⟨38, _⟩ => ⟨S8x2048x8x1, .f32⟩
  | .hbm, ⟨39, _⟩ => ⟨S8x2048x8x1, .f32⟩
  | .hbm, ⟨40, _⟩ => ⟨S8x2048x8x128, .f32⟩
  | .hbm, ⟨41, _⟩ => ⟨S8x2048x8x128, .f32⟩
  | .hbm, ⟨42, _⟩ => ⟨S8x128, .f32⟩
  | .hbm, ⟨43, _⟩ => ⟨S1x1x8x128, .f32⟩
  | .hbm, ⟨44, _⟩ => ⟨S8x2048x8x128, .f32⟩
  | .hbm, ⟨45, _⟩ => ⟨S8x2048x8x128, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S1x1024, .f32⟩
  | .hbm, ⟨58, _⟩ => ⟨S1024, .f32⟩
  | .hbm, ⟨59, _⟩ => ⟨S1x1024x4096, .f32⟩
  | .hbm, ⟨60, _⟩ => ⟨S1024x4096, .f32⟩
  | .hbm, ⟨61, _⟩ => ⟨S1x4096x1024, .f32⟩
  | .hbm, ⟨62, _⟩ => ⟨S4096x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1, .f32⟩
  | .hbm, ⟨77, _⟩ => ⟨S8x2048x1024, .f32⟩
  | .hbm, ⟨78, _⟩ => ⟨S8x2048x1024, .f32⟩
  | .hbm, ⟨79, _⟩ => ⟨S1x1x1024, .f32⟩
  | .hbm, ⟨80, _⟩ => ⟨S8x2048x1024, .f32⟩
  | .hbm, ⟨81, _⟩ => ⟨S8x2048x1024, .f32⟩
  | .hbm, ⟨82, _⟩ => ⟨S_, .f32⟩
  | .hbm, ⟨83, _⟩ => ⟨S8x1x1024, .f32⟩
  | .hbm, ⟨84, _⟩ => ⟨S8x1x1024, .f32⟩
  | .hbm, ⟨85, _⟩ => ⟨S8x2048x1024, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | .hbm, ⟨89, _⟩ => ⟨S8x2048x4096, .f32⟩
  | .hbm, ⟨90, _⟩ => ⟨S_, .f32⟩
  | .hbm, ⟨91, _⟩ => ⟨S8x2048x4096, .f32⟩
  | .hbm, ⟨92, _⟩ => ⟨S8x2048x4096, .f32⟩
  | .hbm, ⟨93, _⟩ => ⟨S8x2048x4096, .f32⟩
  | .hbm, ⟨94, _⟩ => ⟨S8x2048x1024, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S8x2048x1024, .f32⟩
  | .hbm, ⟨99, _⟩ => ⟨S_, .f32⟩
  | .hbm, ⟨100, _⟩ => ⟨S8x2048, .f32⟩
  | .hbm, ⟨101, _⟩ => ⟨S8x2048x1, .f32⟩
  | .hbm, ⟨102, _⟩ => ⟨S_, .f32⟩
  | .hbm, ⟨103, _⟩ => ⟨S8x2048x1, .f32⟩
  | .hbm, ⟨104, _⟩ => ⟨S8x2048x1, .f32⟩
  | .hbm, ⟨105, _⟩ => ⟨S_, .f32⟩
  | .hbm, ⟨106, _⟩ => ⟨S8x2048x1, .f32⟩
  | .hbm, ⟨107, _⟩ => ⟨S8x2048x1, .f32⟩
  | .hbm, ⟨108, _⟩ => ⟨S8x2048x1, .f32⟩
  | .hbm, ⟨109, _⟩ => ⟨S8x2048x1024, .f32⟩
  | .hbm, ⟨110, _⟩ => ⟨S8x2048x1024, .f32⟩
  | .hbm, ⟨111, _⟩ => ⟨S1x1x1024, .f32⟩
  | .hbm, ⟨112, _⟩ => ⟨S8x2048x1024, .f32⟩
  | .hbm, ⟨113, _⟩ => ⟨S8x2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_7 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call0_cst : Ref sig .tc := ⟨.hbm, 90, rfl⟩
abbrev main_call0_v0 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_8 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_v75 : Ref sig .tc := ⟨.hbm, 104, rfl⟩
abbrev main_cst_10 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]
-- ==== First.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S2x1024 : Shape := ⟨2, ![2, 1024]⟩
abbrev S4x1024 : Shape := ⟨2, ![4, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S8x2304x1024 : Shape := ⟨3, ![8, 2304, 1024]⟩
abbrev S1x1024 : Shape := ⟨2, ![1, 1024]⟩
abbrev S1024 : Shape := ⟨1, ![1024]⟩
abbrev S_ : Shape := ⟨0, ![]⟩
abbrev S7x6144 : Shape := ⟨2, ![7, 6144]⟩
abbrev S1x6144 : Shape := ⟨2, ![1, 6144]⟩
abbrev S16x6144 : Shape := ⟨2, ![16, 6144]⟩
abbrev S16x1x6144 : Shape := ⟨3, ![16, 1, 6144]⟩
abbrev S1x256x1024 : Shape := ⟨3, ![1, 256, 1024]⟩
abbrev S1x1x6144 : Shape := ⟨3, ![1, 1, 6144]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x768x1024 : Shape := ⟨3, ![1, 768, 1024]⟩
abbrev S256x1024 : Shape := ⟨2, ![256, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1024x1024 : Shape := ⟨2, ![1024, 1024]⟩

abbrev nBuf : Space → Nat
  | .hbm => 36
  | .vmem => 43
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x256x1024, .f32⟩
  | .hbm, ⟨3, _⟩ => ⟨S8x2048x1024, .f32⟩
  | .hbm, ⟨4, _⟩ => ⟨S8x256x1024, .f32⟩
  | .hbm, ⟨5, _⟩ => ⟨S8x2048x1024, .f32⟩
  | .hbm, ⟨6, _⟩ => ⟨S8x256x1024, .f32⟩
  | .hbm, ⟨7, _⟩ => ⟨S8x2048x1024, .f32⟩
  | .hbm, ⟨8, _⟩ => ⟨S8x6144, .f32⟩
  | .hbm, ⟨9, _⟩ => ⟨S6144, .f32⟩
  | .hbm, ⟨10, _⟩ => ⟨S2x1024, .f32⟩
  | .hbm, ⟨11, _⟩ => ⟨S4x1024, .f32⟩
  | .hbm, ⟨12, _⟩ => ⟨S2x1024x1024, .f32⟩
  | .hbm, ⟨13, _⟩ => ⟨S4x1024x4096, .f32⟩
  | .hbm, ⟨14, _⟩ => ⟨S4x4096x1024, .f32⟩
  | .hbm, ⟨15, _⟩ => ⟨S2x1024x1024, .bf16⟩
  | .hbm, ⟨16, _⟩ => ⟨S4x1024x4096, .bf16⟩
  | .hbm, ⟨17, _⟩ => ⟨S4x4096x1024, .bf16⟩
  | .hbm, ⟨18, _⟩ => ⟨S8x2304x1024, .f32⟩
  | .hbm, ⟨19, _⟩ => ⟨S8x2304x1024, .bf16⟩
  | .hbm, ⟨20, _⟩ => ⟨S8x2304x1024, .f32⟩
  | .hbm, ⟨21, _⟩ => ⟨S8x2304x1024, .bf16⟩
  | .hbm, ⟨22, _⟩ => ⟨S8x2304x1024, .f32⟩
  | .hbm, ⟨23, _⟩ => ⟨S8x2304x1024, .bf16⟩
  | .hbm, ⟨24, _⟩ => ⟨S1x1024, .f32⟩
  | .hbm, ⟨25, _⟩ => ⟨S1024, .f32⟩
  | .hbm, ⟨26, _⟩ => ⟨S_, .f32⟩
  | .hbm, ⟨27, _⟩ => ⟨S7x6144, .f32⟩
  | .hbm, ⟨28, _⟩ => ⟨S1x6144, .f32⟩
  | .hbm, ⟨29, _⟩ => ⟨S16x6144, .f32⟩
  | .hbm, ⟨30, _⟩ => ⟨S16x1x6144, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S8x2304x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1x6144, .f32⟩
  | .local _ .vmem, ⟨11, _⟩ => ⟨S1x1x6144, .f32⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x1x6144, .f32⟩
  | .local _ .vmem, ⟨23, _⟩ => ⟨S1x1x6144, .f32⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x1x6144, .f32⟩
  | .local _ .vmem, ⟨35, _⟩ => ⟨S1x1x6144, .f32⟩
  | .local _ .vmem, ⟨36, _⟩ => ⟨S1x1024, .f32⟩
  | .local _ .vmem, ⟨37, _⟩ => ⟨S1x1024, .f32⟩
  | .local _ .vmem, ⟨38, _⟩ => ⟨S1x1024x1024, .bf16⟩
  | .local _ .vmem, ⟨39, _⟩ => ⟨S1x1024x4096, .bf16⟩
  | .local _ .vmem, ⟨40, _⟩ => ⟨S1x4096x1024, .bf16⟩
  | .local _ .vmem, ⟨41, _⟩ => ⟨S1x768x1024, .f32⟩
  | .local _ .vmem, ⟨42, _⟩ => ⟨S1x768x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg23_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem20_0 : DmaSem sig := 38
abbrev cc0_sem21_0 : DmaSem sig := 39
abbrev cc0_sem22_0 : DmaSem sig := 40
abbrev cc0_sem23_0 : DmaSem sig := 41
abbrev cc0_sem23_1 : DmaSem sig := 42

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  let c0_i32_2 : BitVec 32 := 0#32
  ![arg0.toNat, v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  let c0_i32_2 : BitVec 32 := 0#32
  ![arg0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  let c0_i32_2 : BitVec 32 := 0#32
  ![arg0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  let v3 : BitVec 32 := Scalar.minsi v2 c0_i32_1
  let c0_i32_2 : BitVec 32 := 0#32
  let c0_i32_3 : BitVec 32 := 0#32
  ![arg0.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c1_i32 : BitVec 32 := 1#32
  let v3 : BitVec 32 := Scalar.subi v2 c1_i32
  let c0_i32_1 : BitVec 32 := 0#32
  let v4 : BitVec 32 := Scalar.maxsi v3 c0_i32_1
  let c0_i32_2 : BitVec 32 := 0#32
  let c0_i32_3 : BitVec 32 := 0#32
  ![arg0.toNat, v4.toNat, c0_i32_2.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.addi v1 c0_i32_0
  let c1_i32 : BitVec 32 := 1#32
  let v3 : BitVec 1 := Scalar.cmpi .slt v2 c1_i32
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  let c0_i32_1 : BitVec 32 := 0#32
  ![arg0.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  let v3 : BitVec 32 := Scalar.minsi v2 c0_i32_0
  let c0_i32_1 : BitVec 32 := 0#32
  let c0_i32_2 : BitVec 32 := 0#32
  ![arg0.toNat, v3.toNat, c0_i32_1.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c1_i32_0 : BitVec 32 := 1#32
  let v3 : BitVec 32 := Scalar.subi v2 c1_i32_0
  let c0_i32_1 : BitVec 32 := 0#32
  let v4 : BitVec 32 := Scalar.maxsi v3 c0_i32_1
  let c0_i32_2 : BitVec 32 := 0#32
  let c0_i32_3 : BitVec 32 := 0#32
  ![arg0.toNat, v4.toNat, c0_i32_2.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.addi v1 c0_i32
  let c1_i32_0 : BitVec 32 := 1#32
  let v3 : BitVec 1 := Scalar.cmpi .slt v2 c1_i32_0
  let c8_i32 : BitVec 32 := 8#32
  let v4 : BitVec 32 := Scalar.select v3 c8_i32 arg0
  let c0_i32_1 : BitVec 32 := 0#32
  let c0_i32_2 : BitVec 32 := 0#32
  let c0_i32_3 : BitVec 32 := 0#32
  ![v4.toNat, c0_i32_1.toNat, c0_i32_2.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  let c0_i32_1 : BitVec 32 := 0#32
  ![arg0.toNat, v2.toNat, c0_i32_0.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  let c0_i32_1 : BitVec 32 := 0#32
  ![arg0.toNat, v2.toNat, c0_i32_0.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  let c0_i32_1 : BitVec 32 := 0#32
  ![arg0.toNat, v2.toNat, c0_i32_0.toNat]

def cc0_transform_15 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  let v3 : BitVec 32 := Scalar.minsi v2 c0_i32_0
  let c0_i32_1 : BitVec 32 := 0#32
  let c0_i32_2 : BitVec 32 := 0#32
  ![arg0.toNat, v3.toNat, c0_i32_1.toNat]

def cc0_transform_16 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c1_i32 : BitVec 32 := 1#32
  let v3 : BitVec 32 := Scalar.subi v2 c1_i32
  let c0_i32_0 : BitVec 32 := 0#32
  let v4 : BitVec 32 := Scalar.maxsi v3 c0_i32_0
  let c0_i32_1 : BitVec 32 := 0#32
  let c0_i32_2 : BitVec 32 := 0#32
  ![arg0.toNat, v4.toNat, c0_i32_1.toNat]

def cc0_transform_17 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.addi v1 c0_i32
  let c1_i32 : BitVec 32 := 1#32
  let v3 : BitVec 1 := Scalar.cmpi .slt v2 c1_i32
  let c8_i32 : BitVec 32 := 8#32
  let v4 : BitVec 32 := Scalar.select v3 c8_i32 arg0
  let c0_i32_0 : BitVec 32 := 0#32
  let c0_i32_1 : BitVec 32 := 0#32
  let c0_i32_2 : BitVec 32 := 0#32
  ![v4.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x6144 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x6144 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x1024x4096 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x4096x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S1x768x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== FirstRefIdeal.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S2x1024 : Shape := ⟨2, ![2, 1024]⟩
abbrev S4x1024 : Shape := ⟨2, ![4, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S8x1x6144 : Shape := ⟨3, ![8, 1, 6144]⟩
abbrev S8x1x1024 : Shape := ⟨3, ![8, 1, 1024]⟩
abbrev S1x1x6144 : Shape := ⟨3, ![1, 1, 6144]⟩
abbrev S1x1x1024 : Shape := ⟨3, ![1, 1, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S8x2048x8x128 : Shape := ⟨4, ![8, 2048, 8, 128]⟩
abbrev S_ : Shape := ⟨0, ![]⟩
abbrev S8x2048x8 : Shape := ⟨3, ![8, 2048, 8]⟩
abbrev S8x2048x8x1 : Shape := ⟨4, ![8, 2048, 8, 1]⟩
abbrev S8x128 : Shape := ⟨2, ![8, 128]⟩
abbrev S1x1x8x128 : Shape := ⟨4, ![1, 1, 8, 128]⟩
abbrev S8x256x8x128 : Shape := ⟨4, ![8, 256, 8, 128]⟩
abbrev S8x256x8 : Shape := ⟨3, ![8, 256, 8]⟩
abbrev S8x256x8x1 : Shape := ⟨4, ![8, 256, 8, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048 : Shape := ⟨2, ![8, 2048]⟩
abbrev S8x2048x1 : Shape := ⟨3, ![8, 2048, 1]⟩
abbrev S8x2048x4096 : Shape := ⟨3, ![8, 2048, 4096]⟩
abbrev S8x256 : Shape := ⟨2, ![8, 256]⟩
abbrev S8x256x1 : Shape := ⟨3, ![8, 256, 1]⟩
abbrev S8x256x4096 : Shape := ⟨3, ![8, 256, 4096]⟩
abbrev S8x2304x1024 : Shape := ⟨3, ![8, 2304, 1024]⟩

abbrev nBuf : Space → Nat
  | .hbm => 180
  | .vmem => 0
  | .smem => 0
  | _ => 0

abbrev hbmTy0_0 (i : Nat) : BufTy := match i % 128 with
  | 0 => ⟨S8x256x1024, .f32⟩
  | 1 => ⟨S8x2048x1024, .f32⟩
  | 2 => ⟨S8x256x1024, .f32⟩
  | 3 => ⟨S8x2048x1024, .f32⟩
  | 4 => ⟨S8x256x1024, .f32⟩
  | 5 => ⟨S8x2048x1024, .f32⟩
  | 6 => ⟨S8x256x1024, .f32⟩
  | 7 => ⟨S8x2048x1024, .f32⟩
  | 8 => ⟨S8x6144, .f32⟩
  | 9 => ⟨S6144, .f32⟩
  | 10 => ⟨S2x1024, .f32⟩
  | 11 => ⟨S4x1024, .f32⟩
  | 12 => ⟨S2x1024x1024, .f32⟩
  | 13 => ⟨S4x1024x4096, .f32⟩
  | 14 => ⟨S4x4096x1024, .f32⟩
  | 15 => ⟨S8x1x6144, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S1x1x6144, .f32⟩
  | 23 => ⟨S1x1x1024, .f32⟩
  | 24 => ⟨S1x1x1024, .f32⟩
  | 25 => ⟨S1x1x1024, .f32⟩
  | 26 => ⟨S1x1x1024, .f32⟩
  | 27 => ⟨S1x1x1024, .f32⟩
  | 28 => ⟨S1x1x1024, .f32⟩
  | 29 => ⟨S1x1024, .f32⟩
  | 30 => ⟨S1024, .f32⟩
  | 31 => ⟨S1x1024x1024, .f32⟩
  | 32 => ⟨S1024x1024, .f32⟩
  | 33 => ⟨S8x2048x1024, .f32⟩
  | 34 => ⟨S8x2048x8x128, .f32⟩
  | 35 => ⟨S8x2048x8x128, .f32⟩
  | 36 => ⟨S_, .f32⟩
  | 37 => ⟨S8x2048x8, .f32⟩
  | 38 => ⟨S8x2048x8x1, .f32⟩
  | 39 => ⟨S_, .f32⟩
  | 40 => ⟨S8x2048x8x1, .f32⟩
  | 41 => ⟨S8x2048x8x1, .f32⟩
  | 42 => ⟨S_, .f32⟩
  | 43 => ⟨S8x2048x8x1, .f32⟩
  | 44 => ⟨S8x2048x8x1, .f32⟩
  | 45 => ⟨S8x2048x8x1, .f32⟩
  | 46 => ⟨S8x2048x8x128, .f32⟩
  | 47 => ⟨S8x2048x8x128, .f32⟩
  | 48 => ⟨S8x128, .f32⟩
  | 49 => ⟨S1x1x8x128, .f32⟩
  | 50 => ⟨S8x2048x8x128, .f32⟩
  | 51 => ⟨S8x2048x8x128, .f32⟩
  | 52 => ⟨S8x2048x1024, .f32⟩
  | 53 => ⟨S8x2048x1024, .f32⟩
  | 54 => ⟨S8x2048x1024, .f32⟩
  | 55 => ⟨S_, .f32⟩
  | 56 => ⟨S8x2048x1024, .f32⟩
  | 57 => ⟨S8x2048x1024, .f32⟩
  | 58 => ⟨S_, .f32⟩
  | 59 => ⟨S8x2048x1024, .f32⟩
  | 60 => ⟨S8x2048x1024, .f32⟩
  | 61 => ⟨S8x2048x1024, .f32⟩
  | 62 => ⟨S8x2048x1024, .f32⟩
  | 63 => ⟨S1x1024, .f32⟩
  | 64 => ⟨S1024, .f32⟩
  | 65 => ⟨S1x1024x1024, .f32⟩
  | 66 => ⟨S1024x1024, .f32⟩
  | 67 => ⟨S8x256x1024, .f32⟩
  | 68 => ⟨S8x256x8x128, .f32⟩
  | 69 => ⟨S8x256x8x128, .f32⟩
  | 70 => ⟨S_, .f32⟩
  | 71 => ⟨S8x256x8, .f32⟩
  | 72 => ⟨S8x256x8x1, .f32⟩
  | 73 => ⟨S_, .f32⟩
  | 74 => ⟨S8x256x8x1, .f32⟩
  | 75 => ⟨S8x256x8x1, .f32⟩
  | 76 => ⟨S_, .f32⟩
  | 77 => ⟨S8x256x8x1, .f32⟩
  | 78 => ⟨S8x256x8x1, .f32⟩
  | 79 => ⟨S8x256x8x1, .f32⟩
  | 80 => ⟨S8x256x8x128, .f32⟩
  | 81 => ⟨S8x256x8x128, .f32⟩
  | 82 => ⟨S8x128, .f32⟩
  | 83 => ⟨S1x1x8x128, .f32⟩
  | 84 => ⟨S8x256x8x128, .f32⟩
  | 85 => ⟨S8x256x8x128, .f32⟩
  | 86 => ⟨S8x256x1024, .f32⟩
  | 87 => ⟨S8x256x1024, .f32⟩
  | 88 => ⟨S8x256x1024, .f32⟩
  | 89 => ⟨S_, .f32⟩
  | 90 => ⟨S8x256x1024, .f32⟩
  | 91 => ⟨S8x256x1024, .f32⟩
  | 92 => ⟨S_, .f32⟩
  | 93 => ⟨S8x256x1024, .f32⟩
  | 94 => ⟨S8x256x1024, .f32⟩
  | 95 => ⟨S8x256x1024, .f32⟩
  | 96 => ⟨S8x256x1024, .f32⟩
  | 97 => ⟨S1x1024, .f32⟩
  | 98 => ⟨S1024, .f32⟩
  | 99 => ⟨S1x1024x4096, .f32⟩
  | 100 => ⟨S1024x4096, .f32⟩
  | 101 => ⟨S1x4096x1024, .f32⟩
  | 102 => ⟨S4096x1024, .f32⟩
  | 103 => ⟨S8x2048x1024, .f32⟩
  | 104 => ⟨S8x2048x1024, .f32⟩
  | 105 => ⟨S8x2048x1024, .f32⟩
  | 106 => ⟨S8x2048x1024, .f32⟩
  | 107 => ⟨S_, .f32⟩
  | 108 => ⟨S8x2048, .f32⟩
  | 109 => ⟨S8x2048x1, .f32⟩
  | 110 => ⟨S_, .f32⟩
  | 111 => ⟨S8x2048x1, .f32⟩
  | 112 => ⟨S8x2048x1, .f32⟩
  | 113 => ⟨S_, .f32⟩
  | 114 => ⟨S8x2048x1, .f32⟩
  | 115 => ⟨S8x2048x1, .f32⟩
  | 116 => ⟨S8x2048x1, .f32⟩
  | 117 => ⟨S8x2048x1024, .f32⟩
  | 118 => ⟨S8x2048x1024, .f32⟩
  | 119 => ⟨S1x1x1024, .f32⟩
  | 120 => ⟨S8x2048x1024, .f32⟩
  | 121 => ⟨S8x2048x1024, .f32⟩
  | 122 => ⟨S_, .f32⟩
  | 123 => ⟨S8x1x1024, .f32⟩
  | 124 => ⟨S8x1x1024, .f32⟩
  | 125 => ⟨S8x2048x1024, .f32⟩
  | 126 => ⟨S8x2048x1024, .f32⟩
  | 127 => ⟨S8x2048x1024, .f32⟩
  | _ => ⟨S8x256x1024, .f32⟩

abbrev hbmTy0_1 (i : Nat) : BufTy := match i % 128 with
  | 0 => ⟨S8x2048x1024, .f32⟩
  | 1 => ⟨S8x2048x4096, .f32⟩
  | 2 => ⟨S_, .f32⟩
  | 3 => ⟨S8x2048x4096, .f32⟩
  | 4 => ⟨S8x2048x4096, .f32⟩
  | 5 => ⟨S8x2048x4096, .f32⟩
  | 6 => ⟨S8x2048x1024, .f32⟩
  | 7 => ⟨S8x2048x1024, .f32⟩
  | 8 => ⟨S8x2048x1024, .f32⟩
  | 9 => ⟨S8x2048x1024, .f32⟩
  | 10 => ⟨S1x1024, .f32⟩
  | 11 => ⟨S1024, .f32⟩
  | 12 => ⟨S1x1024x4096, .f32⟩
  | 13 => ⟨S1024x4096, .f32⟩
  | 14 => ⟨S1x4096x1024, .f32⟩
  | 15 => ⟨S4096x1024, .f32⟩
  | 16 => ⟨S8x256x1024, .f32⟩
  | 17 => ⟨S8x256x1024, .f32⟩
  | 18 => ⟨S8x256x1024, .f32⟩
  | 19 => ⟨S8x256x1024, .f32⟩
  | 20 => ⟨S_, .f32⟩
  | 21 => ⟨S8x256, .f32⟩
  | 22 => ⟨S8x256x1, .f32⟩
  | 23 => ⟨S_, .f32⟩
  | 24 => ⟨S8x256x1, .f32⟩
  | 25 => ⟨S8x256x1, .f32⟩
  | 26 => ⟨S_, .f32⟩
  | 27 => ⟨S8x256x1, .f32⟩
  | 28 => ⟨S8x256x1, .f32⟩
  | 29 => ⟨S8x256x1, .f32⟩
  | 30 => ⟨S8x256x1024, .f32⟩
  | 31 => ⟨S8x256x1024, .f32⟩
  | 32 => ⟨S1x1x1024, .f32⟩
  | 33 => ⟨S8x256x1024, .f32⟩
  | 34 => ⟨S8x256x1024, .f32⟩
  | 35 => ⟨S_, .f32⟩
  | 36 => ⟨S1x1x1024, .f32⟩
  | 37 => ⟨S1x1x1024, .f32⟩
  | 38 => ⟨S8x256x1024, .f32⟩
  | 39 => ⟨S8x256x1024, .f32⟩
  | 40 => ⟨S8x256x1024, .f32⟩
  | 41 => ⟨S8x256x1024, .f32⟩
  | 42 => ⟨S8x256x4096, .f32⟩
  | 43 => ⟨S_, .f32⟩
  | 44 => ⟨S8x256x4096, .f32⟩
  | 45 => ⟨S8x256x4096, .f32⟩
  | 46 => ⟨S8x256x4096, .f32⟩
  | 47 => ⟨S8x256x1024, .f32⟩
  | 48 => ⟨S8x256x1024, .f32⟩
  | 49 => ⟨S8x256x1024, .f32⟩
  | 50 => ⟨S8x256x1024, .f32⟩
  | 51 => ⟨S8x2304x1024, .f32⟩
  | _ => ⟨S8x256x1024, .f32⟩

abbrev hbmTy (i : Nat) : BufTy := match i / 128 with
  | 0 => hbmTy0_0 i
  | 1 => hbmTy0_1 i
  | _ => ⟨S8x256x1024, .f32⟩

abbrev bufTy : (tb : Table) → Fin (tcTables nBuf tb) → BufTy
  | .hbm, ⟨i, _⟩ => hbmTy i
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_4 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_7 : Ref sig .tc := ⟨.hbm, 89, rfl⟩
abbrev main_v66 : Ref sig .tc := ⟨.hbm, 90, rfl⟩
abbrev main_v67 : Ref sig .tc := ⟨.hbm, 91, rfl⟩
abbrev main_cst_8 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_9 : Ref sig .tc := ⟨.hbm, 107, rfl⟩
abbrev main_v82 : Ref sig .tc := ⟨.hbm, 108, rfl⟩
abbrev main_v83 : Ref sig .tc := ⟨.hbm, 109, rfl⟩
abbrev main_cst_10 : Ref sig .tc := ⟨.hbm, 110, rfl⟩
abbrev main_v84 : Ref sig .tc := ⟨.hbm, 111, rfl⟩
abbrev main_v85 : Ref sig .tc := ⟨.hbm, 112, rfl⟩
abbrev main_cst_11 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_12 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_call0_cst : Ref sig .tc := ⟨.hbm, 130, rfl⟩
abbrev main_call0_v0 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_13 : Ref sig .tc := ⟨.hbm, 148, rfl⟩
abbrev main_v117 : Ref sig .tc := ⟨.hbm, 149, rfl⟩
abbrev main_v118 : Ref sig .tc := ⟨.hbm, 150, rfl⟩
abbrev main_cst_14 : Ref sig .tc := ⟨.hbm, 151, rfl⟩
abbrev main_v119 : Ref sig .tc := ⟨.hbm, 152, rfl⟩
abbrev main_v120 : Ref sig .tc := ⟨.hbm, 153, rfl⟩
abbrev main_cst_15 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_16 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_call1_cst : Ref sig .tc := ⟨.hbm, 171, rfl⟩
abbrev main_call1_v0 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩

abbrev nD : Nat := 1
abbrev τ : Topo := Topo.v7x

variable {F : FTy → Type} [FloatOps F]
-- ==== Enter.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S4x1024 : Shape := ⟨2, ![4, 1024]⟩
abbrev S2x1024x3104 : Shape := ⟨3, ![2, 1024, 3104]⟩
abbrev S_ : Shape := ⟨0, ![]⟩
abbrev S7x6144 : Shape := ⟨2, ![7, 6144]⟩
abbrev S1x6144 : Shape := ⟨2, ![1, 6144]⟩
abbrev S16x6144 : Shape := ⟨2, ![16, 6144]⟩
abbrev S16x1x6144 : Shape := ⟨3, ![16, 1, 6144]⟩
abbrev S1x1024 : Shape := ⟨2, ![1, 1024]⟩
abbrev S1024 : Shape := ⟨1, ![1024]⟩
abbrev S1x1024x3104 : Shape := ⟨3, ![1, 1024, 3104]⟩
abbrev S1024x3104 : Shape := ⟨2, ![1024, 3104]⟩
abbrev S1024x512 : Shape := ⟨2, ![1024, 512]⟩
abbrev S1024x1024 : Shape := ⟨2, ![1024, 1024]⟩
abbrev S1024x32 : Shape := ⟨2, ![1024, 32]⟩
abbrev S1024x128 : Shape := ⟨2, ![1024, 128]⟩
abbrev S512x1024 : Shape := ⟨2, ![512, 1024]⟩
abbrev S8x2304x512 : Shape := ⟨3, ![8, 2304, 512]⟩
abbrev S8x512x2304 : Shape := ⟨3, ![8, 512, 2304]⟩
abbrev S8x2304x1024 : Shape := ⟨3, ![8, 2304, 1024]⟩
abbrev S8x2304x128 : Shape := ⟨3, ![8, 2304, 128]⟩
abbrev S1x256x1024 : Shape := ⟨3, ![1, 256, 1024]⟩
abbrev S1x1x6144 : Shape := ⟨3, ![1, 1, 6144]⟩
abbrev S1x768x512 : Shape := ⟨3, ![1, 768, 512]⟩
abbrev S1x512x768 : Shape := ⟨3, ![1, 512, 768]⟩
abbrev S1x768x1024 : Shape := ⟨3, ![1, 768, 1024]⟩
abbrev S1x768x128 : Shape := ⟨3, ![1, 768, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x256x512 : Shape := ⟨3, ![1, 256, 512]⟩
abbrev S512x256 : Shape := ⟨2, ![512, 256]⟩
abbrev S1x512x256 : Shape := ⟨3, ![1, 512, 256]⟩
abbrev S256x128 : Shape := ⟨2, ![256, 128]⟩
abbrev S1x256x128 : Shape := ⟨3, ![1, 256, 128]⟩

abbrev nBuf : Space → Nat
  | .hbm => 38
  | .vmem => 34
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x6144, .f32⟩
  | .hbm, ⟨3, _⟩ => ⟨S6144, .f32⟩
  | .hbm, ⟨4, _⟩ => ⟨S4x1024, .f32⟩
  | .hbm, ⟨5, _⟩ => ⟨S2x1024x3104, .f32⟩
  | .hbm, ⟨6, _⟩ => ⟨S_, .f32⟩
  | .hbm, ⟨7, _⟩ => ⟨S7x6144, .f32⟩
  | .hbm, ⟨8, _⟩ => ⟨S1x6144, .f32⟩
  | .hbm, ⟨9, _⟩ => ⟨S16x6144, .f32⟩
  | .hbm, ⟨10, _⟩ => ⟨S16x1x6144, .f32⟩
  | .hbm, ⟨11, _⟩ => ⟨S1x1024, .f32⟩
  | .hbm, ⟨12, _⟩ => ⟨S1024, .f32⟩
  | .hbm, ⟨13, _⟩ => ⟨S1x1024x3104, .f32⟩
  | .hbm, ⟨14, _⟩ => ⟨S1024x3104, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x1024, .f32⟩
  | .hbm, ⟨21, _⟩ => ⟨S1024x1024, .f32⟩
  | .hbm, ⟨22, _⟩ => ⟨S1024x32, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S512x1024, .f32⟩
  | .hbm, ⟨27, _⟩ => ⟨S1024x512, .bf16⟩
  | .hbm, ⟨28, _⟩ => ⟨S512x1024, .bf16⟩
  | .hbm, ⟨29, _⟩ => ⟨S1024x1024, .bf16⟩
  | .hbm, ⟨30, _⟩ => ⟨S1024x1024, .bf16⟩
  | .hbm, ⟨31, _⟩ => ⟨S1024x128, .bf16⟩
  | .hbm, ⟨32, _⟩ => ⟨S1x1024, .f32⟩
  | .hbm, ⟨33, _⟩ => ⟨S8x2304x512, .bf16⟩
  | .hbm, ⟨34, _⟩ => ⟨S8x512x2304, .bf16⟩
  | .hbm, ⟨35, _⟩ => ⟨S8x2304x1024, .bf16⟩
  | .hbm, ⟨36, _⟩ => ⟨S8x2304x1024, .bf16⟩
  | .hbm, ⟨37, _⟩ => ⟨S8x2304x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x1x6144, .f32⟩
  | .local _ .vmem, ⟨13, _⟩ => ⟨S1x1x6144, .f32⟩
  | .local _ .vmem, ⟨14, _⟩ => ⟨S1x1x6144, .f32⟩
  | .local _ .vmem, ⟨15, _⟩ => ⟨S1x1x6144, .f32⟩
  | .local _ .vmem, ⟨16, _⟩ => ⟨S1x1x6144, .f32⟩
  | .local _ .vmem, ⟨17, _⟩ => ⟨S1x1x6144, .f32⟩
  | .local _ .vmem, ⟨18, _⟩ => ⟨S1x1024, .f32⟩
  | .local _ .vmem, ⟨19, _⟩ => ⟨S1024x512, .bf16⟩
  | .local _ .vmem, ⟨20, _⟩ => ⟨S512x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x128, .bf16⟩
  | .local _ .vmem, ⟨24, _⟩ => ⟨S1x768x512, .bf16⟩
  | .local _ .vmem, ⟨25, _⟩ => ⟨S1x768x512, .bf16⟩
  | .local _ .vmem, ⟨26, _⟩ => ⟨S1x512x768, .bf16⟩
  | .local _ .vmem, ⟨27, _⟩ => ⟨S1x512x768, .bf16⟩
  | .local _ .vmem, ⟨28, _⟩ => ⟨S1x768x1024, .bf16⟩
  | .local _ .vmem, ⟨29, _⟩ => ⟨S1x768x1024, .bf16⟩
  | .local _ .vmem, ⟨30, _⟩ => ⟨S1x768x1024, .bf16⟩
  | .local _ .vmem, ⟨31, _⟩ => ⟨S1x768x1024, .bf16⟩
  | .local _ .vmem, ⟨32, _⟩ => ⟨S1x768x128, .f32⟩
  | .local _ .vmem, ⟨33, _⟩ => ⟨S1x768x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_v23_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let v2 : BitVec 32 := Scalar.minsi v1 c0_i32_0
  let c0_i32_1 : BitVec 32 := 0#32
  let c0_i32_2 : BitVec 32 := 0#32
  ![arg0.toNat, v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let v2 : BitVec 32 := Scalar.minsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![arg0.toNat, v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let v2 : BitVec 32 := Scalar.minsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c1_i32 : BitVec 32 := 1#32
  let v2 : BitVec 1 := Scalar.cmpi .slt v1 c1_i32
  let c8_i32 : BitVec 32 := 8#32
  let v3 : BitVec 32 := Scalar.select v2 c8_i32 arg0
  let c0_i32_0 : BitVec 32 := 0#32
  let c0_i32_1 : BitVec 32 := 0#32
  let c0_i32_2 : BitVec 32 := 0#32
  ![v3.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c1_i32_0 : BitVec 32 := 1#32
  let v2 : BitVec 1 := Scalar.cmpi .slt v1 c1_i32_0
  let c8_i32 : BitVec 32 := 8#32
  let v3 : BitVec 32 := Scalar.select v2 c8_i32 arg0
  let c0_i32 : BitVec 32 := 0#32
  let c0_i32_1 : BitVec 32 := 0#32
  let c0_i32_2 : BitVec 32 := 0#32
  ![v3.toNat, c0_i32.toNat, c0_i32_1.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c1_i32 : BitVec 32 := 1#32
  let v2 : BitVec 1 := Scalar.cmpi .slt v1 c1_i32
  let c8_i32 : BitVec 32 := 8#32
  let v3 : BitVec 32 := Scalar.select v2 c8_i32 arg0
  let c0_i32 : BitVec 32 := 0#32
  let c0_i32_0 : BitVec 32 := 0#32
  let c0_i32_1 : BitVec 32 := 0#32
  ![v3.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x768x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x768 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x768x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x768x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x768x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== EnterRefIdeal.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S4x1024 : Shape := ⟨2, ![4, 1024]⟩
abbrev S2x1024x3104 : Shape := ⟨3, ![2, 1024, 3104]⟩
abbrev S1x1024 : Shape := ⟨2, ![1, 1024]⟩
abbrev S1024 : Shape := ⟨1, ![1024]⟩
abbrev S1x1024x3104 : Shape := ⟨3, ![1, 1024, 3104]⟩
abbrev S1024x3104 : Shape := ⟨2, ![1024, 3104]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3104 : Shape := ⟨3, ![8, 2048, 3104]⟩
abbrev S8x2048x512 : Shape := ⟨3, ![8, 2048, 512]⟩
abbrev S8x2048x32 : Shape := ⟨3, ![8, 2048, 32]⟩
abbrev S1x1x6144 : Shape := ⟨3, ![1, 1, 6144]⟩
abbrev S8x256 : Shape := ⟨2, ![8, 256]⟩
abbrev S8x256x1 : Shape := ⟨3, ![8, 256, 1]⟩
abbrev S8x256x3104 : Shape := ⟨3, ![8, 256, 3104]⟩
abbrev S8x256x512 : Shape := ⟨3, ![8, 256, 512]⟩
abbrev S8x256x32 : Shape := ⟨3, ![8, 256, 32]⟩
abbrev S8x2304x512 : Shape := ⟨3, ![8, 2304, 512]⟩
abbrev S8x2304x1024 : Shape := ⟨3, ![8, 2304, 1024]⟩
abbrev S8x2304x32 : Shape := ⟨3, ![8, 2304, 32]⟩
abbrev S8x2304x128 : Shape := ⟨3, ![8, 2304, 128]⟩
abbrev S8x512x2304 : Shape := ⟨3, ![8, 512, 2304]⟩

abbrev nBuf : Space → Nat
  | .hbm => 101
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x6144, .f32⟩
  | .hbm, ⟨3, _⟩ => ⟨S6144, .f32⟩
  | .hbm, ⟨4, _⟩ => ⟨S4x1024, .f32⟩
  | .hbm, ⟨5, _⟩ => ⟨S2x1024x3104, .f32⟩
  | .hbm, ⟨6, _⟩ => ⟨S1x1024, .f32⟩
  | .hbm, ⟨7, _⟩ => ⟨S1024, .f32⟩
  | .hbm, ⟨8, _⟩ => ⟨S1x1024x3104, .f32⟩
  | .hbm, ⟨9, _⟩ => ⟨S1024x3104, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x3104, .f32⟩
  | .hbm, ⟨41, _⟩ => ⟨S8x2048x512, .f32⟩
  | .hbm, ⟨42, _⟩ => ⟨S8x2048x512, .f32⟩
  | .hbm, ⟨43, _⟩ => ⟨S8x2048x1024, .f32⟩
  | .hbm, ⟨44, _⟩ => ⟨S8x2048x1024, .f32⟩
  | .hbm, ⟨45, _⟩ => ⟨S8x2048x32, .f32⟩
  | .hbm, ⟨46, _⟩ => ⟨S_, .f32⟩
  | .hbm, ⟨47, _⟩ => ⟨S8x2048x512, .f32⟩
  | .hbm, ⟨48, _⟩ => ⟨S8x2048x512, .f32⟩
  | .hbm, ⟨49, _⟩ => ⟨S1x1x6144, .f32⟩
  | .hbm, ⟨50, _⟩ => ⟨S1x1x1024, .f32⟩
  | .hbm, ⟨51, _⟩ => ⟨S1x1x1024, .f32⟩
  | .hbm, ⟨52, _⟩ => ⟨S1x1x1024, .f32⟩
  | .hbm, ⟨53, _⟩ => ⟨S1x1x1024, .f32⟩
  | .hbm, ⟨54, _⟩ => ⟨S1x1x1024, .f32⟩
  | .hbm, ⟨55, _⟩ => ⟨S1x1x1024, .f32⟩
  | .hbm, ⟨56, _⟩ => ⟨S8x256x1024, .f32⟩
  | .hbm, ⟨57, _⟩ => ⟨S_, .f32⟩
  | .hbm, ⟨58, _⟩ => ⟨S8x256, .f32⟩
  | .hbm, ⟨59, _⟩ => ⟨S8x256x1, .f32⟩
  | .hbm, ⟨60, _⟩ => ⟨S_, .f32⟩
  | .hbm, ⟨61, _⟩ => ⟨S8x256x1, .f32⟩
  | .hbm, ⟨62, _⟩ => ⟨S8x256x1, .f32⟩
  | .hbm, ⟨63, _⟩ => ⟨S_, .f32⟩
  | .hbm, ⟨64, _⟩ => ⟨S8x256x1, .f32⟩
  | .hbm, ⟨65, _⟩ => ⟨S8x256x1, .f32⟩
  | .hbm, ⟨66, _⟩ => ⟨S8x256x1, .f32⟩
  | .hbm, ⟨67, _⟩ => ⟨S8x256x1024, .f32⟩
  | .hbm, ⟨68, _⟩ => ⟨S8x256x1024, .f32⟩
  | .hbm, ⟨69, _⟩ => ⟨S1x1x1024, .f32⟩
  | .hbm, ⟨70, _⟩ => ⟨S8x256x1024, .f32⟩
  | .hbm, ⟨71, _⟩ => ⟨S8x256x1024, .f32⟩
  | .hbm, ⟨72, _⟩ => ⟨S_, .f32⟩
  | .hbm, ⟨73, _⟩ => ⟨S1x1x1024, .f32⟩
  | .hbm, ⟨74, _⟩ => ⟨S1x1x1024, .f32⟩
  | .hbm, ⟨75, _⟩ => ⟨S8x256x1024, .f32⟩
  | .hbm, ⟨76, _⟩ => ⟨S8x256x1024, .f32⟩
  | .hbm, ⟨77, _⟩ => ⟨S8x256x1024, .f32⟩
  | .hbm, ⟨78, _⟩ => ⟨S8x256x1024, .f32⟩
  | .hbm, ⟨79, _⟩ => ⟨S8x256x3104, .f32⟩
  | .hbm, ⟨80, _⟩ => ⟨S8x256x512, .f32⟩
  | .hbm, ⟨81, _⟩ => ⟨S8x256x512, .f32⟩
  | .hbm, ⟨82, _⟩ => ⟨S8x256x1024, .f32⟩
  | .hbm, ⟨83, _⟩ => ⟨S8x256x1024, .f32⟩
  | .hbm, ⟨84, _⟩ => ⟨S8x256x32, .f32⟩
  | .hbm, ⟨85, _⟩ => ⟨S_, .f32⟩
  | .hbm, ⟨86, _⟩ => ⟨S8x256x512, .f32⟩
  | .hbm, ⟨87, _⟩ => ⟨S8x256x512, .f32⟩
  | .hbm, ⟨88, _⟩ => ⟨S8x2304x512, .f32⟩
  | .hbm, ⟨89, _⟩ => ⟨S8x2304x512, .f32⟩
  | .hbm, ⟨90, _⟩ => ⟨S8x2304x1024, .f32⟩
  | .hbm, ⟨91, _⟩ => ⟨S8x2304x1024, .f32⟩
  | .hbm, ⟨92, _⟩ => ⟨S8x2304x32, .f32⟩
  | .hbm, ⟨93, _⟩ => ⟨S_, .i32⟩
  | .hbm, ⟨94, _⟩ => ⟨S_, .f32⟩
  | .hbm, ⟨95, _⟩ => ⟨S8x2304x128, .f32⟩
  | .hbm, ⟨96, _⟩ => ⟨S8x2304x512, .bf16⟩
  | .hbm, ⟨97, _⟩ => ⟨S8x512x2304, .f32⟩
  | .hbm, ⟨98, _⟩ => ⟨S8x512x2304, .bf16⟩
  | .hbm, ⟨99, _⟩ => ⟨S8x2304x1024, .bf16⟩
  | .hbm, ⟨100, _⟩ => ⟨S8x2304x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_c : Ref sig .tc := ⟨.hbm, 93, rfl⟩
abbrev main_call0_v0 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩

abbrev nD : Nat := 1
abbrev τ : Topo := Topo.v7x

variable {F : FTy → Type} [FloatOps F]
-- ==== Again.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S4x1024 : Shape := ⟨2, ![4, 1024]⟩
abbrev S2x1024x3104 : Shape := ⟨3, ![2, 1024, 3104]⟩
abbrev S8x2304x1024 : Shape := ⟨3, ![8, 2304, 1024]⟩
abbrev S_ : Shape := ⟨0, ![]⟩
abbrev S7x6144 : Shape := ⟨2, ![7, 6144]⟩
abbrev S1x6144 : Shape := ⟨2, ![1, 6144]⟩
abbrev S16x6144 : Shape := ⟨2, ![16, 6144]⟩
abbrev S16x1x6144 : Shape := ⟨3, ![16, 1, 6144]⟩
abbrev S1x1024 : Shape := ⟨2, ![1, 1024]⟩
abbrev S1024 : Shape := ⟨1, ![1024]⟩
abbrev S1x1024x3104 : Shape := ⟨3, ![1, 1024, 3104]⟩
abbrev S1024x3104 : Shape := ⟨2, ![1024, 3104]⟩
abbrev S1024x512 : Shape := ⟨2, ![1024, 512]⟩
abbrev S1024x1024 : Shape := ⟨2, ![1024, 1024]⟩
abbrev S1024x32 : Shape := ⟨2, ![1024, 32]⟩
abbrev S1024x128 : Shape := ⟨2, ![1024, 128]⟩
abbrev S512x1024 : Shape := ⟨2, ![512, 1024]⟩
abbrev S8x2304x512 : Shape := ⟨3, ![8, 2304, 512]⟩
abbrev S8x512x2304 : Shape := ⟨3, ![8, 512, 2304]⟩
abbrev S8x2304x128 : Shape := ⟨3, ![8, 2304, 128]⟩
abbrev S1x768x1024 : Shape := ⟨3, ![1, 768, 1024]⟩
abbrev S1x1x6144 : Shape := ⟨3, ![1, 1, 6144]⟩
abbrev S1x768x512 : Shape := ⟨3, ![1, 768, 512]⟩
abbrev S1x512x768 : Shape := ⟨3, ![1, 512, 768]⟩
abbrev S1x768x128 : Shape := ⟨3, ![1, 768, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x256x512 : Shape := ⟨3, ![1, 256, 512]⟩
abbrev S512x256 : Shape := ⟨2, ![512, 256]⟩
abbrev S1x512x256 : Shape := ⟨3, ![1, 512, 256]⟩
abbrev S256x128 : Shape := ⟨2, ![256, 128]⟩
abbrev S1x256x128 : Shape := ⟨3, ![1, 256, 128]⟩

abbrev nBuf : Space → Nat
  | .hbm => 39
  | .vmem => 24
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x6144, .f32⟩
  | .hbm, ⟨3, _⟩ => ⟨S6144, .f32⟩
  | .hbm, ⟨4, _⟩ => ⟨S4x1024, .f32⟩
  | .hbm, ⟨5, _⟩ => ⟨S2x1024x3104, .f32⟩
  | .hbm, ⟨6, _⟩ => ⟨S8x2304x1024, .f32⟩
  | .hbm, ⟨7, _⟩ => ⟨S_, .f32⟩
  | .hbm, ⟨8, _⟩ => ⟨S7x6144, .f32⟩
  | .hbm, ⟨9, _⟩ => ⟨S1x6144, .f32⟩
  | .hbm, ⟨10, _⟩ => ⟨S16x6144, .f32⟩
  | .hbm, ⟨11, _⟩ => ⟨S16x1x6144, .f32⟩
  | .hbm, ⟨12, _⟩ => ⟨S1x1024, .f32⟩
  | .hbm, ⟨13, _⟩ => ⟨S1024, .f32⟩
  | .hbm, ⟨14, _⟩ => ⟨S1x1024x3104, .f32⟩
  | .hbm, ⟨15, _⟩ => ⟨S1024x3104, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x1024, .f32⟩
  | .hbm, ⟨22, _⟩ => ⟨S1024x1024, .f32⟩
  | .hbm, ⟨23, _⟩ => ⟨S1024x32, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S512x1024, .f32⟩
  | .hbm, ⟨28, _⟩ => ⟨S1024x512, .bf16⟩
  | .hbm, ⟨29, _⟩ => ⟨S512x1024, .bf16⟩
  | .hbm, ⟨30, _⟩ => ⟨S1024x1024, .bf16⟩
  | .hbm, ⟨31, _⟩ => ⟨S1024x1024, .bf16⟩
  | .hbm, ⟨32, _⟩ => ⟨S1024x128, .bf16⟩
  | .hbm, ⟨33, _⟩ => ⟨S1x1024, .f32⟩
  | .hbm, ⟨34, _⟩ => ⟨S8x2304x512, .bf16⟩
  | .hbm, ⟨35, _⟩ => ⟨S8x512x2304, .bf16⟩
  | .hbm, ⟨36, _⟩ => ⟨S8x2304x1024, .bf16⟩
  | .hbm, ⟨37, _⟩ => ⟨S8x2304x1024, .bf16⟩
  | .hbm, ⟨38, _⟩ => ⟨S8x2304x128, .f32⟩
  | .local _ .vmem, ⟨0, _⟩ => ⟨S1x768x1024, .f32⟩
  | .local _ .vmem, ⟨1, _⟩ => ⟨S1x768x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1x6144, .f32⟩
  | .local _ .vmem, ⟨5, _⟩ => ⟨S1x1x6144, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x512, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x128, .bf16⟩
  | .local _ .vmem, ⟨14, _⟩ => ⟨S1x768x512, .bf16⟩
  | .local _ .vmem, ⟨15, _⟩ => ⟨S1x768x512, .bf16⟩
  | .local _ .vmem, ⟨16, _⟩ => ⟨S1x512x768, .bf16⟩
  | .local _ .vmem, ⟨17, _⟩ => ⟨S1x512x768, .bf16⟩
  | .local _ .vmem, ⟨18, _⟩ => ⟨S1x768x1024, .bf16⟩
  | .local _ .vmem, ⟨19, _⟩ => ⟨S1x768x1024, .bf16⟩
  | .local _ .vmem, ⟨20, _⟩ => ⟨S1x768x1024, .bf16⟩
  | .local _ .vmem, ⟨21, _⟩ => ⟨S1x768x1024, .bf16⟩
  | .local _ .vmem, ⟨22, _⟩ => ⟨S1x768x128, .f32⟩
  | .local _ .vmem, ⟨23, _⟩ => ⟨S1x768x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c1_i32 : BitVec 32 := 1#32
  let v2 : BitVec 1 := Scalar.cmpi .slt v1 c1_i32
  let c8_i32 : BitVec 32 := 8#32
  let v3 : BitVec 32 := Scalar.select v2 c8_i32 arg0
  let c0_i32_0 : BitVec 32 := 0#32
  let c0_i32_1 : BitVec 32 := 0#32
  let c0_i32_2 : BitVec 32 := 0#32
  ![v3.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c1_i32_0 : BitVec 32 := 1#32
  let v2 : BitVec 1 := Scalar.cmpi .slt v1 c1_i32_0
  let c8_i32 : BitVec 32 := 8#32
  let v3 : BitVec 32 := Scalar.select v2 c8_i32 arg0
  let c0_i32 : BitVec 32 := 0#32
  let c0_i32_1 : BitVec 32 := 0#32
  let c0_i32_2 : BitVec 32 := 0#32
  ![v3.toNat, c0_i32.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c1_i32 : BitVec 32 := 1#32
  let v2 : BitVec 1 := Scalar.cmpi .slt v1 c1_i32
  let c8_i32 : BitVec 32 := 8#32
  let v3 : BitVec 32 := Scalar.select v2 c8_i32 arg0
  let c0_i32 : BitVec 32 := 0#32
  let c0_i32_0 : BitVec 32 := 0#32
  let c0_i32_1 : BitVec 32 := 0#32
  ![v3.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x768x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x768x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x768x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x768x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== AgainRefIdeal.lean ====
abbrev S8x256x1024 : Shape := ⟨3, ![8, 256, 1024]⟩
abbrev S8x2048x1024 : Shape := ⟨3, ![8, 2048, 1024]⟩
abbrev S8x6144 : Shape := ⟨2, ![8, 6144]⟩
abbrev S6144 : Shape := ⟨1, ![6144]⟩
abbrev S4x1024 : Shape := ⟨2, ![4, 1024]⟩
abbrev S2x1024x3104 : Shape := ⟨3, ![2, 1024, 3104]⟩
abbrev S1x1024 : Shape := ⟨2, ![1, 1024]⟩
abbrev S1024 : Shape := ⟨1, ![1024]⟩
abbrev S1x1024x3104 : Shape := ⟨3, ![1, 1024, 3104]⟩
abbrev S1024x3104 : Shape := ⟨2, ![1024, 3104]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3104 : Shape := ⟨3, ![8, 2048, 3104]⟩
abbrev S8x2048x512 : Shape := ⟨3, ![8, 2048, 512]⟩
abbrev S8x2048x32 : Shape := ⟨3, ![8, 2048, 32]⟩
abbrev S1x1x6144 : Shape := ⟨3, ![1, 1, 6144]⟩
abbrev S8x256 : Shape := ⟨2, ![8, 256]⟩
abbrev S8x256x1 : Shape := ⟨3, ![8, 256, 1]⟩
abbrev S8x256x3104 : Shape := ⟨3, ![8, 256, 3104]⟩
abbrev S8x256x512 : Shape := ⟨3, ![8, 256, 512]⟩
abbrev S8x256x32 : Shape := ⟨3, ![8, 256, 32]⟩
abbrev S8x2304x512 : Shape := ⟨3, ![8, 2304, 512]⟩
abbrev S8x2304x1024 : Shape := ⟨3, ![8, 2304, 1024]⟩
abbrev S8x2304x32 : Shape := ⟨3, ![8, 2304, 32]⟩
abbrev S8x2304x128 : Shape := ⟨3, ![8, 2304, 128]⟩
abbrev S8x512x2304 : Shape := ⟨3, ![8, 512, 2304]⟩

abbrev nBuf : Space → Nat
  | .hbm => 101
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S8x6144, .f32⟩
  | .hbm, ⟨3, _⟩ => ⟨S6144, .f32⟩
  | .hbm, ⟨4, _⟩ => ⟨S4x1024, .f32⟩
  | .hbm, ⟨5, _⟩ => ⟨S2x1024x3104, .f32⟩
  | .hbm, ⟨6, _⟩ => ⟨S1x1024, .f32⟩
  | .hbm, ⟨7, _⟩ => ⟨S1024, .f32⟩
  | .hbm, ⟨8, _⟩ => ⟨S1x1024x3104, .f32⟩
  | .hbm, ⟨9, _⟩ => ⟨S1024x3104, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x1024, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x3104, .f32⟩
  | .hbm, ⟨41, _⟩ => ⟨S8x2048x512, .f32⟩
  | .hbm, ⟨42, _⟩ => ⟨S8x2048x512, .f32⟩
  | .hbm, ⟨43, _⟩ => ⟨S8x2048x1024, .f32⟩
  | .hbm, ⟨44, _⟩ => ⟨S8x2048x1024, .f32⟩
  | .hbm, ⟨45, _⟩ => ⟨S8x2048x32, .f32⟩
  | .hbm, ⟨46, _⟩ => ⟨S_, .f32⟩
  | .hbm, ⟨47, _⟩ => ⟨S8x2048x512, .f32⟩
  | .hbm, ⟨48, _⟩ => ⟨S8x2048x512, .f32⟩
  | .hbm, ⟨49, _⟩ => ⟨S1x1x6144, .f32⟩
  | .hbm, ⟨50, _⟩ => ⟨S1x1x1024, .f32⟩
  | .hbm, ⟨51, _⟩ => ⟨S1x1x1024, .f32⟩
  | .hbm, ⟨52, _⟩ => ⟨S1x1x1024, .f32⟩
  | .hbm, ⟨53, _⟩ => ⟨S1x1x1024, .f32⟩
  | .hbm, ⟨54, _⟩ => ⟨S1x1x1024, .f32⟩
  | .hbm, ⟨55, _⟩ => ⟨S1x1x1024, .f32⟩
  | .hbm, ⟨56, _⟩ => ⟨S8x256x1024, .f32⟩
  | .hbm, ⟨57, _⟩ => ⟨S_, .f32⟩
  | .hbm, ⟨58, _⟩ => ⟨S8x256, .f32⟩
  | .hbm, ⟨59, _⟩ => ⟨S8x256x1, .f32⟩
  | .hbm, ⟨60, _⟩ => ⟨S_, .f32⟩
  | .hbm, ⟨61, _⟩ => ⟨S8x256x1, .f32⟩
  | .hbm, ⟨62, _⟩ => ⟨S8x256x1, .f32⟩
  | .hbm, ⟨63, _⟩ => ⟨S_, .f32⟩
  | .hbm, ⟨64, _⟩ => ⟨S8x256x1, .f32⟩
  | .hbm, ⟨65, _⟩ => ⟨S8x256x1, .f32⟩
  | .hbm, ⟨66, _⟩ => ⟨S8x256x1, .f32⟩
  | .hbm, ⟨67, _⟩ => ⟨S8x256x1024, .f32⟩
  | .hbm, ⟨68, _⟩ => ⟨S8x256x1024, .f32⟩
  | .hbm, ⟨69, _⟩ => ⟨S1x1x1024, .f32⟩
  | .hbm, ⟨70, _⟩ => ⟨S8x256x1024, .f32⟩
  | .hbm, ⟨71, _⟩ => ⟨S8x256x1024, .f32⟩
  | .hbm, ⟨72, _⟩ => ⟨S_, .f32⟩
  | .hbm, ⟨73, _⟩ => ⟨S1x1x1024, .f32⟩
  | .hbm, ⟨74, _⟩ => ⟨S1x1x1024, .f32⟩
  | .hbm, ⟨75, _⟩ => ⟨S8x256x1024, .f32⟩
  | .hbm, ⟨76, _⟩ => ⟨S8x256x1024, .f32⟩
  | .hbm, ⟨77, _⟩ => ⟨S8x256x1024, .f32⟩
  | .hbm, ⟨78, _⟩ => ⟨S8x256x1024, .f32⟩
  | .hbm, ⟨79, _⟩ => ⟨S8x256x3104, .f32⟩
  | .hbm, ⟨80, _⟩ => ⟨S8x256x512, .f32⟩
  | .hbm, ⟨81, _⟩ => ⟨S8x256x512, .f32⟩
  | .hbm, ⟨82, _⟩ => ⟨S8x256x1024, .f32⟩
  | .hbm, ⟨83, _⟩ => ⟨S8x256x1024, .f32⟩
  | .hbm, ⟨84, _⟩ => ⟨S8x256x32, .f32⟩
  | .hbm, ⟨85, _⟩ => ⟨S_, .f32⟩
  | .hbm, ⟨86, _⟩ => ⟨S8x256x512, .f32⟩
  | .hbm, ⟨87, _⟩ => ⟨S8x256x512, .f32⟩
  | .hbm, ⟨88, _⟩ => ⟨S8x2304x512, .f32⟩
  | .hbm, ⟨89, _⟩ => ⟨S8x2304x512, .f32⟩
  | .hbm, ⟨90, _⟩ => ⟨S8x2304x1024, .f32⟩
  | .hbm, ⟨91, _⟩ => ⟨S8x2304x1024, .f32⟩
  | .hbm, ⟨92, _⟩ => ⟨S8x2304x32, .f32⟩
  | .hbm, ⟨93, _⟩ => ⟨S_, .i32⟩
  | .hbm, ⟨94, _⟩ => ⟨S_, .f32⟩
  | .hbm, ⟨95, _⟩ => ⟨S8x2304x128, .f32⟩
  | .hbm, ⟨96, _⟩ => ⟨S8x2304x512, .bf16⟩
  | .hbm, ⟨97, _⟩ => ⟨S8x512x2304, .f32⟩
  | .hbm, ⟨98, _⟩ => ⟨S8x512x2304, .bf16⟩
  | .hbm, ⟨99, _⟩ => ⟨S8x2304x1024, .bf16⟩
  | .hbm, ⟨100, _⟩ => ⟨S8x2304x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_c : Ref sig .tc := ⟨.hbm, 93, rfl⟩
abbrev main_call0_v0 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩

abbrev nD : Nat := 1
abbrev τ : Topo := Topo.v7x

variable {F : FTy → Type} [FloatOps F]
-- ==== Ada.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S4x1x6144, .f32⟩
  | .hbm, ⟨9, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S4x16x6144 : Shape := ⟨3, ![4, 16, 6144]⟩

abbrev nBuf : Space → Nat
  | .hbm => 54
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1x1024x6144, .f32⟩
  | .hbm, ⟨18, _⟩ => ⟨S1024x6144, .f32⟩
  | .hbm, ⟨19, _⟩ => ⟨S16x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S16x6144, .f32⟩
  | .hbm, ⟨24, _⟩ => ⟨S16x6144, .f32⟩
  | .hbm, ⟨25, _⟩ => ⟨S1x1024x6144, .f32⟩
  | .hbm, ⟨26, _⟩ => ⟨S1024x6144, .f32⟩
  | .hbm, ⟨27, _⟩ => ⟨S16x6144, .f32⟩
  | .hbm, ⟨28, _⟩ => ⟨S1x6144, .f32⟩
  | .hbm, ⟨29, _⟩ => ⟨S6144, .f32⟩
  | .hbm, ⟨30, _⟩ => ⟨S1x6144, .f32⟩
  | .hbm, ⟨31, _⟩ => ⟨S16x6144, .f32⟩
  | .hbm, ⟨32, _⟩ => ⟨S16x6144, .f32⟩
  | .hbm, ⟨33, _⟩ => ⟨S1x1024x6144, .f32⟩
  | .hbm, ⟨34, _⟩ => ⟨S1024x6144, .f32⟩
  | .hbm, ⟨35, _⟩ => ⟨S16x6144, .f32⟩
  | .hbm, ⟨36, _⟩ => ⟨S1x6144, .f32⟩
  | .hbm, ⟨37, _⟩ => ⟨S6144, .f32⟩
  | .hbm, ⟨38, _⟩ => ⟨S1x6144, .f32⟩
  | .hbm, ⟨39, _⟩ => ⟨S16x6144, .f32⟩
  | .hbm, ⟨40, _⟩ => ⟨S16x6144, .f32⟩
  | .hbm, ⟨41, _⟩ => ⟨S1x1024x6144, .f32⟩
  | .hbm, ⟨42, _⟩ => ⟨S1024x6144, .f32⟩
  | .hbm, ⟨43, _⟩ => ⟨S16x6144, .f32⟩
  | .hbm, ⟨44, _⟩ => ⟨S1x6144, .f32⟩
  | .hbm, ⟨45, _⟩ => ⟨S6144, .f32⟩
  | .hbm, ⟨46, _⟩ => ⟨S1x6144, .f32⟩
  | .hbm, ⟨47, _⟩ => ⟨S16x6144, .f32⟩
  | .hbm, ⟨48, _⟩ => ⟨S16x6144, .f32⟩
  | .hbm, ⟨49, _⟩ => ⟨S1x16x6144, .f32⟩
  | .hbm, ⟨50, _⟩ => ⟨S1x16x6144, .f32⟩
  | .hbm, ⟨51, _⟩ => ⟨S1x16x6144, .f32⟩
  | .hbm, ⟨52, _⟩ => ⟨S1x16x6144, .f32⟩
  | .hbm, ⟨53, _⟩ => ⟨S4x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Proof.DiffUnit.lean ====
/-
  The differential attention kernel's body, written as a few functions: one unit (one half of the heads' channels against
  all the keys, for one tile of 512 query rows), and the combination of a tile's two units. `out_eq` says that the body's
  four stores are these functions of the blocks it reads, whatever order the body interleaves its steps in.
-/
module

public import proofs.«01_k».proof.Proof.Gen.KernelIdeal.Frame

@[expose] public section

set_option maxRecDepth 16384

noncomputable section

open Idealize.ShloMosaic Idealize.ShloMosaic.TcCoe Idealize.SL.Sem

namespace Cert.DiffUnit

open Cert.KernelIdeal Cert.KernelIdeal.Gen

variable {F : FTy → Type} [FloatOps F] [Named F]

/-- The lanes below 64, as a mask over a tile of 512 query rows. -/
def lowMask : IVec S512x128 1 :=
  broadcastTo S512x128 (shapeCast S1x128 (cmpi .slt (iota .tc S1x128 32 [1] iota_S1x128_d1_w32) (broadcast S1x128 64#32)) shapeCasts_S1x128_S1x128) broadcasts_S1x128_S512x128

/-- The zero tile that the masked lanes are taken from. -/
def zeroQ : FVec F S512x128 .bf16 := broadcast S512x128 (Scalar.ofBits .bf16 0x0000#16)

/-- A block of queries, scaled and rounded. -/
def scaled (x : Vec F S1x256x128 .f32) : FVec F S256x128 .bf16 :=
  truncf .bf16 (mulf (shapeCast S256x128 (View.ld x r0_1) shapeCasts_S1x256x128_S256x128) (broadcast S256x128 (Named.named κ "scale_log2e" 0x3E38AA3B#32))) bitsLt_bf16_f32

/-- The query blocks, one below the other. -/
def rows (x0 x1 x2 x3 x4 x5 x6 x7 : Vec F S1x256x128 .f32) : FVec F S2048x128 .bf16 :=
  concatenate S2048x128 0 [⟨S256x128, scaled x0⟩, ⟨S256x128, scaled x1⟩, ⟨S256x128, scaled x2⟩, ⟨S256x128, scaled x3⟩, ⟨S256x128, scaled x4⟩, ⟨S256x128, scaled x5⟩, ⟨S256x128, scaled x6⟩, ⟨S256x128, scaled x7⟩] concatenates_S256x128_S256x128_S256x128_S256x128_S256x128_S256x128_S256x128_S256x128_S2048x128_d0

/-- The scores of one block of 256 keys against a masked tile of queries, keys down the rows. -/
def score (q : FVec F S512x128 .bf16) (k : Vec F S1x256x128 .bf16) : FVec F S256x512 .f32 :=
  matmul dot_S256x128_S512x128_S256x512_1_1_0_0_n_n none (shapeCast S256x128 k shapeCasts_S1x256x128_S256x128) q (constant S256x512 .f32 0x00000000#32)

/-- The greatest score of a block, for each of the 8 residues of its key. -/
def partMax (s : FVec F S256x512 .f32) : FVec F S8x512 .f32 :=
  multiReduction .maximumf [0] S8x512 (shapeCast S32x8x512 s shapeCasts_S256x512_S32x8x512) 0xFF800000#32 reduces_S32x8x512_S8x512 (.inl rfl) rfl

/-- The sum over a block, for each of the 8 residues of its key. -/
def partSum (s : FVec F S256x512 .f32) : FVec F S8x512 .f32 :=
  multiReduction .add [0] S8x512 (shapeCast S32x8x512 s shapeCasts_S256x512_S32x8x512) 0x00000000#32 reduces_S32x8x512_S8x512 (.inl rfl) rfl

/-- The greatest score of each query over all nine blocks. -/
def rowMax (s0 s1 s2 s3 s4 s5 s6 s7 s8 : FVec F S256x512 .f32) : FVec F S1x512 .f32 :=
  shapeCast S1x512 (multiReduction .maximumf [0] S512 (maximumf (maximumf (maximumf (maximumf (maximumf (maximumf (maximumf (maximumf (partMax s0) (partMax s1)) (partMax s2)) (partMax s3)) (partMax s4)) (partMax s5)) (partMax s6)) (partMax s7)) (partMax s8)) 0xFF800000#32 reduces_S8x512_S512 (.inl rfl) rfl) shapeCasts_S512_S1x512

/-- Two to the scores less the greatest. -/
def weight (mx : FVec F S1x512 .f32) (s : FVec F S256x512 .f32) : FVec F S256x512 .f32 :=
  exp2 (subf s (broadcastTo S256x512 mx broadcasts_S1x512_S256x512))

/-- The sum of the weights of each query over all nine blocks. -/
def den (p0 p1 p2 p3 p4 p5 p6 p7 p8 : FVec F S256x512 .f32) : FVec F S1x512 .f32 :=
  shapeCast S1x512 (multiReduction .add [0] S512 (addf (addf (addf (addf (addf (addf (addf (addf (partSum p0) (partSum p1)) (partSum p2)) (partSum p3)) (partSum p4)) (partSum p5)) (partSum p6)) (partSum p7)) (partSum p8)) 0x00000000#32 reduces_S8x512_S512 (.inl rfl) rfl) shapeCasts_S512_S1x512

/-- A block's weights, rounded for the product with the values. -/
def lowp (p : FVec F S256x512 .f32) : FVec F S256x512 .bf16 := truncf .bf16 p bitsLt_bf16_f32

/-- The values weighted by the nine blocks of weights, over the weights' sum, queries down the rows. -/
def attend (vt : Vec F S1x128x2304 .bf16) (p0 p1 p2 p3 p4 p5 p6 p7 p8 : FVec F S256x512 .f32) : FVec F S512x128 .f32 :=
  transpose S512x128 [1, 0] (divf
    (matmul dot_S128x2304_S2304x512_S128x512_1_0_0_1_n_n none (shapeCast S128x2304 vt shapeCasts_S1x128x2304_S128x2304)
      (concatenate S2304x512 0 [⟨S256x512, lowp p0⟩, ⟨S256x512, lowp p1⟩, ⟨S256x512, lowp p2⟩, ⟨S256x512, lowp p3⟩, ⟨S256x512, lowp p4⟩, ⟨S256x512, lowp p5⟩, ⟨S256x512, lowp p6⟩, ⟨S256x512, lowp p7⟩, ⟨S256x512, lowp p8⟩] concatenates_S256x512_S256x512_S256x512_S256x512_S256x512_S256x512_S256x512_S256x512_S256x512_S2304x512_d0)
      (constant S128x512 .f32 0x00000000#32))
    (broadcastTo S128x512 (den p0 p1 p2 p3 p4 p5 p6 p7 p8) broadcasts_S1x512_S128x512)) transposes_S128x512_p1_0_S512x128

/-- One unit from its nine blocks of scores. -/
def unitOf (vt : Vec F S1x128x2304 .bf16) (s0 s1 s2 s3 s4 s5 s6 s7 s8 : FVec F S256x512 .f32) : FVec F S512x128 .f32 :=
  let mx := rowMax s0 s1 s2 s3 s4 s5 s6 s7 s8
  attend vt (weight mx s0) (weight mx s1) (weight mx s2) (weight mx s3) (weight mx s4) (weight mx s5) (weight mx s6) (weight mx s7) (weight mx s8)

/-- One unit: a masked tile of queries attends to all the keys of the block `k`. -/
def unit (k : Vec F S1x2304x128 .bf16) (vt : Vec F S1x128x2304 .bf16) (q : FVec F S512x128 .bf16) : FVec F S512x128 .f32 :=
  unitOf (View.ld vt r0_11) (score q (View.ld k r0_2)) (score q (View.ld k r0_3)) (score q (View.ld k r0_4)) (score q (View.ld k r0_5)) (score q (View.ld k r0_6)) (score q (View.ld k r0_7)) (score q (View.ld k r0_8)) (score q (View.ld k r0_9)) (score q (View.ld k r0_10))

/-- The weight of the second map, from the four rows of parameters. -/
def lam (v0 : Vec F S4x64 .f32) : FVec F S1x1 .f32 :=
  addf (subf
    (exp (shapeCast S1x1 (multiReduction .add [1] S1 (mulf (extractStridedSlice S1x64 ![0, 0] (shapeCast S4x64 v0 shapeCasts_S4x64_S4x64) slices_S4x64_o0_0_S1x64) (extractStridedSlice S1x64 ![1, 0] (shapeCast S4x64 v0 shapeCasts_S4x64_S4x64) slices_S4x64_o1_0_S1x64)) 0x00000000#32 reduces_S1x64_S1 (.inl rfl) rfl) shapeCasts_S1_S1x1))
    (exp (shapeCast S1x1 (multiReduction .add [1] S1 (mulf (extractStridedSlice S1x64 ![2, 0] (shapeCast S4x64 v0 shapeCasts_S4x64_S4x64) slices_S4x64_o2_0_S1x64) (extractStridedSlice S1x64 ![3, 0] (shapeCast S4x64 v0 shapeCasts_S4x64_S4x64) slices_S4x64_o3_0_S1x64)) 0x00000000#32 reduces_S1x64_S1 (.inl rfl) rfl) shapeCasts_S1_S1x1)))
    (broadcast S1x1 (Scalar.ofBits .f32 0x3EF1014C#32))

/-- The first map less `l` times the second. -/
def diff (l : FVec F S1x1 .f32) (a b : FVec F S512x128 .f32) : FVec F S512x128 .f32 :=
  subf a (mulf (broadcastTo S512x128 l broadcasts_S1x1_S512x128) b)

/-- Each row over the root of its mean square, times the head's scale and the last constant. -/
def norm (d : FVec F S512x128 .f32) (g : Vec F S1x1x128 .f32) : FVec F S1x512x128 .bf16 :=
  shapeCast S1x512x128 (truncf .bf16 (mulf (mulf (mulf d (broadcastTo S512x128 (rsqrt (addf (divf (shapeCast S512x1 (multiReduction .add [1] S512 (mulf d d) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128))
    (broadcastTo S512x128 (shapeCast S1x128 g shapeCasts_S1x1x128_S1x128) broadcasts_S1x128_S512x128)) (broadcast S512x128 (Scalar.ofBits .f32 0x3F077F5A#32))) bitsLt_bf16_f32) shapeCasts_S512x128_S1x512x128

/-- A tile of queries, its lanes from 64 on cleared. -/
def lowQ (q : FVec F S512x128 .bf16) : FVec F S512x128 .bf16 := select lowMask q zeroQ

/-- A tile of queries, its lanes below 64 cleared. -/
def highQ (q : FVec F S512x128 .bf16) : FVec F S512x128 .bf16 := select lowMask zeroQ q

/-- What the body stores for one tile of queries. -/
def tile (k : Vec F S1x2304x128 .bf16) (vt : Vec F S1x128x2304 .bf16) (l : Vec F S4x64 .f32) (g : Vec F S1x1x128 .f32) (q : FVec F S512x128 .bf16) : FVec F S1x512x128 .bf16 :=
  norm (diff (lam (View.ld l r0_0)) (unit k vt (lowQ q)) (unit k vt (highQ q))) (View.ld g r0_12)

set_option maxHeartbeats 4000000 in
/-- The body's stores are the four tiles. -/
theorem out_eq (x0 x1 x2 x3 x4 x5 x6 x7 : Vec F S1x256x128 .f32) (x8 : Vec F S1x2304x128 .bf16) (x9 : Vec F S1x128x2304 .bf16) (x10 : Vec F S4x64 .f32) (x11 : Vec F S1x1x128 .f32) :
    out0_12 x0 x1 x2 x3 x4 x5 x6 x7 x8 x9 x10 x11 =
      View.canon [⟨r0_16, tile x8 x9 x10 x11 (extractStridedSlice S512x128 ![1536, 0] (rows x0 x1 x2 x3 x4 x5 x6 x7) slices_S2048x128_o1536_0_S512x128)⟩,
        ⟨r0_15, tile x8 x9 x10 x11 (extractStridedSlice S512x128 ![1024, 0] (rows x0 x1 x2 x3 x4 x5 x6 x7) slices_S2048x128_o1024_0_S512x128)⟩,
        ⟨r0_14, tile x8 x9 x10 x11 (extractStridedSlice S512x128 ![512, 0] (rows x0 x1 x2 x3 x4 x5 x6 x7) slices_S2048x128_o512_0_S512x128)⟩,
        ⟨r0_13, tile x8 x9 x10 x11 (extractStridedSlice S512x128 ![0, 0] (rows x0 x1 x2 x3 x4 x5 x6 x7) slices_S2048x128_o0_0_S512x128)⟩] := by
  rfl

end Cert.DiffUnit
-- ==== Proof.DiffRead.lean ====
/-
  The differential attention kernel's functions read at an index over the extended reals: sums and greatest values over all
  2304 keys, whatever blocks they are taken in.
-/
module

public import proofs.«01_k».proof.Proof.DiffUnit
public import Idealize.ShloMosaic.Lib.Pointwise

@[expose] public section

set_option maxRecDepth 16384

noncomputable section

open Idealize.ShloMosaic Idealize.ShloMosaic.TcCoe Idealize.SL.Sem

namespace Cert.DiffUnit

open Cert.KernelIdeal Cert.KernelIdeal.Gen

/-- A sum over 2304 keys, from nine blocks of 256 keys with the keys of each residue modulo 8 summed first. -/
theorem sum_blocks (g : Fin 2304 → EReal) :
    (∑ i : Fin 8, ((∑ x : Fin 32, g ⟨x.val * 8 + i.val, by omega⟩) + (∑ x : Fin 32, g ⟨256 + (x.val * 8 + i.val), by omega⟩) + (∑ x : Fin 32, g ⟨512 + (x.val * 8 + i.val), by omega⟩) + (∑ x : Fin 32, g ⟨768 + (x.val * 8 + i.val), by omega⟩) + (∑ x : Fin 32, g ⟨1024 + (x.val * 8 + i.val), by omega⟩) + (∑ x : Fin 32, g ⟨1280 + (x.val * 8 + i.val), by omega⟩) + (∑ x : Fin 32, g ⟨1536 + (x.val * 8 + i.val), by omega⟩) + (∑ x : Fin 32, g ⟨1792 + (x.val * 8 + i.val), by omega⟩) + (∑ x : Fin 32, g ⟨2048 + (x.val * 8 + i.val), by omega⟩))) = ∑ t, g t := by
  have blk : ∀ f : Fin 256 → EReal, (∑ i : Fin 8, ∑ x : Fin 32, f ⟨x.val * 8 + i.val, by omega⟩) = ∑ a, f a := by
    intro f
    rw [Finset.sum_comm, ← finProdFinEquiv.sum_comp (M := EReal) (ι := Fin 32 × Fin 8) (fun a : Fin (32 * 8) => f a), Fintype.sum_prod_type]
    refine Finset.sum_congr rfl fun x _ => Finset.sum_congr rfl fun i _ => congrArg f (Fin.ext ?_)
    simp [finProdFinEquiv]; omega
  have all : (∑ t, g t) = ∑ j : Fin 9, ∑ a : Fin 256, g ⟨256 * j.val + a.val, by omega⟩ := by
    rw [← finProdFinEquiv.sum_comp (M := EReal) (ι := Fin 9 × Fin 256) (fun a : Fin (9 * 256) => g a), Fintype.sum_prod_type]
    refine Finset.sum_congr rfl fun x _ => Finset.sum_congr rfl fun i _ => congrArg g (Fin.ext ?_)
    simp [finProdFinEquiv]; omega
  simp only [Finset.sum_add_distrib]
  rw [all, Fin.sum_univ_castSucc (n := 8), Fin.sum_univ_eight (fun j : Fin 8 => ∑ a : Fin 256, g ⟨256 * j.castSucc.val + a.val, by have := j.2; simp only [Fin.val_castSucc]; omega⟩)]
  rw [blk (fun a => g ⟨a.val, by omega⟩)]
  rw [blk (fun a => g ⟨256 + a.val, by omega⟩)]
  rw [blk (fun a => g ⟨512 + a.val, by omega⟩)]
  rw [blk (fun a => g ⟨768 + a.val, by omega⟩)]
  rw [blk (fun a => g ⟨1024 + a.val, by omega⟩)]
  rw [blk (fun a => g ⟨1280 + a.val, by omega⟩)]
  rw [blk (fun a => g ⟨1536 + a.val, by omega⟩)]
  rw [blk (fun a => g ⟨1792 + a.val, by omega⟩)]
  rw [blk (fun a => g ⟨2048 + a.val, by omega⟩)]
  refine congrArg₂ _ (congrArg₂ _ (congrArg₂ _ (congrArg₂ _ (congrArg₂ _ (congrArg₂ _ (congrArg₂ _ (congrArg₂ _ ?_ ?_) ?_) ?_) ?_) ?_) ?_) ?_) ?_ <;>
    exact Finset.sum_congr rfl fun a _ => congrArg g (Fin.ext (by simp))

/-- The greatest of 2304 keys, from nine blocks of 256 keys with the keys of each residue modulo 8 compared first. -/
theorem sup_blocks (g : Fin 2304 → EReal) :
    (Finset.univ.sup fun i : Fin 8 => (max (max (max (max (max (max (max (max (Finset.univ.sup fun x : Fin 32 => g ⟨x.val * 8 + i.val, by omega⟩) (Finset.univ.sup fun x : Fin 32 => g ⟨256 + (x.val * 8 + i.val), by omega⟩)) (Finset.univ.sup fun x : Fin 32 => g ⟨512 + (x.val * 8 + i.val), by omega⟩)) (Finset.univ.sup fun x : Fin 32 => g ⟨768 + (x.val * 8 + i.val), by omega⟩)) (Finset.univ.sup fun x : Fin 32 => g ⟨1024 + (x.val * 8 + i.val), by omega⟩)) (Finset.univ.sup fun x : Fin 32 => g ⟨1280 + (x.val * 8 + i.val), by omega⟩)) (Finset.univ.sup fun x : Fin 32 => g ⟨1536 + (x.val * 8 + i.val), by omega⟩)) (Finset.univ.sup fun x : Fin 32 => g ⟨1792 + (x.val * 8 + i.val), by omega⟩)) (Finset.univ.sup fun x : Fin 32 => g ⟨2048 + (x.val * 8 + i.val), by omega⟩))) = Finset.univ.sup g := by
  refine eq_of_forall_ge_iff fun c => ?_
  simp only [Finset.sup_le_iff, max_le_iff, Finset.mem_univ, true_implies]
  constructor
  · intro h t
    obtain ⟨⟨⟨⟨⟨⟨⟨⟨h0, h1⟩, h2⟩, h3⟩, h4⟩, h5⟩, h6⟩, h7⟩, h8⟩ := h ⟨t.val % 8, by omega⟩
    have := t.2
    have hj : t.val / 256 = 0 ∨ t.val / 256 = 1 ∨ t.val / 256 = 2 ∨ t.val / 256 = 3 ∨ t.val / 256 = 4 ∨ t.val / 256 = 5 ∨ t.val / 256 = 6 ∨ t.val / 256 = 7 ∨ t.val / 256 = 8 := by omega
    rcases hj with e | e | e | e | e | e | e | e | e
    · exact le_of_eq_of_le (congrArg g (Fin.ext (by show t.val = _; dsimp only; omega))) (h0 ⟨t.val % 256 / 8, by omega⟩)
    · exact le_of_eq_of_le (congrArg g (Fin.ext (by show t.val = _; dsimp only; omega))) (h1 ⟨t.val % 256 / 8, by omega⟩)
    · exact le_of_eq_of_le (congrArg g (Fin.ext (by show t.val = _; dsimp only; omega))) (h2 ⟨t.val % 256 / 8, by omega⟩)
    · exact le_of_eq_of_le (congrArg g (Fin.ext (by show t.val = _; dsimp only; omega))) (h3 ⟨t.val % 256 / 8, by omega⟩)
    · exact le_of_eq_of_le (congrArg g (Fin.ext (by show t.val = _; dsimp only; omega))) (h4 ⟨t.val % 256 / 8, by omega⟩)
    · exact le_of_eq_of_le (congrArg g (Fin.ext (by show t.val = _; dsimp only; omega))) (h5 ⟨t.val % 256 / 8, by omega⟩)
    · exact le_of_eq_of_le (congrArg g (Fin.ext (by show t.val = _; dsimp only; omega))) (h6 ⟨t.val % 256 / 8, by omega⟩)
    · exact le_of_eq_of_le (congrArg g (Fin.ext (by show t.val = _; dsimp only; omega))) (h7 ⟨t.val % 256 / 8, by omega⟩)
    · exact le_of_eq_of_le (congrArg g (Fin.ext (by show t.val = _; dsimp only; omega))) (h8 ⟨t.val % 256 / 8, by omega⟩)
  · exact fun h i => ⟨⟨⟨⟨⟨⟨⟨⟨fun _ => h _, fun _ => h _⟩, fun _ => h _⟩, fun _ => h _⟩, fun _ => h _⟩, fun _ => h _⟩, fun _ => h _⟩, fun _ => h _⟩, fun _ => h _⟩

/-- The least 32-bit float is below every extended real. -/
theorem ofBits_least : Ideal.ofBits .f32 0xFF800000#32 = ⊥ := by
  simp [Ideal.ofBits, Ideal.ieee]

/-- A greatest value folded from the least float is the supremum. -/
theorem fold_least {n : ℕ} (f : Fin n → EReal) :
    Finset.univ.fold max (Ideal.ofBits .f32 0xFF800000#32) f = Finset.univ.sup f := by
  rw [ofBits_least]; rfl

/-- The scores' greatest value over all keys. -/
theorem rowMax_apply (s0 s1 s2 s3 s4 s5 s6 s7 s8 : FVec Ideal S256x512 .f32) (S : Fin 2304 → Fin 512 → EReal) (h0 : ∀ (a : Fin 256) (r : Fin 512), s0 (ix2 a r) = S ⟨a.val, by omega⟩ r) (h1 : ∀ (a : Fin 256) (r : Fin 512), s1 (ix2 a r) = S ⟨256 + a.val, by omega⟩ r) (h2 : ∀ (a : Fin 256) (r : Fin 512), s2 (ix2 a r) = S ⟨512 + a.val, by omega⟩ r) (h3 : ∀ (a : Fin 256) (r : Fin 512), s3 (ix2 a r) = S ⟨768 + a.val, by omega⟩ r) (h4 : ∀ (a : Fin 256) (r : Fin 512), s4 (ix2 a r) = S ⟨1024 + a.val, by omega⟩ r) (h5 : ∀ (a : Fin 256) (r : Fin 512), s5 (ix2 a r) = S ⟨1280 + a.val, by omega⟩ r) (h6 : ∀ (a : Fin 256) (r : Fin 512), s6 (ix2 a r) = S ⟨1536 + a.val, by omega⟩ r) (h7 : ∀ (a : Fin 256) (r : Fin 512), s7 (ix2 a r) = S ⟨1792 + a.val, by omega⟩ r) (h8 : ∀ (a : Fin 256) (r : Fin 512), s8 (ix2 a r) = S ⟨2048 + a.val, by omega⟩ r) (r : Fin 512) :
    rowMax s0 s1 s2 s3 s4 s5 s6 s7 s8 (ix2 0 r) = Finset.univ.sup fun t => S t r := by
  rw [← sup_blocks]
  pointwise [rowMax, partMax]
  simp only [fold_least, h0, h1, h2, h3, h4, h5, h6, h7, h8]

/-- The weights' sum over all keys. -/
theorem den_apply (s0 s1 s2 s3 s4 s5 s6 s7 s8 : FVec Ideal S256x512 .f32) (S : Fin 2304 → Fin 512 → EReal) (h0 : ∀ (a : Fin 256) (r : Fin 512), s0 (ix2 a r) = S ⟨a.val, by omega⟩ r) (h1 : ∀ (a : Fin 256) (r : Fin 512), s1 (ix2 a r) = S ⟨256 + a.val, by omega⟩ r) (h2 : ∀ (a : Fin 256) (r : Fin 512), s2 (ix2 a r) = S ⟨512 + a.val, by omega⟩ r) (h3 : ∀ (a : Fin 256) (r : Fin 512), s3 (ix2 a r) = S ⟨768 + a.val, by omega⟩ r) (h4 : ∀ (a : Fin 256) (r : Fin 512), s4 (ix2 a r) = S ⟨1024 + a.val, by omega⟩ r) (h5 : ∀ (a : Fin 256) (r : Fin 512), s5 (ix2 a r) = S ⟨1280 + a.val, by omega⟩ r) (h6 : ∀ (a : Fin 256) (r : Fin 512), s6 (ix2 a r) = S ⟨1536 + a.val, by omega⟩ r) (h7 : ∀ (a : Fin 256) (r : Fin 512), s7 (ix2 a r) = S ⟨1792 + a.val, by omega⟩ r) (h8 : ∀ (a : Fin 256) (r : Fin 512), s8 (ix2 a r) = S ⟨2048 + a.val, by omega⟩ r) (r : Fin 512) :
    den s0 s1 s2 s3 s4 s5 s6 s7 s8 (ix2 0 r) = ∑ t, S t r := by
  rw [← sum_blocks]
  pointwise [den, partSum]
  simp only [h0, h1, h2, h3, h4, h5, h6, h7, h8]

/-- The values weighted by `S`, over the weights' sum. -/
theorem attend_apply (vt : Vec Ideal S1x128x2304 .bf16) (s0 s1 s2 s3 s4 s5 s6 s7 s8 : FVec Ideal S256x512 .f32) (S : Fin 2304 → Fin 512 → EReal) (h0 : ∀ (a : Fin 256) (r : Fin 512), s0 (ix2 a r) = S ⟨a.val, by omega⟩ r) (h1 : ∀ (a : Fin 256) (r : Fin 512), s1 (ix2 a r) = S ⟨256 + a.val, by omega⟩ r) (h2 : ∀ (a : Fin 256) (r : Fin 512), s2 (ix2 a r) = S ⟨512 + a.val, by omega⟩ r) (h3 : ∀ (a : Fin 256) (r : Fin 512), s3 (ix2 a r) = S ⟨768 + a.val, by omega⟩ r) (h4 : ∀ (a : Fin 256) (r : Fin 512), s4 (ix2 a r) = S ⟨1024 + a.val, by omega⟩ r) (h5 : ∀ (a : Fin 256) (r : Fin 512), s5 (ix2 a r) = S ⟨1280 + a.val, by omega⟩ r) (h6 : ∀ (a : Fin 256) (r : Fin 512), s6 (ix2 a r) = S ⟨1536 + a.val, by omega⟩ r) (h7 : ∀ (a : Fin 256) (r : Fin 512), s7 (ix2 a r) = S ⟨1792 + a.val, by omega⟩ r) (h8 : ∀ (a : Fin 256) (r : Fin 512), s8 (ix2 a r) = S ⟨2048 + a.val, by omega⟩ r) (r : Fin 512) (d : Fin 128) :
    attend vt s0 s1 s2 s3 s4 s5 s6 s7 s8 (ix2 r d) = Ideal.div (∑ t, vt (ix3 0 d t) * S t r) (∑ t, S t r) := by
  rw [← den_apply s0 s1 s2 s3 s4 s5 s6 s7 s8 S h0 h1 h2 h3 h4 h5 h6 h7 h8 r]
  pointwise [attend, lowp]
  refine congrArg (fun z => Ideal.div z _) (Finset.sum_congr rfl fun t _ => congrArg _ ?_)
  have := t.2
  simp only [h0, h1, h2, h3, h4, h5, h6, h7, h8]
  split_ifs <;> first | rfl | exact congrArg (fun t => S t r) (Fin.ext (by dsimp only; omega))

/-- One unit from its scores `S`: the values weighted by two to the scores less the greatest, over the weights' sum. -/
theorem unitOf_apply (vt : Vec Ideal S1x128x2304 .bf16) (s0 s1 s2 s3 s4 s5 s6 s7 s8 : FVec Ideal S256x512 .f32) (S : Fin 2304 → Fin 512 → EReal) (h0 : ∀ (a : Fin 256) (r : Fin 512), s0 (ix2 a r) = S ⟨a.val, by omega⟩ r) (h1 : ∀ (a : Fin 256) (r : Fin 512), s1 (ix2 a r) = S ⟨256 + a.val, by omega⟩ r) (h2 : ∀ (a : Fin 256) (r : Fin 512), s2 (ix2 a r) = S ⟨512 + a.val, by omega⟩ r) (h3 : ∀ (a : Fin 256) (r : Fin 512), s3 (ix2 a r) = S ⟨768 + a.val, by omega⟩ r) (h4 : ∀ (a : Fin 256) (r : Fin 512), s4 (ix2 a r) = S ⟨1024 + a.val, by omega⟩ r) (h5 : ∀ (a : Fin 256) (r : Fin 512), s5 (ix2 a r) = S ⟨1280 + a.val, by omega⟩ r) (h6 : ∀ (a : Fin 256) (r : Fin 512), s6 (ix2 a r) = S ⟨1536 + a.val, by omega⟩ r) (h7 : ∀ (a : Fin 256) (r : Fin 512), s7 (ix2 a r) = S ⟨1792 + a.val, by omega⟩ r) (h8 : ∀ (a : Fin 256) (r : Fin 512), s8 (ix2 a r) = S ⟨2048 + a.val, by omega⟩ r) (r : Fin 512) (d : Fin 128) :
    unitOf vt s0 s1 s2 s3 s4 s5 s6 s7 s8 (ix2 r d) =
      Ideal.div (∑ t, vt (ix3 0 d t) * Ideal.exp2 (S t r - Finset.univ.sup fun t => S t r)) (∑ t, Ideal.exp2 (S t r - Finset.univ.sup fun t => S t r)) := by
  have hm := rowMax_apply s0 s1 s2 s3 s4 s5 s6 s7 s8 S h0 h1 h2 h3 h4 h5 h6 h7 h8
  refine attend_apply vt _ _ _ _ _ _ _ _ _ (fun t r => Ideal.exp2 (S t r - Finset.univ.sup fun t => S t r)) ?_ ?_ ?_ ?_ ?_ ?_ ?_ ?_ ?_ r d <;>
    (intro a r; pointwise [weight]; simp only [hm, h0, h1, h2, h3, h4, h5, h6, h7, h8]; rfl)

/-- One unit: each query's values weighted by its scores against all the keys. -/
theorem unit_apply (k : Vec Ideal S1x2304x128 .bf16) (vt : Vec Ideal S1x128x2304 .bf16) (q : FVec Ideal S512x128 .bf16) (S : Fin 2304 → Fin 512 → EReal)
    (hS : ∀ t r, S t r = ∑ l : Fin 128, k (ix3 0 t l) * q (ix2 r l)) (r : Fin 512) (d : Fin 128) :
    unit k vt q (ix2 r d) =
      Ideal.div (∑ t, vt (ix3 0 d t) * Ideal.exp2 (S t r - Finset.univ.sup fun t => S t r)) (∑ t, Ideal.exp2 (S t r - Finset.univ.sup fun t => S t r)) := by
  have hv : ∀ t : Fin 2304, View.ld vt r0_11 (ix3 0 d t) = vt (ix3 0 d t) := by intro t; pointwise [r0_11]
  unfold unit
  rw [unitOf_apply _ _ _ _ _ _ _ _ _ _ S]
  · simp only [hv]
  · intro a r; rw [hS]; pointwise [score, r0_2]
  · intro a r; rw [hS]; pointwise [score, r0_3]
  · intro a r; rw [hS]; pointwise [score, r0_4]
  · intro a r; rw [hS]; pointwise [score, r0_5]
  · intro a r; rw [hS]; pointwise [score, r0_6]
  · intro a r; rw [hS]; pointwise [score, r0_7]
  · intro a r; rw [hS]; pointwise [score, r0_8]
  · intro a r; rw [hS]; pointwise [score, r0_9]
  · intro a r; rw [hS]; pointwise [score, r0_10]

end Cert.DiffUnit
-- ==== Proof.DiffMath.lean ====
/-
  The equations over the extended reals that the differential attention needs: a softmax over powers of two of scores scaled
  by the reciprocal of the natural logarithm of two is the softmax over exponentials of the scores.
-/
module

public import Idealize.ShloMosaic.Lib.Pointwise

@[expose] public section

noncomputable section

open Idealize.ShloMosaic

namespace Cert.DiffMath

/-- The reciprocal of the natural logarithm of two. -/
def invLog : EReal := (((Real.log 2)⁻¹ : ℝ) : EReal)

/-- The logarithm of two is positive. -/
theorem log_two_pos : 0 < Real.log 2 := Real.log_pos (by norm_num)

/-- Its reciprocal is positive. -/
theorem invLog_pos : (0 : ℝ) < (Real.log 2)⁻¹ := inv_pos.mpr log_two_pos

/-- A finite non-negative factor leaves a sum. -/
theorem sum_mul_coe {ι : Type} (s : Finset ι) (f : ι → EReal) (c : ℝ) (hc : 0 ≤ c) : (∑ i ∈ s, f i * (c : EReal)) = (∑ i ∈ s, f i) * (c : EReal) := by
  classical
  induction s using Finset.induction_on with
  | empty => simp
  | insert a s ha ih =>
    rw [Finset.sum_insert ha, Finset.sum_insert ha, ih, EReal.right_distrib_of_nonneg_of_ne_top (EReal.coe_nonneg.mpr hc) (EReal.coe_ne_top c)]

/-- Two to a score over the logarithm of two is the exponential of the score. -/
theorem exp2_scaled (x : EReal) : Ideal.exp2 (x * invLog) = Ideal.exp x := by
  induction x using EReal.rec with
  | bot => rw [invLog, EReal.bot_mul_coe_of_pos invLog_pos]; rfl
  | top => rw [invLog, EReal.top_mul_coe_of_pos invLog_pos]; rfl
  | coe r =>
    rw [invLog, ← EReal.coe_mul]
    show ((Real.rpow 2 (r * (Real.log 2)⁻¹) : ℝ) : EReal) = ((Real.exp r : ℝ) : EReal)
    have h : (2 : ℝ) ^ (r * (Real.log 2)⁻¹) = Real.exp r := by
      rw [Real.rpow_def_of_pos (by norm_num)]
      congr 1
      rw [mul_comm r, ← mul_assoc, mul_inv_cancel₀ log_two_pos.ne', one_mul]
    exact congrArg _ h

/-- A difference of scaled scores is the scaled difference. -/
theorem sub_scaled (a b : EReal) : a * invLog - b * invLog = (a - b) * invLog := by
  rw [sub_eq_add_neg, sub_eq_add_neg, ← EReal.neg_mul, invLog,
    ← EReal.right_distrib_of_nonneg_of_ne_top (EReal.coe_nonneg.mpr invLog_pos.le) (EReal.coe_ne_top _)]

/-- The greatest of the scaled scores is the scaled greatest score. -/
theorem sup_scaled {ι : Type} (s : Finset ι) (f : ι → EReal) : (s.sup fun t => f t * invLog) = s.sup f * invLog := by
  refine (Finset.comp_sup_eq_sup_comp_of_is_total (fun x : EReal => x * invLog) ?_ ?_).symm
  · exact fun a b h => mul_le_mul_of_nonneg_right h (EReal.coe_nonneg.mpr invLog_pos.le)
  · exact EReal.bot_mul_coe_of_pos invLog_pos

/-- The weights of a softmax in powers of two and in exponentials. -/
theorem weight_eq {ι : Type} (s : Finset ι) (f : ι → EReal) (t : ι) :
    Ideal.exp2 (f t * invLog - s.sup fun t => f t * invLog) = Ideal.exp (f t - s.sup f) := by
  rw [sup_scaled, sub_scaled, exp2_scaled]

/-- A score whose queries carry the scale is the scaled score. -/
theorem score_scaled (x y : Fin 64 → EReal) :
    (∑ l, y l * (x l * ((8⁻¹ * (Real.log 2)⁻¹ : ℝ) : EReal))) = (∑ l, x l * y l) * ((8⁻¹ : ℝ) : EReal) * invLog := by
  have h : ∀ l, y l * (x l * ((8⁻¹ * (Real.log 2)⁻¹ : ℝ) : EReal)) = (x l * y l) * ((8⁻¹ * (Real.log 2)⁻¹ : ℝ) : EReal) := by
    intro l; rw [← mul_assoc, mul_comm (y l)]
  rw [Finset.sum_congr rfl fun l _ => h l, sum_mul_coe _ _ _ (mul_nonneg (by norm_num) invLog_pos.le), EReal.coe_mul, ← mul_assoc]
  rfl

/-- An eighth as a float. -/
theorem ofBits_eighth : Ideal.ofBits .f32 0x3E000000#32 = ((8⁻¹ : ℝ) : EReal) := by
  simp [Ideal.ofBits, Ideal.ieee]
  rw [← EReal.coe_mul]; norm_num

/-- A sum over the first 256 keys and the other 2048. -/
theorem sum_split (f : Fin 2304 → EReal) :
    (∑ t, f t) = (∑ t : Fin 2048, f ⟨256 + t.val, by omega⟩) + ∑ t : Fin 256, f ⟨t.val, by omega⟩ :=
  (Fin.sum_univ_add (a := 256) (b := 2048) f).trans (add_comm _ _)

/-- The greatest over the first 256 keys and the other 2048. -/
theorem sup_split (f : Fin 2304 → EReal) :
    Finset.univ.sup f = max (Finset.univ.sup fun t : Fin 2048 => f ⟨256 + t.val, by omega⟩) (Finset.univ.sup fun t : Fin 256 => f ⟨t.val, by omega⟩) := by
  refine eq_of_forall_ge_iff fun c => ?_
  simp only [Finset.sup_le_iff, max_le_iff, Finset.mem_univ, true_implies]
  constructor
  · exact fun h => ⟨fun t => h _, fun t => h _⟩
  · rintro ⟨h1, h2⟩ t
    by_cases ht : t.val < 256
    · exact h2 ⟨t.val, ht⟩
    · exact le_of_eq_of_le (congrArg f (Fin.ext (by show t.val = 256 + (t.val - 256); omega))) (h1 ⟨t.val - 256, by omega⟩)

/-- One map of the differential attention: the values `V` weighted by the exponentials of the scores less the greatest,
    over the weights' sum. -/
def map (s V : Fin 2304 → EReal) : EReal :=
  Ideal.div (∑ t, V t * Ideal.exp (s t - Finset.univ.sup s)) (∑ t, Ideal.exp (s t - Finset.univ.sup s))

/-- The map in powers of two, from scaled scores. -/
theorem map_scaled (s V : Fin 2304 → EReal) :
    Ideal.div (∑ t, V t * Ideal.exp2 (s t * invLog - Finset.univ.sup fun t => s t * invLog))
      (∑ t, Ideal.exp2 (s t * invLog - Finset.univ.sup fun t => s t * invLog)) = map s V := by
  simp only [weight_eq, map]

/-- A row of the 256 context keys followed by the 2048 of the latent. -/
def keys (c : Fin 256 → EReal) (l : Fin 2048 → EReal) (t : Fin 2304) : EReal :=
  if h : t.val < 256 then c ⟨t.val, h⟩ else l ⟨t.val - 256, by omega⟩

/-- A context key. -/
theorem keys_ctx (c : Fin 256 → EReal) (l : Fin 2048 → EReal) (t : Fin 256) : keys c l ⟨t.val, by omega⟩ = c t :=
  dif_pos t.2

/-- A latent key. -/
theorem keys_lat (c : Fin 256 → EReal) (l : Fin 2048 → EReal) (t : Fin 2048) : keys c l ⟨256 + t.val, by omega⟩ = l t := by
  unfold keys
  rw [dif_neg (by dsimp only; omega)]
  exact congrArg l (Fin.ext (by dsimp only; omega))

/-- The scores of a query against the keys, over the root of the channels' number. -/
def scores (q : Fin 64 → EReal) (k : Fin 2304 → Fin 64 → EReal) (t : Fin 2304) : EReal :=
  (∑ l, q l * k t l) * ((8⁻¹ : ℝ) : EReal)

/-- Channel `l` of half `m` of head `h`. -/
def chan (h : Fin 8) (m : Fin 2) (l : Fin 64) : Fin 1024 := ⟨h.val * 128 + m.val * 64 + l.val, by omega⟩

/-- Channel `d` of head `h`. -/
def vchan (h : Fin 8) (d : Fin 128) : Fin 1024 := ⟨h.val * 128 + d.val, by omega⟩

/-- The first map less `l` times the second, over the root of the mean square, times the scale and the last constant. -/
def combine (l : EReal) (a b : Fin 128 → EReal) (g : EReal) (d : Fin 128) : EReal :=
  (a d - l * b d) * Ideal.rsqrt (Ideal.div (∑ x, (a x - l * b x) * (a x - l * b x)) (Ideal.ofBits .f32 0x43000000#32) + Ideal.ofBits .f32 0x358637BD#32)
    * g * Ideal.ofBits .f32 0x3F077F5A#32

/-- The weight of the second map. -/
def lam (q1 k1 q2 k2 : Fin 64 → EReal) : EReal :=
  Ideal.exp (∑ x, q1 x * k1 x) - Ideal.exp (∑ x, q2 x * k2 x) + Ideal.ofBits .f32 0x3EF1014C#32

end Cert.DiffMath
-- ==== Proof.DiffTile.lean ====
/-
  One tile of the differential attention kernel read at an index over the extended reals, in the terms of the plain
  mathematics: two maps of a softmax over exponentials of the scores.
-/
module

public import proofs.«01_k».proof.Proof.DiffRead
public import proofs.«01_k».proof.Proof.DiffMath

@[expose] public section

set_option maxRecDepth 16384

noncomputable section

open Idealize.ShloMosaic Idealize.ShloMosaic.TcCoe Idealize.SL.Sem

namespace Cert.DiffUnit

open Cert.KernelIdeal Cert.KernelIdeal.Gen
open Cert.DiffMath (map scores combine invLog)

/-- The scale of the queries: an eighth over the logarithm of two. -/
def scale : EReal := ((8⁻¹ * (Real.log 2)⁻¹ : ℝ) : EReal)

/-- Comparing a lane with 64. -/
theorem lane_lt : ∀ l : Fin 128, IntOp.cmpi .slt (BitVec.ofNat 32 l.val) 64#32 = if l.val < 64 then 1#1 else 0#1 := by decide

/-- The lower half of a tile of queries. -/
theorem lowQ_apply (q : FVec Ideal S512x128 .bf16) (r : Fin 512) (l : Fin 128) :
    lowQ q (ix2 r l) = if l.val < 64 then q (ix2 r l) else (0 : EReal) := by
  pointwise [lowQ, lowMask, zeroQ]
  rw [lane_lt]
  by_cases h : l.val < 64
  · rw [if_pos h, if_pos h]; rfl
  · rw [if_neg h, if_neg h]; rfl

/-- The upper half of a tile of queries. -/
theorem highQ_apply (q : FVec Ideal S512x128 .bf16) (r : Fin 512) (l : Fin 128) :
    highQ q (ix2 r l) = if l.val < 64 then (0 : EReal) else q (ix2 r l) := by
  pointwise [highQ, lowMask, zeroQ]
  rw [lane_lt]
  by_cases h : l.val < 64
  · rw [if_pos h, if_pos h]; rfl
  · rw [if_neg h, if_neg h]; rfl

/-- A sum over the lanes, half by half. -/
theorem sum_halves (f : Fin 128 → EReal) :
    (∑ l, f l) = (∑ l : Fin 64, f ⟨l.val, by omega⟩) + ∑ l : Fin 64, f ⟨64 + l.val, by omega⟩ :=
  Fin.sum_univ_add (a := 64) (b := 64) f

/-- The lower half's scores, scaled. -/
theorem lowScore (k : Vec Ideal S1x2304x128 .bf16) (q : FVec Ideal S512x128 .bf16) (r : Fin 512) (Q : Fin 64 → EReal)
    (hq : ∀ l : Fin 64, q (ix2 r ⟨l.val, by omega⟩) = Q l * scale) (t : Fin 2304) :
    (∑ l : Fin 128, k (ix3 0 t l) * lowQ q (ix2 r l) : EReal) = scores Q (fun t l => k (ix3 0 t ⟨l.val, by omega⟩)) t * invLog := by
  have h1 : ∀ l : Fin 64, (k (ix3 0 t ⟨l.val, by omega⟩) * lowQ q (ix2 r ⟨l.val, by omega⟩) : EReal) = k (ix3 0 t ⟨l.val, by omega⟩) * (Q l * scale) := by
    intro l; rw [lowQ_apply, if_pos l.2, hq]
  have h2 : ∀ l : Fin 64, (k (ix3 0 t ⟨64 + l.val, by omega⟩) * lowQ q (ix2 r ⟨64 + l.val, by omega⟩) : EReal) = 0 := by
    intro l; rw [lowQ_apply, if_neg (by simp), mul_zero]
  rw [sum_halves, Finset.sum_congr rfl fun l _ => h1 l, Finset.sum_congr rfl fun l _ => h2 l, Finset.sum_const_zero, add_zero]
  exact DiffMath.score_scaled Q fun l => k (ix3 0 t ⟨l.val, by omega⟩)

/-- The upper half's scores, scaled. -/
theorem highScore (k : Vec Ideal S1x2304x128 .bf16) (q : FVec Ideal S512x128 .bf16) (r : Fin 512) (Q : Fin 64 → EReal)
    (hq : ∀ l : Fin 64, q (ix2 r ⟨64 + l.val, by omega⟩) = Q l * scale) (t : Fin 2304) :
    (∑ l : Fin 128, k (ix3 0 t l) * highQ q (ix2 r l) : EReal) = scores Q (fun t l => k (ix3 0 t ⟨64 + l.val, by omega⟩)) t * invLog := by
  have h1 : ∀ l : Fin 64, (k (ix3 0 t ⟨64 + l.val, by omega⟩) * highQ q (ix2 r ⟨64 + l.val, by omega⟩) : EReal) = k (ix3 0 t ⟨64 + l.val, by omega⟩) * (Q l * scale) := by
    intro l; rw [highQ_apply, if_neg (by simp), hq]
  have h2 : ∀ l : Fin 64, (k (ix3 0 t ⟨l.val, by omega⟩) * highQ q (ix2 r ⟨l.val, by omega⟩) : EReal) = 0 := by
    intro l; rw [highQ_apply, if_pos l.2, mul_zero]
  rw [sum_halves, Finset.sum_congr rfl fun l _ => h1 l, Finset.sum_congr rfl fun l _ => h2 l, Finset.sum_const_zero, zero_add]
  exact DiffMath.score_scaled Q fun l => k (ix3 0 t ⟨64 + l.val, by omega⟩)

/-- A unit whose scores are scaled ones is a map. -/
theorem unit_map (k : Vec Ideal S1x2304x128 .bf16) (vt : Vec Ideal S1x128x2304 .bf16) (q : FVec Ideal S512x128 .bf16) (r : Fin 512) (d : Fin 128)
    (s : Fin 2304 → EReal) (hs : ∀ t, (∑ l : Fin 128, k (ix3 0 t l) * q (ix2 r l) : EReal) = s t * invLog) :
    unit k vt q (ix2 r d) = map s fun t => vt (ix3 0 d t) := by
  rw [unit_apply k vt q (fun t r => ∑ l : Fin 128, k (ix3 0 t l) * q (ix2 r l)) (fun _ _ => rfl) r d, ← DiffMath.map_scaled]
  simp only [hs]

/-- The weight of the second map. -/
theorem lam_apply (x : Vec Ideal S4x64 .f32) :
    lam (View.ld x r0_0) (ix2 0 0) = DiffMath.lam (fun l => x (ix2 0 l)) (fun l => x (ix2 1 l)) (fun l => x (ix2 2 l)) (fun l => x (ix2 3 l)) := by
  unfold DiffMath.lam
  pointwise [lam, r0_0]

/-- The norm of a row, at a channel. -/
theorem norm_apply (x : FVec Ideal S512x128 .f32) (g : Vec Ideal S1x1x128 .f32) (r : Fin 512) (d : Fin 128) :
    norm x (View.ld g r0_12) (ix3 0 r d) = (x (ix2 r d) * Ideal.rsqrt (Ideal.div (∑ y, x (ix2 r y) * x (ix2 r y)) (Ideal.ofBits .f32 0x43000000#32) + Ideal.ofBits .f32 0x358637BD#32)
      * g (ix3 0 0 d) * Ideal.ofBits .f32 0x3F077F5A#32 : EReal) := by
  pointwise [norm, r0_12]

/-- The difference of two maps, at a channel. -/
theorem diff_apply (l : FVec Ideal S1x1 .f32) (a b : FVec Ideal S512x128 .f32) (r : Fin 512) (d : Fin 128) :
    diff l a b (ix2 r d) = (a (ix2 r d) - l (ix2 0 0) * b (ix2 r d) : EReal) := by
  pointwise [diff]

/-- What the body stores for a row whose queries are `Q` scaled. -/
theorem tile_apply (k : Vec Ideal S1x2304x128 .bf16) (vt : Vec Ideal S1x128x2304 .bf16) (x : Vec Ideal S4x64 .f32) (g : Vec Ideal S1x1x128 .f32)
    (q : FVec Ideal S512x128 .bf16) (r : Fin 512) (d : Fin 128) (Q : Fin 128 → EReal) (hq : ∀ l : Fin 128, q (ix2 r l) = Q l * scale) :
    tile k vt x g q (ix3 0 r d) = combine (DiffMath.lam (fun l => x (ix2 0 l)) (fun l => x (ix2 1 l)) (fun l => x (ix2 2 l)) (fun l => x (ix2 3 l)))
      (fun d => map (scores (fun l => Q ⟨l.val, by omega⟩) fun t l => k (ix3 0 t ⟨l.val, by omega⟩)) fun t => vt (ix3 0 d t))
      (fun d => map (scores (fun l => Q ⟨64 + l.val, by omega⟩) fun t l => k (ix3 0 t ⟨64 + l.val, by omega⟩)) fun t => vt (ix3 0 d t))
      (g (ix3 0 0 d)) d := by
  have h1 : ∀ d, unit k vt (lowQ q) (ix2 r d) = _ := fun d => unit_map k vt (lowQ q) r d _ (lowScore k q r (fun l => Q ⟨l.val, by omega⟩) fun l => hq _)
  have h2 : ∀ d, unit k vt (highQ q) (ix2 r d) = _ := fun d => unit_map k vt (highQ q) r d _ (highScore k q r (fun l => Q ⟨64 + l.val, by omega⟩) fun l => hq _)
  unfold tile
  rw [norm_apply]
  simp only [diff_apply, h1, h2, lam_apply, combine]

/-- A block of queries, scaled. -/
theorem scaled_apply (x : Vec Ideal S1x256x128 .f32) (r : Fin 256) (l : Fin 128) : scaled x (ix2 r l) = (x (ix3 0 r l) * scale : EReal) := by
  pointwise [scaled, r0_1]
  rfl

end Cert.DiffUnit
-- ==== Proof.DiffKernel.lean ====
/-
  The differential attention kernel's result array read at an index over the extended reals, as a function of its
  arguments.
-/
module

public import proofs.«01_k».proof.Proof.DiffTile
public import proofs.«01_k».proof.Proof.Gen.KernelIdeal.Value
public import Idealize.ShloMosaic.Lib.Pipeline.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DiffKernel

open Cert.KernelIdeal Cert.KernelIdeal.Gen
open Cert.DiffMath (map scores combine keys chan vchan)
open Cert.DiffUnit (scale scaled rows tile)

/-! ## The four tiles -/

/-- The query rows from their eight blocks of 256. -/
theorem rows_apply (x0 x1 x2 x3 x4 x5 x6 x7 : Vec Ideal S1x256x128 .f32) (Q : Fin 2048 → Fin 128 → EReal)
    (h0 : ∀ (r : Fin 256) (l : Fin 128), x0 (ix3 0 r l) = Q ⟨0 + r.val, by omega⟩ l) (h1 : ∀ (r : Fin 256) (l : Fin 128), x1 (ix3 0 r l) = Q ⟨256 + r.val, by omega⟩ l) (h2 : ∀ (r : Fin 256) (l : Fin 128), x2 (ix3 0 r l) = Q ⟨512 + r.val, by omega⟩ l) (h3 : ∀ (r : Fin 256) (l : Fin 128), x3 (ix3 0 r l) = Q ⟨768 + r.val, by omega⟩ l) (h4 : ∀ (r : Fin 256) (l : Fin 128), x4 (ix3 0 r l) = Q ⟨1024 + r.val, by omega⟩ l) (h5 : ∀ (r : Fin 256) (l : Fin 128), x5 (ix3 0 r l) = Q ⟨1280 + r.val, by omega⟩ l) (h6 : ∀ (r : Fin 256) (l : Fin 128), x6 (ix3 0 r l) = Q ⟨1536 + r.val, by omega⟩ l) (h7 : ∀ (r : Fin 256) (l : Fin 128), x7 (ix3 0 r l) = Q ⟨1792 + r.val, by omega⟩ l) (n : Fin 2048) (l : Fin 128) :
    rows x0 x1 x2 x3 x4 x5 x6 x7 (ix2 n l) = (Q n l * scale : EReal) := by
  have hn := n.2
  pointwise [rows]
  simp only [DiffUnit.scaled_apply, h0, h1, h2, h3, h4, h5, h6, h7]
  split_ifs <;> exact congrArg (fun n => (Q n l * scale : EReal)) (Fin.ext (by dsimp only; omega))

/-- A write elsewhere leaves what was written before. -/
theorem canon_skip (r : Rect S1x2048x128) (w : r.shape.Idx → Elt Ideal .bf16) (L : List (View.Piece (Elt Ideal) S1x2048x128 .bf16)) (y : S1x2048x128.Idx) (h : y ∉ r.set) :
    View.canon (⟨r, w⟩ :: L) y = View.canon L y := View.canon_cons_of_not_mem _ L h

/-- Rows below 512 are not in the tile of rows from 512. -/
theorem not_mem1 (n : Fin 2048) (d : Fin 128) (h : n.val < 512) : (ix3 0 n d : S1x2048x128.Idx) ∉ r0_14.set := fun hm => by
  have h' : 512 ≤ n.val := (Rect.mem_set_unit.mp hm (1 : Fin 3)).1
  omega

/-- Rows below 1024 are not in the tile of rows from 1024. -/
theorem not_mem2 (n : Fin 2048) (d : Fin 128) (h : n.val < 1024) : (ix3 0 n d : S1x2048x128.Idx) ∉ r0_15.set := fun hm => by
  have h' : 1024 ≤ n.val := (Rect.mem_set_unit.mp hm (1 : Fin 3)).1
  omega

/-- Rows below 1536 are not in the tile of rows from 1536. -/
theorem not_mem3 (n : Fin 2048) (d : Fin 128) (h : n.val < 1536) : (ix3 0 n d : S1x2048x128.Idx) ∉ r0_16.set := fun hm => by
  have h' : 1536 ≤ n.val := (Rect.mem_set_unit.mp hm (1 : Fin 3)).1
  omega

/-- The output block at row `512 T + r` is tile `T`'s row `r`. -/
theorem out_apply (x0 x1 x2 x3 x4 x5 x6 x7 : Vec Ideal S1x256x128 .f32) (x8 : Vec Ideal S1x2304x128 .bf16) (x9 : Vec Ideal S1x128x2304 .bf16) (x10 : Vec Ideal S4x64 .f32) (x11 : Vec Ideal S1x1x128 .f32)
    (n : Fin 2048) (d : Fin 128) :
    ∃ (q : FVec Ideal S512x128 .bf16) (r : Fin 512), (∀ l : Fin 128, q (ix2 r l) = rows x0 x1 x2 x3 x4 x5 x6 x7 (ix2 n l)) ∧
      out0_12 x0 x1 x2 x3 x4 x5 x6 x7 x8 x9 x10 x11 (ix3 0 n d) = tile x8 x9 x10 x11 q (ix3 0 r d) := by
  rw [DiffUnit.out_eq]
  have hn := n.2
  by_cases h3 : 1536 ≤ n.val
  · refine ⟨extractStridedSlice S512x128 ![1536, 0] (rows x0 x1 x2 x3 x4 x5 x6 x7) slices_S2048x128_o1536_0_S512x128, ⟨n.val - 1536, by omega⟩, fun l => ?_, ?_⟩
    · pointwise
      exact congrArg (fun n => rows x0 x1 x2 x3 x4 x5 x6 x7 (ix2 n l)) (Fin.ext (by dsimp only; omega))
    · have e : (ix3 0 n d : S1x2048x128.Idx) = r0_16.emb (ix3 0 ⟨n.val - 1536, by omega⟩ d) := by
        funext a; match a with
        | ⟨0, _⟩ => rfl
        | ⟨1, _⟩ => exact Fin.ext (by show n.val = 1536 + 1 * (n.val - 1536); omega)
        | ⟨2, _⟩ => exact Fin.ext (by show d.val = 0 + 1 * d.val; omega)
      rw [e, View.canon_cons_emb]
  · skip
    by_cases h2 : 1024 ≤ n.val
    · refine ⟨extractStridedSlice S512x128 ![1024, 0] (rows x0 x1 x2 x3 x4 x5 x6 x7) slices_S2048x128_o1024_0_S512x128, ⟨n.val - 1024, by omega⟩, fun l => ?_, ?_⟩
      · pointwise
        exact congrArg (fun n => rows x0 x1 x2 x3 x4 x5 x6 x7 (ix2 n l)) (Fin.ext (by dsimp only; omega))
      · have e : (ix3 0 n d : S1x2048x128.Idx) = r0_15.emb (ix3 0 ⟨n.val - 1024, by omega⟩ d) := by
          funext a; match a with
          | ⟨0, _⟩ => rfl
          | ⟨1, _⟩ => exact Fin.ext (by show n.val = 1024 + 1 * (n.val - 1024); omega)
          | ⟨2, _⟩ => exact Fin.ext (by show d.val = 0 + 1 * d.val; omega)
        rw [canon_skip r0_16 _ _ _ (not_mem3 n d (by omega))]
        rw [e, View.canon_cons_emb]
    · skip
      by_cases h1 : 512 ≤ n.val
      · refine ⟨extractStridedSlice S512x128 ![512, 0] (rows x0 x1 x2 x3 x4 x5 x6 x7) slices_S2048x128_o512_0_S512x128, ⟨n.val - 512, by omega⟩, fun l => ?_, ?_⟩
        · pointwise
          exact congrArg (fun n => rows x0 x1 x2 x3 x4 x5 x6 x7 (ix2 n l)) (Fin.ext (by dsimp only; omega))
        · have e : (ix3 0 n d : S1x2048x128.Idx) = r0_14.emb (ix3 0 ⟨n.val - 512, by omega⟩ d) := by
            funext a; match a with
            | ⟨0, _⟩ => rfl
            | ⟨1, _⟩ => exact Fin.ext (by show n.val = 512 + 1 * (n.val - 512); omega)
            | ⟨2, _⟩ => exact Fin.ext (by show d.val = 0 + 1 * d.val; omega)
          rw [canon_skip r0_16 _ _ _ (not_mem3 n d (by omega))]
          rw [canon_skip r0_15 _ _ _ (not_mem2 n d (by omega))]
          rw [e, View.canon_cons_emb]
      · skip
        refine ⟨extractStridedSlice S512x128 ![0, 0] (rows x0 x1 x2 x3 x4 x5 x6 x7) slices_S2048x128_o0_0_S512x128, ⟨n.val - 0, by omega⟩, fun l => ?_, ?_⟩
        · pointwise
        · have e : (ix3 0 n d : S1x2048x128.Idx) = r0_13.emb (ix3 0 ⟨n.val - 0, by omega⟩ d) := by
            funext a; match a with
            | ⟨0, _⟩ => rfl
            | ⟨1, _⟩ => exact Fin.ext (by show n.val = 0 + 1 * (n.val - 0); omega)
            | ⟨2, _⟩ => exact Fin.ext (by show d.val = 0 + 1 * d.val; omega)
          rw [canon_skip r0_16 _ _ _ (not_mem3 n d (by omega))]
          rw [canon_skip r0_15 _ _ _ (not_mem2 n d (by omega))]
          rw [canon_skip r0_14 _ _ _ (not_mem1 n d (by omega))]
          rw [e, View.canon_cons_emb]

/-! ## The blocks the body reads -/

variable (m : (ℓ : Loc nD τ sig) → Buf (Elt Ideal) ℓ)

/-- The queries, keys and values as they enter the region, and the parameters, at an index. -/
theorem q_entry (c : Dev nD) (b : Fin 8) (n : Fin 2048) (j : Fin 1024) :
    (V m c main_v0 : FVec Ideal S8x2304x1024 .f32) (ix3 b ⟨256 + n.val, by omega⟩ j) = (m ((c : Thread nD τ).loc main_arg3) : FVec Ideal S8x2048x1024 .f32) (ix3 b n j) := by
  unfold V
  after_reads_at

theorem k_entry (c : Dev nD) (b : Fin 8) (n : Fin 2304) (j : Fin 1024) :
    (V m c main_v3 : FVec Ideal S8x2304x1024 .bf16) (ix3 b n j) = keys (fun t => (m ((c : Thread nD τ).loc main_arg1) : FVec Ideal S8x256x1024 .f32) (ix3 b t j)) (fun t => (m ((c : Thread nD τ).loc main_arg4) : FVec Ideal S8x2048x1024 .f32) (ix3 b t j)) n := by
  unfold keys V
  after_reads_at
  rfl

theorem vt_entry (c : Dev nD) (b : Fin 8) (n : Fin 2304) (j : Fin 1024) :
    (V m c main_v5 : FVec Ideal S8x1024x2304 .bf16) (ix3 b j n) = keys (fun t => (m ((c : Thread nD τ).loc main_arg2) : FVec Ideal S8x256x1024 .f32) (ix3 b t j)) (fun t => (m ((c : Thread nD τ).loc main_arg5) : FVec Ideal S8x2048x1024 .f32) (ix3 b t j)) n := by
  unfold keys V
  after_reads_at
  rfl

/-- One row of parameters made a row of a two-dimensional array, at an index. -/
theorem row_apply (x : FVec Ideal S64 .f32) (l : Fin 64) : broadcastInDim S1x64 ![1] bcast_S64_S1x64_1 x (ix2 0 l) = x (ix1 l) := by
  pointwise

theorem lam_entry (c : Dev nD) (l : Fin 64) :
    (V m c main_v10 : FVec Ideal S4x64 .f32) (ix2 0 l) = (m ((c : Thread nD τ).loc main_arg6) : FVec Ideal S64 .f32) (ix1 l)
    ∧ (V m c main_v10 : FVec Ideal S4x64 .f32) (ix2 1 l) = (m ((c : Thread nD τ).loc main_arg7) : FVec Ideal S64 .f32) (ix1 l)
    ∧ (V m c main_v10 : FVec Ideal S4x64 .f32) (ix2 2 l) = (m ((c : Thread nD τ).loc main_arg8) : FVec Ideal S64 .f32) (ix1 l)
    ∧ (V m c main_v10 : FVec Ideal S4x64 .f32) (ix2 3 l) = (m ((c : Thread nD τ).loc main_arg9) : FVec Ideal S64 .f32) (ix1 l) := by
  unfold V
  refine ⟨?_, ?_, ?_, ?_⟩ <;> after_reads_at <;> exact row_apply _ l

theorem hn_entry (c : Dev nD) (h : Fin 8) (d : Fin 128) : (V m c main_v11 : FVec Ideal S8x1x128 .f32) (ix3 h 0 d) = (m ((c : Thread nD τ).loc main_arg10) : FVec Ideal S1024 .f32) (ix1 (vchan h d)) := by
  entry_read
  pointwise
  rfl

/-! ## The windows' blocks: the batch entry of a grid point is the point over 8, the head its remainder -/

/-- The grid point of a batch entry and a head. -/
def point (b h : Fin 8) : Fin cfg0.N := ⟨b.val * 8 + h.val, by have e : cfg0.N = 64 := N_0; omega⟩

theorem point_div (b h : Fin 8) : (point b h).val / 8 = b.val := by unfold point; dsimp only; omega
theorem point_mod (b h : Fin 8) : (point b h).val % 8 = h.val := by unfold point; dsimp only; omega

theorem index_0 : ∀ t : Fin grid0.N, (cfg0.win 0).index t = ![t.val / 8, 0 + 1, t.val % 8] := by decide +kernel
theorem index_1 : ∀ t : Fin grid0.N, (cfg0.win 1).index t = ![t.val / 8, 1 + 1, t.val % 8] := by decide +kernel
theorem index_2 : ∀ t : Fin grid0.N, (cfg0.win 2).index t = ![t.val / 8, 2 + 1, t.val % 8] := by decide +kernel
theorem index_3 : ∀ t : Fin grid0.N, (cfg0.win 3).index t = ![t.val / 8, 3 + 1, t.val % 8] := by decide +kernel
theorem index_4 : ∀ t : Fin grid0.N, (cfg0.win 4).index t = ![t.val / 8, 4 + 1, t.val % 8] := by decide +kernel
theorem index_5 : ∀ t : Fin grid0.N, (cfg0.win 5).index t = ![t.val / 8, 5 + 1, t.val % 8] := by decide +kernel
theorem index_6 : ∀ t : Fin grid0.N, (cfg0.win 6).index t = ![t.val / 8, 6 + 1, t.val % 8] := by decide +kernel
theorem index_7 : ∀ t : Fin grid0.N, (cfg0.win 7).index t = ![t.val / 8, 7 + 1, t.val % 8] := by decide +kernel
theorem index_8 : ∀ t : Fin grid0.N, (cfg0.win 8).index t = ![t.val / 8, 0, t.val % 8] := by decide +kernel
theorem index_9 : ∀ t : Fin grid0.N, (cfg0.win 9).index t = ![t.val / 8, t.val % 8, 0] := by decide +kernel
theorem index_10 : ∀ t : Fin grid0.N, (cfg0.win 10).index t = ![0, 0] := by decide +kernel
theorem index_11 : ∀ t : Fin grid0.N, (cfg0.win 11).index t = ![t.val % 8, 0, 0] := by decide +kernel
theorem index_12 : ∀ t : Fin grid0.N, (cfg0.win 12).index t = ![t.val / 8, 0, t.val % 8] := by decide +kernel

/-- The queries' array, read where row `n` of the latents lies. -/
theorem q_at (c : Dev nD) (i : S8x2304x1024.Idx) (b : Fin 8) (n : Fin 2048) (j : Fin 1024)
    (h : (i 0).val = b.val ∧ (i 1).val = 256 + n.val ∧ (i 2).val = j.val) :
    (V m c main_v0 : FVec Ideal S8x2304x1024 .f32) i = (m ((c : Thread nD τ).loc main_arg3) : FVec Ideal S8x2048x1024 .f32) (ix3 b n j) := by
  rw [← q_entry m c b n j]
  refine congrArg (V m c main_v0 : FVec Ideal S8x2304x1024 .f32) (funext fun x => Fin.ext ?_)
  match x with
  | ⟨0, _⟩ => exact h.1
  | ⟨1, _⟩ => exact h.2.1
  | ⟨2, _⟩ => exact h.2.2

/-- Where a block of 256 rows of queries lies. -/
theorem place (b h : Fin 8) (k : Nat) (I : Fin 3 → Nat) (e : I = ![(point b h).val / 8, k + 1, (point b h).val % 8]) (a : Fin 256) (l : Fin 128) :
    I 0 * 1 + 1 * 0 = b.val ∧ I 1 * 256 + 1 * a.val = 256 + (256 * k + a.val) ∧ I 2 * 128 + 1 * l.val = h.val * 128 + l.val := by
  have hb := point_div b h
  have hh := point_mod b h
  subst e
  refine ⟨?_, ?_, ?_⟩ <;> simp [hb, hh]
  omega

/-- Block `k` of a batch entry and head, of the queries: rows `256 k` on of the latents' queries. -/
abbrev QBlock (c : Dev nD) (b h : Fin 8) (k : Nat) (hk : k < 8) (x : Vec Ideal S1x256x128 .f32) : Prop :=
  ∀ (a : Fin 256) (l : Fin 128), x (ix3 0 a l) = (m ((c : Thread nD τ).loc main_arg3) : FVec Ideal S8x2048x1024 .f32) (ix3 b ⟨256 * k + a.val, by omega⟩ (vchan h l))

theorem blk_0 (c : Dev nD) (b h : Fin 8) : QBlock m c b h 0 (by omega) (iblk m c 0 (point b h)) :=
  fun a l => q_at m c _ b ⟨256 * 0 + a.val, by omega⟩ (vchan h l) (place b h 0 _ (index_0 (point b h)) a l)
theorem blk_1 (c : Dev nD) (b h : Fin 8) : QBlock m c b h 1 (by omega) (iblk m c 1 (point b h)) :=
  fun a l => q_at m c _ b ⟨256 * 1 + a.val, by omega⟩ (vchan h l) (place b h 1 _ (index_1 (point b h)) a l)
theorem blk_2 (c : Dev nD) (b h : Fin 8) : QBlock m c b h 2 (by omega) (iblk m c 2 (point b h)) :=
  fun a l => q_at m c _ b ⟨256 * 2 + a.val, by omega⟩ (vchan h l) (place b h 2 _ (index_2 (point b h)) a l)
theorem blk_3 (c : Dev nD) (b h : Fin 8) : QBlock m c b h 3 (by omega) (iblk m c 3 (point b h)) :=
  fun a l => q_at m c _ b ⟨256 * 3 + a.val, by omega⟩ (vchan h l) (place b h 3 _ (index_3 (point b h)) a l)
theorem blk_4 (c : Dev nD) (b h : Fin 8) : QBlock m c b h 4 (by omega) (iblk m c 4 (point b h)) :=
  fun a l => q_at m c _ b ⟨256 * 4 + a.val, by omega⟩ (vchan h l) (place b h 4 _ (index_4 (point b h)) a l)
theorem blk_5 (c : Dev nD) (b h : Fin 8) : QBlock m c b h 5 (by omega) (iblk m c 5 (point b h)) :=
  fun a l => q_at m c _ b ⟨256 * 5 + a.val, by omega⟩ (vchan h l) (place b h 5 _ (index_5 (point b h)) a l)
theorem blk_6 (c : Dev nD) (b h : Fin 8) : QBlock m c b h 6 (by omega) (iblk m c 6 (point b h)) :=
  fun a l => q_at m c _ b ⟨256 * 6 + a.val, by omega⟩ (vchan h l) (place b h 6 _ (index_6 (point b h)) a l)
theorem blk_7 (c : Dev nD) (b h : Fin 8) : QBlock m c b h 7 (by omega) (iblk m c 7 (point b h)) :=
  fun a l => q_at m c _ b ⟨256 * 7 + a.val, by omega⟩ (vchan h l) (place b h 7 _ (index_7 (point b h)) a l)

/-- The keys' block. -/
theorem blk_8 (c : Dev nD) (b h : Fin 8) (a : Fin 2304) (l : Fin 128) :
    (iblk m c 8 (point b h) : FVec Ideal S1x2304x128 .bf16) (ix3 0 a l) = (V m c main_v3 : FVec Ideal S8x2304x1024 .bf16) (ix3 b a (vchan h l)) := by
  refine congrArg (V m c main_v3) (funext fun x => Fin.ext ?_)
  have e := index_8 (point b h)
  match x with
  | ⟨0, _⟩ => show (cfg0.win 8).index (point b h) 0 * 1 + 1 * 0 = b.val; rw [e]; simp [point_div]
  | ⟨1, _⟩ => show (cfg0.win 8).index (point b h) 1 * 2304 + 1 * a.val = a.val; rw [e]; simp
  | ⟨2, _⟩ => show (cfg0.win 8).index (point b h) 2 * 128 + 1 * l.val = h.val * 128 + l.val; rw [e]; simp [point_mod]

/-- The transposed values' block. -/
theorem blk_9 (c : Dev nD) (b h : Fin 8) (l : Fin 128) (a : Fin 2304) :
    (iblk m c 9 (point b h) : FVec Ideal S1x128x2304 .bf16) (ix3 0 l a) = (V m c main_v5 : FVec Ideal S8x1024x2304 .bf16) (ix3 b (vchan h l) a) := by
  refine congrArg (V m c main_v5) (funext fun x => Fin.ext ?_)
  have e := index_9 (point b h)
  match x with
  | ⟨0, _⟩ => show (cfg0.win 9).index (point b h) 0 * 1 + 1 * 0 = b.val; rw [e]; simp [point_div]
  | ⟨1, _⟩ => show (cfg0.win 9).index (point b h) 1 * 128 + 1 * l.val = h.val * 128 + l.val; rw [e]; simp [point_mod]
  | ⟨2, _⟩ => show (cfg0.win 9).index (point b h) 2 * 2304 + 1 * a.val = a.val; rw [e]; simp

/-- The mixing parameters' block, the whole array. -/
theorem blk_10 (c : Dev nD) (b h : Fin 8) (i : Fin 4) (l : Fin 64) :
    (iblk m c 10 (point b h) : FVec Ideal S4x64 .f32) (ix2 i l) = (V m c main_v10 : FVec Ideal S4x64 .f32) (ix2 i l) := by
  refine congrArg (V m c main_v10) (funext fun x => Fin.ext ?_)
  have e := index_10 (point b h)
  match x with
  | ⟨0, _⟩ => show (cfg0.win 10).index (point b h) 0 * 4 + 1 * i.val = i.val; rw [e]; simp
  | ⟨1, _⟩ => show (cfg0.win 10).index (point b h) 1 * 64 + 1 * l.val = l.val; rw [e]; simp

/-- The norm's block, a head's row. -/
theorem blk_11 (c : Dev nD) (b h : Fin 8) (l : Fin 128) :
    (iblk m c 11 (point b h) : FVec Ideal S1x1x128 .f32) (ix3 0 0 l) = (V m c main_v11 : FVec Ideal S8x1x128 .f32) (ix3 h 0 l) := by
  refine congrArg (V m c main_v11) (funext fun x => Fin.ext ?_)
  have e := index_11 (point b h)
  match x with
  | ⟨0, _⟩ => show (cfg0.win 11).index (point b h) 0 * 1 + 1 * 0 = h.val; rw [e]; simp [point_mod]
  | ⟨1, _⟩ => show (cfg0.win 11).index (point b h) 1 * 1 + 1 * 0 = 0; rw [e]; simp
  | ⟨2, _⟩ => show (cfg0.win 11).index (point b h) 2 * 128 + 1 * l.val = l.val; rw [e]; simp

/-- Where the result's block of a point lies in the result array. -/
theorem read_12 (b h : Fin 8) (y : FVec Ideal S8x2048x1024 .bf16) (n : Fin 2048) (d : Fin 128) :
    (((cfg0.win 12).blk (point b h)).view.read (Elt Ideal) y : FVec Ideal S1x2048x128 .bf16) (ix3 0 n d) = y (ix3 b n (vchan h d)) := by
  refine congrArg y (funext fun x => Fin.ext ?_)
  have e := index_12 (point b h)
  match x with
  | ⟨0, _⟩ => show (cfg0.win 12).index (point b h) 0 * 1 + 1 * 0 = b.val; rw [e]; simp [point_div]
  | ⟨1, _⟩ => show (cfg0.win 12).index (point b h) 1 * 2048 + 1 * n.val = n.val; rw [e]; simp
  | ⟨2, _⟩ => show (cfg0.win 12).index (point b h) 2 * 128 + 1 * d.val = h.val * 128 + d.val; rw [e]; simp [point_mod]

/-! ## The result -/

/-- The scores of a half `p` of a head's channels, of a latent row against the keys of the context and of the latents. -/
def sc (c : Dev nD) (b h : Fin 8) (p : Fin 2) (n : Fin 2048) : Fin 2304 → EReal :=
  scores (fun l => (m ((c : Thread nD τ).loc main_arg3) : FVec Ideal S8x2048x1024 .f32) (ix3 b n (chan h p l)))
    fun t l => keys (fun t => (m ((c : Thread nD τ).loc main_arg1) : FVec Ideal S8x256x1024 .f32) (ix3 b t (chan h p l)))
      (fun t => (m ((c : Thread nD τ).loc main_arg4) : FVec Ideal S8x2048x1024 .f32) (ix3 b t (chan h p l))) t

/-- The values of a head's channel. -/
def vals (c : Dev nD) (b h : Fin 8) (d : Fin 128) : Fin 2304 → EReal :=
  keys (fun t => (m ((c : Thread nD τ).loc main_arg2) : FVec Ideal S8x256x1024 .f32) (ix3 b t (vchan h d)))
    fun t => (m ((c : Thread nD τ).loc main_arg5) : FVec Ideal S8x2048x1024 .f32) (ix3 b t (vchan h d))

/-- What the result array holds after the run, at an index. -/
theorem final_apply (c : Dev nD) (b h : Fin 8) (n : Fin 2048) (d : Fin 128) :
    ((dats m 0 c).arrAt 12 cfg0.N : FVec Ideal S8x2048x1024 .bf16) (ix3 b n (vchan h d)) =
      combine (DiffMath.lam (fun l => (m ((c : Thread nD τ).loc main_arg6) : FVec Ideal S64 .f32) (ix1 l)) (fun l => (m ((c : Thread nD τ).loc main_arg7) : FVec Ideal S64 .f32) (ix1 l))
          (fun l => (m ((c : Thread nD τ).loc main_arg8) : FVec Ideal S64 .f32) (ix1 l)) (fun l => (m ((c : Thread nD τ).loc main_arg9) : FVec Ideal S64 .f32) (ix1 l)))
        (fun d => map (sc m c b h 0 n) (vals m c b h d)) (fun d => map (sc m c b h 1 n) (vals m c b h d))
        ((m ((c : Thread nD τ).loc main_arg10) : FVec Ideal S1024 .f32) (ix1 (vchan h d))) d := by
  refine (read_12 b h ((dats m 0 c).arrAt 12 cfg0.N) n d).symm.trans ?_
  rw [Value.blocks12 m c (point b h) (flush0_12 (point b h)), Value.flushed12]
  obtain ⟨q, r, hq, e⟩ := out_apply (iblk m c 0 (point b h)) (iblk m c 1 (point b h)) (iblk m c 2 (point b h)) (iblk m c 3 (point b h)) (iblk m c 4 (point b h)) (iblk m c 5 (point b h)) (iblk m c 6 (point b h)) (iblk m c 7 (point b h)) (iblk m c 8 (point b h)) (iblk m c 9 (point b h)) (iblk m c 10 (point b h)) (iblk m c 11 (point b h)) n d
  refine Eq.trans e ?_
  rw [DiffUnit.tile_apply _ _ _ _ q r d (fun l => (m ((c : Thread nD τ).loc main_arg3) : FVec Ideal S8x2048x1024 .f32) (ix3 b n (vchan h l))) fun l => (hq l).trans
    (rows_apply _ _ _ _ _ _ _ _ (fun n l => (m ((c : Thread nD τ).loc main_arg3) : FVec Ideal S8x2048x1024 .f32) (ix3 b n (vchan h l)))
      (blk_0 m c b h) (blk_1 m c b h) (blk_2 m c b h) (blk_3 m c b h) (blk_4 m c b h) (blk_5 m c b h) (blk_6 m c b h) (blk_7 m c b h) n l)]
  have c0 : ∀ l : Fin 64, vchan h ⟨l.val, by omega⟩ = chan h 0 l := fun l => Fin.ext (by simp [vchan, chan])
  have c1 : ∀ l : Fin 64, vchan h ⟨64 + l.val, by omega⟩ = chan h 1 l := fun l => Fin.ext (by simp [vchan, chan]; omega)
  simp only [blk_8 m c b h, blk_9 m c b h, blk_10 m c b h, blk_11 m c b h, k_entry m c, vt_entry m c, hn_entry m c, (lam_entry m c _).1, (lam_entry m c _).2.1, (lam_entry m c _).2.2.1,
    (lam_entry m c _).2.2.2, c0, c1]
  rfl

end Cert.DiffKernel
-- ==== Proof.DiffRef.lean ====
/-
  The reference's differential attention read at an index over the extended reals.
-/
module

public import proofs.«01_k».proof.Proof.Gen.ReferenceIdeal.Read
public import proofs.«01_k».proof.Proof.DiffMath

@[expose] public section

set_option maxRecDepth 16384

noncomputable section

open Idealize.ShloMosaic Idealize.ShloMosaic.TcCoe Idealize.SL.Sem

namespace Cert.DiffRef

open Cert.ReferenceIdeal Cert.ReferenceIdeal.Gen Cert.ReferenceIdeal.Read Cert.DiffMath

variable (x1 x2 : FVec Ideal S8x256x1024 .f32) (x3 x4 x5 : FVec Ideal S8x2048x1024 .f32) (x6 x7 x8 x9 : FVec Ideal S64 .f32) (x10 : FVec Ideal S1024 .f32)

/-- A float folded from the least one by the greater of two is the supremum. -/
theorem fold_least {n : ℕ} (f : Fin n → EReal) :
    Finset.univ.fold max (Ideal.ofBits .f32 0xFF800000#32) f = Finset.univ.sup f := by
  have h : Ideal.ofBits .f32 0xFF800000#32 = ⊥ := by simp [Ideal.ofBits, Ideal.ieee]
  rw [h]; rfl

/-- The host's exponential at a number. -/
theorem hexp (a : EReal) : FloatOps.hostUnary (F := Ideal) (φ := .f32) .exp a = Ideal.exp a := rfl

/-- The host's reciprocal root at a number. -/
theorem hrsqrt (a : EReal) : FloatOps.hostUnary (F := Ideal) (φ := .f32) .rsqrt a = Ideal.rsqrt a := rfl

/-- The scores of query `n` in half `m` of head `h`. -/
def sc (b h : Fin 8) (m : Fin 2) (n : Fin 2048) : Fin 2304 → EReal :=
  scores (fun l => x3 (ix3 b n (chan h m l))) (fun t l => keys (fun t => x1 (ix3 b t (chan h m l))) (fun t => x4 (ix3 b t (chan h m l))) t)

/-- The latent scores. -/
theorem lat_apply (b h : Fin 8) (m : Fin 2) (n t : Fin 2048) :
    val_main_v15 (F := Ideal) x3 x4 (ix5 b h m n t) = sc x1 x3 x4 b h m n ⟨256 + t.val, by omega⟩ := by
  simp only [sc, scores, keys_lat, ← ofBits_eighth, chan]
  pointwise [val_main_v15, val_main_v14, val_main_cst_2, val_main_v13, val_main_v10, val_main_v11]

/-- The context scores. -/
theorem ctx_apply (b h : Fin 8) (m : Fin 2) (n : Fin 2048) (t : Fin 256) :
    val_main_v18 (F := Ideal) x1 x3 (ix5 b h m n t) = sc x1 x3 x4 b h m n ⟨t.val, by omega⟩ := by
  simp only [sc, scores, keys_ctx, ← ofBits_eighth, chan]
  pointwise [val_main_v18, val_main_v17, val_main_cst_3, val_main_v16, val_main_v10, val_main_v8]

/-- The greatest score. -/
theorem max_apply (b h : Fin 8) (m : Fin 2) (n : Fin 2048) :
    val_main_v21 (F := Ideal) x1 x3 x4 (ix4 b h m n) = Finset.univ.sup (sc x1 x3 x4 b h m n) := by
  have h1 : val_main_v19 (F := Ideal) x3 x4 (ix4 b h m n) = Finset.univ.sup fun t : Fin 2048 => sc x1 x3 x4 b h m n ⟨256 + t.val, by omega⟩ := by
    pointwise [val_main_v19, val_main_cst_4]
    rw [fold_least]
    simp only [lat_apply x1]
  have h2 : val_main_v20 (F := Ideal) x1 x3 (ix4 b h m n) = Finset.univ.sup fun t : Fin 256 => sc x1 x3 x4 b h m n ⟨t.val, by omega⟩ := by
    pointwise [val_main_v20, val_main_cst_5]
    rw [fold_least]
    simp only [ctx_apply x1 x3 x4]
  rw [sup_split, ← h1, ← h2, val_main_v21_apply, Ideal.maximumf_def]

/-- The latent weights. -/
theorem latW_apply (b h : Fin 8) (m : Fin 2) (n t : Fin 2048) :
    val_main_v25 (F := Ideal) x1 x3 x4 (ix5 b h m n t) =
      Ideal.exp (sc x1 x3 x4 b h m n ⟨256 + t.val, by omega⟩ - Finset.univ.sup (sc x1 x3 x4 b h m n)) := by
  have hm : val_main_v23 (F := Ideal) x1 x3 x4 (ix5 b h m n t) = val_main_v21 (F := Ideal) x1 x3 x4 (ix4 b h m n) := by
    pointwise [val_main_v23, val_main_v22]
  rw [val_main_v25_apply, val_main_v24_apply, hm, max_apply, lat_apply x1, hexp, Ideal.subf_def]

/-- The context weights. -/
theorem ctxW_apply (b h : Fin 8) (m : Fin 2) (n : Fin 2048) (t : Fin 256) :
    val_main_v28 (F := Ideal) x1 x3 x4 (ix5 b h m n t) =
      Ideal.exp (sc x1 x3 x4 b h m n ⟨t.val, by omega⟩ - Finset.univ.sup (sc x1 x3 x4 b h m n)) := by
  have hm : val_main_v26 (F := Ideal) x1 x3 x4 (ix5 b h m n t) = val_main_v21 (F := Ideal) x1 x3 x4 (ix4 b h m n) := by
    pointwise [val_main_v26, val_main_v22]
  rw [val_main_v28_apply, val_main_v27_apply, hm, max_apply, ctx_apply x1 x3 x4, hexp, Ideal.subf_def]

/-- One map: the values weighted by the softmax of the scores. -/
theorem map_apply (b h : Fin 8) (m : Fin 2) (n : Fin 2048) (d : Fin 128) :
    val_main_v40 (F := Ideal) x1 x2 x3 x4 x5 (ix5 b n h m d) =
      DiffMath.map (sc x1 x3 x4 b h m n) (keys (fun t => x2 (ix3 b t (vchan h d))) (fun t => x5 (ix3 b t (vchan h d)))) := by
  unfold DiffMath.map
  rw [sum_split, sum_split]
  simp only [keys_lat, keys_ctx, vchan]
  pointwise [val_main_v40, val_main_v36, val_main_v33, val_main_v35, val_main_v39, val_main_v38, val_main_v37, val_main_v31, val_main_v32, val_main_v12, val_main_v34, val_main_v9, val_main_v29, val_main_v30, val_main_cst_6, val_main_cst_7]
  simp only [latW_apply, ctxW_apply]

/-- The weight of the second map. -/
theorem lam_apply (i : S_.Idx) :
    val_main_v7 (F := Ideal) x6 x7 x8 x9 i = DiffMath.lam (fun l => x6 (ix1 l)) (fun l => x7 (ix1 l)) (fun l => x8 (ix1 l)) (fun l => x9 (ix1 l)) := by
  have h1 : val_main_v1 (F := Ideal) x6 x7 i = ∑ l, x6 (ix1 l) * x7 (ix1 l) := by
    pointwise [val_main_v1, val_main_v0, val_main_cst]
  have h2 : val_main_v4 (F := Ideal) x8 x9 i = ∑ l, x8 (ix1 l) * x9 (ix1 l) := by
    pointwise [val_main_v4, val_main_v3, val_main_cst_0]
  rw [val_main_v7_apply, val_main_v6_apply, val_main_v2_apply, val_main_v5_apply, h1, h2, val_main_cst_1_apply, Ideal.addf_def, Ideal.subf_def, hexp, hexp, DiffMath.lam, Ideal.ofBits_def]

/-- The first of two maps. -/
theorem half0 (y : FVec Ideal S8x2048x8x2x128 .f32) (b h : Fin 8) (n : Fin 2048) (d : Fin 128) :
    shapeCast S8x2048x8x128 (extractStridedSlice S8x2048x8x1x128 ![0, 0, 0, 0, 0] y slices_S8x2048x8x2x128_S8x2048x8x1x128_0_0_0_0_0) shapeCasts_S8x2048x8x1x128_S8x2048x8x128 (ix4 b n h d) = y (ix5 b n h 0 d) := by
  pointwise

/-- The second of two maps. -/
theorem half1 (y : FVec Ideal S8x2048x8x2x128 .f32) (b h : Fin 8) (n : Fin 2048) (d : Fin 128) :
    shapeCast S8x2048x8x128 (extractStridedSlice S8x2048x8x1x128 ![0, 0, 0, 1, 0] y slices_S8x2048x8x2x128_S8x2048x8x1x128_0_0_0_1_0) shapeCasts_S8x2048x8x1x128_S8x2048x8x128 (ix4 b n h d) = y (ix5 b n h 1 d) := by
  pointwise

/-- A number at every index. -/
theorem spread (y : FVec Ideal S_ .f32) (b h : Fin 8) (n : Fin 2048) (d : Fin 128) :
    broadcastInDim S8x2048x8x128 ![] bcast_S_S8x2048x8x128 y (ix4 b n h d) = y ix0 := by
  pointwise

/-- The root of the mean square of a row. -/
theorem root (z : FVec Ideal S8x2048x8x128 .f32) (b h : Fin 8) (n : Fin 2048) :
    (addf (Host.divf (broadcastInDim S8x2048x8x1 ![0, 1, 2] bcast_S8x2048x8_S8x2048x8x1_0_1_2 (Host.reduceAdd (mulf z z) (val_main_cst_8 (F := Ideal)) reducesTo_S8x2048x8x128_S8x2048x8_d3 h_S_)) (val_main_v51 (F := Ideal))) (val_main_v53 (F := Ideal)) : FVec Ideal S8x2048x8x1 .f32) (ix4 b n h 0) =
      (Ideal.div (∑ x, z (ix4 b n h x) * z (ix4 b n h x)) (Ideal.ofBits .f32 0x43000000#32) + Ideal.ofBits .f32 0x358637BD#32 : EReal) := by
  pointwise [val_main_v53, val_main_v51, val_main_cst_8, val_main_cst_9, val_main_cst_10]

/-- A row's number at each of its channels. -/
theorem along (y : FVec Ideal S8x2048x8x1 .f32) (b h : Fin 8) (n : Fin 2048) (d : Fin 128) :
    broadcastInDim S8x2048x8x128 ![0, 1, 2, 3] bcast_S8x2048x8x1_S8x2048x8x128_0_1_2_3 y (ix4 b n h d) = y (ix4 b n h 0) := by
  pointwise

/-- The difference of the two maps. -/
theorem diff_apply (b h : Fin 8) (n : Fin 2048) (d : Fin 128) :
    val_main_v47 (F := Ideal) x1 x2 x3 x4 x5 x6 x7 x8 x9 (ix4 b n h d) =
      val_main_v40 (F := Ideal) x1 x2 x3 x4 x5 (ix5 b n h 0 d) - val_main_v7 (F := Ideal) x6 x7 x8 x9 ix0 * val_main_v40 (F := Ideal) x1 x2 x3 x4 x5 (ix5 b n h 1 d) := by
  have h1 : val_main_v42 (F := Ideal) x1 x2 x3 x4 x5 (ix4 b n h d) = _ := half0 (val_main_v40 (F := Ideal) x1 x2 x3 x4 x5) b h n d
  have h2 : val_main_v44 (F := Ideal) x1 x2 x3 x4 x5 (ix4 b n h d) = _ := half1 (val_main_v40 (F := Ideal) x1 x2 x3 x4 x5) b h n d
  have h3 : val_main_v45 (F := Ideal) x6 x7 x8 x9 (ix4 b n h d) = _ := spread (val_main_v7 (F := Ideal) x6 x7 x8 x9) b h n d
  rw [val_main_v47_apply, val_main_v46_apply, h1, h2, h3, Ideal.subf_def, Ideal.mulf_def]

/-- The root of the mean square of a row of the difference. -/
theorem root_apply (b h : Fin 8) (n : Fin 2048) (d : Fin 128) :
    val_main_v56 (F := Ideal) x1 x2 x3 x4 x5 x6 x7 x8 x9 (ix4 b n h d) =
      Ideal.rsqrt (Ideal.div (∑ x, val_main_v47 (F := Ideal) x1 x2 x3 x4 x5 x6 x7 x8 x9 (ix4 b n h x) * val_main_v47 (F := Ideal) x1 x2 x3 x4 x5 x6 x7 x8 x9 (ix4 b n h x)) (Ideal.ofBits .f32 0x43000000#32) + Ideal.ofBits .f32 0x358637BD#32) := by
  have h1 : val_main_v56 (F := Ideal) x1 x2 x3 x4 x5 x6 x7 x8 x9 (ix4 b n h d) = _ := along (val_main_v55 (F := Ideal) x1 x2 x3 x4 x5 x6 x7 x8 x9) b h n d
  have h2 : val_main_v54 (F := Ideal) x1 x2 x3 x4 x5 x6 x7 x8 x9 (ix4 b n h 0) = _ := root (val_main_v47 (F := Ideal) x1 x2 x3 x4 x5 x6 x7 x8 x9) b h n
  rw [h1, val_main_v55_apply, h2, hrsqrt]

/-- The reference's result at channel `d` of head `h`. -/
theorem out_apply (b h : Fin 8) (n : Fin 2048) (d : Fin 128) :
    val_main_v65 (F := Ideal) x1 x2 x3 x4 x5 x6 x7 x8 x9 x10 (ix3 b n (vchan h d)) =
      combine (DiffMath.lam (fun l => x6 (ix1 l)) (fun l => x7 (ix1 l)) (fun l => x8 (ix1 l)) (fun l => x9 (ix1 l)))
        (fun d => DiffMath.map (sc x1 x3 x4 b h 0 n) (keys (fun t => x2 (ix3 b t (vchan h d))) (fun t => x5 (ix3 b t (vchan h d)))))
        (fun d => DiffMath.map (sc x1 x3 x4 b h 1 n) (keys (fun t => x2 (ix3 b t (vchan h d))) (fun t => x5 (ix3 b t (vchan h d)))))
        (x10 (ix1 (vchan h d))) d := by
  have h1 : val_main_v64 (F := Ideal) x1 x2 x3 x4 x5 x6 x7 x8 x9 x10 (ix3 b n (vchan h d)) = val_main_v63 (F := Ideal) x1 x2 x3 x4 x5 x6 x7 x8 x9 x10 (ix4 b n h d) := by
    pointwise [val_main_v64]
    exact congrArg₂ (fun h d => val_main_v63 (F := Ideal) x1 x2 x3 x4 x5 x6 x7 x8 x9 x10 (ix4 b n h d))
      (Fin.ext (by show (h.val * 128 + d.val) / 128 = h.val; omega)) (Fin.ext (by show (h.val * 128 + d.val) % 128 = d.val; omega))
  have h2 : val_main_v60 (F := Ideal) x10 (ix4 b n h d) = x10 (ix1 (vchan h d)) := by
    simp only [vchan]
    pointwise [val_main_v60, val_main_v59, val_main_v58]
  have h3 : val_main_v62 (F := Ideal) (ix4 b n h d) = Ideal.ofBits .f32 0x3F077F5A#32 := by
    pointwise [val_main_v62, val_main_cst_11]
  have h4 : ∀ d, val_main_v47 (F := Ideal) x1 x2 x3 x4 x5 x6 x7 x8 x9 (ix4 b n h d) = _ := fun d => diff_apply x1 x2 x3 x4 x5 x6 x7 x8 x9 b h n d
  rw [val_main_v65_apply, Ideal.truncf_def, h1, val_main_v63_apply, val_main_v61_apply, val_main_v57_apply, h2, h3, root_apply]
  simp only [h4, map_apply, lam_apply, Ideal.mulf_def, combine]

end Cert.DiffRef
-- ==== Proof.DiffEq.lean ====
/-
  The differential attention: kernel and reference end with one array.
-/
module

public import proofs.«01_k».proof.Proof.DiffKernel
public import proofs.«01_k».proof.Proof.DiffRef

@[expose] public section

noncomputable section

open Idealize.ShloMosaic Idealize.ShloMosaic.TcCoe Idealize.SL.Sem

namespace Cert.DiffEq

open Cert.DiffMath

/-- Every index of the result is a batch entry, a row and a channel of a head. -/
theorem index_form (i : Cert.KernelIdeal.S8x2048x1024.Idx) : ∃ (b h : Fin 8) (n : Fin 2048) (d : Fin 128), i = ix3 b n (vchan h d) := by
  have h2 : (i 2).val < 1024 := (i 2).isLt
  refine ⟨i 0, ⟨(i 2).val / 128, by omega⟩, i 1, ⟨(i 2).val % 128, by omega⟩, funext fun x => ?_⟩
  match x with
  | ⟨0, _⟩ => rfl
  | ⟨1, _⟩ => rfl
  | ⟨2, _⟩ => exact Fin.ext (by show (i 2).val = (i 2).val / 128 * 128 + (i 2).val % 128; omega)

/-- The kernel's result array is the reference's, of the same arguments. -/
theorem final_eq (m : (ℓ : Loc Cert.KernelIdeal.nD Cert.KernelIdeal.τ Cert.KernelIdeal.sig) → Buf (Elt Ideal) ℓ) (c : Dev Cert.KernelIdeal.nD) :
    ((Cert.KernelIdeal.Gen.dats m 0 c).arrAt 12 Cert.KernelIdeal.cfg0.N : FVec Ideal Cert.KernelIdeal.S8x2048x1024 .bf16) =
      Cert.ReferenceIdeal.Read.val_main_v65 (F := Ideal) (m ((c : Thread Cert.KernelIdeal.nD Cert.KernelIdeal.τ).loc Cert.KernelIdeal.main_arg1))
        (m ((c : Thread Cert.KernelIdeal.nD Cert.KernelIdeal.τ).loc Cert.KernelIdeal.main_arg2)) (m ((c : Thread Cert.KernelIdeal.nD Cert.KernelIdeal.τ).loc Cert.KernelIdeal.main_arg3))
        (m ((c : Thread Cert.KernelIdeal.nD Cert.KernelIdeal.τ).loc Cert.KernelIdeal.main_arg4)) (m ((c : Thread Cert.KernelIdeal.nD Cert.KernelIdeal.τ).loc Cert.KernelIdeal.main_arg5))
        (m ((c : Thread Cert.KernelIdeal.nD Cert.KernelIdeal.τ).loc Cert.KernelIdeal.main_arg6)) (m ((c : Thread Cert.KernelIdeal.nD Cert.KernelIdeal.τ).loc Cert.KernelIdeal.main_arg7))
        (m ((c : Thread Cert.KernelIdeal.nD Cert.KernelIdeal.τ).loc Cert.KernelIdeal.main_arg8)) (m ((c : Thread Cert.KernelIdeal.nD Cert.KernelIdeal.τ).loc Cert.KernelIdeal.main_arg9))
        (m ((c : Thread Cert.KernelIdeal.nD Cert.KernelIdeal.τ).loc Cert.KernelIdeal.main_arg10)) := by
  funext i
  obtain ⟨b, h, n, d, rfl⟩ := index_form i
  exact (DiffKernel.final_apply m c b h n d).trans (DiffRef.out_apply _ _ _ _ _ _ _ _ _ _ b h n d).symm

end Cert.DiffEq
-- ==== Proof.PostUnit.lean ====
/-
  The end of a layer, written as a few functions of a tile of 256 rows: the gated norm of the two directions' outputs, the
  projection with its residual, the modulated norm, the squared-relu feed-forward taken in four chunks of its channels with
  its residual, and the last norm. The kernel bodies are stated to be these functions in the modules that read them.
-/
module

public import proofs.«01_k».proof.Proof.Gen.LastIdeal.Frame
public import Idealize.ShloMosaic.Lib.Pointwise

@[expose] public section

set_option maxRecDepth 16384

noncomputable section

open Idealize.ShloMosaic Idealize.ShloMosaic.TcCoe Idealize.SL.Sem

namespace Cert.PostUnit

open Cert.LastIdeal Cert.LastIdeal.Gen

variable {F : FTy → Type} [FloatOps F] [Named F]

/-- One row of numbers, at each of 256 rows. -/
def spread (x : FVec F S1x1024 .f32) : FVec F S256x1024 .f32 := broadcastTo S256x1024 x broadcasts_S1x1024_S256x1024

/-- One over the root of each row's mean square, at each of the row's channels. -/
def inverseRoot (x : FVec F S256x1024 .f32) : FVec F S256x1024 .f32 :=
  broadcastTo S256x1024 (rsqrt (addf (divf (shapeCast S256x1 (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024

/-- The rows over the roots of their mean squares, times a row of weights. -/
def norm (x : FVec F S256x1024 .f32) (g : Vec F S1x1024 .f32) : FVec F S256x1024 .f32 :=
  mulf (mulf x (inverseRoot x)) (spread (shapeCast S1x1024 (View.ld g r0_19) shapeCasts_S1x1024_S1x1024))

/-- One head of the two directions' sum, normed over its channels, weighted and gated. -/
def gate (f b o : Vec F S1x256x128 .bf16) (g : Vec F S1x128 .f32) : FVec F S256x128 .bf16 :=
  let s : FVec F S256x128 .f32 := addf (extf .f32 (shapeCast S256x128 f shapeCasts_S1x256x128_S256x128) bitsLt_bf16_f32) (extf .f32 (shapeCast S256x128 b shapeCasts_S1x256x128_S256x128) bitsLt_bf16_f32)
  truncf .bf16 (mulf (mulf (mulf s (broadcastTo S256x128 (rsqrt (addf (divf (shapeCast S256x1 (multiReduction .add [1] S256 (mulf s s) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128))
    (logistic (extf .f32 (shapeCast S256x128 o shapeCasts_S1x256x128_S256x128) bitsLt_bf16_f32))) bitsLt_bf16_f32

/-- The eight heads side by side. -/
def gated (f b o : Vec F S1x256x1024 .bf16) (g : Vec F S1x1024 .f32) : FVec F S256x1024 .bf16 :=
  concatenate S256x1024 1 [⟨S256x128, gate (View.ld f r0_2) (View.ld b r0_2) (View.ld o r0_2) (View.ld g r0_3)⟩, ⟨S256x128, gate (View.ld f r0_4) (View.ld b r0_4) (View.ld o r0_4) (View.ld g r0_5)⟩,
    ⟨S256x128, gate (View.ld f r0_6) (View.ld b r0_6) (View.ld o r0_6) (View.ld g r0_7)⟩, ⟨S256x128, gate (View.ld f r0_8) (View.ld b r0_8) (View.ld o r0_8) (View.ld g r0_9)⟩,
    ⟨S256x128, gate (View.ld f r0_10) (View.ld b r0_10) (View.ld o r0_10) (View.ld g r0_11)⟩, ⟨S256x128, gate (View.ld f r0_12) (View.ld b r0_12) (View.ld o r0_12) (View.ld g r0_13)⟩,
    ⟨S256x128, gate (View.ld f r0_14) (View.ld b r0_14) (View.ld o r0_14) (View.ld g r0_15)⟩, ⟨S256x128, gate (View.ld f r0_16) (View.ld b r0_16) (View.ld o r0_16) (View.ld g r0_17)⟩]
    concatenates_S256x128_S256x128_S256x128_S256x128_S256x128_S256x128_S256x128_S256x128_S256x1024_d1

/-- The modulation's row. -/
def row (mod : Vec F S1x1x6144 .f32) : FVec F S1x6144 .f32 := shapeCast S1x6144 (View.ld mod r0_1) shapeCasts_S1x1x6144_S1x6144

/-- A tile of activations. -/
def tileOf (x : Vec F S1x256x1024 .f32) : FVec F S256x1024 .f32 := shapeCast S256x1024 (View.ld x r0_0) shapeCasts_S1x256x1024_S256x1024

/-- A tile of a mixer's rounded outputs. -/
def mixOf (x : Vec F S1x256x1024 .bf16) : FVec F S256x1024 .bf16 := shapeCast S256x1024 (View.ld x r0_0) shapeCasts_S1x256x1024_S256x1024

/-- The residual after the projection of the mixed rows. -/
def residual (h : FVec F S256x1024 .f32) (mod : FVec F S1x6144 .f32) (mix : FVec F S256x1024 .bf16) (w : Vec F S1x1024x1024 .bf16) : FVec F S256x1024 .f32 :=
  addf h (mulf (spread (extractStridedSlice S1x1024 ![0, 2048] mod slices_S1x6144_o0_2048_S1x1024))
    (matmul dot_S256x1024_S1024x1024_S256x1024_1_0_0_1_n_n none mix (shapeCast S1024x1024 (View.ld w r0_18) shapeCasts_S1x1024x1024_S1024x1024) (constant S256x1024 .f32 0x00000000#32)))

/-- The norm's rows, scaled and shifted by the modulation. -/
def modulated (x : FVec F S256x1024 .f32) (mod : FVec F S1x6144 .f32) (g : Vec F S1x1024 .f32) : FVec F S256x1024 .bf16 :=
  truncf .bf16 (addf (mulf (norm x g) (spread (addf (broadcast S1x1024 (Scalar.ofBits .f32 0x3F800000#32)) (extractStridedSlice S1x1024 ![0, 4096] mod slices_S1x6144_o0_4096_S1x1024))))
    (spread (extractStridedSlice S1x1024 ![0, 3072] mod slices_S1x6144_o0_3072_S1x1024))) bitsLt_bf16_f32

/-- One chunk of the feed-forward: 1024 of its channels. -/
def chunk (u : FVec F S256x1024 .bf16) (a b : Vec F S1x1024x1024 .bf16) : FVec F S256x1024 .f32 :=
  let t : FVec F S256x1024 .f32 := maximumf (matmul dot_S256x1024_S1024x1024_S256x1024_1_0_0_1_n_n none u (shapeCast S1024x1024 a shapeCasts_S1x1024x1024_S1024x1024) (constant S256x1024 .f32 0x00000000#32)) (broadcast S256x1024 (Scalar.ofBits .f32 0x00000000#32))
  matmul dot_S256x1024_S1024x1024_S256x1024_1_0_0_1_n_n none (truncf .bf16 (mulf t t) bitsLt_bf16_f32) (shapeCast S1024x1024 b shapeCasts_S1x1024x1024_S1024x1024) (constant S256x1024 .f32 0x00000000#32)

/-- The feed-forward, its four chunks added up. -/
def feed (u : FVec F S256x1024 .bf16) (w1 : Vec F S1x1024x4096 .bf16) (w2 : Vec F S1x4096x1024 .bf16) : FVec F S256x1024 .f32 :=
  addf (addf (addf (chunk u (View.ld w1 r0_20) (View.ld w2 r0_21)) (chunk u (View.ld w1 r0_22) (View.ld w2 r0_23))) (chunk u (View.ld w1 r0_24) (View.ld w2 r0_25))) (chunk u (View.ld w1 r0_26) (View.ld w2 r0_27))

/-- The rows after the feed-forward and its residual. -/
def ended (x : FVec F S256x1024 .f32) (mod : FVec F S1x6144 .f32) (g : Vec F S1x1024 .f32) (w1 : Vec F S1x1024x4096 .bf16) (w2 : Vec F S1x4096x1024 .bf16) : FVec F S256x1024 .f32 :=
  addf x (mulf (spread (extractStridedSlice S1x1024 ![0, 5120] mod slices_S1x6144_o0_5120_S1x1024)) (feed (modulated x mod g) w1 w2))

/-- A tile stored as a block. -/
def stored (x : FVec F S256x1024 .f32) : Vec F S1x256x1024 .f32 := shapeCast S1x256x1024 x shapeCasts_S256x1024_S1x256x1024

/-- A whole tile of the end of a layer: its rows and its mixed rows. -/
def layer (h : Vec F S1x256x1024 .f32) (mod : Vec F S1x1x6144 .f32) (mix : FVec F S256x1024 .bf16) (w : Vec F S1x1024x1024 .bf16) (g : Vec F S1x1024 .f32) (w1 : Vec F S1x1024x4096 .bf16) (w2 : Vec F S1x4096x1024 .bf16) : FVec F S256x1024 .f32 :=
  ended (residual (tileOf h) (row mod) mix w) (row mod) g w1 w2

end Cert.PostUnit
-- ==== Proof.PostMath.lean ====
/-
  The end of a layer in plain mathematics over the extended reals, row by row: a norm, the gated sum of two directions, the
  projection and the feed-forward with their residuals.
-/
module

public import Idealize.ShloMosaic.Lib.Pointwise

@[expose] public section

noncomputable section

open Idealize.ShloMosaic

namespace Cert.PostMath

/-- One over the root of a row's mean square, the row's length being the float `n`. -/
def inverseRoot {k : ℕ} (n : BitVec 32) (x : Fin k → EReal) : EReal :=
  Ideal.rsqrt (Ideal.div (∑ l, x l * x l) (Ideal.ofBits .f32 n) + Ideal.ofBits .f32 0x358637BD#32)

/-- A row of 1024 over the root of its mean square, weighted. -/
def norm (x g : Fin 1024 → EReal) (j : Fin 1024) : EReal := x j * inverseRoot 0x44800000#32 x * g j

/-- Part of the modulation, from place `o` on. -/
def part (mod : Fin 6144 → EReal) (o : ℕ) (h : o ≤ 5120) (j : Fin 1024) : EReal := mod ⟨o + j.val, by omega⟩

/-- A row of mixed channels projected. -/
def project (mix : Fin 1024 → EReal) (w : Fin 1024 → Fin 1024 → EReal) (j : Fin 1024) : EReal := ∑ l, mix l * w l j

/-- The residual after the projection. -/
def residual (h mod mix : Fin 1024 → EReal) (w : Fin 1024 → Fin 1024 → EReal) (j : Fin 1024) : EReal := h j + mod j * project mix w j

/-- The norm's row, scaled and shifted. -/
def modulated (x g scale shift : Fin 1024 → EReal) (j : Fin 1024) : EReal :=
  norm x g j * (Ideal.ofBits .f32 0x3F800000#32 + scale j) + shift j

/-- A channel of the feed-forward's middle: the square of what is positive. -/
def middle (u : Fin 1024 → EReal) (a : Fin 1024 → EReal) : EReal :=
  max (∑ l, u l * a l) (Ideal.ofBits .f32 0x00000000#32) * max (∑ l, u l * a l) (Ideal.ofBits .f32 0x00000000#32)

/-- The feed-forward. -/
def feed (u : Fin 1024 → EReal) (w1 : Fin 1024 → Fin 4096 → EReal) (w2 : Fin 4096 → Fin 1024 → EReal) (j : Fin 1024) : EReal :=
  ∑ k, middle u (fun l => w1 l k) * w2 k j

/-- The end of a layer, of one row. -/
def layer (h : Fin 1024 → EReal) (mod : Fin 6144 → EReal) (mix : Fin 1024 → EReal) (w : Fin 1024 → Fin 1024 → EReal) (g : Fin 1024 → EReal) (w1 : Fin 1024 → Fin 4096 → EReal) (w2 : Fin 4096 → Fin 1024 → EReal) (j : Fin 1024) : EReal :=
  residual h (part mod 2048 (by omega)) mix w j + part mod 5120 (by omega) j *
    feed (modulated (residual h (part mod 2048 (by omega)) mix w) g (part mod 4096 (by omega)) (part mod 3072 (by omega))) w1 w2 j

/-- Channel `d` of head `a`. -/
def chan (a : Fin 8) (d : Fin 128) : Fin 1024 := ⟨a.val * 128 + d.val, by omega⟩

/-- The head of a channel. -/
def headOf (j : Fin 1024) : Fin 8 := ⟨j.val / 128, by omega⟩

/-- A row's two directions added, normed over each head's channels, weighted and gated. -/
def gated (f b o g : Fin 1024 → EReal) (j : Fin 1024) : EReal :=
  (f j + b j) * inverseRoot 0x43000000#32 (fun d => f (chan (headOf j) d) + b (chan (headOf j) d)) * g j * Ideal.logistic (o j)

/-- A sum over 4096 channels, in four chunks. -/
theorem sum_chunks (f : Fin 4096 → EReal) :
    (∑ k, f k) = (∑ k : Fin 1024, f ⟨k.val, by omega⟩) + (∑ k : Fin 1024, f ⟨1024 + k.val, by omega⟩) + (∑ k : Fin 1024, f ⟨2048 + k.val, by omega⟩) + ∑ k : Fin 1024, f ⟨3072 + k.val, by omega⟩ := by
  refine (Fin.sum_univ_add (a := 3072) (b := 1024) f).trans (congrArg (· + _) ?_)
  refine (Fin.sum_univ_add (a := 2048) (b := 1024) fun k => f ⟨k.val, by omega⟩).trans (congrArg (· + _) ?_)
  exact Fin.sum_univ_add (a := 1024) (b := 1024) fun k => f ⟨k.val, by omega⟩

end Cert.PostMath
-- ==== Proof.PostRead.lean ====
/-
  The end of a layer's functions of a tile, read at an index over the extended reals.
-/
module

public import proofs.«01_k».proof.Proof.PostUnit
public import proofs.«01_k».proof.Proof.PostMath

@[expose] public section

set_option maxRecDepth 16384

noncomputable section

open Idealize.ShloMosaic Idealize.ShloMosaic.TcCoe Idealize.SL.Sem

namespace Cert.PostUnit

open Cert.LastIdeal Cert.LastIdeal.Gen

/-- One row of numbers at each row. -/
theorem spread_apply (x : FVec Ideal S1x1024 .f32) (a : Fin 256) (j : Fin 1024) : spread x (ix2 a j) = x (ix2 0 j) := by
  pointwise [spread]

/-- One over the root of a row's mean square. -/
theorem inverseRoot_apply (x : FVec Ideal S256x1024 .f32) (a : Fin 256) (j : Fin 1024) :
    inverseRoot x (ix2 a j) = PostMath.inverseRoot 0x44800000#32 fun l => x (ix2 a l) := by
  unfold PostMath.inverseRoot
  pointwise [inverseRoot]

/-- The norm of a row. -/
theorem norm_apply (x : FVec Ideal S256x1024 .f32) (g : Vec Ideal S1x1024 .f32) (a : Fin 256) (j : Fin 1024) :
    norm x g (ix2 a j) = PostMath.norm (fun l => x (ix2 a l)) (fun l => g (ix2 0 l)) j := by
  unfold PostMath.norm
  rw [← inverseRoot_apply x a j]
  pointwise [norm, spread, r0_19]

/-- The modulation's row. -/
theorem row_apply (mod : Vec Ideal S1x1x6144 .f32) (k : Fin 6144) : row mod (ix2 0 k) = mod (ix3 0 0 k) := by
  pointwise [row, r0_1]

/-- A tile of activations. -/
theorem tileOf_apply (x : Vec Ideal S1x256x1024 .f32) (a : Fin 256) (j : Fin 1024) : tileOf x (ix2 a j) = x (ix3 0 a j) := by
  pointwise [tileOf, r0_0]

/-- A tile of mixed rows. -/
theorem mixOf_apply (x : Vec Ideal S1x256x1024 .bf16) (a : Fin 256) (j : Fin 1024) : mixOf x (ix2 a j) = x (ix3 0 a j) := by
  pointwise [mixOf, r0_0]

/-- A tile stored. -/
theorem stored_apply (x : FVec Ideal S256x1024 .f32) (a : Fin 256) (j : Fin 1024) : stored x (ix3 0 a j) = x (ix2 a j) := by
  pointwise [stored]

/-- The residual of a row. -/
theorem residual_apply (h : FVec Ideal S256x1024 .f32) (mod : FVec Ideal S1x6144 .f32) (mix : FVec Ideal S256x1024 .bf16) (w : Vec Ideal S1x1024x1024 .bf16) (a : Fin 256) (j : Fin 1024) :
    residual h mod mix w (ix2 a j) = PostMath.residual (fun l => h (ix2 a l)) (PostMath.part (fun k => mod (ix2 0 k)) 2048 (by omega)) (fun l => mix (ix2 a l)) (fun l j => w (ix3 0 l j)) j := by
  unfold PostMath.residual PostMath.project PostMath.part
  pointwise [residual, spread, r0_18]

/-- The modulated norm of a row. -/
theorem modulated_apply (x : FVec Ideal S256x1024 .f32) (mod : FVec Ideal S1x6144 .f32) (g : Vec Ideal S1x1024 .f32) (a : Fin 256) (j : Fin 1024) :
    modulated x mod g (ix2 a j) = PostMath.modulated (fun l => x (ix2 a l)) (fun l => g (ix2 0 l)) (PostMath.part (fun k => mod (ix2 0 k)) 4096 (by omega)) (PostMath.part (fun k => mod (ix2 0 k)) 3072 (by omega)) j := by
  unfold PostMath.modulated PostMath.part
  rw [← norm_apply]
  pointwise [modulated, spread]

/-- One chunk of the feed-forward. -/
theorem chunk_apply (u : FVec Ideal S256x1024 .bf16) (p q : Vec Ideal S1x1024x1024 .bf16) (a : Fin 256) (j : Fin 1024) :
    chunk u p q (ix2 a j) = (∑ k, PostMath.middle (fun l => u (ix2 a l)) (fun l => p (ix3 0 l k)) * q (ix3 0 k j) : EReal) := by
  unfold PostMath.middle
  pointwise [chunk]

/-- The feed-forward of a row. -/
theorem feed_apply (u : FVec Ideal S256x1024 .bf16) (w1 : Vec Ideal S1x1024x4096 .bf16) (w2 : Vec Ideal S1x4096x1024 .bf16) (a : Fin 256) (j : Fin 1024) :
    feed u w1 w2 (ix2 a j) = PostMath.feed (fun l => u (ix2 a l)) (fun l k => w1 (ix3 0 l k)) (fun k j => w2 (ix3 0 k j)) j := by
  have e0 : ∀ l k : Fin 1024, View.ld w1 r0_20 (ix3 0 l k) = w1 (ix3 0 l ⟨k.val, by omega⟩) := by intro l k; pointwise [r0_20]
  have e1 : ∀ l k : Fin 1024, View.ld w1 r0_22 (ix3 0 l k) = w1 (ix3 0 l ⟨1024 + k.val, by omega⟩) := by intro l k; pointwise [r0_22]
  have e2 : ∀ l k : Fin 1024, View.ld w1 r0_24 (ix3 0 l k) = w1 (ix3 0 l ⟨2048 + k.val, by omega⟩) := by intro l k; pointwise [r0_24]
  have e3 : ∀ l k : Fin 1024, View.ld w1 r0_26 (ix3 0 l k) = w1 (ix3 0 l ⟨3072 + k.val, by omega⟩) := by intro l k; pointwise [r0_26]
  have f0 : ∀ l k : Fin 1024, View.ld w2 r0_21 (ix3 0 l k) = w2 (ix3 0 ⟨l.val, by omega⟩ k) := by intro l k; pointwise [r0_21]
  have f1 : ∀ l k : Fin 1024, View.ld w2 r0_23 (ix3 0 l k) = w2 (ix3 0 ⟨1024 + l.val, by omega⟩ k) := by intro l k; pointwise [r0_23]
  have f2 : ∀ l k : Fin 1024, View.ld w2 r0_25 (ix3 0 l k) = w2 (ix3 0 ⟨2048 + l.val, by omega⟩ k) := by intro l k; pointwise [r0_25]
  have f3 : ∀ l k : Fin 1024, View.ld w2 r0_27 (ix3 0 l k) = w2 (ix3 0 ⟨3072 + l.val, by omega⟩ k) := by intro l k; pointwise [r0_27]
  unfold PostMath.feed
  rw [PostMath.sum_chunks]
  unfold feed
  pointwise
  simp only [chunk_apply, e0, e1, e2, e3, f0, f1, f2, f3]

/-- The end of a layer, of a row. -/
theorem layer_apply (h : Vec Ideal S1x256x1024 .f32) (mod : Vec Ideal S1x1x6144 .f32) (mix : FVec Ideal S256x1024 .bf16) (w : Vec Ideal S1x1024x1024 .bf16) (g : Vec Ideal S1x1024 .f32) (w1 : Vec Ideal S1x1024x4096 .bf16) (w2 : Vec Ideal S1x4096x1024 .bf16) (a : Fin 256) (j : Fin 1024) :
    layer h mod mix w g w1 w2 (ix2 a j) = PostMath.layer (fun l => h (ix3 0 a l)) (fun k => mod (ix3 0 0 k)) (fun l => mix (ix2 a l)) (fun l j => w (ix3 0 l j)) (fun l => g (ix2 0 l)) (fun l k => w1 (ix3 0 l k)) (fun k j => w2 (ix3 0 k j)) j := by
  have e : ended (residual (tileOf h) (row mod) mix w) (row mod) g w1 w2 (ix2 a j) =
      (residual (tileOf h) (row mod) mix w (ix2 a j) + PostMath.part (fun k => row mod (ix2 0 k)) 5120 (by omega) j * feed (modulated (residual (tileOf h) (row mod) mix w) (row mod) g) w1 w2 (ix2 a j) : EReal) := by
    generalize residual (tileOf h) (row mod) mix w = x
    generalize row mod = r
    unfold ended
    generalize feed (modulated x r g) w1 w2 = y
    unfold PostMath.part
    pointwise [spread]
  unfold layer PostMath.layer
  rw [e]
  simp only [feed_apply, modulated_apply, residual_apply, row_apply, tileOf_apply]

/-- One head's gated norm. -/
theorem gate_apply (f b o : Vec Ideal S1x256x128 .bf16) (g : Vec Ideal S1x128 .f32) (a : Fin 256) (d : Fin 128) :
    gate f b o g (ix2 a d) = ((f (ix3 0 a d) + b (ix3 0 a d)) * PostMath.inverseRoot 0x43000000#32 (fun d => (f (ix3 0 a d) + b (ix3 0 a d) : EReal)) * g (ix2 0 d) * Ideal.logistic (o (ix3 0 a d)) : EReal) := by
  unfold PostMath.inverseRoot
  pointwise [gate]

/-- One head's gated norm, of the whole rows. -/
theorem gate_head (f b o : Vec Ideal S1x256x1024 .bf16) (g : Vec Ideal S1x1024 .f32) (a : Fin 256) (k : Fin 8) (f' b' o' : Vec Ideal S1x256x128 .bf16) (g' : Vec Ideal S1x128 .f32)
    (hf : ∀ d, f' (ix3 0 a d) = f (ix3 0 a (PostMath.chan k d))) (hb : ∀ d, b' (ix3 0 a d) = b (ix3 0 a (PostMath.chan k d))) (ho : ∀ d, o' (ix3 0 a d) = o (ix3 0 a (PostMath.chan k d))) (hg : ∀ d, g' (ix2 0 d) = g (ix2 0 (PostMath.chan k d)))
    (j : Fin 1024) (d : Fin 128) (hj : j.val = k.val * 128 + d.val) :
    gate f' b' o' g' (ix2 a d) = PostMath.gated (fun l => f (ix3 0 a l)) (fun l => b (ix3 0 a l)) (fun l => o (ix3 0 a l)) (fun l => g (ix2 0 l)) j := by
  have e : j = PostMath.chan k d := Fin.ext hj
  have e' : PostMath.headOf j = k := Fin.ext (by show j.val / 128 = k.val; omega)
  rw [gate_apply]
  unfold PostMath.gated
  rw [e', e]
  simp only [hf, hb, ho, hg]

/-- The eight heads' gated norms. -/
theorem gated_apply (f b o : Vec Ideal S1x256x1024 .bf16) (g : Vec Ideal S1x1024 .f32) (a : Fin 256) (j : Fin 1024) :
    gated f b o g (ix2 a j) = PostMath.gated (fun l => f (ix3 0 a l)) (fun l => b (ix3 0 a l)) (fun l => o (ix3 0 a l)) (fun l => g (ix2 0 l)) j := by
  have hj := j.2
  pointwise [gated]
  split_ifs
  all_goals try (rename_i h; exact absurd rfl h)
  · refine gate_head f b o g a 0 _ _ _ _ (fun d => ?_) (fun d => ?_) (fun d => ?_) (fun d => ?_) j _ (by dsimp; omega) <;> pointwise [r0_2, r0_3, PostMath.chan]
  · refine gate_head f b o g a 1 _ _ _ _ (fun d => ?_) (fun d => ?_) (fun d => ?_) (fun d => ?_) j _ (by dsimp; omega) <;> pointwise [r0_4, r0_5, PostMath.chan]
  · refine gate_head f b o g a 2 _ _ _ _ (fun d => ?_) (fun d => ?_) (fun d => ?_) (fun d => ?_) j _ (by dsimp; omega) <;> pointwise [r0_6, r0_7, PostMath.chan]
  · refine gate_head f b o g a 3 _ _ _ _ (fun d => ?_) (fun d => ?_) (fun d => ?_) (fun d => ?_) j _ (by dsimp; omega) <;> pointwise [r0_8, r0_9, PostMath.chan]
  · refine gate_head f b o g a 4 _ _ _ _ (fun d => ?_) (fun d => ?_) (fun d => ?_) (fun d => ?_) j _ (by dsimp; omega) <;> pointwise [r0_10, r0_11, PostMath.chan]
  · refine gate_head f b o g a 5 _ _ _ _ (fun d => ?_) (fun d => ?_) (fun d => ?_) (fun d => ?_) j _ (by dsimp; omega) <;> pointwise [r0_12, r0_13, PostMath.chan]
  · refine gate_head f b o g a 6 _ _ _ _ (fun d => ?_) (fun d => ?_) (fun d => ?_) (fun d => ?_) j _ (by dsimp; omega) <;> pointwise [r0_14, r0_15, PostMath.chan]
  · refine gate_head f b o g a 7 _ _ _ _ (fun d => ?_) (fun d => ?_) (fun d => ?_) (fun d => ?_) j _ (by dsimp; omega) <;> pointwise [r0_16, r0_17, PostMath.chan]

end Cert.PostUnit
-- ==== Proof.SplitUnit.lean ====
/-
  The middle layers' end: its body's three stores are three tiles of the layer's end.
-/
module

public import proofs.«01_k».proof.Proof.PostUnit
public import proofs.«01_k».proof.Proof.Gen.SplitIdeal.Frame

@[expose] public section

set_option maxRecDepth 16384

noncomputable section

open Idealize.ShloMosaic Idealize.ShloMosaic.TcCoe Idealize.SL.Sem

namespace Cert.SplitUnit

open Cert.SplitIdeal Cert.SplitIdeal.Gen Cert.PostUnit

variable {F : FTy → Type} [FloatOps F] [Named F]

/-- A tile of the result: the `r`-th of the grid point's three, whose mixed rows are the context's if it is the first of all. -/
def tile (i : grid0.Coords) (r : BitVec 32) (al ac : Vec F S1x256x1024 .bf16) (h : Vec F S1x256x1024 .f32) (mod : Vec F S1x1x6144 .f32) (g : Vec F S1x1024 .f32) (w : Vec F S1x1024x1024 .bf16) (w1 : Vec F S1x1024x4096 .bf16) (w2 : Vec F S1x4096x1024 .bf16) : Vec F S1x256x1024 .f32 :=
  stored (layer h mod (Scalar.select (Scalar.cmpi .slt (Scalar.addi (Scalar.addi (Scalar.muli (BitVec.ofNat 32 (i 1).val) 3#32) r) 0#32) 1#32) (mixOf ac) (mixOf al)) w g w1 w2)

/-- The body's stores are the three tiles. -/
theorem out_eq (i : grid0.Coords) (x0 x1 : Vec F S1x256x1024 .bf16) (x2 : Vec F S1x256x1024 .f32) (x3 : Vec F S1x1x6144 .f32) (x4 x5 : Vec F S1x256x1024 .bf16) (x6 : Vec F S1x256x1024 .f32) (x7 : Vec F S1x1x6144 .f32) (x8 x9 : Vec F S1x256x1024 .bf16) (x10 : Vec F S1x256x1024 .f32) (x11 : Vec F S1x1x6144 .f32) (x12 : Vec F S1x1024 .f32) (x13 : Vec F S1x1024x1024 .bf16) (x14 : Vec F S1x1024x4096 .bf16) (x15 : Vec F S1x4096x1024 .bf16) :
    out0_16 i x0 x1 x2 x3 x4 x5 x6 x7 x8 x9 x10 x11 x12 x13 x14 x15 =
      View.canon [⟨r0_14, tile i 2#32 x8 x9 x10 x11 x12 x13 x14 x15⟩, ⟨r0_13, tile i 1#32 x4 x5 x6 x7 x12 x13 x14 x15⟩, ⟨r0_12, tile i 0#32 x0 x1 x2 x3 x12 x13 x14 x15⟩] := rfl

end Cert.SplitUnit
-- ==== Proof.PostHost.lean ====
/-
  The reference's lines after a mixer, for `n` rows of each batch entry, read at an index over the extended reals. The
  modulation's and the norm's rows come already spread over the array.
-/
module

public import proofs.«01_k».proof.Proof.PostMath

@[expose] public section

set_option maxRecDepth 16384

noncomputable section

open Idealize.ShloMosaic Idealize.ShloMosaic.TcCoe Idealize.SL.Sem

namespace Cert.PostHost

/-- The shape of a number. -/
abbrev Sc : Shape := ⟨0, ![]⟩
/-- The shape of `n` rows of `k` channels for each of eight batch entries. -/
abbrev T (n k : ℕ) : Shape := ⟨3, ![8, n, k]⟩
/-- The shape of a number for each row. -/
abbrev R (n : ℕ) : Shape := ⟨2, ![8, n]⟩
/-- The shape of a matrix. -/
abbrev M (a b : ℕ) : Shape := ⟨2, ![a, b]⟩

/-- What the lines ask of their shapes. -/
structure Facts (n : ℕ) : Prop where
  keep : (R n).BroadcastsInDim (T n 1) (![0, 1] : Fin 2 → Fin (T n 1).rank)
  fill : Sc.BroadcastsInDim (T n 1) (![] : Fin 0 → Fin (T n 1).rank)
  along : (T n 1).BroadcastsInDim (T n 1024) (![0, 1, 2] : Fin 3 → Fin (T n 1024).rank)
  zero : Sc.BroadcastsInDim (T n 4096) (![] : Fin 0 → Fin (T n 4096).rank)
  total : (T n 1024).ReducesTo [2] (R n)
  project : DotDims.WF (T n 1024) (M 1024 1024) (T n 1024) [2] [0] [0, 1] [1] [] []
  up : DotDims.WF (T n 1024) (M 1024 4096) (T n 4096) [2] [0] [0, 1] [1] [] []
  down : DotDims.WF (T n 4096) (M 4096 1024) (T n 1024) [2] [0] [0, 1] [1] [] []

variable {n : ℕ}

/-- A product along the last channels. -/
def dot {n a b : ℕ} (wf : DotDims.WF (T n a) (M a b) (T n b) [2] [0] [0, 1] [1] [] []) : DotDims (T n a) (M a b) (T n b) where
  lhsContracting := [2]
  rhsContracting := [0]
  lhsNonContracting := [0, 1]
  rhsNonContracting := [1]
  lhsBatch := []
  rhsBatch := []
  wf := wf

/-- One over the root of each row's mean square. -/
def root (f : Facts n) (x : FVec Ideal (T n 1024) .f32) : FVec Ideal (T n 1) .f32 :=
  Host.rsqrt (addf (Host.divf (broadcastInDim (T n 1) ![0, 1] f.keep (Host.reduceAdd (mulf x x) (constant Sc .f32 0x00000000#32) f.total (by decide))) (broadcastInDim (T n 1) ![] f.fill (constant (F := Ideal) Sc .f32 0x44800000#32)))
    (broadcastInDim (T n 1) ![] f.fill (constant Sc .f32 0x358637BD#32)))

/-- The rows normed and weighted. -/
def norm (f : Facts n) (x g : FVec Ideal (T n 1024) .f32) : FVec Ideal (T n 1024) .f32 :=
  mulf (mulf x (broadcastInDim (T n 1024) ![0, 1, 2] f.along (root f x))) g

/-- The residual after the projection. -/
def residual (f : Facts n) (h mix : FVec Ideal (T n 1024) .f32) (w : FVec Ideal (M 1024 1024) .f32) (m : FVec Ideal (T n 1024) .f32) : FVec Ideal (T n 1024) .f32 :=
  addf h (mulf m (Host.dotGeneral (dot f.project) none mix w))

/-- What is positive of the feed-forward's middle. -/
def relu (f : Facts n) (u : FVec Ideal (T n 4096) .f32) : FVec Ideal (T n 4096) .f32 :=
  maximumf u (broadcastInDim (T n 4096) ![] f.zero (constant Sc .f32 0x00000000#32))

/-- The feed-forward. -/
def feed (f : Facts n) (u : FVec Ideal (T n 1024) .f32) (w1 : FVec Ideal (M 1024 4096) .f32) (w2 : FVec Ideal (M 4096 1024) .f32) : FVec Ideal (T n 1024) .f32 :=
  Host.dotGeneral (dot f.down) none (mulf (relu f (Host.dotGeneral (dot f.up) none u w1)) (relu f (Host.dotGeneral (dot f.up) none u w1))) w2

/-- The layer from its residual on. -/
def ended (f : Facts n) (r g s m m' : FVec Ideal (T n 1024) .f32) (w1 : FVec Ideal (M 1024 4096) .f32) (w2 : FVec Ideal (M 4096 1024) .f32) : FVec Ideal (T n 1024) .f32 :=
  addf r (mulf m' (feed f (addf (mulf (norm f r g) s) m) w1 w2))

/-- How the lines that join or spread elements read at an index. -/
structure Reads (f : Facts n) : Prop where
  root : ∀ (x : FVec Ideal (T n 1024) .f32) (i : Fin 8) (t : Fin n), root f x (ix3 i t 0) = PostMath.inverseRoot 0x44800000#32 fun l => x (ix3 i t l)
  along : ∀ (x : FVec Ideal (T n 1) .f32) (i : Fin 8) (t : Fin n) (j : Fin 1024), broadcastInDim (T n 1024) ![0, 1, 2] f.along x (ix3 i t j) = x (ix3 i t 0)
  zero : ∀ (i : Fin 8) (t : Fin n) (k : Fin 4096), broadcastInDim (T n 4096) ![] f.zero (constant (F := Ideal) Sc .f32 0x00000000#32) (ix3 i t k) = Ideal.ofBits .f32 0x00000000#32
  project : ∀ (x : FVec Ideal (T n 1024) .f32) (w : FVec Ideal (M 1024 1024) .f32) (i : Fin 8) (t : Fin n) (j : Fin 1024), Host.dotGeneral (dot f.project) none x w (ix3 i t j) = (∑ l : Fin 1024, x (ix3 i t l) * w (ix2 l j) : EReal)
  up : ∀ (x : FVec Ideal (T n 1024) .f32) (w : FVec Ideal (M 1024 4096) .f32) (i : Fin 8) (t : Fin n) (j : Fin 4096), Host.dotGeneral (dot f.up) none x w (ix3 i t j) = (∑ l : Fin 1024, x (ix3 i t l) * w (ix2 l j) : EReal)
  down : ∀ (x : FVec Ideal (T n 4096) .f32) (w : FVec Ideal (M 4096 1024) .f32) (i : Fin 8) (t : Fin n) (j : Fin 1024), Host.dotGeneral (dot f.down) none x w (ix3 i t j) = (∑ l : Fin 4096, x (ix3 i t l) * w (ix2 l j) : EReal)

theorem norm_apply {f : Facts n} (R : Reads f) (x g : FVec Ideal (T n 1024) .f32) (i : Fin 8) (t : Fin n) (j : Fin 1024) :
    norm f x g (ix3 i t j) = PostMath.norm (fun l => x (ix3 i t l)) (fun l => g (ix3 i t l)) j := by
  show x (ix3 i t j) * broadcastInDim (T n 1024) ![0, 1, 2] f.along (PostHost.root f x) (ix3 i t j) * g (ix3 i t j) = (_ : EReal)
  rw [R.along, R.root]
  rfl

theorem residual_apply {f : Facts n} (R : Reads f) (h mix : FVec Ideal (T n 1024) .f32) (w : FVec Ideal (M 1024 1024) .f32) (m : FVec Ideal (T n 1024) .f32) (i : Fin 8) (t : Fin n) (j : Fin 1024) :
    residual f h mix w m (ix3 i t j) = PostMath.residual (fun l => h (ix3 i t l)) (fun l => m (ix3 i t l)) (fun l => mix (ix3 i t l)) (fun l j => w (ix2 l j)) j := by
  show h (ix3 i t j) + m (ix3 i t j) * Host.dotGeneral (dot f.project) none mix w (ix3 i t j) = (_ : EReal)
  rw [R.project]
  rfl

theorem relu_apply {f : Facts n} (R : Reads f) (u : FVec Ideal (T n 4096) .f32) (i : Fin 8) (t : Fin n) (k : Fin 4096) :
    relu f u (ix3 i t k) = (max (u (ix3 i t k)) (Ideal.ofBits .f32 0x00000000#32) : EReal) := by
  show max (u (ix3 i t k)) (broadcastInDim (T n 4096) ![] f.zero (constant (F := Ideal) Sc .f32 0x00000000#32) (ix3 i t k)) = (_ : EReal)
  rw [R.zero]

theorem feed_apply {f : Facts n} (R : Reads f) (u : FVec Ideal (T n 1024) .f32) (w1 : FVec Ideal (M 1024 4096) .f32) (w2 : FVec Ideal (M 4096 1024) .f32) (i : Fin 8) (t : Fin n) (j : Fin 1024) :
    feed f u w1 w2 (ix3 i t j) = PostMath.feed (fun l => u (ix3 i t l)) (fun l k => w1 (ix2 l k)) (fun k j => w2 (ix2 k j)) j := by
  unfold feed
  rw [R.down]
  refine Finset.sum_congr rfl fun k _ => congrArg (· * _) ?_
  show relu f _ (ix3 i t k) * relu f _ (ix3 i t k) = (_ : EReal)
  rw [relu_apply R, R.up]
  rfl

/-- The layer's end, its modulation rows known. -/
theorem layer_apply {f : Facts n} (R : Reads f) (h mix : FVec Ideal (T n 1024) .f32) (w : FVec Ideal (M 1024 1024) .f32) (m2 g s m3 m5 : FVec Ideal (T n 1024) .f32) (w1 : FVec Ideal (M 1024 4096) .f32) (w2 : FVec Ideal (M 4096 1024) .f32)
    (i : Fin 8) (t : Fin n) (j : Fin 1024) (mod : Fin 6144 → EReal) (gain : Fin 1024 → EReal)
    (h2 : ∀ l, m2 (ix3 i t l) = PostMath.part mod 2048 (by omega) l) (hg : ∀ l, g (ix3 i t l) = gain l)
    (hs : ∀ l, s (ix3 i t l) = Ideal.ofBits .f32 0x3F800000#32 + PostMath.part mod 4096 (by omega) l)
    (h3 : ∀ l, m3 (ix3 i t l) = PostMath.part mod 3072 (by omega) l) (h5 : ∀ l, m5 (ix3 i t l) = PostMath.part mod 5120 (by omega) l) :
    ended f (residual f h mix w m2) g s m3 m5 w1 w2 (ix3 i t j)
      = PostMath.layer (fun l => h (ix3 i t l)) mod (fun l => mix (ix3 i t l)) (fun l j => w (ix2 l j)) gain (fun l k => w1 (ix2 l k)) (fun k j => w2 (ix2 k j)) j := by
  have hr : ∀ l, residual f h mix w m2 (ix3 i t l) = PostMath.residual (fun l => h (ix3 i t l)) (PostMath.part mod 2048 (by omega)) (fun l => mix (ix3 i t l)) (fun l j => w (ix2 l j)) l := by
    intro l
    rw [residual_apply R]
    simp only [PostMath.residual, h2]
  show residual f h mix w m2 (ix3 i t j) + m5 (ix3 i t j) * feed f _ w1 w2 (ix3 i t j) = (_ : EReal)
  rw [feed_apply R, hr, h5]
  unfold PostMath.layer
  refine congrArg (fun u => _ + _ * PostMath.feed u _ _ j) (funext fun l => ?_)
  show norm f _ g (ix3 i t l) * s (ix3 i t l) + m3 (ix3 i t l) = (_ : EReal)
  rw [norm_apply R, hs, h3]
  unfold PostMath.modulated
  rw [funext hr, funext hg]

/-- The rows of the sequence after the context read so. -/
theorem reads_latent (f : Facts 2048) : Reads f where
  root x i t := by pointwise [root, PostMath.inverseRoot]
  along x i t j := by pointwise
  zero i t k := by pointwise
  project x w i t j := by pointwise [dot]
  up x w i t j := by pointwise [dot]
  down x w i t j := by pointwise [dot]

/-- The context's rows read so. -/
theorem reads_context (f : Facts 256) : Reads f where
  root x i t := by pointwise [root, PostMath.inverseRoot]
  along x i t j := by pointwise
  zero i t k := by pointwise
  project x w i t j := by pointwise [dot]
  up x w i t j := by pointwise [dot]
  down x w i t j := by pointwise [dot]

end Cert.PostHost
-- ==== Proof.SplitRef.lean ====
/-
  The reference's layer end after a split of context and latents, read at an index over the extended reals.
-/
module

public import proofs.«01_k».proof.Proof.Gen.SplitRefIdeal.Read
public import proofs.«01_k».proof.Proof.PostHost
public import proofs.«01_k».proof.Proof.DiffMath

@[expose] public section

set_option maxRecDepth 16384

noncomputable section

open Idealize.ShloMosaic Idealize.ShloMosaic.TcCoe Idealize.SL.Sem

namespace Cert.SplitRef

open Cert.SplitRefIdeal Cert.SplitRefIdeal.Gen Cert.SplitRefIdeal.Read Cert.DiffMath

theorem facts_latent : PostHost.Facts 2048 where
  keep := bcast_S8x2048_S8x2048x1_0_1
  fill := bcast_S_S8x2048x1
  along := bcast_S8x2048x1_S8x2048x1024_0_1_2
  zero := bcast_S_S8x2048x4096
  total := reducesTo_S8x2048x1024_S8x2048_d2
  project := dot_S8x2048x1024_S1024x1024_S8x2048x1024_2_0_01_1_n_n.wf
  up := dot_S8x2048x1024_S1024x4096_S8x2048x4096_2_0_01_1_n_n.wf
  down := dot_S8x2048x4096_S4096x1024_S8x2048x1024_2_0_01_1_n_n.wf

theorem facts_context : PostHost.Facts 256 where
  keep := bcast_S8x256_S8x256x1_0_1
  fill := bcast_S_S8x256x1
  along := bcast_S8x256x1_S8x256x1024_0_1_2
  zero := bcast_S_S8x256x4096
  total := reducesTo_S8x256x1024_S8x256_d2
  project := dot_S8x256x1024_S1024x1024_S8x256x1024_2_0_01_1_n_n.wf
  up := dot_S8x256x1024_S1024x4096_S8x256x4096_2_0_01_1_n_n.wf
  down := dot_S8x256x4096_S4096x1024_S8x256x1024_2_0_01_1_n_n.wf

variable (x0 x2 : FVec Ideal S8x256x1024 .f32) (x1 x3 : FVec Ideal S8x2048x1024 .f32) (x4 : FVec Ideal S8x6144 .f32) (x5 : FVec Ideal S6144 .f32) (x6 : FVec Ideal S4x1024 .f32)
  (x7 : FVec Ideal S1x1024x1024 .f32) (x8 : FVec Ideal S4x1024x4096 .f32) (x9 : FVec Ideal S4x4096x1024 .f32)

theorem v50_eq : val_main_v50 (F := Ideal) x1 x3 x4 x6 x7 x8 x9 =
    PostHost.ended facts_latent (PostHost.residual facts_latent x3 x1 (val_main_v14 (F := Ideal) x7) (val_main_v22 (F := Ideal) x4)) (val_main_v36 (F := Ideal) x6) (val_main_v40 (F := Ideal) x4) (val_main_v42 (F := Ideal) x4)
      (val_main_v48 (F := Ideal) x4) (val_main_v19 (F := Ideal) x8) (val_main_v21 (F := Ideal) x9) := rfl

theorem v87_eq : val_main_v87 (F := Ideal) x0 x2 x5 x6 x7 x8 x9 =
    PostHost.ended facts_context (PostHost.residual facts_context x2 x0 (val_main_v51 (F := Ideal) x7) (val_main_v59 (F := Ideal) x5)) (val_main_v73 (F := Ideal) x6) (val_main_v77 (F := Ideal) x5) (val_main_v79 (F := Ideal) x5)
      (val_main_v85 (F := Ideal) x5) (val_main_v56 (F := Ideal) x8) (val_main_v58 (F := Ideal) x9) := rfl

/-- The latents' modulation at a row. -/
theorem modulation_latent (i : Fin 8) (t : Fin 2048) (l : Fin 1024) :
    val_main_v22 (F := Ideal) x4 (ix3 i t l) = PostMath.part (fun k => x4 (ix2 i k)) 2048 (by omega) l
    ∧ val_main_v40 (F := Ideal) x4 (ix3 i t l) = (Ideal.ofBits .f32 0x3F800000#32 + PostMath.part (fun k => x4 (ix2 i k)) 4096 (by omega) l : EReal)
    ∧ val_main_v42 (F := Ideal) x4 (ix3 i t l) = PostMath.part (fun k => x4 (ix2 i k)) 3072 (by omega) l
    ∧ val_main_v48 (F := Ideal) x4 (ix3 i t l) = PostMath.part (fun k => x4 (ix2 i k)) 5120 (by omega) l := by
  unfold PostMath.part
  refine ⟨?_, ?_, ?_, ?_⟩
  · pointwise [val_main_v22, val_main_v3, val_main_v0]
  · pointwise [val_main_v40, val_main_v39, val_main_v38, val_main_cst_2, val_main_v5, val_main_v0]
  · pointwise [val_main_v42, val_main_v4, val_main_v0]
  · pointwise [val_main_v48, val_main_v6, val_main_v0]

/-- The context's modulation at a row. -/
theorem modulation_context (i : Fin 8) (t : Fin 256) (l : Fin 1024) :
    val_main_v59 (F := Ideal) x5 (ix3 i t l) = PostMath.part (fun k => x5 (ix1 k)) 2048 (by omega) l
    ∧ val_main_v77 (F := Ideal) x5 (ix3 i t l) = (Ideal.ofBits .f32 0x3F800000#32 + PostMath.part (fun k => x5 (ix1 k)) 4096 (by omega) l : EReal)
    ∧ val_main_v79 (F := Ideal) x5 (ix3 i t l) = PostMath.part (fun k => x5 (ix1 k)) 3072 (by omega) l
    ∧ val_main_v85 (F := Ideal) x5 (ix3 i t l) = PostMath.part (fun k => x5 (ix1 k)) 5120 (by omega) l := by
  unfold PostMath.part
  refine ⟨?_, ?_, ?_, ?_⟩
  · pointwise [val_main_v59, val_main_v10, val_main_v7]
  · pointwise [val_main_v77, val_main_v76, val_main_v75, val_main_cst_6, val_main_v12, val_main_v7]
  · pointwise [val_main_v79, val_main_v11, val_main_v7]
  · pointwise [val_main_v85, val_main_v13, val_main_v7]

/-- The norm's weights and the matrices at an index. -/
theorem weights_latent (i : Fin 8) (t : Fin 2048) (l l' : Fin 1024) (k : Fin 4096) :
    val_main_v36 (F := Ideal) x6 (ix3 i t l) = x6 (ix2 1 l) ∧ val_main_v14 (F := Ideal) x7 (ix2 l l') = x7 (ix3 0 l l')
    ∧ val_main_v19 (F := Ideal) x8 (ix2 l k) = x8 (ix3 1 l k) ∧ val_main_v21 (F := Ideal) x9 (ix2 k l) = x9 (ix3 1 k l) := by
  refine ⟨?_, ?_, ?_, ?_⟩
  · pointwise [val_main_v36, val_main_v35, val_main_v17, val_main_v16]
  · pointwise [val_main_v14]
  · pointwise [val_main_v19, val_main_v18]
  · pointwise [val_main_v21, val_main_v20]

theorem weights_context (i : Fin 8) (t : Fin 256) (l l' : Fin 1024) (k : Fin 4096) :
    val_main_v73 (F := Ideal) x6 (ix3 i t l) = x6 (ix2 1 l) ∧ val_main_v51 (F := Ideal) x7 (ix2 l l') = x7 (ix3 0 l l')
    ∧ val_main_v56 (F := Ideal) x8 (ix2 l k) = x8 (ix3 1 l k) ∧ val_main_v58 (F := Ideal) x9 (ix2 k l) = x9 (ix3 1 k l) := by
  refine ⟨?_, ?_, ?_, ?_⟩
  · pointwise [val_main_v73, val_main_v72, val_main_v54, val_main_v53]
  · pointwise [val_main_v51]
  · pointwise [val_main_v56, val_main_v55]
  · pointwise [val_main_v58, val_main_v57]

/-- The layer's end for a row `h` of the residual, modulated by `mod`, its mixed channels `mix`. -/
abbrev row (h : Fin 1024 → EReal) (mod : Fin 6144 → EReal) (mix : Fin 1024 → EReal) (j : Fin 1024) : EReal :=
  PostMath.layer h mod mix (fun l j => x7 (ix3 0 l j)) (fun l => x6 (ix2 1 l)) (fun l k => x8 (ix3 1 l k)) (fun k j => x9 (ix3 1 k j)) j

theorem latent_apply (i : Fin 8) (t : Fin 2048) (j : Fin 1024) :
    val_main_v50 (F := Ideal) x1 x3 x4 x6 x7 x8 x9 (ix3 i t j) = row x6 x7 x8 x9 (fun l => x3 (ix3 i t l)) (fun k => x4 (ix2 i k)) (fun l => x1 (ix3 i t l)) j := by
  rw [v50_eq, PostHost.layer_apply (PostHost.reads_latent facts_latent) _ _ _ _ _ _ _ _ _ _ i t j (fun k => x4 (ix2 i k)) (fun l => x6 (ix2 1 l)) (fun l => (modulation_latent x4 i t l).1)
    (fun l => (weights_latent x6 x7 x8 x9 i t l 0 0).1) (fun l => (modulation_latent x4 i t l).2.1) (fun l => (modulation_latent x4 i t l).2.2.1) (fun l => (modulation_latent x4 i t l).2.2.2)]
  simp only [(weights_latent x6 x7 x8 x9 i t _ _ 0).2.1, (weights_latent x6 x7 x8 x9 i t _ 0 _).2.2.1, (weights_latent x6 x7 x8 x9 i t _ 0 _).2.2.2]

theorem context_apply (i : Fin 8) (t : Fin 256) (j : Fin 1024) :
    val_main_v87 (F := Ideal) x0 x2 x5 x6 x7 x8 x9 (ix3 i t j) = row x6 x7 x8 x9 (fun l => x2 (ix3 i t l)) (fun k => x5 (ix1 k)) (fun l => x0 (ix3 i t l)) j := by
  rw [v87_eq, PostHost.layer_apply (PostHost.reads_context facts_context) _ _ _ _ _ _ _ _ _ _ i t j (fun k => x5 (ix1 k)) (fun l => x6 (ix2 1 l)) (fun l => (modulation_context x5 i t l).1)
    (fun l => (weights_context x6 x7 x8 x9 i t l 0 0).1) (fun l => (modulation_context x5 i t l).2.1) (fun l => (modulation_context x5 i t l).2.2.1) (fun l => (modulation_context x5 i t l).2.2.2)]
  simp only [(weights_context x6 x7 x8 x9 i t _ _ 0).2.1, (weights_context x6 x7 x8 x9 i t _ 0 _).2.2.1, (weights_context x6 x7 x8 x9 i t _ 0 _).2.2.2]

/-- A context row and a latent row joined, at an index. -/
theorem join_apply (a : FVec Ideal S8x256x1024 .f32) (b : FVec Ideal S8x2048x1024 .f32) (i : Fin 8) (t : Fin 2304) (j : Fin 1024) :
    (concatenate S8x2304x1024 1 [⟨S8x256x1024, a⟩, ⟨S8x2048x1024, b⟩] concatenates_S8x256x1024_S8x2048x1024_S8x2304x1024_d1 : FVec Ideal S8x2304x1024 .f32) (ix3 i t j)
      = keys (fun t => a (ix3 i t j)) (fun t => b (ix3 i t j)) t := by
  unfold keys
  pointwise

/-- The result at an index. -/
theorem out_apply (i : Fin 8) (t : Fin 2304) (j : Fin 1024) :
    val_main_v88 (F := Ideal) x0 x1 x2 x3 x4 x5 x6 x7 x8 x9 (ix3 i t j) =
      keys (fun t => row x6 x7 x8 x9 (fun l => x2 (ix3 i t l)) (fun k => x5 (ix1 k)) (fun l => x0 (ix3 i t l)) j)
        (fun t => row x6 x7 x8 x9 (fun l => x3 (ix3 i t l)) (fun k => x4 (ix2 i k)) (fun l => x1 (ix3 i t l)) j) t := by
  unfold val_main_v88
  rw [join_apply]
  simp only [latent_apply, context_apply]

end Cert.SplitRef
-- ==== Proof.SplitKernel.lean ====
/-
  The middle layers' end: the kernel's result array read at an index over the extended reals, as a function of its arguments.
-/
module

public import proofs.«01_k».proof.Proof.PostRead
public import proofs.«01_k».proof.Proof.SplitUnit
public import proofs.«01_k».proof.Proof.SplitRef
public import proofs.«01_k».proof.Proof.Gen.SplitIdeal.Value
public import Idealize.ShloMosaic.Lib.Pipeline.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.SplitKernel

open Cert.SplitIdeal Cert.SplitIdeal.Gen
open Cert.DiffMath (keys)
open Cert.SplitUnit (tile)
open Cert.SplitRef (row)

/-! ## A tile -/

/-- The result's rows: the context's, then the latents'. -/
def result (x0 : FVec Ideal S8x256x1024 .f32) (x1 : FVec Ideal S8x2048x1024 .f32) (x2 : FVec Ideal S8x256x1024 .f32) (x3 : FVec Ideal S8x2048x1024 .f32) (x4 : FVec Ideal S8x6144 .f32) (x5 : FVec Ideal S6144 .f32) (x6 : FVec Ideal S4x1024 .f32)
    (x7 : FVec Ideal S1x1024x1024 .f32) (x8 : FVec Ideal S4x1024x4096 .f32) (x9 : FVec Ideal S4x4096x1024 .f32) (i : Fin 8) (t : Fin 2304) (j : Fin 1024) : EReal :=
  keys (fun t => row x6 x7 x8 x9 (fun l => x2 (ix3 i t l)) (fun k => x5 (ix1 k)) (fun l => x0 (ix3 i t l)) j)
    (fun t => row x6 x7 x8 x9 (fun l => x3 (ix3 i t l)) (fun k => x4 (ix2 i k)) (fun l => x1 (ix3 i t l)) j) t

/-- Tile `T` of a batch entry's nine, its blocks known. -/
theorem tile_apply (x0 : FVec Ideal S8x256x1024 .f32) (x1 : FVec Ideal S8x2048x1024 .f32) (x2 : FVec Ideal S8x256x1024 .f32) (x3 : FVec Ideal S8x2048x1024 .f32) (x4 : FVec Ideal S8x6144 .f32) (x5 : FVec Ideal S6144 .f32) (x6 : FVec Ideal S4x1024 .f32)
    (x7 : FVec Ideal S1x1024x1024 .f32) (x8 : FVec Ideal S4x1024x4096 .f32) (x9 : FVec Ideal S4x4096x1024 .f32) (b : Fin 8) (T : Fin 9) (i : grid0.Coords) (r : BitVec 32)
    (al ac : Vec Ideal S1x256x1024 .bf16) (h : Vec Ideal S1x256x1024 .f32) (mod : Vec Ideal S1x1x6144 .f32) (g : Vec Ideal S1x1024 .f32) (w : Vec Ideal S1x1024x1024 .bf16) (w1 : Vec Ideal S1x1024x4096 .bf16) (w2 : Vec Ideal S1x4096x1024 .bf16)
    (hs : Scalar.cmpi .slt (Scalar.addi (Scalar.addi (Scalar.muli (BitVec.ofNat 32 (i 1).val) 3#32) r) 0#32) 1#32 = if T.val = 0 then 1#1 else 0#1)
    (hal : T.val ≠ 0 → ∀ (a : Fin 256) (l : Fin 1024), al (ix3 0 a l) = x1 (ix3 b ⟨256 * (T.val - 1) + a.val, by omega⟩ l))
    (hac : ∀ (a : Fin 256) (l : Fin 1024), ac (ix3 0 a l) = x0 (ix3 b a l))
    (hh : ∀ (a : Fin 256) (l : Fin 1024), h (ix3 0 a l) = keys (fun t => x2 (ix3 b t l)) (fun t => x3 (ix3 b t l)) ⟨256 * T.val + a.val, by omega⟩)
    (hm : ∀ k : Fin 6144, mod (ix3 0 0 k) = if T.val = 0 then x5 (ix1 k) else x4 (ix2 b k))
    (hg : ∀ l : Fin 1024, g (ix2 0 l) = x6 (ix2 1 l)) (hw : ∀ l j : Fin 1024, w (ix3 0 l j) = x7 (ix3 0 l j))
    (hw1 : ∀ (l : Fin 1024) (k : Fin 4096), w1 (ix3 0 l k) = x8 (ix3 1 l k)) (hw2 : ∀ (k : Fin 4096) (j : Fin 1024), w2 (ix3 0 k j) = x9 (ix3 1 k j)) (a : Fin 256) (j : Fin 1024) :
    tile i r al ac h mod g w w1 w2 (ix3 0 a j) = result x0 x1 x2 x3 x4 x5 x6 x7 x8 x9 b ⟨256 * T.val + a.val, by omega⟩ j := by
  unfold tile result
  rw [hs, PostUnit.stored_apply, PostUnit.layer_apply]
  simp only [hh, hm, hg, hw, hw1, hw2]
  by_cases h0 : T.val = 0
  · have e : ∀ C L, keys C L ⟨256 * T.val + a.val, by omega⟩ = C a := fun C L =>
      (congrArg (keys C L) (Fin.ext (by show 256 * T.val + a.val = a.val; omega))).trans (DiffMath.keys_ctx C L a)
    simp only [e, if_pos h0]
    simp only [← hac, ← PostUnit.mixOf_apply]
    rfl
  · have e : ∀ C L, keys C L ⟨256 * T.val + a.val, by omega⟩ = L ⟨256 * (T.val - 1) + a.val, by omega⟩ := fun C L =>
      (congrArg (keys C L) (Fin.ext (by show 256 * T.val + a.val = 256 + (256 * (T.val - 1) + a.val); omega))).trans (DiffMath.keys_lat C L ⟨256 * (T.val - 1) + a.val, by omega⟩)
    simp only [e, if_neg h0]
    simp only [← hal h0, ← PostUnit.mixOf_apply]
    rfl

/-! ## The arrays as they enter the region -/

variable (m : (ℓ : Loc nD τ sig) → Buf (Elt Ideal) ℓ)

/-- An argument in memory. -/
abbrev A0 (c : Dev nD) : FVec Ideal S8x256x1024 .f32 := m ((c : Thread nD τ).loc main_arg0)
abbrev A1 (c : Dev nD) : FVec Ideal S8x2048x1024 .f32 := m ((c : Thread nD τ).loc main_arg1)
abbrev A2 (c : Dev nD) : FVec Ideal S8x256x1024 .f32 := m ((c : Thread nD τ).loc main_arg2)
abbrev A3 (c : Dev nD) : FVec Ideal S8x2048x1024 .f32 := m ((c : Thread nD τ).loc main_arg3)
abbrev A4 (c : Dev nD) : FVec Ideal S8x6144 .f32 := m ((c : Thread nD τ).loc main_arg4)
abbrev A5 (c : Dev nD) : FVec Ideal S6144 .f32 := m ((c : Thread nD τ).loc main_arg5)
abbrev A6 (c : Dev nD) : FVec Ideal S4x1024 .f32 := m ((c : Thread nD τ).loc main_arg6)
abbrev A7 (c : Dev nD) : FVec Ideal S1x1024x1024 .f32 := m ((c : Thread nD τ).loc main_arg7)
abbrev A8 (c : Dev nD) : FVec Ideal S4x1024x4096 .f32 := m ((c : Thread nD τ).loc main_arg8)
abbrev A9 (c : Dev nD) : FVec Ideal S4x4096x1024 .f32 := m ((c : Thread nD τ).loc main_arg9)

theorem h_entry (c : Dev nD) (b : Fin 8) (t : Fin 2304) (l : Fin 1024) :
    (V m c main_v5 : FVec Ideal S8x2304x1024 .f32) (ix3 b t l) = keys (fun t => A2 m c (ix3 b t l)) (fun t => A3 m c (ix3 b t l)) t := by
  unfold keys V
  after_reads_at

theorem latent_entry (c : Dev nD) (b : Fin 8) (t : Fin 2048) (l : Fin 1024) :
    (V m c main_v3 : FVec Ideal S8x2048x1024 .bf16) (ix3 b t l) = A1 m c (ix3 b t l) := by
  unfold V
  after_reads_at

theorem context_entry (c : Dev nD) (b : Fin 8) (t : Fin 256) (l : Fin 1024) :
    (V m c main_v4 : FVec Ideal S8x256x1024 .bf16) (ix3 b t l) = A0 m c (ix3 b t l) := by
  unfold V
  after_reads_at

theorem gain_entry (c : Dev nD) (l : Fin 1024) :
    (V m c main_v12 : FVec Ideal S1x1024 .f32) (ix2 0 l) = A6 m c (ix2 1 l) := by
  entry_read
  pointwise

theorem w_entry (c : Dev nD) (l j : Fin 1024) :
    (V m c main_v0 : FVec Ideal S1x1024x1024 .bf16) (ix3 0 l j) = A7 m c (ix3 0 l j) := by
  unfold V
  after_reads_at

theorem w1_entry (c : Dev nD) (l : Fin 1024) (k : Fin 4096) :
    (V m c main_v1 : FVec Ideal S4x1024x4096 .bf16) (ix3 1 l k) = A8 m c (ix3 1 l k) := by
  unfold V
  after_reads_at

theorem w2_entry (c : Dev nD) (k : Fin 4096) (j : Fin 1024) :
    (V m c main_v2 : FVec Ideal S4x4096x1024 .bf16) (ix3 1 k j) = A9 m c (ix3 1 k j) := by
  unfold V
  after_reads_at

/-- A row of the modulation as an array of one row, at an index. -/
theorem row_apply (x : FVec Ideal S6144 .f32) (k : Fin 6144) : broadcastInDim S1x6144 ![1] bcast_S6144_S1x6144_1 x (ix2 0 k) = x (ix1 k) := by
  pointwise

/-- The modulation's rows, one for each batch entry and then the context's, at an index. -/
theorem mod_entry (c : Dev nD) (b : Fin 8) (k : Fin 6144) :
    (V m c main_v9 : FVec Ideal S16x1x6144 .f32) (ix3 ⟨b.val, by omega⟩ 0 k) = A4 m c (ix2 b k) := by
  unfold V
  after_reads_at
  rfl

theorem mod_entry8 (c : Dev nD) (k : Fin 6144) :
    (V m c main_v9 : FVec Ideal S16x1x6144 .f32) (ix3 8 0 k) = A5 m c (ix1 k) := by
  unfold V
  after_reads_at
  exact row_apply _ k

/-! ## The windows' blocks: the batch entry of a grid point is the point over 3; it makes three tiles -/

/-- The grid point of a batch entry and three tiles. -/
def point (b : Fin 8) (q : Fin 3) : Fin cfg0.N := ⟨b.val * 3 + q.val, by have e : cfg0.N = 24 := N_0; omega⟩

theorem point_div (b : Fin 8) (q : Fin 3) : (point b q).val / 3 = b.val := by unfold point; dsimp only; omega
theorem point_mod (b : Fin 8) (q : Fin 3) : (point b q).val % 3 = q.val := by unfold point; dsimp only; omega

theorem index_0 : ∀ t : Fin grid0.N, (cfg0.win 0).index t = ![t.val / 3, 3 * (t.val % 3) + 0 - 1, 0] := by decide +kernel
theorem index_1 : ∀ t : Fin grid0.N, (cfg0.win 1).index t = ![t.val / 3, 0, 0] := by decide +kernel
theorem index_2 : ∀ t : Fin grid0.N, (cfg0.win 2).index t = ![t.val / 3, 3 * (t.val % 3) + 0, 0] := by decide +kernel
theorem index_3 : ∀ t : Fin grid0.N, (cfg0.win 3).index t = ![if 3 * (t.val % 3) + 0 = 0 then 8 else t.val / 3, 0, 0] := by decide +kernel
theorem index_4 : ∀ t : Fin grid0.N, (cfg0.win 4).index t = ![t.val / 3, 3 * (t.val % 3) + 1 - 1, 0] := by decide +kernel
theorem index_5 : ∀ t : Fin grid0.N, (cfg0.win 5).index t = ![t.val / 3, 0, 0] := by decide +kernel
theorem index_6 : ∀ t : Fin grid0.N, (cfg0.win 6).index t = ![t.val / 3, 3 * (t.val % 3) + 1, 0] := by decide +kernel
theorem index_7 : ∀ t : Fin grid0.N, (cfg0.win 7).index t = ![if 3 * (t.val % 3) + 1 = 0 then 8 else t.val / 3, 0, 0] := by decide +kernel
theorem index_8 : ∀ t : Fin grid0.N, (cfg0.win 8).index t = ![t.val / 3, 3 * (t.val % 3) + 2 - 1, 0] := by decide +kernel
theorem index_9 : ∀ t : Fin grid0.N, (cfg0.win 9).index t = ![t.val / 3, 0, 0] := by decide +kernel
theorem index_10 : ∀ t : Fin grid0.N, (cfg0.win 10).index t = ![t.val / 3, 3 * (t.val % 3) + 2, 0] := by decide +kernel
theorem index_11 : ∀ t : Fin grid0.N, (cfg0.win 11).index t = ![if 3 * (t.val % 3) + 2 = 0 then 8 else t.val / 3, 0, 0] := by decide +kernel
theorem index_12 : ∀ t : Fin grid0.N, (cfg0.win 12).index t = ![0, 0] := by decide +kernel
theorem index_13 : ∀ t : Fin grid0.N, (cfg0.win 13).index t = ![0, 0, 0] := by decide +kernel
theorem index_14 : ∀ t : Fin grid0.N, (cfg0.win 14).index t = ![1, 0, 0] := by decide +kernel
theorem index_15 : ∀ t : Fin grid0.N, (cfg0.win 15).index t = ![1, 0, 0] := by decide +kernel
theorem index_16 : ∀ t : Fin grid0.N, (cfg0.win 16).index t = ![t.val / 3, t.val % 3, 0] := by decide +kernel

/-- Whether a tile is the first of its batch entry, as the body decides it. -/
theorem first_0 : ∀ t : Fin grid0.N, Scalar.cmpi .slt (Scalar.addi (Scalar.addi (Scalar.muli (BitVec.ofNat 32 ((grid0.coords t) 1).val) 3#32) 0#32) 0#32) 1#32 = if 3 * (t.val % 3) + 0 = 0 then 1#1 else 0#1 := by decide +kernel
theorem first_1 : ∀ t : Fin grid0.N, Scalar.cmpi .slt (Scalar.addi (Scalar.addi (Scalar.muli (BitVec.ofNat 32 ((grid0.coords t) 1).val) 3#32) 1#32) 0#32) 1#32 = if 3 * (t.val % 3) + 1 = 0 then 1#1 else 0#1 := by decide +kernel
theorem first_2 : ∀ t : Fin grid0.N, Scalar.cmpi .slt (Scalar.addi (Scalar.addi (Scalar.muli (BitVec.ofNat 32 ((grid0.coords t) 1).val) 3#32) 2#32) 0#32) 1#32 = if 3 * (t.val % 3) + 2 = 0 then 1#1 else 0#1 := by decide +kernel

/-- The arrays read where a tile's block lies. -/
theorem h_at (c : Dev nD) (i : S8x2304x1024.Idx) (b : Fin 8) (t : Fin 2304) (l : Fin 1024) (h : (i 0).val = b.val ∧ (i 1).val = t.val ∧ (i 2).val = l.val) :
    (V m c main_v5 : FVec Ideal S8x2304x1024 .f32) i = keys (fun t => A2 m c (ix3 b t l)) (fun t => A3 m c (ix3 b t l)) t := by
  rw [← h_entry m c b t l]
  refine congrArg (V m c main_v5 : FVec Ideal S8x2304x1024 .f32) (funext fun x => Fin.ext ?_)
  match x with
  | ⟨0, _⟩ => exact h.1
  | ⟨1, _⟩ => exact h.2.1
  | ⟨2, _⟩ => exact h.2.2

theorem latent_at (c : Dev nD) (i : S8x2048x1024.Idx) (b : Fin 8) (t : Fin 2048) (l : Fin 1024) (h : (i 0).val = b.val ∧ (i 1).val = t.val ∧ (i 2).val = l.val) :
    (V m c main_v3 : FVec Ideal S8x2048x1024 .bf16) i = A1 m c (ix3 b t l) := by
  rw [← latent_entry m c b t l]
  refine congrArg (V m c main_v3 : FVec Ideal S8x2048x1024 .bf16) (funext fun x => Fin.ext ?_)
  match x with
  | ⟨0, _⟩ => exact h.1
  | ⟨1, _⟩ => exact h.2.1
  | ⟨2, _⟩ => exact h.2.2

theorem context_at (c : Dev nD) (i : S8x256x1024.Idx) (b : Fin 8) (t : Fin 256) (l : Fin 1024) (h : (i 0).val = b.val ∧ (i 1).val = 256 * 0 + t.val ∧ (i 2).val = l.val) :
    (V m c main_v4 : FVec Ideal S8x256x1024 .bf16) i = A0 m c (ix3 b t l) := by
  rw [← context_entry m c b t l]
  refine congrArg (V m c main_v4 : FVec Ideal S8x256x1024 .bf16) (funext fun x => Fin.ext ?_)
  match x with
  | ⟨0, _⟩ => exact h.1
  | ⟨1, _⟩ => exact h.2.1.trans (by show 256 * 0 + t.val = t.val; omega)
  | ⟨2, _⟩ => exact h.2.2

theorem mod_at (c : Dev nD) (i : S16x1x6144.Idx) (b : Fin 8) (T : ℕ) (k : Fin 6144) (h : (i 0).val = (if T = 0 then 8 else b.val) ∧ (i 2).val = k.val) :
    (V m c main_v9 : FVec Ideal S16x1x6144 .f32) i = if T = 0 then A5 m c (ix1 k) else A4 m c (ix2 b k) := by
  have h1 : (i 1).val = 0 := by have h' : (i 1).val < 1 := (i 1).isLt; omega
  split_ifs with h0
  · rw [← mod_entry8 m c k]
    refine congrArg (V m c main_v9 : FVec Ideal S16x1x6144 .f32) (funext fun x => Fin.ext ?_)
    match x with
    | ⟨0, _⟩ => exact h.1.trans (if_pos h0)
    | ⟨1, _⟩ => exact h1
    | ⟨2, _⟩ => exact h.2
  · rw [← mod_entry m c b k]
    refine congrArg (V m c main_v9 : FVec Ideal S16x1x6144 .f32) (funext fun x => Fin.ext ?_)
    match x with
    | ⟨0, _⟩ => exact h.1.trans (if_neg h0)
    | ⟨1, _⟩ => exact h1
    | ⟨2, _⟩ => exact h.2

/-- Where a block lies, its window's index known. -/
theorem place (b : Fin 8) (T : ℕ) (I : Fin 3 → ℕ) (e : I = ![b.val, T, 0]) (a : Fin 256) (l : Fin 1024) :
    I 0 * 1 + 1 * 0 = b.val ∧ I 1 * 256 + 1 * a.val = 256 * T + a.val ∧ I 2 * 1024 + 1 * l.val = l.val := by
  subst e
  refine ⟨?_, ?_, ?_⟩ <;> simp
  omega

/-- Where a block of the modulation lies. -/
theorem place_mod (B : ℕ) (I : Fin 3 → ℕ) (e : I = ![B, 0, 0]) (k : Fin 6144) : I 0 * 1 + 1 * 0 = B ∧ I 2 * 6144 + 1 * k.val = k.val := by
  subst e
  refine ⟨?_, ?_⟩ <;> simp

theorem gain_blk (c : Dev nD) (b : Fin 8) (q : Fin 3) (l : Fin 1024) : (iblk m c 12 (point b q) : FVec Ideal S1x1024 .f32) (ix2 0 l) = A6 m c (ix2 1 l) := by
  rw [← gain_entry m c l]
  refine congrArg (V m c main_v12) (funext fun x => Fin.ext ?_)
  have e := index_12 (point b q)
  match x with
  | ⟨0, _⟩ => show (cfg0.win 12).index (point b q) 0 * 1 + 1 * 0 = 0; rw [e]; simp
  | ⟨1, _⟩ => show (cfg0.win 12).index (point b q) 1 * 1024 + 1 * l.val = l.val; rw [e]; simp

theorem w_blk (c : Dev nD) (b : Fin 8) (q : Fin 3) (l j : Fin 1024) : (iblk m c 13 (point b q) : FVec Ideal S1x1024x1024 .bf16) (ix3 0 l j) = A7 m c (ix3 0 l j) := by
  rw [← w_entry m c l j]
  refine congrArg (V m c main_v0) (funext fun x => Fin.ext ?_)
  have e := index_13 (point b q)
  match x with
  | ⟨0, _⟩ => show (cfg0.win 13).index (point b q) 0 * 1 + 1 * 0 = 0; rw [e]; simp
  | ⟨1, _⟩ => show (cfg0.win 13).index (point b q) 1 * 1024 + 1 * l.val = l.val; rw [e]; simp
  | ⟨2, _⟩ => show (cfg0.win 13).index (point b q) 2 * 1024 + 1 * j.val = j.val; rw [e]; simp

theorem w1_blk (c : Dev nD) (b : Fin 8) (q : Fin 3) (l : Fin 1024) (k : Fin 4096) : (iblk m c 14 (point b q) : FVec Ideal S1x1024x4096 .bf16) (ix3 0 l k) = A8 m c (ix3 1 l k) := by
  rw [← w1_entry m c l k]
  refine congrArg (V m c main_v1) (funext fun x => Fin.ext ?_)
  have e := index_14 (point b q)
  match x with
  | ⟨0, _⟩ => show (cfg0.win 14).index (point b q) 0 * 1 + 1 * 0 = 1; rw [e]; simp
  | ⟨1, _⟩ => show (cfg0.win 14).index (point b q) 1 * 1024 + 1 * l.val = l.val; rw [e]; simp
  | ⟨2, _⟩ => show (cfg0.win 14).index (point b q) 2 * 4096 + 1 * k.val = k.val; rw [e]; simp

theorem w2_blk (c : Dev nD) (b : Fin 8) (q : Fin 3) (k : Fin 4096) (j : Fin 1024) : (iblk m c 15 (point b q) : FVec Ideal S1x4096x1024 .bf16) (ix3 0 k j) = A9 m c (ix3 1 k j) := by
  rw [← w2_entry m c k j]
  refine congrArg (V m c main_v2) (funext fun x => Fin.ext ?_)
  have e := index_15 (point b q)
  match x with
  | ⟨0, _⟩ => show (cfg0.win 15).index (point b q) 0 * 1 + 1 * 0 = 1; rw [e]; simp
  | ⟨1, _⟩ => show (cfg0.win 15).index (point b q) 1 * 4096 + 1 * k.val = k.val; rw [e]; simp
  | ⟨2, _⟩ => show (cfg0.win 15).index (point b q) 2 * 1024 + 1 * j.val = j.val; rw [e]; simp

/-- The result's rows, of the arguments in memory. -/
abbrev res (c : Dev nD) (b : Fin 8) (t : Fin 2304) (j : Fin 1024) : EReal :=
  result (A0 m c) (A1 m c) (A2 m c) (A3 m c) (A4 m c) (A5 m c) (A6 m c) (A7 m c) (A8 m c) (A9 m c) b t j

/-- A point's tile, its windows' indices known. -/
theorem tile_at (c : Dev nD) (b : Fin 8) (q : Fin 3) (T : Fin 9) (r : BitVec 32) (al ac : Vec Ideal S1x256x1024 .bf16) (h : Vec Ideal S1x256x1024 .f32) (mod : Vec Ideal S1x1x6144 .f32)
    (hs : Scalar.cmpi .slt (Scalar.addi (Scalar.addi (Scalar.muli (BitVec.ofNat 32 ((grid0.coords (point b q)) 1).val) 3#32) r) 0#32) 1#32 = if T.val = 0 then 1#1 else 0#1)
    (hal : T.val ≠ 0 → ∀ (a : Fin 256) (l : Fin 1024), al (ix3 0 a l) = A1 m c (ix3 b ⟨256 * (T.val - 1) + a.val, by omega⟩ l))
    (hac : ∀ (a : Fin 256) (l : Fin 1024), ac (ix3 0 a l) = A0 m c (ix3 b a l))
    (hh : ∀ (a : Fin 256) (l : Fin 1024), h (ix3 0 a l) = keys (fun t => A2 m c (ix3 b t l)) (fun t => A3 m c (ix3 b t l)) ⟨256 * T.val + a.val, by omega⟩)
    (hm : ∀ k : Fin 6144, mod (ix3 0 0 k) = if T.val = 0 then A5 m c (ix1 k) else A4 m c (ix2 b k)) (a : Fin 256) (j : Fin 1024) :
    tile (grid0.coords (point b q)) r al ac h mod (iblk m c 12 (point b q)) (iblk m c 13 (point b q)) (iblk m c 14 (point b q)) (iblk m c 15 (point b q)) (ix3 0 a j) = res m c b ⟨256 * T.val + a.val, by omega⟩ j :=
  tile_apply (A0 m c) (A1 m c) (A2 m c) (A3 m c) (A4 m c) (A5 m c) (A6 m c) (A7 m c) (A8 m c) (A9 m c) b T (grid0.coords (point b q)) r al ac h mod _ _ _ _ hs hal hac hh hm (gain_blk m c b q) (w_blk m c b q) (w1_blk m c b q) (w2_blk m c b q) a j

theorem tile_0 (c : Dev nD) (b : Fin 8) (q : Fin 3) (a : Fin 256) (j : Fin 1024) :
    tile (grid0.coords (point b q)) 0#32 (iblk m c 0 (point b q)) (iblk m c 1 (point b q)) (iblk m c 2 (point b q)) (iblk m c 3 (point b q)) (iblk m c 12 (point b q)) (iblk m c 13 (point b q)) (iblk m c 14 (point b q)) (iblk m c 15 (point b q)) (ix3 0 a j)
      = res m c b ⟨256 * (3 * q.val + 0) + a.val, by omega⟩ j := by
  have hb := point_div b q
  have hq := point_mod b q
  have e0 := index_0 (point b q)
  have e1 := index_1 (point b q)
  have e2 := index_2 (point b q)
  have e3 := index_3 (point b q)
  have es := first_0 (point b q)
  rw [hb, hq] at e0 e2 e3
  rw [hb] at e1
  rw [hq] at es
  exact tile_at m c b q ⟨3 * q.val + 0, by omega⟩ 0#32 _ _ _ _ es (fun _ a l => latent_at m c _ b _ l (place b _ _ e0 a l)) (fun a l => context_at m c _ b a l (place b 0 _ e1 a l))
    (fun a l => h_at m c _ b _ l (place b _ _ e2 a l)) (fun k => mod_at m c _ b _ k (place_mod _ _ e3 k)) a j

theorem tile_1 (c : Dev nD) (b : Fin 8) (q : Fin 3) (a : Fin 256) (j : Fin 1024) :
    tile (grid0.coords (point b q)) 1#32 (iblk m c 4 (point b q)) (iblk m c 5 (point b q)) (iblk m c 6 (point b q)) (iblk m c 7 (point b q)) (iblk m c 12 (point b q)) (iblk m c 13 (point b q)) (iblk m c 14 (point b q)) (iblk m c 15 (point b q)) (ix3 0 a j)
      = res m c b ⟨256 * (3 * q.val + 1) + a.val, by omega⟩ j := by
  have hb := point_div b q
  have hq := point_mod b q
  have e0 := index_4 (point b q)
  have e1 := index_5 (point b q)
  have e2 := index_6 (point b q)
  have e3 := index_7 (point b q)
  have es := first_1 (point b q)
  rw [hb, hq] at e0 e2 e3
  rw [hb] at e1
  rw [hq] at es
  exact tile_at m c b q ⟨3 * q.val + 1, by omega⟩ 1#32 _ _ _ _ es (fun _ a l => latent_at m c _ b _ l (place b _ _ e0 a l)) (fun a l => context_at m c _ b a l (place b 0 _ e1 a l))
    (fun a l => h_at m c _ b _ l (place b _ _ e2 a l)) (fun k => mod_at m c _ b _ k (place_mod _ _ e3 k)) a j

theorem tile_2 (c : Dev nD) (b : Fin 8) (q : Fin 3) (a : Fin 256) (j : Fin 1024) :
    tile (grid0.coords (point b q)) 2#32 (iblk m c 8 (point b q)) (iblk m c 9 (point b q)) (iblk m c 10 (point b q)) (iblk m c 11 (point b q)) (iblk m c 12 (point b q)) (iblk m c 13 (point b q)) (iblk m c 14 (point b q)) (iblk m c 15 (point b q)) (ix3 0 a j)
      = res m c b ⟨256 * (3 * q.val + 2) + a.val, by omega⟩ j := by
  have hb := point_div b q
  have hq := point_mod b q
  have e0 := index_8 (point b q)
  have e1 := index_9 (point b q)
  have e2 := index_10 (point b q)
  have e3 := index_11 (point b q)
  have es := first_2 (point b q)
  rw [hb, hq] at e0 e2 e3
  rw [hb] at e1
  rw [hq] at es
  exact tile_at m c b q ⟨3 * q.val + 2, by omega⟩ 2#32 _ _ _ _ es (fun _ a l => latent_at m c _ b _ l (place b _ _ e0 a l)) (fun a l => context_at m c _ b a l (place b 0 _ e1 a l))
    (fun a l => h_at m c _ b _ l (place b _ _ e2 a l)) (fun k => mod_at m c _ b _ k (place_mod _ _ e3 k)) a j

/-! ## The result -/

/-- A write elsewhere leaves what was written before. -/
theorem canon_skip (r : Rect S1x768x1024) (w : r.shape.Idx → Elt Ideal .f32) (L : List (View.Piece (Elt Ideal) S1x768x1024 .f32)) (y : S1x768x1024.Idx) (h : y ∉ r.set) :
    View.canon (⟨r, w⟩ :: L) y = View.canon L y := View.canon_cons_of_not_mem _ L h

/-- Rows below 256 are not in the second tile. -/
theorem not_mem1 (n : Fin 768) (d : Fin 1024) (h : n.val < 256) : (ix3 0 n d : S1x768x1024.Idx) ∉ r0_13.set := fun hm => by
  have h' : 256 ≤ n.val := (Rect.mem_set_unit.mp hm (1 : Fin 3)).1
  omega

/-- Rows below 512 are not in the third tile. -/
theorem not_mem2 (n : Fin 768) (d : Fin 1024) (h : n.val < 512) : (ix3 0 n d : S1x768x1024.Idx) ∉ r0_14.set := fun hm => by
  have h' : 512 ≤ n.val := (Rect.mem_set_unit.mp hm (1 : Fin 3)).1
  omega

/-- Three tiles' rows, read. -/
theorem three (p0 p1 p2 : Vec Ideal S1x256x1024 .f32) (f : Fin 768 → Fin 1024 → EReal)
    (h0 : ∀ (a : Fin 256) (j : Fin 1024), p0 (ix3 0 a j) = f ⟨a.val, by omega⟩ j) (h1 : ∀ (a : Fin 256) (j : Fin 1024), p1 (ix3 0 a j) = f ⟨256 + a.val, by omega⟩ j)
    (h2 : ∀ (a : Fin 256) (j : Fin 1024), p2 (ix3 0 a j) = f ⟨512 + a.val, by omega⟩ j) (n : Fin 768) (j : Fin 1024) :
    (View.canon [⟨r0_14, p2⟩, ⟨r0_13, p1⟩, ⟨r0_12, p0⟩] : FVec Ideal S1x768x1024 .f32) (ix3 0 n j) = f n j := by
  have hn := n.2
  by_cases c2 : 512 ≤ n.val
  · have e : (ix3 0 n j : S1x768x1024.Idx) = r0_14.emb (ix3 0 ⟨n.val - 512, by omega⟩ j) := by
      funext a; match a with
      | ⟨0, _⟩ => rfl
      | ⟨1, _⟩ => exact Fin.ext (by show n.val = 512 + 1 * (n.val - 512); omega)
      | ⟨2, _⟩ => exact Fin.ext (by show j.val = 0 + 1 * j.val; omega)
    rw [e, View.canon_cons_emb]
    exact (h2 _ j).trans (congrArg (f · j) (Fin.ext (by dsimp only; omega)))
  · rw [canon_skip r0_14 _ _ _ (not_mem2 n j (by omega))]
    by_cases c1 : 256 ≤ n.val
    · have e : (ix3 0 n j : S1x768x1024.Idx) = r0_13.emb (ix3 0 ⟨n.val - 256, by omega⟩ j) := by
        funext a; match a with
        | ⟨0, _⟩ => rfl
        | ⟨1, _⟩ => exact Fin.ext (by show n.val = 256 + 1 * (n.val - 256); omega)
        | ⟨2, _⟩ => exact Fin.ext (by show j.val = 0 + 1 * j.val; omega)
      rw [e, View.canon_cons_emb]
      exact (h1 _ j).trans (congrArg (f · j) (Fin.ext (by dsimp only; omega)))
    · rw [canon_skip r0_13 _ _ _ (not_mem1 n j (by omega))]
      have e : (ix3 0 n j : S1x768x1024.Idx) = r0_12.emb (ix3 0 ⟨n.val, by omega⟩ j) := by
        funext a; match a with
        | ⟨0, _⟩ => rfl
        | ⟨1, _⟩ => exact Fin.ext (by show n.val = 0 + 1 * n.val; omega)
        | ⟨2, _⟩ => exact Fin.ext (by show j.val = 0 + 1 * j.val; omega)
      rw [e, View.canon_cons_emb]
      exact h0 _ j

/-- Where the result's block of a point lies in the result array. -/
theorem read_16 (b : Fin 8) (q : Fin 3) (y : FVec Ideal S8x2304x1024 .f32) (n : Fin 768) (j : Fin 1024) :
    (((cfg0.win 16).blk (point b q)).view.read (Elt Ideal) y : FVec Ideal S1x768x1024 .f32) (ix3 0 n j) = y (ix3 b ⟨768 * q.val + n.val, by omega⟩ j) := by
  refine congrArg y (funext fun x => Fin.ext ?_)
  have e := index_16 (point b q)
  match x with
  | ⟨0, _⟩ => show (cfg0.win 16).index (point b q) 0 * 1 + 1 * 0 = b.val; rw [e]; simp [point_div]
  | ⟨1, _⟩ => show (cfg0.win 16).index (point b q) 1 * 768 + 1 * n.val = 768 * q.val + n.val; rw [e]; simp [point_mod]; omega
  | ⟨2, _⟩ => show (cfg0.win 16).index (point b q) 2 * 1024 + 1 * j.val = j.val; rw [e]; simp

/-- What the result array holds after the run, at an index. -/
theorem final_apply (c : Dev nD) (b : Fin 8) (q : Fin 3) (n : Fin 768) (j : Fin 1024) :
    ((dats m 0 c).arrAt 16 cfg0.N : FVec Ideal S8x2304x1024 .f32) (ix3 b ⟨768 * q.val + n.val, by omega⟩ j) = res m c b ⟨768 * q.val + n.val, by omega⟩ j := by
  refine (read_16 b q ((dats m 0 c).arrAt 16 cfg0.N) n j).symm.trans ?_
  rw [Value.blocks16 m c (point b q) (flush0_16 (point b q)), Value.flushed16, SplitUnit.out_eq]
  refine three _ _ _ (fun n j => res m c b ⟨768 * q.val + n.val, by omega⟩ j) (fun a j => (tile_0 m c b q a j).trans ?_) (fun a j => (tile_1 m c b q a j).trans ?_) (fun a j => (tile_2 m c b q a j).trans ?_) n j
  all_goals exact congrArg (res m c b · j) (Fin.ext (by dsimp only; omega))

end Cert.SplitKernel
-- ==== Proof.SplitEq.lean ====
/-
  The middle layers' end: kernel and reference end with one array.
-/
module

public import proofs.«01_k».proof.Proof.SplitKernel

@[expose] public section

noncomputable section

open Idealize.ShloMosaic Idealize.ShloMosaic.TcCoe Idealize.SL.Sem

namespace Cert.SplitEq

/-- Every index of the result is a batch entry, a row of a point's block and a channel. -/
theorem index_form (i : Cert.SplitIdeal.S8x2304x1024.Idx) : ∃ (b : Fin 8) (q : Fin 3) (n : Fin 768) (j : Fin 1024), i = ix3 b ⟨768 * q.val + n.val, by omega⟩ j := by
  have h1 : (i 1).val < 2304 := (i 1).isLt
  refine ⟨i 0, ⟨(i 1).val / 768, by omega⟩, ⟨(i 1).val % 768, by omega⟩, i 2, funext fun x => ?_⟩
  match x with
  | ⟨0, _⟩ => rfl
  | ⟨1, _⟩ => exact Fin.ext (by show (i 1).val = 768 * ((i 1).val / 768) + (i 1).val % 768; omega)
  | ⟨2, _⟩ => rfl

/-- The kernel's result array is the reference's, of the same arguments. -/
theorem final_eq (m : (ℓ : Loc Cert.SplitIdeal.nD Cert.SplitIdeal.τ Cert.SplitIdeal.sig) → Buf (Elt Ideal) ℓ) (c : Dev Cert.SplitIdeal.nD) :
    ((Cert.SplitIdeal.Gen.dats m 0 c).arrAt 16 Cert.SplitIdeal.cfg0.N : FVec Ideal Cert.SplitIdeal.S8x2304x1024 .f32) =
      Cert.SplitRefIdeal.Read.val_main_v88 (F := Ideal) (m ((c : Thread Cert.SplitIdeal.nD Cert.SplitIdeal.τ).loc Cert.SplitIdeal.main_arg0)) (m ((c : Thread Cert.SplitIdeal.nD Cert.SplitIdeal.τ).loc Cert.SplitIdeal.main_arg1)) (m ((c : Thread Cert.SplitIdeal.nD Cert.SplitIdeal.τ).loc Cert.SplitIdeal.main_arg2)) (m ((c : Thread Cert.SplitIdeal.nD Cert.SplitIdeal.τ).loc Cert.SplitIdeal.main_arg3)) (m ((c : Thread Cert.SplitIdeal.nD Cert.SplitIdeal.τ).loc Cert.SplitIdeal.main_arg4)) (m ((c : Thread Cert.SplitIdeal.nD Cert.SplitIdeal.τ).loc Cert.SplitIdeal.main_arg5)) (m ((c : Thread Cert.SplitIdeal.nD Cert.SplitIdeal.τ).loc Cert.SplitIdeal.main_arg6)) (m ((c : Thread Cert.SplitIdeal.nD Cert.SplitIdeal.τ).loc Cert.SplitIdeal.main_arg7)) (m ((c : Thread Cert.SplitIdeal.nD Cert.SplitIdeal.τ).loc Cert.SplitIdeal.main_arg8)) (m ((c : Thread Cert.SplitIdeal.nD Cert.SplitIdeal.τ).loc Cert.SplitIdeal.main_arg9)) := by
  funext i
  obtain ⟨b, q, n, j, rfl⟩ := index_form i
  exact (SplitKernel.final_apply m c b q n j).trans (SplitRef.out_apply _ _ _ _ _ _ _ _ _ _ b ⟨768 * q.val + n.val, by omega⟩ j).symm

end Cert.SplitEq
-- ==== Proof.LastUnit.lean ====
/-
  The last layer's end: its body's two stores are two tiles of the layer's end and the last norm.
-/
module

public import proofs.«01_k».proof.Proof.PostUnit

@[expose] public section

set_option maxRecDepth 16384

noncomputable section

open Idealize.ShloMosaic Idealize.ShloMosaic.TcCoe Idealize.SL.Sem

namespace Cert.LastUnit

open Cert.LastIdeal Cert.LastIdeal.Gen Cert.PostUnit

variable {F : FTy → Type} [FloatOps F] [Named F]

/-- A tile of the result. -/
def tile (f b o : Vec F S1x256x1024 .bf16) (h : Vec F S1x256x1024 .f32) (mod : Vec F S1x1x6144 .f32) (hn g : Vec F S1x1024 .f32) (w : Vec F S1x1024x1024 .bf16) (w1 : Vec F S1x1024x4096 .bf16) (w2 : Vec F S1x4096x1024 .bf16) (fin : Vec F S1x1024 .f32) : Vec F S1x256x1024 .f32 :=
  stored (norm (layer h mod (gated f b o hn) w g w1 w2) fin)

/-- The body's stores are the two tiles. -/
theorem out_eq (x0 x1 x2 : Vec F S1x256x1024 .bf16) (x3 : Vec F S1x256x1024 .f32) (x4 : Vec F S1x1x6144 .f32) (x5 x6 x7 : Vec F S1x256x1024 .bf16) (x8 : Vec F S1x256x1024 .f32) (x9 : Vec F S1x1x6144 .f32) (x10 x11 : Vec F S1x1024 .f32) (x12 : Vec F S1x1024x1024 .bf16) (x13 : Vec F S1x1024x4096 .bf16) (x14 : Vec F S1x4096x1024 .bf16) (x15 : Vec F S1x1024 .f32) :
    out0_16 x0 x1 x2 x3 x4 x5 x6 x7 x8 x9 x10 x11 x12 x13 x14 x15 =
      View.canon [⟨r0_29, tile x5 x6 x7 x8 x9 x10 x11 x12 x13 x14 x15⟩, ⟨r0_28, tile x0 x1 x2 x3 x4 x10 x11 x12 x13 x14 x15⟩] := rfl

end Cert.LastUnit
-- ==== Proof.GateHost.lean ====
/-
  The reference's lines that end the two recurrent directions, for `n` rows of each batch entry, read at an index over the
  extended reals: their sum normed over each head's channels, weighted and gated. The weights come already spread.
-/
module

public import proofs.«01_k».proof.Proof.PostHost
public import Idealize.ShloMosaic.Lib.IdealHost

@[expose] public section

set_option maxRecDepth 16384

noncomputable section

open Idealize.ShloMosaic Idealize.ShloMosaic.TcCoe Idealize.SL.Sem

namespace Cert.GateHost

open Cert.PostHost (Sc T)
open Cert.PostMath (chan headOf)

/-- The shape of `k` channels of eight heads, for `n` rows of each of eight batch entries. -/
abbrev H (n k : ℕ) : Shape := ⟨4, ![8, n, 8, k]⟩

/-- What the lines ask of their shapes. -/
structure Facts (n : ℕ) : Prop where
  split : (T n 1024).ShapeCasts (H n 128)
  total : (H n 128).ReducesTo [3] (T n 8)
  keep : (T n 8).BroadcastsInDim (H n 1) (![0, 1, 2] : Fin 3 → Fin (H n 1).rank)
  fill : Sc.BroadcastsInDim (H n 1) (![] : Fin 0 → Fin (H n 1).rank)
  along : (H n 1).BroadcastsInDim (H n 128) (![0, 1, 2, 3] : Fin 4 → Fin (H n 128).rank)
  join : (H n 128).ShapeCasts (T n 1024)
  one : Sc.BroadcastsInDim (T n 1024) (![] : Fin 0 → Fin (T n 1024).rank)

variable {n : ℕ}

/-- One over the root of each head's mean square. -/
def root (F : Facts n) (x : FVec Ideal (H n 128) .f32) : FVec Ideal (H n 1) .f32 :=
  Host.rsqrt (addf (Host.divf (broadcastInDim (H n 1) ![0, 1, 2] F.keep (Host.reduceAdd (mulf x x) (constant Sc .f32 0x00000000#32) F.total (by decide))) (broadcastInDim (H n 1) ![] F.fill (constant (F := Ideal) Sc .f32 0x43000000#32)))
    (broadcastInDim (H n 1) ![] F.fill (constant Sc .f32 0x358637BD#32)))

/-- The heads normed and weighted. -/
def normed (F : Facts n) (x g : FVec Ideal (H n 128) .f32) : FVec Ideal (H n 128) .f32 :=
  mulf (mulf x (broadcastInDim (H n 128) ![0, 1, 2, 3] F.along (root F x))) g

/-- The gate. -/
def gate (F : Facts n) (o : FVec Ideal (T n 1024) .f32) : FVec Ideal (T n 1024) .f32 :=
  Host.divf (broadcastInDim (T n 1024) ![] F.one (constant (F := Ideal) Sc .f32 0x3F800000#32)) (addf (broadcastInDim (T n 1024) ![] F.one (constant (F := Ideal) Sc .f32 0x3F800000#32)) (Host.exp (Host.negf o)))

/-- The two directions' end. -/
def gated (F : Facts n) (f b o : FVec Ideal (T n 1024) .f32) (g : FVec Ideal (H n 128) .f32) : FVec Ideal (T n 1024) .f32 :=
  mulf (shapeCast (T n 1024) (normed F (shapeCast (H n 128) (addf f b) F.split) g) F.join) (gate F o)

/-- How the lines that join, split or spread elements read at an index. -/
structure Reads (F : Facts n) : Prop where
  split : ∀ (x : FVec Ideal (T n 1024) .f32) (i : Fin 8) (t : Fin n) (a : Fin 8) (d : Fin 128), shapeCast (H n 128) x F.split (ix4 i t a d) = x (ix3 i t (chan a d))
  join : ∀ (x : FVec Ideal (H n 128) .f32) (i : Fin 8) (t : Fin n) (j : Fin 1024), shapeCast (T n 1024) x F.join (ix3 i t j) = x (ix4 i t (headOf j) ⟨j.val % 128, by omega⟩)
  root : ∀ (x : FVec Ideal (H n 128) .f32) (i : Fin 8) (t : Fin n) (a : Fin 8), root F x (ix4 i t a 0) = PostMath.inverseRoot 0x43000000#32 fun d => x (ix4 i t a d)
  along : ∀ (x : FVec Ideal (H n 1) .f32) (i : Fin 8) (t : Fin n) (a : Fin 8) (d : Fin 128), broadcastInDim (H n 128) ![0, 1, 2, 3] F.along x (ix4 i t a d) = x (ix4 i t a 0)
  one : ∀ (i : Fin 8) (t : Fin n) (j : Fin 1024), broadcastInDim (T n 1024) ![] F.one (constant (F := Ideal) Sc .f32 0x3F800000#32) (ix3 i t j) = Ideal.ofBits .f32 0x3F800000#32

theorem gate_apply {F : Facts n} (R : Reads F) (o : FVec Ideal (T n 1024) .f32) (i : Fin 8) (t : Fin n) (j : Fin 1024) : gate F o (ix3 i t j) = Ideal.logistic (o (ix3 i t j)) := by
  show Ideal.div (broadcastInDim (T n 1024) ![] F.one (constant (F := Ideal) Sc .f32 0x3F800000#32) (ix3 i t j))
    ((broadcastInDim (T n 1024) ![] F.one (constant (F := Ideal) Sc .f32 0x3F800000#32) (ix3 i t j) + Ideal.exp (-(o (ix3 i t j))) : EReal)) = _
  rw [R.one, Ideal.ofBits_one_f32]
  rfl

/-- The two directions' end, its weights known. -/
theorem gated_apply {F : Facts n} (R : Reads F) (f b o : FVec Ideal (T n 1024) .f32) (g : FVec Ideal (H n 128) .f32) (gain : Fin 1024 → EReal) (i : Fin 8) (t : Fin n)
    (hg : ∀ a d, g (ix4 i t a d) = gain (chan a d)) (j : Fin 1024) :
    gated F f b o g (ix3 i t j) = PostMath.gated (fun l => f (ix3 i t l)) (fun l => b (ix3 i t l)) (fun l => o (ix3 i t l)) gain j := by
  have hj : chan (headOf j) ⟨j.val % 128, by omega⟩ = j := Fin.ext (by show j.val / 128 * 128 + j.val % 128 = j.val; omega)
  show shapeCast (T n 1024) _ F.join (ix3 i t j) * gate F o (ix3 i t j) = (_ : EReal)
  rw [R.join, gate_apply R]
  show shapeCast (H n 128) (addf f b) F.split (ix4 i t (headOf j) ⟨j.val % 128, by omega⟩) * broadcastInDim (H n 128) ![0, 1, 2, 3] F.along (GateHost.root F (shapeCast (H n 128) (addf f b) F.split)) (ix4 i t (headOf j) ⟨j.val % 128, by omega⟩)
    * g (ix4 i t (headOf j) ⟨j.val % 128, by omega⟩) * Ideal.logistic (o (ix3 i t j)) = (_ : EReal)
  rw [R.along, R.root, hg, R.split, hj]
  simp only [R.split]
  rfl

/-- The latents' rows read so. -/
theorem reads_latent (F : Facts 2048) : Reads F where
  split x i t a d := by pointwise [chan]
  join x i t j := by pointwise [headOf]
  root x i t a := by pointwise [root, PostMath.inverseRoot]
  along x i t a d := by pointwise
  one i t j := by pointwise

/-- The context's rows read so. -/
theorem reads_context (F : Facts 256) : Reads F where
  split x i t a d := by pointwise [chan]
  join x i t j := by pointwise [headOf]
  root x i t a := by pointwise [root, PostMath.inverseRoot]
  along x i t a d := by pointwise
  one i t j := by pointwise

end Cert.GateHost
-- ==== Proof.LastRef.lean ====
/-
  The reference's last layer after its recurrent directions, with the final norm, read at an index over the extended reals.
-/
module

public import proofs.«01_k».proof.Proof.Gen.LastRefIdeal.Read
public import proofs.«01_k».proof.Proof.GateHost

@[expose] public section

set_option maxRecDepth 16384

noncomputable section

open Idealize.ShloMosaic Idealize.ShloMosaic.TcCoe Idealize.SL.Sem

namespace Cert.LastRef

open Cert.LastRefIdeal Cert.LastRefIdeal.Gen Cert.LastRefIdeal.Read
open Cert.PostMath (chan)

theorem facts : PostHost.Facts 2048 where
  keep := bcast_S8x2048_S8x2048x1_0_1
  fill := bcast_S_S8x2048x1
  along := bcast_S8x2048x1_S8x2048x1024_0_1_2
  zero := bcast_S_S8x2048x4096
  total := reducesTo_S8x2048x1024_S8x2048_d2
  project := dot_S8x2048x1024_S1024x1024_S8x2048x1024_2_0_01_1_n_n.wf
  up := dot_S8x2048x1024_S1024x4096_S8x2048x4096_2_0_01_1_n_n.wf
  down := dot_S8x2048x4096_S4096x1024_S8x2048x1024_2_0_01_1_n_n.wf

theorem gateFacts : GateHost.Facts 2048 where
  split := shapeCasts_S8x2048x1024_S8x2048x8x128
  total := reducesTo_S8x2048x8x128_S8x2048x8_d3
  keep := bcast_S8x2048x8_S8x2048x8x1_0_1_2
  fill := bcast_S_S8x2048x8x1
  along := bcast_S8x2048x8x1_S8x2048x8x128_0_1_2_3
  join := shapeCasts_S8x2048x8x128_S8x2048x1024
  one := bcast_S_S8x2048x1024

variable (x1 x3 x5 x7 : FVec Ideal S8x2048x1024 .f32) (x8 : FVec Ideal S8x6144 .f32) (x10 : FVec Ideal S2x1024 .f32) (x11 : FVec Ideal S4x1024 .f32)
  (x12 : FVec Ideal S2x1024x1024 .f32) (x13 : FVec Ideal S4x1024x4096 .f32) (x14 : FVec Ideal S4x4096x1024 .f32) (x15 : FVec Ideal S1024 .f32)

theorem v34_eq : val_main_v34 (F := Ideal) x1 x3 x5 x10 = GateHost.gated gateFacts x1 x3 x5 (val_main_v25 (F := Ideal) x10) := rfl

theorem v70_eq : val_main_v70 (F := Ideal) x1 x3 x5 x7 x8 x10 x11 x12 x13 x14 =
    PostHost.ended facts (PostHost.residual facts x7 (val_main_v34 (F := Ideal) x1 x3 x5 x10) (val_main_v10 (F := Ideal) x12) (val_main_v42 (F := Ideal) x8)) (val_main_v56 (F := Ideal) x11) (val_main_v60 (F := Ideal) x8) (val_main_v62 (F := Ideal) x8)
      (val_main_v68 (F := Ideal) x8) (val_main_v39 (F := Ideal) x13) (val_main_v41 (F := Ideal) x14) := rfl

theorem v83_eq : val_main_v83 (F := Ideal) x1 x3 x5 x7 x8 x10 x11 x12 x13 x14 x15 =
    PostHost.norm facts (val_main_v70 (F := Ideal) x1 x3 x5 x7 x8 x10 x11 x12 x13 x14) (val_main_v82 (F := Ideal) x15) := rfl

/-- The modulation at a row. -/
theorem modulation (i : Fin 8) (t : Fin 2048) (l : Fin 1024) :
    val_main_v42 (F := Ideal) x8 (ix3 i t l) = PostMath.part (fun k => x8 (ix2 i k)) 2048 (by omega) l
    ∧ val_main_v60 (F := Ideal) x8 (ix3 i t l) = (Ideal.ofBits .f32 0x3F800000#32 + PostMath.part (fun k => x8 (ix2 i k)) 4096 (by omega) l : EReal)
    ∧ val_main_v62 (F := Ideal) x8 (ix3 i t l) = PostMath.part (fun k => x8 (ix2 i k)) 3072 (by omega) l
    ∧ val_main_v68 (F := Ideal) x8 (ix3 i t l) = PostMath.part (fun k => x8 (ix2 i k)) 5120 (by omega) l := by
  unfold PostMath.part
  refine ⟨?_, ?_, ?_, ?_⟩
  · pointwise [val_main_v42, val_main_v3, val_main_v0]
  · pointwise [val_main_v60, val_main_v59, val_main_v58, val_main_cst_7, val_main_v5, val_main_v0]
  · pointwise [val_main_v62, val_main_v4, val_main_v0]
  · pointwise [val_main_v68, val_main_v6, val_main_v0]

/-- The heads' weights at an index. -/
theorem heads (i : Fin 8) (t : Fin 2048) (a : Fin 8) (d : Fin 128) : val_main_v25 (F := Ideal) x10 (ix4 i t a d) = x10 (ix2 1 (chan a d)) := by
  pointwise [val_main_v25, val_main_v24, val_main_v23, val_main_v8, val_main_v7, chan]

/-- The norms' weights and the matrices at an index. -/
theorem weights (i : Fin 8) (t : Fin 2048) (l l' : Fin 1024) (k : Fin 4096) :
    val_main_v56 (F := Ideal) x11 (ix3 i t l) = x11 (ix2 3 l) ∧ val_main_v10 (F := Ideal) x12 (ix2 l l') = x12 (ix3 1 l l')
    ∧ val_main_v39 (F := Ideal) x13 (ix2 l k) = x13 (ix3 3 l k) ∧ val_main_v41 (F := Ideal) x14 (ix2 k l) = x14 (ix3 3 k l) := by
  refine ⟨?_, ?_, ?_, ?_⟩
  · pointwise [val_main_v56, val_main_v55, val_main_v37, val_main_v36]
  · pointwise [val_main_v10, val_main_v9]
  · pointwise [val_main_v39, val_main_v38]
  · pointwise [val_main_v41, val_main_v40]

theorem final_gain (i : Fin 8) (t : Fin 2048) (l : Fin 1024) : val_main_v82 (F := Ideal) x15 (ix3 i t l) = x15 (ix1 l) := by
  pointwise [val_main_v82, val_main_v81]

/-- The layer's end for a row `h` of the residual, modulated by `mod`, its directions' rows `f`, `b` and `o`. -/
abbrev row (h : Fin 1024 → EReal) (mod : Fin 6144 → EReal) (f b o : Fin 1024 → EReal) (j : Fin 1024) : EReal :=
  PostMath.layer h mod (PostMath.gated f b o fun l => x10 (ix2 1 l)) (fun l j => x12 (ix3 1 l j)) (fun l => x11 (ix2 3 l)) (fun l k => x13 (ix3 3 l k)) (fun k j => x14 (ix3 3 k j)) j

theorem layer_apply (i : Fin 8) (t : Fin 2048) (j : Fin 1024) :
    val_main_v70 (F := Ideal) x1 x3 x5 x7 x8 x10 x11 x12 x13 x14 (ix3 i t j) =
      row x10 x11 x12 x13 x14 (fun l => x7 (ix3 i t l)) (fun k => x8 (ix2 i k)) (fun l => x1 (ix3 i t l)) (fun l => x3 (ix3 i t l)) (fun l => x5 (ix3 i t l)) j := by
  rw [v70_eq, PostHost.layer_apply (PostHost.reads_latent facts) _ _ _ _ _ _ _ _ _ _ i t j (fun k => x8 (ix2 i k)) (fun l => x11 (ix2 3 l)) (fun l => (modulation x8 i t l).1)
    (fun l => (weights x11 x12 x13 x14 i t l 0 0).1) (fun l => (modulation x8 i t l).2.1) (fun l => (modulation x8 i t l).2.2.1) (fun l => (modulation x8 i t l).2.2.2)]
  simp only [(weights x11 x12 x13 x14 i t _ _ 0).2.1, (weights x11 x12 x13 x14 i t _ 0 _).2.2.1, (weights x11 x12 x13 x14 i t _ 0 _).2.2.2, v34_eq,
    GateHost.gated_apply (GateHost.reads_latent gateFacts) _ _ _ _ (fun l => x10 (ix2 1 l)) i t (heads x10 i t)]

/-- The result at an index. -/
theorem out_apply (i : Fin 8) (t : Fin 2048) (j : Fin 1024) :
    val_main_v83 (F := Ideal) x1 x3 x5 x7 x8 x10 x11 x12 x13 x14 x15 (ix3 i t j) =
      PostMath.norm (row x10 x11 x12 x13 x14 (fun l => x7 (ix3 i t l)) (fun k => x8 (ix2 i k)) (fun l => x1 (ix3 i t l)) (fun l => x3 (ix3 i t l)) (fun l => x5 (ix3 i t l))) (fun l => x15 (ix1 l)) j := by
  rw [v83_eq, PostHost.norm_apply (PostHost.reads_latent facts)]
  simp only [layer_apply, final_gain]

end Cert.LastRef
-- ==== Proof.LastKernel.lean ====
/-
  The last layer's end: the kernel's result array read at an index over the extended reals, as a function of its arguments.
-/
module

public import proofs.«01_k».proof.Proof.PostRead
public import proofs.«01_k».proof.Proof.LastUnit
public import proofs.«01_k».proof.Proof.LastRef
public import proofs.«01_k».proof.Proof.Gen.LastIdeal.Value
public import Idealize.ShloMosaic.Lib.Pipeline.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LastKernel

open Cert.LastIdeal Cert.LastIdeal.Gen
open Cert.LastUnit (tile)
open Cert.LastRef (row)

variable (m : (ℓ : Loc nD τ sig) → Buf (Elt Ideal) ℓ)

/-- The arguments in memory: the two directions and the gate of the latents, their residual, the modulation and the weights. -/
abbrev A1 (c : Dev nD) : FVec Ideal S8x2048x1024 .f32 := m ((c : Thread nD τ).loc main_arg1)
abbrev A3 (c : Dev nD) : FVec Ideal S8x2048x1024 .f32 := m ((c : Thread nD τ).loc main_arg3)
abbrev A5 (c : Dev nD) : FVec Ideal S8x2048x1024 .f32 := m ((c : Thread nD τ).loc main_arg5)
abbrev A7 (c : Dev nD) : FVec Ideal S8x2048x1024 .f32 := m ((c : Thread nD τ).loc main_arg7)
abbrev A8 (c : Dev nD) : FVec Ideal S8x6144 .f32 := m ((c : Thread nD τ).loc main_arg8)
abbrev A10 (c : Dev nD) : FVec Ideal S2x1024 .f32 := m ((c : Thread nD τ).loc main_arg10)
abbrev A11 (c : Dev nD) : FVec Ideal S4x1024 .f32 := m ((c : Thread nD τ).loc main_arg11)
abbrev A12 (c : Dev nD) : FVec Ideal S2x1024x1024 .f32 := m ((c : Thread nD τ).loc main_arg12)
abbrev A13 (c : Dev nD) : FVec Ideal S4x1024x4096 .f32 := m ((c : Thread nD τ).loc main_arg13)
abbrev A14 (c : Dev nD) : FVec Ideal S4x4096x1024 .f32 := m ((c : Thread nD τ).loc main_arg14)
abbrev A15 (c : Dev nD) : FVec Ideal S1024 .f32 := m ((c : Thread nD τ).loc main_arg15)

/-! ## The arrays as they enter the region: the latents' rows lie after the context's -/

/-- An array of all rows, read where a row of the latents lies. -/
theorem at_row {α : Type} (x : S8x2304x1024.Idx → α) (y : S8x2304x1024.Idx) (i : Fin 8) (t : Fin 2048) (l : Fin 1024) (h : (y 0).val = i.val ∧ (y 1).val = 256 + t.val ∧ (y 2).val = l.val) :
    x y = x (ix3 i ⟨256 + t.val, by omega⟩ l) := by
  refine congrArg x (funext fun a => Fin.ext ?_)
  match a with
  | ⟨0, _⟩ => exact h.1
  | ⟨1, _⟩ => exact h.2.1
  | ⟨2, _⟩ => exact h.2.2

theorem f_entry (c : Dev nD) (i : Fin 8) (t : Fin 2048) (l : Fin 1024) :
    (V m c main_v4 : FVec Ideal S8x2304x1024 .bf16) (ix3 i ⟨256 + t.val, by omega⟩ l) = A1 m c (ix3 i t l) := by
  unfold V
  after_reads_at
  rfl

theorem f_at (c : Dev nD) (y : S8x2304x1024.Idx) (i : Fin 8) (t : Fin 2048) (l : Fin 1024) (h : (y 0).val = i.val ∧ (y 1).val = 256 + t.val ∧ (y 2).val = l.val) :
    (V m c main_v4 : FVec Ideal S8x2304x1024 .bf16) y = A1 m c (ix3 i t l) :=
  (at_row _ y i t l h).trans (f_entry m c i t l)

theorem b_entry (c : Dev nD) (i : Fin 8) (t : Fin 2048) (l : Fin 1024) :
    (V m c main_v6 : FVec Ideal S8x2304x1024 .bf16) (ix3 i ⟨256 + t.val, by omega⟩ l) = A3 m c (ix3 i t l) := by
  unfold V
  after_reads_at
  rfl

theorem b_at (c : Dev nD) (y : S8x2304x1024.Idx) (i : Fin 8) (t : Fin 2048) (l : Fin 1024) (h : (y 0).val = i.val ∧ (y 1).val = 256 + t.val ∧ (y 2).val = l.val) :
    (V m c main_v6 : FVec Ideal S8x2304x1024 .bf16) y = A3 m c (ix3 i t l) :=
  (at_row _ y i t l h).trans (b_entry m c i t l)

theorem o_entry (c : Dev nD) (i : Fin 8) (t : Fin 2048) (l : Fin 1024) :
    (V m c main_v8 : FVec Ideal S8x2304x1024 .bf16) (ix3 i ⟨256 + t.val, by omega⟩ l) = A5 m c (ix3 i t l) := by
  unfold V
  after_reads_at
  rfl

theorem o_at (c : Dev nD) (y : S8x2304x1024.Idx) (i : Fin 8) (t : Fin 2048) (l : Fin 1024) (h : (y 0).val = i.val ∧ (y 1).val = 256 + t.val ∧ (y 2).val = l.val) :
    (V m c main_v8 : FVec Ideal S8x2304x1024 .bf16) y = A5 m c (ix3 i t l) :=
  (at_row _ y i t l h).trans (o_entry m c i t l)

theorem h_entry (c : Dev nD) (i : Fin 8) (t : Fin 2048) (l : Fin 1024) :
    (V m c main_v11 : FVec Ideal S8x2304x1024 .f32) (ix3 i ⟨256 + t.val, by omega⟩ l) = A7 m c (ix3 i t l) := by
  unfold V
  after_reads_at

theorem h_at (c : Dev nD) (y : S8x2304x1024.Idx) (i : Fin 8) (t : Fin 2048) (l : Fin 1024) (h : (y 0).val = i.val ∧ (y 1).val = 256 + t.val ∧ (y 2).val = l.val) :
    (V m c main_v11 : FVec Ideal S8x2304x1024 .f32) y = A7 m c (ix3 i t l) :=
  (at_row _ y i t l h).trans (h_entry m c i t l)

theorem mod_entry (c : Dev nD) (i : Fin 8) (k : Fin 6144) :
    (V m c main_v15 : FVec Ideal S16x1x6144 .f32) (ix3 ⟨i.val, by omega⟩ 0 k) = A8 m c (ix2 i k) := by
  unfold V
  after_reads_at
  rfl

theorem mod_at (c : Dev nD) (y : S16x1x6144.Idx) (i : Fin 8) (k : Fin 6144) (h : (y 0).val = i.val ∧ (y 2).val = k.val) :
    (V m c main_v15 : FVec Ideal S16x1x6144 .f32) y = A8 m c (ix2 i k) := by
  have h1 : (y 1).val = 0 := by have h' : (y 1).val < 1 := (y 1).isLt; omega
  rw [← mod_entry m c i k]
  refine congrArg (V m c main_v15 : FVec Ideal S16x1x6144 .f32) (funext fun x => Fin.ext ?_)
  match x with
  | ⟨0, _⟩ => exact h.1
  | ⟨1, _⟩ => exact h1
  | ⟨2, _⟩ => exact h.2

theorem heads_entry (c : Dev nD) (l : Fin 1024) : (V m c main_v18 : FVec Ideal S1x1024 .f32) (ix2 0 l) = A10 m c (ix2 1 l) := by
  entry_read
  pointwise

theorem gain_entry (c : Dev nD) (l : Fin 1024) : (V m c main_v19 : FVec Ideal S1x1024 .f32) (ix2 0 l) = A11 m c (ix2 3 l) := by
  entry_read
  pointwise

theorem final_entry (c : Dev nD) (l : Fin 1024) : (V m c main_v20 : FVec Ideal S1x1024 .f32) (ix2 0 l) = A15 m c (ix1 l) := by
  entry_read
  pointwise

theorem w_entry (c : Dev nD) (l j : Fin 1024) : (V m c main_v0 : FVec Ideal S2x1024x1024 .bf16) (ix3 1 l j) = A12 m c (ix3 1 l j) := by
  unfold V
  after_reads_at

theorem w1_entry (c : Dev nD) (l : Fin 1024) (k : Fin 4096) : (V m c main_v1 : FVec Ideal S4x1024x4096 .bf16) (ix3 3 l k) = A13 m c (ix3 3 l k) := by
  unfold V
  after_reads_at

theorem w2_entry (c : Dev nD) (k : Fin 4096) (j : Fin 1024) : (V m c main_v2 : FVec Ideal S4x4096x1024 .bf16) (ix3 3 k j) = A14 m c (ix3 3 k j) := by
  unfold V
  after_reads_at

/-! ## The windows' blocks: the batch entry of a grid point is the point over 4; it makes two tiles -/

/-- The grid point of a batch entry and two tiles. -/
def point (b : Fin 8) (q : Fin 4) : Fin cfg0.N := ⟨b.val * 4 + q.val, by have e : cfg0.N = 32 := N_0; omega⟩

theorem point_div (b : Fin 8) (q : Fin 4) : (point b q).val / 4 = b.val := by unfold point; dsimp only; omega
theorem point_mod (b : Fin 8) (q : Fin 4) : (point b q).val % 4 = q.val := by unfold point; dsimp only; omega

theorem index_0 : ∀ t : Fin grid0.N, (cfg0.win 0).index t = ![t.val / 4, 2 * (t.val % 4) + 0 + 1, 0] := by decide +kernel
theorem index_1 : ∀ t : Fin grid0.N, (cfg0.win 1).index t = ![t.val / 4, 2 * (t.val % 4) + 0 + 1, 0] := by decide +kernel
theorem index_2 : ∀ t : Fin grid0.N, (cfg0.win 2).index t = ![t.val / 4, 2 * (t.val % 4) + 0 + 1, 0] := by decide +kernel
theorem index_3 : ∀ t : Fin grid0.N, (cfg0.win 3).index t = ![t.val / 4, 2 * (t.val % 4) + 0 + 1, 0] := by decide +kernel
theorem index_4 : ∀ t : Fin grid0.N, (cfg0.win 4).index t = ![t.val / 4, 0, 0] := by decide +kernel
theorem index_5 : ∀ t : Fin grid0.N, (cfg0.win 5).index t = ![t.val / 4, 2 * (t.val % 4) + 1 + 1, 0] := by decide +kernel
theorem index_6 : ∀ t : Fin grid0.N, (cfg0.win 6).index t = ![t.val / 4, 2 * (t.val % 4) + 1 + 1, 0] := by decide +kernel
theorem index_7 : ∀ t : Fin grid0.N, (cfg0.win 7).index t = ![t.val / 4, 2 * (t.val % 4) + 1 + 1, 0] := by decide +kernel
theorem index_8 : ∀ t : Fin grid0.N, (cfg0.win 8).index t = ![t.val / 4, 2 * (t.val % 4) + 1 + 1, 0] := by decide +kernel
theorem index_9 : ∀ t : Fin grid0.N, (cfg0.win 9).index t = ![t.val / 4, 0, 0] := by decide +kernel
theorem index_10 : ∀ t : Fin grid0.N, (cfg0.win 10).index t = ![0, 0] := by decide +kernel
theorem index_11 : ∀ t : Fin grid0.N, (cfg0.win 11).index t = ![0, 0] := by decide +kernel
theorem index_12 : ∀ t : Fin grid0.N, (cfg0.win 12).index t = ![1, 0, 0] := by decide +kernel
theorem index_13 : ∀ t : Fin grid0.N, (cfg0.win 13).index t = ![3, 0, 0] := by decide +kernel
theorem index_14 : ∀ t : Fin grid0.N, (cfg0.win 14).index t = ![3, 0, 0] := by decide +kernel
theorem index_15 : ∀ t : Fin grid0.N, (cfg0.win 15).index t = ![0, 0] := by decide +kernel
theorem index_16 : ∀ t : Fin grid0.N, (cfg0.win 16).index t = ![t.val / 4, t.val % 4, 0] := by decide +kernel

/-- Where a block of the latents' rows lies, its window's index known. -/
theorem place (b : Fin 8) (T : ℕ) (I : Fin 3 → ℕ) (e : I = ![b.val, T + 1, 0]) (a : Fin 256) (l : Fin 1024) :
    I 0 * 1 + 1 * 0 = b.val ∧ I 1 * 256 + 1 * a.val = 256 + (256 * T + a.val) ∧ I 2 * 1024 + 1 * l.val = l.val := by
  subst e
  refine ⟨?_, ?_, ?_⟩ <;> simp
  omega

/-- Where a block of the modulation lies. -/
theorem place_mod (B : ℕ) (I : Fin 3 → ℕ) (e : I = ![B, 0, 0]) (k : Fin 6144) : I 0 * 1 + 1 * 0 = B ∧ I 2 * 6144 + 1 * k.val = k.val := by
  subst e
  refine ⟨?_, ?_⟩ <;> simp

theorem heads_blk (c : Dev nD) (b : Fin 8) (q : Fin 4) (l : Fin 1024) : (iblk m c 10 (point b q) : FVec Ideal S1x1024 .f32) (ix2 0 l) = A10 m c (ix2 1 l) := by
  rw [← heads_entry m c l]
  refine congrArg (V m c main_v18) (funext fun x => Fin.ext ?_)
  have e := index_10 (point b q)
  match x with
  | ⟨0, _⟩ => show (cfg0.win 10).index (point b q) 0 * 1 + 1 * 0 = 0; rw [e]; simp
  | ⟨1, _⟩ => show (cfg0.win 10).index (point b q) 1 * 1024 + 1 * l.val = l.val; rw [e]; simp

theorem gain_blk (c : Dev nD) (b : Fin 8) (q : Fin 4) (l : Fin 1024) : (iblk m c 11 (point b q) : FVec Ideal S1x1024 .f32) (ix2 0 l) = A11 m c (ix2 3 l) := by
  rw [← gain_entry m c l]
  refine congrArg (V m c main_v19) (funext fun x => Fin.ext ?_)
  have e := index_11 (point b q)
  match x with
  | ⟨0, _⟩ => show (cfg0.win 11).index (point b q) 0 * 1 + 1 * 0 = 0; rw [e]; simp
  | ⟨1, _⟩ => show (cfg0.win 11).index (point b q) 1 * 1024 + 1 * l.val = l.val; rw [e]; simp

theorem final_blk (c : Dev nD) (b : Fin 8) (q : Fin 4) (l : Fin 1024) : (iblk m c 15 (point b q) : FVec Ideal S1x1024 .f32) (ix2 0 l) = A15 m c (ix1 l) := by
  rw [← final_entry m c l]
  refine congrArg (V m c main_v20) (funext fun x => Fin.ext ?_)
  have e := index_15 (point b q)
  match x with
  | ⟨0, _⟩ => show (cfg0.win 15).index (point b q) 0 * 1 + 1 * 0 = 0; rw [e]; simp
  | ⟨1, _⟩ => show (cfg0.win 15).index (point b q) 1 * 1024 + 1 * l.val = l.val; rw [e]; simp

theorem w_blk (c : Dev nD) (b : Fin 8) (q : Fin 4) (l : Fin 1024) (j : Fin 1024) : (iblk m c 12 (point b q) : FVec Ideal S1x1024x1024 .bf16) (ix3 0 l j) = A12 m c (ix3 1 l j) := by
  rw [← w_entry m c l j]
  refine congrArg (V m c main_v0) (funext fun x => Fin.ext ?_)
  have e := index_12 (point b q)
  match x with
  | ⟨0, _⟩ => show (cfg0.win 12).index (point b q) 0 * 1 + 1 * 0 = 1; rw [e]; simp
  | ⟨1, _⟩ => show (cfg0.win 12).index (point b q) 1 * 1024 + 1 * l.val = l.val; rw [e]; simp
  | ⟨2, _⟩ => show (cfg0.win 12).index (point b q) 2 * 1024 + 1 * j.val = j.val; rw [e]; simp

theorem w1_blk (c : Dev nD) (b : Fin 8) (q : Fin 4) (l : Fin 1024) (k : Fin 4096) : (iblk m c 13 (point b q) : FVec Ideal S1x1024x4096 .bf16) (ix3 0 l k) = A13 m c (ix3 3 l k) := by
  rw [← w1_entry m c l k]
  refine congrArg (V m c main_v1) (funext fun x => Fin.ext ?_)
  have e := index_13 (point b q)
  match x with
  | ⟨0, _⟩ => show (cfg0.win 13).index (point b q) 0 * 1 + 1 * 0 = 3; rw [e]; simp
  | ⟨1, _⟩ => show (cfg0.win 13).index (point b q) 1 * 1024 + 1 * l.val = l.val; rw [e]; simp
  | ⟨2, _⟩ => show (cfg0.win 13).index (point b q) 2 * 4096 + 1 * k.val = k.val; rw [e]; simp

theorem w2_blk (c : Dev nD) (b : Fin 8) (q : Fin 4) (k : Fin 4096) (j : Fin 1024) : (iblk m c 14 (point b q) : FVec Ideal S1x4096x1024 .bf16) (ix3 0 k j) = A14 m c (ix3 3 k j) := by
  rw [← w2_entry m c k j]
  refine congrArg (V m c main_v2) (funext fun x => Fin.ext ?_)
  have e := index_14 (point b q)
  match x with
  | ⟨0, _⟩ => show (cfg0.win 14).index (point b q) 0 * 1 + 1 * 0 = 3; rw [e]; simp
  | ⟨1, _⟩ => show (cfg0.win 14).index (point b q) 1 * 4096 + 1 * k.val = k.val; rw [e]; simp
  | ⟨2, _⟩ => show (cfg0.win 14).index (point b q) 2 * 1024 + 1 * j.val = j.val; rw [e]; simp

/-- The result's rows, of the arguments in memory. -/
def res (c : Dev nD) (i : Fin 8) (t : Fin 2048) (j : Fin 1024) : EReal :=
  PostMath.norm (row (A10 m c) (A11 m c) (A12 m c) (A13 m c) (A14 m c) (fun l => A7 m c (ix3 i t l)) (fun k => A8 m c (ix2 i k)) (fun l => A1 m c (ix3 i t l)) (fun l => A3 m c (ix3 i t l)) (fun l => A5 m c (ix3 i t l))) (fun l => A15 m c (ix1 l)) j

/-- A point's tile whose blocks hold the rows from `256 T` on. -/
theorem tile_at (c : Dev nD) (b : Fin 8) (q : Fin 4) (T : Fin 8) (f d o : Vec Ideal S1x256x1024 .bf16) (h : Vec Ideal S1x256x1024 .f32) (mod : Vec Ideal S1x1x6144 .f32)
    (hf : ∀ (a : Fin 256) (l : Fin 1024), f (ix3 0 a l) = A1 m c (ix3 b ⟨256 * T.val + a.val, by omega⟩ l))
    (hd : ∀ (a : Fin 256) (l : Fin 1024), d (ix3 0 a l) = A3 m c (ix3 b ⟨256 * T.val + a.val, by omega⟩ l))
    (ho : ∀ (a : Fin 256) (l : Fin 1024), o (ix3 0 a l) = A5 m c (ix3 b ⟨256 * T.val + a.val, by omega⟩ l))
    (hh : ∀ (a : Fin 256) (l : Fin 1024), h (ix3 0 a l) = A7 m c (ix3 b ⟨256 * T.val + a.val, by omega⟩ l))
    (hm : ∀ k : Fin 6144, mod (ix3 0 0 k) = A8 m c (ix2 b k)) (a : Fin 256) (j : Fin 1024) :
    tile f d o h mod (iblk m c 10 (point b q)) (iblk m c 11 (point b q)) (iblk m c 12 (point b q)) (iblk m c 13 (point b q)) (iblk m c 14 (point b q)) (iblk m c 15 (point b q)) (ix3 0 a j) = res m c b ⟨256 * T.val + a.val, by omega⟩ j := by
  unfold tile res
  rw [PostUnit.stored_apply, PostUnit.norm_apply]
  simp only [PostUnit.layer_apply, PostUnit.gated_apply, hf, hd, ho, hh, hm, heads_blk m c b q, gain_blk m c b q, final_blk m c b q, w_blk m c b q, w1_blk m c b q, w2_blk m c b q]

set_option maxHeartbeats 2000000 in
theorem tile_0 (c : Dev nD) (b : Fin 8) (q : Fin 4) (a : Fin 256) (j : Fin 1024) :
    tile (iblk m c 0 (point b q)) (iblk m c 1 (point b q)) (iblk m c 2 (point b q)) (iblk m c 3 (point b q)) (iblk m c 4 (point b q)) (iblk m c 10 (point b q)) (iblk m c 11 (point b q)) (iblk m c 12 (point b q)) (iblk m c 13 (point b q)) (iblk m c 14 (point b q)) (iblk m c 15 (point b q)) (ix3 0 a j) = res m c b ⟨256 * (2 * q.val + 0) + a.val, by omega⟩ j := by
  have hb := point_div b q
  have hq := point_mod b q
  have e0 := index_0 (point b q)
  have e1 := index_1 (point b q)
  have e2 := index_2 (point b q)
  have e3 := index_3 (point b q)
  have e4 := index_4 (point b q)
  rw [hb, hq] at e0 e1 e2 e3
  rw [hb] at e4
  exact tile_at m c b q ⟨2 * q.val + 0, by omega⟩ _ _ _ _ _ (fun a l => f_at m c _ b _ l (place b (2 * q.val + 0) _ e0 a l)) (fun a l => b_at m c _ b _ l (place b (2 * q.val + 0) _ e1 a l)) (fun a l => o_at m c _ b _ l (place b (2 * q.val + 0) _ e2 a l))
    (fun a l => h_at m c _ b _ l (place b (2 * q.val + 0) _ e3 a l)) (fun k => mod_at m c _ b k (place_mod _ _ e4 k)) a j

set_option maxHeartbeats 2000000 in
theorem tile_1 (c : Dev nD) (b : Fin 8) (q : Fin 4) (a : Fin 256) (j : Fin 1024) :
    tile (iblk m c 5 (point b q)) (iblk m c 6 (point b q)) (iblk m c 7 (point b q)) (iblk m c 8 (point b q)) (iblk m c 9 (point b q)) (iblk m c 10 (point b q)) (iblk m c 11 (point b q)) (iblk m c 12 (point b q)) (iblk m c 13 (point b q)) (iblk m c 14 (point b q)) (iblk m c 15 (point b q)) (ix3 0 a j) = res m c b ⟨256 * (2 * q.val + 1) + a.val, by omega⟩ j := by
  have hb := point_div b q
  have hq := point_mod b q
  have e0 := index_5 (point b q)
  have e1 := index_6 (point b q)
  have e2 := index_7 (point b q)
  have e3 := index_8 (point b q)
  have e4 := index_9 (point b q)
  rw [hb, hq] at e0 e1 e2 e3
  rw [hb] at e4
  exact tile_at m c b q ⟨2 * q.val + 1, by omega⟩ _ _ _ _ _ (fun a l => f_at m c _ b _ l (place b (2 * q.val + 1) _ e0 a l)) (fun a l => b_at m c _ b _ l (place b (2 * q.val + 1) _ e1 a l)) (fun a l => o_at m c _ b _ l (place b (2 * q.val + 1) _ e2 a l))
    (fun a l => h_at m c _ b _ l (place b (2 * q.val + 1) _ e3 a l)) (fun k => mod_at m c _ b k (place_mod _ _ e4 k)) a j

/-! ## The result -/

/-- A write elsewhere leaves what was written before. -/
theorem canon_skip (r : Rect S1x512x1024) (w : r.shape.Idx → Elt Ideal .f32) (L : List (View.Piece (Elt Ideal) S1x512x1024 .f32)) (y : S1x512x1024.Idx) (h : y ∉ r.set) :
    View.canon (⟨r, w⟩ :: L) y = View.canon L y := View.canon_cons_of_not_mem _ L h

/-- Rows below 256 are not in the second tile. -/
theorem not_mem1 (n : Fin 512) (d : Fin 1024) (h : n.val < 256) : (ix3 0 n d : S1x512x1024.Idx) ∉ r0_29.set := fun hm => by
  have h' : 256 ≤ n.val := (Rect.mem_set_unit.mp hm (1 : Fin 3)).1
  omega

/-- Two tiles' rows, read. -/
theorem two (p0 p1 : Vec Ideal S1x256x1024 .f32) (f : Fin 512 → Fin 1024 → EReal)
    (h0 : ∀ (a : Fin 256) (j : Fin 1024), p0 (ix3 0 a j) = f ⟨a.val, by omega⟩ j) (h1 : ∀ (a : Fin 256) (j : Fin 1024), p1 (ix3 0 a j) = f ⟨256 + a.val, by omega⟩ j) (n : Fin 512) (j : Fin 1024) :
    (View.canon [⟨r0_29, p1⟩, ⟨r0_28, p0⟩] : FVec Ideal S1x512x1024 .f32) (ix3 0 n j) = f n j := by
  have hn := n.2
  by_cases c1 : 256 ≤ n.val
  · have e : (ix3 0 n j : S1x512x1024.Idx) = r0_29.emb (ix3 0 ⟨n.val - 256, by omega⟩ j) := by
      funext a; match a with
      | ⟨0, _⟩ => rfl
      | ⟨1, _⟩ => exact Fin.ext (by show n.val = 256 + 1 * (n.val - 256); omega)
      | ⟨2, _⟩ => exact Fin.ext (by show j.val = 0 + 1 * j.val; omega)
    rw [e, View.canon_cons_emb]
    exact (h1 _ j).trans (congrArg (f · j) (Fin.ext (by dsimp only; omega)))
  · rw [canon_skip r0_29 _ _ _ (not_mem1 n j (by omega))]
    have e : (ix3 0 n j : S1x512x1024.Idx) = r0_28.emb (ix3 0 ⟨n.val, by omega⟩ j) := by
      funext a; match a with
      | ⟨0, _⟩ => rfl
      | ⟨1, _⟩ => exact Fin.ext (by show n.val = 0 + 1 * n.val; omega)
      | ⟨2, _⟩ => exact Fin.ext (by show j.val = 0 + 1 * j.val; omega)
    rw [e, View.canon_cons_emb]
    exact h0 _ j

/-- Where the result's block of a point lies in the result array. -/
theorem read_16 (b : Fin 8) (q : Fin 4) (y : FVec Ideal S8x2048x1024 .f32) (n : Fin 512) (j : Fin 1024) :
    (((cfg0.win 16).blk (point b q)).view.read (Elt Ideal) y : FVec Ideal S1x512x1024 .f32) (ix3 0 n j) = y (ix3 b ⟨512 * q.val + n.val, by omega⟩ j) := by
  refine congrArg y (funext fun x => Fin.ext ?_)
  have e := index_16 (point b q)
  match x with
  | ⟨0, _⟩ => show (cfg0.win 16).index (point b q) 0 * 1 + 1 * 0 = b.val; rw [e]; simp [point_div]
  | ⟨1, _⟩ => show (cfg0.win 16).index (point b q) 1 * 512 + 1 * n.val = 512 * q.val + n.val; rw [e]; simp [point_mod]; omega
  | ⟨2, _⟩ => show (cfg0.win 16).index (point b q) 2 * 1024 + 1 * j.val = j.val; rw [e]; simp

/-- What the result array holds after the run, at an index. -/
theorem final_apply (c : Dev nD) (b : Fin 8) (q : Fin 4) (n : Fin 512) (j : Fin 1024) :
    ((dats m 0 c).arrAt 16 cfg0.N : FVec Ideal S8x2048x1024 .f32) (ix3 b ⟨512 * q.val + n.val, by omega⟩ j) = res m c b ⟨512 * q.val + n.val, by omega⟩ j := by
  refine (read_16 b q ((dats m 0 c).arrAt 16 cfg0.N) n j).symm.trans ?_
  rw [Value.blocks16 m c (point b q) (flush0_16 (point b q)), Value.flushed16, LastUnit.out_eq]
  refine two _ _ (fun n j => res m c b ⟨512 * q.val + n.val, by omega⟩ j) (fun a j => (tile_0 m c b q a j).trans ?_) (fun a j => (tile_1 m c b q a j).trans ?_) n j
  all_goals exact congrArg (res m c b · j) (Fin.ext (by dsimp only; omega))

end Cert.LastKernel
-- ==== Proof.LastEq.lean ====
/-
  The last layer's end: kernel and reference end with one array.
-/
module

public import proofs.«01_k».proof.Proof.LastKernel

@[expose] public section

noncomputable section

open Idealize.ShloMosaic Idealize.ShloMosaic.TcCoe Idealize.SL.Sem

namespace Cert.LastEq

/-- Every index of the result is a batch entry, a row of a point's block and a channel. -/
theorem index_form (i : Cert.LastIdeal.S8x2048x1024.Idx) : ∃ (b : Fin 8) (q : Fin 4) (n : Fin 512) (j : Fin 1024), i = ix3 b ⟨512 * q.val + n.val, by omega⟩ j := by
  have h1 : (i 1).val < 2048 := (i 1).isLt
  refine ⟨i 0, ⟨(i 1).val / 512, by omega⟩, ⟨(i 1).val % 512, by omega⟩, i 2, funext fun x => ?_⟩
  match x with
  | ⟨0, _⟩ => rfl
  | ⟨1, _⟩ => exact Fin.ext (by show (i 1).val = 512 * ((i 1).val / 512) + (i 1).val % 512; omega)
  | ⟨2, _⟩ => rfl

/-- The kernel's result array is the reference's, of the same arguments. -/
theorem final_eq (m : (ℓ : Loc Cert.LastIdeal.nD Cert.LastIdeal.τ Cert.LastIdeal.sig) → Buf (Elt Ideal) ℓ) (c : Dev Cert.LastIdeal.nD) :
    ((Cert.LastIdeal.Gen.dats m 0 c).arrAt 16 Cert.LastIdeal.cfg0.N : FVec Ideal Cert.LastIdeal.S8x2048x1024 .f32) =
      Cert.LastRefIdeal.Read.val_main_v83 (F := Ideal) (m ((c : Thread Cert.LastIdeal.nD Cert.LastIdeal.τ).loc Cert.LastIdeal.main_arg1)) (m ((c : Thread Cert.LastIdeal.nD Cert.LastIdeal.τ).loc Cert.LastIdeal.main_arg3)) (m ((c : Thread Cert.LastIdeal.nD Cert.LastIdeal.τ).loc Cert.LastIdeal.main_arg5)) (m ((c : Thread Cert.LastIdeal.nD Cert.LastIdeal.τ).loc Cert.LastIdeal.main_arg7)) (m ((c : Thread Cert.LastIdeal.nD Cert.LastIdeal.τ).loc Cert.LastIdeal.main_arg8)) (m ((c : Thread Cert.LastIdeal.nD Cert.LastIdeal.τ).loc Cert.LastIdeal.main_arg10)) (m ((c : Thread Cert.LastIdeal.nD Cert.LastIdeal.τ).loc Cert.LastIdeal.main_arg11)) (m ((c : Thread Cert.LastIdeal.nD Cert.LastIdeal.τ).loc Cert.LastIdeal.main_arg12)) (m ((c : Thread Cert.LastIdeal.nD Cert.LastIdeal.τ).loc Cert.LastIdeal.main_arg13)) (m ((c : Thread Cert.LastIdeal.nD Cert.LastIdeal.τ).loc Cert.LastIdeal.main_arg14)) (m ((c : Thread Cert.LastIdeal.nD Cert.LastIdeal.τ).loc Cert.LastIdeal.main_arg15)) := by
  funext i
  obtain ⟨b, q, n, j, rfl⟩ := index_form i
  exact (LastKernel.final_apply m c b q n j).trans (LastRef.out_apply _ _ _ _ _ _ _ _ _ _ _ b ⟨512 * q.val + n.val, by omega⟩ j).symm

end Cert.LastEq
-- ==== Proof.FirstUnit.lean ====
/-
  The first layer's end: its body's three stores are three tiles of the layer's end.
-/
module

public import proofs.«01_k».proof.Proof.PostUnit
public import proofs.«01_k».proof.Proof.Gen.FirstIdeal.Frame

@[expose] public section

set_option maxRecDepth 16384

noncomputable section

open Idealize.ShloMosaic Idealize.ShloMosaic.TcCoe Idealize.SL.Sem

namespace Cert.FirstUnit

open Cert.FirstIdeal Cert.FirstIdeal.Gen Cert.PostUnit

variable {F : FTy → Type} [FloatOps F] [Named F]

/-- A tile of the result: the `r`-th of the grid point's three, whose residual's rows are the context's if it is the first of all. -/
def tile (i : grid0.Coords) (r : BitVec 32) (f b o : Vec F S1x256x1024 .bf16) (hc h : Vec F S1x256x1024 .f32) (mod : Vec F S1x1x6144 .f32) (hn g : Vec F S1x1024 .f32) (w : Vec F S1x1024x1024 .bf16) (w1 : Vec F S1x1024x4096 .bf16) (w2 : Vec F S1x4096x1024 .bf16) : Vec F S1x256x1024 .f32 :=
  stored (ended (residual (Scalar.select (Scalar.cmpi .slt (Scalar.addi (Scalar.addi (Scalar.muli (BitVec.ofNat 32 (i 1).val) 3#32) r) 0#32) 1#32) (tileOf hc) (tileOf h)) (row mod) (gated f b o hn) w) (row mod) g w1 w2)

/-- The first tile of all is of the context's residual. -/
theorem tile_context (i : grid0.Coords) (r : BitVec 32) (f b o : Vec F S1x256x1024 .bf16) (hc h : Vec F S1x256x1024 .f32) (mod : Vec F S1x1x6144 .f32) (hn g : Vec F S1x1024 .f32) (w : Vec F S1x1024x1024 .bf16) (w1 : Vec F S1x1024x4096 .bf16) (w2 : Vec F S1x4096x1024 .bf16) (hs : Scalar.cmpi .slt (Scalar.addi (Scalar.addi (Scalar.muli (BitVec.ofNat 32 (i 1).val) 3#32) r) 0#32) 1#32 = 1#1) :
    tile i r f b o hc h mod hn g w w1 w2 = stored (layer hc mod (gated f b o hn) w g w1 w2) := by
  unfold tile layer
  rw [hs]
  rfl

/-- Any other is of the latents'. -/
theorem tile_latent (i : grid0.Coords) (r : BitVec 32) (f b o : Vec F S1x256x1024 .bf16) (hc h : Vec F S1x256x1024 .f32) (mod : Vec F S1x1x6144 .f32) (hn g : Vec F S1x1024 .f32) (w : Vec F S1x1024x1024 .bf16) (w1 : Vec F S1x1024x4096 .bf16) (w2 : Vec F S1x4096x1024 .bf16) (hs : Scalar.cmpi .slt (Scalar.addi (Scalar.addi (Scalar.muli (BitVec.ofNat 32 (i 1).val) 3#32) r) 0#32) 1#32 = 0#1) :
    tile i r f b o hc h mod hn g w w1 w2 = stored (layer h mod (gated f b o hn) w g w1 w2) := by
  unfold tile layer
  rw [hs]
  rfl

/-- The body's stores are the three tiles. -/
theorem out_eq (i : grid0.Coords) (x0 : Vec F S1x256x1024 .bf16) (x1 : Vec F S1x256x1024 .bf16) (x2 : Vec F S1x256x1024 .bf16) (x3 : Vec F S1x256x1024 .f32) (x4 : Vec F S1x256x1024 .f32) (x5 : Vec F S1x1x6144 .f32) (x6 : Vec F S1x256x1024 .bf16) (x7 : Vec F S1x256x1024 .bf16) (x8 : Vec F S1x256x1024 .bf16) (x9 : Vec F S1x256x1024 .f32) (x10 : Vec F S1x256x1024 .f32) (x11 : Vec F S1x1x6144 .f32) (x12 : Vec F S1x256x1024 .bf16) (x13 : Vec F S1x256x1024 .bf16) (x14 : Vec F S1x256x1024 .bf16) (x15 : Vec F S1x256x1024 .f32) (x16 : Vec F S1x256x1024 .f32) (x17 : Vec F S1x1x6144 .f32) (x18 : Vec F S1x1024 .f32) (x19 : Vec F S1x1024 .f32) (x20 : Vec F S1x1024x1024 .bf16) (x21 : Vec F S1x1024x4096 .bf16) (x22 : Vec F S1x4096x1024 .bf16) :
    out0_23 i x0 x1 x2 x3 x4 x5 x6 x7 x8 x9 x10 x11 x12 x13 x14 x15 x16 x17 x18 x19 x20 x21 x22 =
      View.canon [⟨r0_30, tile i 2#32 x12 x13 x14 x15 x16 x17 x18 x19 x20 x21 x22⟩, ⟨r0_29, tile i 1#32 x6 x7 x8 x9 x10 x11 x18 x19 x20 x21 x22⟩, ⟨r0_28, tile i 0#32 x0 x1 x2 x3 x4 x5 x18 x19 x20 x21 x22⟩] := rfl

end Cert.FirstUnit
-- ==== Proof.FirstRef.lean ====
/-
  The reference's first layer after its recurrent directions, read at an index over the extended reals.
-/
module

public import proofs.«01_k».proof.Proof.Gen.FirstRefIdeal.Read
public import proofs.«01_k».proof.Proof.GateHost
public import proofs.«01_k».proof.Proof.DiffMath

@[expose] public section

set_option maxRecDepth 16384

noncomputable section

open Idealize.ShloMosaic Idealize.ShloMosaic.TcCoe Idealize.SL.Sem

namespace Cert.FirstRef

open Cert.FirstRefIdeal Cert.FirstRefIdeal.Gen Cert.FirstRefIdeal.Read
open Cert.DiffMath (keys)
open Cert.PostMath (chan)

theorem facts_latent : PostHost.Facts 2048 where
  keep := bcast_S8x2048_S8x2048x1_0_1
  fill := bcast_S_S8x2048x1
  along := bcast_S8x2048x1_S8x2048x1024_0_1_2
  zero := bcast_S_S8x2048x4096
  total := reducesTo_S8x2048x1024_S8x2048_d2
  project := dot_S8x2048x1024_S1024x1024_S8x2048x1024_2_0_01_1_n_n.wf
  up := dot_S8x2048x1024_S1024x4096_S8x2048x4096_2_0_01_1_n_n.wf
  down := dot_S8x2048x4096_S4096x1024_S8x2048x1024_2_0_01_1_n_n.wf

theorem facts_context : PostHost.Facts 256 where
  keep := bcast_S8x256_S8x256x1_0_1
  fill := bcast_S_S8x256x1
  along := bcast_S8x256x1_S8x256x1024_0_1_2
  zero := bcast_S_S8x256x4096
  total := reducesTo_S8x256x1024_S8x256_d2
  project := dot_S8x256x1024_S1024x1024_S8x256x1024_2_0_01_1_n_n.wf
  up := dot_S8x256x1024_S1024x4096_S8x256x4096_2_0_01_1_n_n.wf
  down := dot_S8x256x4096_S4096x1024_S8x256x1024_2_0_01_1_n_n.wf

theorem gates_latent : GateHost.Facts 2048 where
  split := shapeCasts_S8x2048x1024_S8x2048x8x128
  total := reducesTo_S8x2048x8x128_S8x2048x8_d3
  keep := bcast_S8x2048x8_S8x2048x8x1_0_1_2
  fill := bcast_S_S8x2048x8x1
  along := bcast_S8x2048x8x1_S8x2048x8x128_0_1_2_3
  join := shapeCasts_S8x2048x8x128_S8x2048x1024
  one := bcast_S_S8x2048x1024

theorem gates_context : GateHost.Facts 256 where
  split := shapeCasts_S8x256x1024_S8x256x8x128
  total := reducesTo_S8x256x8x128_S8x256x8_d3
  keep := bcast_S8x256x8_S8x256x8x1_0_1_2
  fill := bcast_S_S8x256x8x1
  along := bcast_S8x256x8x1_S8x256x8x128_0_1_2_3
  join := shapeCasts_S8x256x8x128_S8x256x1024
  one := bcast_S_S8x256x1024

variable (x0 x2 x4 x6 : FVec Ideal S8x256x1024 .f32) (x1 x3 x5 x7 : FVec Ideal S8x2048x1024 .f32) (x8 : FVec Ideal S8x6144 .f32) (x9 : FVec Ideal S6144 .f32) (x10 : FVec Ideal S2x1024 .f32) (x11 : FVec Ideal S4x1024 .f32)
  (x12 : FVec Ideal S2x1024x1024 .f32) (x13 : FVec Ideal S4x1024x4096 .f32) (x14 : FVec Ideal S4x4096x1024 .f32)

/-! ## The latents' rows -/

theorem v41_eq : val_main_v41 (F := Ideal) x1 x3 x5 x10 = GateHost.gated gates_latent x1 x3 x5 (val_main_v32 (F := Ideal) x10) := rfl

theorem v106_eq : val_main_v106 (F := Ideal) x1 x3 x5 x7 x8 x10 x11 x12 x13 x14 =
    PostHost.ended facts_latent (PostHost.residual facts_latent x7 (val_main_v41 (F := Ideal) x1 x3 x5 x10) (val_main_v17 (F := Ideal) x12) (val_main_v78 (F := Ideal) x8)) (val_main_v92 (F := Ideal) x11) (val_main_v96 (F := Ideal) x8) (val_main_v98 (F := Ideal) x8)
      (val_main_v104 (F := Ideal) x8) (val_main_v75 (F := Ideal) x13) (val_main_v77 (F := Ideal) x14) := rfl

theorem modulation_latent (i : Fin 8) (t : Fin 2048) (l : Fin 1024) :
    val_main_v78 (F := Ideal) x8 (ix3 i t l) = PostMath.part (fun k => x8 (ix2 i k)) 2048 (by omega) l
    ∧ val_main_v96 (F := Ideal) x8 (ix3 i t l) = (Ideal.ofBits .f32 0x3F800000#32 + PostMath.part (fun k => x8 (ix2 i k)) 4096 (by omega) l : EReal)
    ∧ val_main_v98 (F := Ideal) x8 (ix3 i t l) = PostMath.part (fun k => x8 (ix2 i k)) 3072 (by omega) l
    ∧ val_main_v104 (F := Ideal) x8 (ix3 i t l) = PostMath.part (fun k => x8 (ix2 i k)) 5120 (by omega) l := by
  unfold PostMath.part
  refine ⟨?_, ?_, ?_, ?_⟩
  · pointwise [val_main_v78, val_main_v3, val_main_v0]
  · pointwise [val_main_v96, val_main_v95, val_main_v94, val_main_cst_12, val_main_v5, val_main_v0]
  · pointwise [val_main_v98, val_main_v4, val_main_v0]
  · pointwise [val_main_v104, val_main_v6, val_main_v0]

/-- The heads' weights at an index. -/
theorem heads_latent (i : Fin 8) (t : Fin 2048) (a : Fin 8) (d : Fin 128) : val_main_v32 (F := Ideal) x10 (ix4 i t a d) = x10 (ix2 0 (chan a d)) := by
  pointwise [val_main_v32, val_main_v31, val_main_v30, val_main_v15, val_main_v14, chan]

/-- The norm's weights and the matrices at an index. -/
theorem weights_latent (i : Fin 8) (t : Fin 2048) (l l' : Fin 1024) (k : Fin 4096) :
    val_main_v92 (F := Ideal) x11 (ix3 i t l) = x11 (ix2 0 l) ∧ val_main_v17 (F := Ideal) x12 (ix2 l l') = x12 (ix3 0 l l')
    ∧ val_main_v75 (F := Ideal) x13 (ix2 l k) = x13 (ix3 0 l k) ∧ val_main_v77 (F := Ideal) x14 (ix2 k l) = x14 (ix3 0 k l) := by
  refine ⟨?_, ?_, ?_, ?_⟩
  · pointwise [val_main_v92, val_main_v91, val_main_v73, val_main_v72]
  · pointwise [val_main_v17, val_main_v16]
  · pointwise [val_main_v75, val_main_v74]
  · pointwise [val_main_v77, val_main_v76]

/-! ## The context' rows -/

theorem v70_eq : val_main_v70 (F := Ideal) x0 x2 x4 x10 = GateHost.gated gates_context x0 x2 x4 (val_main_v61 (F := Ideal) x10) := rfl

theorem v141_eq : val_main_v141 (F := Ideal) x0 x2 x4 x6 x9 x10 x11 x12 x13 x14 =
    PostHost.ended facts_context (PostHost.residual facts_context x6 (val_main_v70 (F := Ideal) x0 x2 x4 x10) (val_main_v46 (F := Ideal) x12) (val_main_v113 (F := Ideal) x9)) (val_main_v127 (F := Ideal) x11) (val_main_v131 (F := Ideal) x9) (val_main_v133 (F := Ideal) x9)
      (val_main_v139 (F := Ideal) x9) (val_main_v110 (F := Ideal) x13) (val_main_v112 (F := Ideal) x14) := rfl

theorem modulation_context (i : Fin 8) (t : Fin 256) (l : Fin 1024) :
    val_main_v113 (F := Ideal) x9 (ix3 i t l) = PostMath.part (fun k => x9 (ix1 k)) 2048 (by omega) l
    ∧ val_main_v131 (F := Ideal) x9 (ix3 i t l) = (Ideal.ofBits .f32 0x3F800000#32 + PostMath.part (fun k => x9 (ix1 k)) 4096 (by omega) l : EReal)
    ∧ val_main_v133 (F := Ideal) x9 (ix3 i t l) = PostMath.part (fun k => x9 (ix1 k)) 3072 (by omega) l
    ∧ val_main_v139 (F := Ideal) x9 (ix3 i t l) = PostMath.part (fun k => x9 (ix1 k)) 5120 (by omega) l := by
  unfold PostMath.part
  refine ⟨?_, ?_, ?_, ?_⟩
  · pointwise [val_main_v113, val_main_v10, val_main_v7]
  · pointwise [val_main_v131, val_main_v130, val_main_v129, val_main_cst_16, val_main_v12, val_main_v7]
  · pointwise [val_main_v133, val_main_v11, val_main_v7]
  · pointwise [val_main_v139, val_main_v13, val_main_v7]

/-- The heads' weights at an index. -/
theorem heads_context (i : Fin 8) (t : Fin 256) (a : Fin 8) (d : Fin 128) : val_main_v61 (F := Ideal) x10 (ix4 i t a d) = x10 (ix2 0 (chan a d)) := by
  pointwise [val_main_v61, val_main_v60, val_main_v59, val_main_v44, val_main_v43, chan]

/-- The norm's weights and the matrices at an index. -/
theorem weights_context (i : Fin 8) (t : Fin 256) (l l' : Fin 1024) (k : Fin 4096) :
    val_main_v127 (F := Ideal) x11 (ix3 i t l) = x11 (ix2 0 l) ∧ val_main_v46 (F := Ideal) x12 (ix2 l l') = x12 (ix3 0 l l')
    ∧ val_main_v110 (F := Ideal) x13 (ix2 l k) = x13 (ix3 0 l k) ∧ val_main_v112 (F := Ideal) x14 (ix2 k l) = x14 (ix3 0 k l) := by
  refine ⟨?_, ?_, ?_, ?_⟩
  · pointwise [val_main_v127, val_main_v126, val_main_v108, val_main_v107]
  · pointwise [val_main_v46, val_main_v45]
  · pointwise [val_main_v110, val_main_v109]
  · pointwise [val_main_v112, val_main_v111]

/-- The layer's end for a row `h` of the residual, modulated by `mod`, its directions' rows `f`, `b` and `o`. -/
abbrev row (h : Fin 1024 → EReal) (mod : Fin 6144 → EReal) (f b o : Fin 1024 → EReal) (j : Fin 1024) : EReal :=
  PostMath.layer h mod (PostMath.gated f b o fun l => x10 (ix2 0 l)) (fun l j => x12 (ix3 0 l j)) (fun l => x11 (ix2 0 l)) (fun l k => x13 (ix3 0 l k)) (fun k j => x14 (ix3 0 k j)) j

theorem latent_apply (i : Fin 8) (t : Fin 2048) (j : Fin 1024) :
    val_main_v106 (F := Ideal) x1 x3 x5 x7 x8 x10 x11 x12 x13 x14 (ix3 i t j) =
      row x10 x11 x12 x13 x14 (fun l => x7 (ix3 i t l)) (fun k => x8 (ix2 i k)) (fun l => x1 (ix3 i t l)) (fun l => x3 (ix3 i t l)) (fun l => x5 (ix3 i t l)) j := by
  rw [v106_eq, PostHost.layer_apply (PostHost.reads_latent facts_latent) _ _ _ _ _ _ _ _ _ _ i t j (fun k => x8 (ix2 i k)) (fun l => x11 (ix2 0 l)) (fun l => (modulation_latent x8 i t l).1)
    (fun l => (weights_latent x11 x12 x13 x14 i t l 0 0).1) (fun l => (modulation_latent x8 i t l).2.1) (fun l => (modulation_latent x8 i t l).2.2.1) (fun l => (modulation_latent x8 i t l).2.2.2)]
  simp only [(weights_latent x11 x12 x13 x14 i t _ _ 0).2.1, (weights_latent x11 x12 x13 x14 i t _ 0 _).2.2.1, (weights_latent x11 x12 x13 x14 i t _ 0 _).2.2.2, v41_eq,
    GateHost.gated_apply (GateHost.reads_latent gates_latent) _ _ _ _ (fun l => x10 (ix2 0 l)) i t (heads_latent x10 i t)]

theorem context_apply (i : Fin 8) (t : Fin 256) (j : Fin 1024) :
    val_main_v141 (F := Ideal) x0 x2 x4 x6 x9 x10 x11 x12 x13 x14 (ix3 i t j) =
      row x10 x11 x12 x13 x14 (fun l => x6 (ix3 i t l)) (fun k => x9 (ix1 k)) (fun l => x0 (ix3 i t l)) (fun l => x2 (ix3 i t l)) (fun l => x4 (ix3 i t l)) j := by
  rw [v141_eq, PostHost.layer_apply (PostHost.reads_context facts_context) _ _ _ _ _ _ _ _ _ _ i t j (fun k => x9 (ix1 k)) (fun l => x11 (ix2 0 l)) (fun l => (modulation_context x9 i t l).1)
    (fun l => (weights_context x11 x12 x13 x14 i t l 0 0).1) (fun l => (modulation_context x9 i t l).2.1) (fun l => (modulation_context x9 i t l).2.2.1) (fun l => (modulation_context x9 i t l).2.2.2)]
  simp only [(weights_context x11 x12 x13 x14 i t _ _ 0).2.1, (weights_context x11 x12 x13 x14 i t _ 0 _).2.2.1, (weights_context x11 x12 x13 x14 i t _ 0 _).2.2.2, v70_eq,
    GateHost.gated_apply (GateHost.reads_context gates_context) _ _ _ _ (fun l => x10 (ix2 0 l)) i t (heads_context x10 i t)]

/-- A context row and a latent row joined, at an index. -/
theorem join_apply (a : FVec Ideal S8x256x1024 .f32) (b : FVec Ideal S8x2048x1024 .f32) (i : Fin 8) (t : Fin 2304) (j : Fin 1024) :
    (concatenate S8x2304x1024 1 [⟨S8x256x1024, a⟩, ⟨S8x2048x1024, b⟩] concatenates_S8x256x1024_S8x2048x1024_S8x2304x1024_d1 : FVec Ideal S8x2304x1024 .f32) (ix3 i t j)
      = keys (fun t => a (ix3 i t j)) (fun t => b (ix3 i t j)) t := by
  unfold keys
  pointwise

/-- The result at an index. -/
theorem out_apply (i : Fin 8) (t : Fin 2304) (j : Fin 1024) :
    val_main_v142 (F := Ideal) x0 x1 x2 x3 x4 x5 x6 x7 x8 x9 x10 x11 x12 x13 x14 (ix3 i t j) =
      keys (fun t => row x10 x11 x12 x13 x14 (fun l => x6 (ix3 i t l)) (fun k => x9 (ix1 k)) (fun l => x0 (ix3 i t l)) (fun l => x2 (ix3 i t l)) (fun l => x4 (ix3 i t l)) j)
        (fun t => row x10 x11 x12 x13 x14 (fun l => x7 (ix3 i t l)) (fun k => x8 (ix2 i k)) (fun l => x1 (ix3 i t l)) (fun l => x3 (ix3 i t l)) (fun l => x5 (ix3 i t l)) j) t := by
  unfold val_main_v142
  rw [join_apply]
  simp only [latent_apply, context_apply]

end Cert.FirstRef
-- ==== Proof.FirstKernel.lean ====
/-
  The first layer's end: the kernel's result array read at an index over the extended reals, as a function of its arguments.
-/
module

public import proofs.«01_k».proof.Proof.PostRead
public import proofs.«01_k».proof.Proof.FirstUnit
public import proofs.«01_k».proof.Proof.FirstRef
public import proofs.«01_k».proof.Proof.Gen.FirstIdeal.Value
public import Idealize.ShloMosaic.Lib.Pipeline.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FirstKernel

open Cert.FirstIdeal Cert.FirstIdeal.Gen
open Cert.DiffMath (keys)
open Cert.FirstUnit (tile)
open Cert.FirstRef (row)

/-! ## The arrays as they enter the region -/

variable (m : (ℓ : Loc nD τ sig) → Buf (Elt Ideal) ℓ)

/-- An argument in memory. -/
abbrev A0 (c : Dev nD) : FVec Ideal S8x256x1024 .f32 := m ((c : Thread nD τ).loc main_arg0)
abbrev A1 (c : Dev nD) : FVec Ideal S8x2048x1024 .f32 := m ((c : Thread nD τ).loc main_arg1)
abbrev A2 (c : Dev nD) : FVec Ideal S8x256x1024 .f32 := m ((c : Thread nD τ).loc main_arg2)
abbrev A3 (c : Dev nD) : FVec Ideal S8x2048x1024 .f32 := m ((c : Thread nD τ).loc main_arg3)
abbrev A4 (c : Dev nD) : FVec Ideal S8x256x1024 .f32 := m ((c : Thread nD τ).loc main_arg4)
abbrev A5 (c : Dev nD) : FVec Ideal S8x2048x1024 .f32 := m ((c : Thread nD τ).loc main_arg5)
abbrev A6 (c : Dev nD) : FVec Ideal S8x256x1024 .f32 := m ((c : Thread nD τ).loc main_arg6)
abbrev A7 (c : Dev nD) : FVec Ideal S8x2048x1024 .f32 := m ((c : Thread nD τ).loc main_arg7)
abbrev A8 (c : Dev nD) : FVec Ideal S8x6144 .f32 := m ((c : Thread nD τ).loc main_arg8)
abbrev A9 (c : Dev nD) : FVec Ideal S6144 .f32 := m ((c : Thread nD τ).loc main_arg9)
abbrev A10 (c : Dev nD) : FVec Ideal S2x1024 .f32 := m ((c : Thread nD τ).loc main_arg10)
abbrev A11 (c : Dev nD) : FVec Ideal S4x1024 .f32 := m ((c : Thread nD τ).loc main_arg11)
abbrev A12 (c : Dev nD) : FVec Ideal S2x1024x1024 .f32 := m ((c : Thread nD τ).loc main_arg12)
abbrev A13 (c : Dev nD) : FVec Ideal S4x1024x4096 .f32 := m ((c : Thread nD τ).loc main_arg13)
abbrev A14 (c : Dev nD) : FVec Ideal S4x4096x1024 .f32 := m ((c : Thread nD τ).loc main_arg14)

/-- An array of all rows, read where a row lies. -/
theorem at_row {α : Type} (x : S8x2304x1024.Idx → α) (y : S8x2304x1024.Idx) (i : Fin 8) (t : Fin 2304) (l : Fin 1024) (h : (y 0).val = i.val ∧ (y 1).val = t.val ∧ (y 2).val = l.val) :
    x y = x (ix3 i t l) := by
  refine congrArg x (funext fun a => Fin.ext ?_)
  match a with
  | ⟨0, _⟩ => exact h.1
  | ⟨1, _⟩ => exact h.2.1
  | ⟨2, _⟩ => exact h.2.2

theorem f_entry (c : Dev nD) (i : Fin 8) (t : Fin 2304) (l : Fin 1024) :
    (V m c main_v4 : FVec Ideal S8x2304x1024 .bf16) (ix3 i t l) = keys (fun t => A0 m c (ix3 i t l)) (fun t => A1 m c (ix3 i t l)) t := by
  unfold keys V
  after_reads_at
  rfl

theorem f_at (c : Dev nD) (y : S8x2304x1024.Idx) (i : Fin 8) (t : Fin 2304) (l : Fin 1024) (h : (y 0).val = i.val ∧ (y 1).val = t.val ∧ (y 2).val = l.val) :
    (V m c main_v4 : FVec Ideal S8x2304x1024 .bf16) y = keys (fun t => A0 m c (ix3 i t l)) (fun t => A1 m c (ix3 i t l)) t :=
  (at_row _ y i t l h).trans (f_entry m c i t l)

theorem b_entry (c : Dev nD) (i : Fin 8) (t : Fin 2304) (l : Fin 1024) :
    (V m c main_v6 : FVec Ideal S8x2304x1024 .bf16) (ix3 i t l) = keys (fun t => A2 m c (ix3 i t l)) (fun t => A3 m c (ix3 i t l)) t := by
  unfold keys V
  after_reads_at
  rfl

theorem b_at (c : Dev nD) (y : S8x2304x1024.Idx) (i : Fin 8) (t : Fin 2304) (l : Fin 1024) (h : (y 0).val = i.val ∧ (y 1).val = t.val ∧ (y 2).val = l.val) :
    (V m c main_v6 : FVec Ideal S8x2304x1024 .bf16) y = keys (fun t => A2 m c (ix3 i t l)) (fun t => A3 m c (ix3 i t l)) t :=
  (at_row _ y i t l h).trans (b_entry m c i t l)

theorem o_entry (c : Dev nD) (i : Fin 8) (t : Fin 2304) (l : Fin 1024) :
    (V m c main_v8 : FVec Ideal S8x2304x1024 .bf16) (ix3 i t l) = keys (fun t => A4 m c (ix3 i t l)) (fun t => A5 m c (ix3 i t l)) t := by
  unfold keys V
  after_reads_at
  rfl

theorem o_at (c : Dev nD) (y : S8x2304x1024.Idx) (i : Fin 8) (t : Fin 2304) (l : Fin 1024) (h : (y 0).val = i.val ∧ (y 1).val = t.val ∧ (y 2).val = l.val) :
    (V m c main_v8 : FVec Ideal S8x2304x1024 .bf16) y = keys (fun t => A4 m c (ix3 i t l)) (fun t => A5 m c (ix3 i t l)) t :=
  (at_row _ y i t l h).trans (o_entry m c i t l)

theorem context_at (c : Dev nD) (y : S8x256x1024.Idx) (i : Fin 8) (t : Fin 256) (l : Fin 1024) (h : (y 0).val = i.val ∧ (y 1).val = 256 * 0 + t.val ∧ (y 2).val = l.val) :
    (V m c main_arg6 : FVec Ideal S8x256x1024 .f32) y = A6 m c (ix3 i t l) := by
  have e : (V m c main_arg6 : FVec Ideal S8x256x1024 .f32) = A6 m c := by
    unfold V
    rfl
  rw [e]
  refine congrArg (A6 m c) (funext fun x => Fin.ext ?_)
  match x with
  | ⟨0, _⟩ => exact h.1
  | ⟨1, _⟩ => exact h.2.1.trans (by show 256 * 0 + t.val = t.val; omega)
  | ⟨2, _⟩ => exact h.2.2

theorem latent_at (c : Dev nD) (y : S8x2048x1024.Idx) (i : Fin 8) (t : Fin 2048) (l : Fin 1024) (h : (y 0).val = i.val ∧ (y 1).val = t.val ∧ (y 2).val = l.val) :
    (V m c main_arg7 : FVec Ideal S8x2048x1024 .f32) y = A7 m c (ix3 i t l) := by
  have e : (V m c main_arg7 : FVec Ideal S8x2048x1024 .f32) = A7 m c := by
    unfold V
    rfl
  rw [e]
  refine congrArg (A7 m c) (funext fun x => Fin.ext ?_)
  match x with
  | ⟨0, _⟩ => exact h.1
  | ⟨1, _⟩ => exact h.2.1
  | ⟨2, _⟩ => exact h.2.2

theorem heads_entry (c : Dev nD) (l : Fin 1024) :
    (V m c main_v17 : FVec Ideal S1x1024 .f32) (ix2 0 l) = A10 m c (ix2 0 l) := by
  entry_read
  pointwise

theorem gain_entry (c : Dev nD) (l : Fin 1024) :
    (V m c main_v18 : FVec Ideal S1x1024 .f32) (ix2 0 l) = A11 m c (ix2 0 l) := by
  entry_read
  pointwise

theorem w_entry (c : Dev nD) (l j : Fin 1024) :
    (V m c main_v0 : FVec Ideal S2x1024x1024 .bf16) (ix3 0 l j) = A12 m c (ix3 0 l j) := by
  unfold V
  after_reads_at

theorem w1_entry (c : Dev nD) (l : Fin 1024) (k : Fin 4096) :
    (V m c main_v1 : FVec Ideal S4x1024x4096 .bf16) (ix3 0 l k) = A13 m c (ix3 0 l k) := by
  unfold V
  after_reads_at

theorem w2_entry (c : Dev nD) (k : Fin 4096) (j : Fin 1024) :
    (V m c main_v2 : FVec Ideal S4x4096x1024 .bf16) (ix3 0 k j) = A14 m c (ix3 0 k j) := by
  unfold V
  after_reads_at

/-- A row of the modulation as an array of one row, at an index. -/
theorem row_apply (x : FVec Ideal S6144 .f32) (k : Fin 6144) : broadcastInDim S1x6144 ![1] bcast_S6144_S1x6144_1 x (ix2 0 k) = x (ix1 k) := by
  pointwise

/-- The modulation's rows, one for each batch entry and then the context's, at an index. -/
theorem mod_entry (c : Dev nD) (b : Fin 8) (k : Fin 6144) :
    (V m c main_v14 : FVec Ideal S16x1x6144 .f32) (ix3 ⟨b.val, by omega⟩ 0 k) = A8 m c (ix2 b k) := by
  unfold V
  after_reads_at
  rfl

theorem mod_entry8 (c : Dev nD) (k : Fin 6144) :
    (V m c main_v14 : FVec Ideal S16x1x6144 .f32) (ix3 8 0 k) = A9 m c (ix1 k) := by
  unfold V
  after_reads_at
  exact row_apply _ k

/-! ## The windows' blocks: the batch entry of a grid point is the point over 3; it makes three tiles -/

/-- The grid point of a batch entry and three tiles. -/
def point (b : Fin 8) (q : Fin 3) : Fin cfg0.N := ⟨b.val * 3 + q.val, by have e : cfg0.N = 24 := N_0; omega⟩

theorem point_div (b : Fin 8) (q : Fin 3) : (point b q).val / 3 = b.val := by unfold point; dsimp only; omega
theorem point_mod (b : Fin 8) (q : Fin 3) : (point b q).val % 3 = q.val := by unfold point; dsimp only; omega

theorem index_0 : ∀ t : Fin grid0.N, (cfg0.win 0).index t = ![t.val / 3, 3 * (t.val % 3) + 0, 0] := by decide +kernel
theorem index_1 : ∀ t : Fin grid0.N, (cfg0.win 1).index t = ![t.val / 3, 3 * (t.val % 3) + 0, 0] := by decide +kernel
theorem index_2 : ∀ t : Fin grid0.N, (cfg0.win 2).index t = ![t.val / 3, 3 * (t.val % 3) + 0, 0] := by decide +kernel
theorem index_3 : ∀ t : Fin grid0.N, (cfg0.win 3).index t = ![t.val / 3, 0, 0] := by decide +kernel
theorem index_4 : ∀ t : Fin grid0.N, (cfg0.win 4).index t = ![t.val / 3, 3 * (t.val % 3) + 0 - 1, 0] := by decide +kernel
theorem index_5 : ∀ t : Fin grid0.N, (cfg0.win 5).index t = ![if 3 * (t.val % 3) + 0 = 0 then 8 else t.val / 3, 0, 0] := by decide +kernel
theorem index_6 : ∀ t : Fin grid0.N, (cfg0.win 6).index t = ![t.val / 3, 3 * (t.val % 3) + 1, 0] := by decide +kernel
theorem index_7 : ∀ t : Fin grid0.N, (cfg0.win 7).index t = ![t.val / 3, 3 * (t.val % 3) + 1, 0] := by decide +kernel
theorem index_8 : ∀ t : Fin grid0.N, (cfg0.win 8).index t = ![t.val / 3, 3 * (t.val % 3) + 1, 0] := by decide +kernel
theorem index_9 : ∀ t : Fin grid0.N, (cfg0.win 9).index t = ![t.val / 3, 0, 0] := by decide +kernel
theorem index_10 : ∀ t : Fin grid0.N, (cfg0.win 10).index t = ![t.val / 3, 3 * (t.val % 3) + 1 - 1, 0] := by decide +kernel
theorem index_11 : ∀ t : Fin grid0.N, (cfg0.win 11).index t = ![if 3 * (t.val % 3) + 1 = 0 then 8 else t.val / 3, 0, 0] := by decide +kernel
theorem index_12 : ∀ t : Fin grid0.N, (cfg0.win 12).index t = ![t.val / 3, 3 * (t.val % 3) + 2, 0] := by decide +kernel
theorem index_13 : ∀ t : Fin grid0.N, (cfg0.win 13).index t = ![t.val / 3, 3 * (t.val % 3) + 2, 0] := by decide +kernel
theorem index_14 : ∀ t : Fin grid0.N, (cfg0.win 14).index t = ![t.val / 3, 3 * (t.val % 3) + 2, 0] := by decide +kernel
theorem index_15 : ∀ t : Fin grid0.N, (cfg0.win 15).index t = ![t.val / 3, 0, 0] := by decide +kernel
theorem index_16 : ∀ t : Fin grid0.N, (cfg0.win 16).index t = ![t.val / 3, 3 * (t.val % 3) + 2 - 1, 0] := by decide +kernel
theorem index_17 : ∀ t : Fin grid0.N, (cfg0.win 17).index t = ![if 3 * (t.val % 3) + 2 = 0 then 8 else t.val / 3, 0, 0] := by decide +kernel
theorem index_18 : ∀ t : Fin grid0.N, (cfg0.win 18).index t = ![0, 0] := by decide +kernel
theorem index_19 : ∀ t : Fin grid0.N, (cfg0.win 19).index t = ![0, 0] := by decide +kernel
theorem index_20 : ∀ t : Fin grid0.N, (cfg0.win 20).index t = ![0, 0, 0] := by decide +kernel
theorem index_21 : ∀ t : Fin grid0.N, (cfg0.win 21).index t = ![0, 0, 0] := by decide +kernel
theorem index_22 : ∀ t : Fin grid0.N, (cfg0.win 22).index t = ![0, 0, 0] := by decide +kernel
theorem index_23 : ∀ t : Fin grid0.N, (cfg0.win 23).index t = ![t.val / 3, t.val % 3, 0] := by decide +kernel

/-- Whether a tile is the first of its batch entry, as the body decides it. -/
theorem first_0 : ∀ t : Fin grid0.N, Scalar.cmpi .slt (Scalar.addi (Scalar.addi (Scalar.muli (BitVec.ofNat 32 ((grid0.coords t) 1).val) 3#32) 0#32) 0#32) 1#32 = if 3 * (t.val % 3) + 0 = 0 then 1#1 else 0#1 := by decide +kernel
theorem first_1 : ∀ t : Fin grid0.N, Scalar.cmpi .slt (Scalar.addi (Scalar.addi (Scalar.muli (BitVec.ofNat 32 ((grid0.coords t) 1).val) 3#32) 1#32) 0#32) 1#32 = if 3 * (t.val % 3) + 1 = 0 then 1#1 else 0#1 := by decide +kernel
theorem first_2 : ∀ t : Fin grid0.N, Scalar.cmpi .slt (Scalar.addi (Scalar.addi (Scalar.muli (BitVec.ofNat 32 ((grid0.coords t) 1).val) 3#32) 2#32) 0#32) 1#32 = if 3 * (t.val % 3) + 2 = 0 then 1#1 else 0#1 := by decide +kernel

theorem mod_at (c : Dev nD) (i : S16x1x6144.Idx) (b : Fin 8) (T : ℕ) (k : Fin 6144) (h : (i 0).val = (if T = 0 then 8 else b.val) ∧ (i 2).val = k.val) :
    (V m c main_v14 : FVec Ideal S16x1x6144 .f32) i = if T = 0 then A9 m c (ix1 k) else A8 m c (ix2 b k) := by
  have h1 : (i 1).val = 0 := by have h' : (i 1).val < 1 := (i 1).isLt; omega
  split_ifs with h0
  · rw [← mod_entry8 m c k]
    refine congrArg (V m c main_v14 : FVec Ideal S16x1x6144 .f32) (funext fun x => Fin.ext ?_)
    match x with
    | ⟨0, _⟩ => exact h.1.trans (if_pos h0)
    | ⟨1, _⟩ => exact h1
    | ⟨2, _⟩ => exact h.2
  · rw [← mod_entry m c b k]
    refine congrArg (V m c main_v14 : FVec Ideal S16x1x6144 .f32) (funext fun x => Fin.ext ?_)
    match x with
    | ⟨0, _⟩ => exact h.1.trans (if_neg h0)
    | ⟨1, _⟩ => exact h1
    | ⟨2, _⟩ => exact h.2

/-- Where a block lies, its window's index known. -/
theorem place (b : Fin 8) (T : ℕ) (I : Fin 3 → ℕ) (e : I = ![b.val, T, 0]) (a : Fin 256) (l : Fin 1024) :
    I 0 * 1 + 1 * 0 = b.val ∧ I 1 * 256 + 1 * a.val = 256 * T + a.val ∧ I 2 * 1024 + 1 * l.val = l.val := by
  subst e
  refine ⟨?_, ?_, ?_⟩ <;> simp
  omega

/-- Where a block of the modulation lies. -/
theorem place_mod (B : ℕ) (I : Fin 3 → ℕ) (e : I = ![B, 0, 0]) (k : Fin 6144) : I 0 * 1 + 1 * 0 = B ∧ I 2 * 6144 + 1 * k.val = k.val := by
  subst e
  refine ⟨?_, ?_⟩ <;> simp

theorem heads_blk (c : Dev nD) (b : Fin 8) (q : Fin 3) (l : Fin 1024) : (iblk m c 18 (point b q) : FVec Ideal S1x1024 .f32) (ix2 0 l) = A10 m c (ix2 0 l) := by
  rw [← heads_entry m c l]
  refine congrArg (V m c main_v17) (funext fun x => Fin.ext ?_)
  have e := index_18 (point b q)
  match x with
  | ⟨0, _⟩ => show (cfg0.win 18).index (point b q) 0 * 1 + 1 * 0 = 0; rw [e]; simp
  | ⟨1, _⟩ => show (cfg0.win 18).index (point b q) 1 * 1024 + 1 * l.val = l.val; rw [e]; simp

theorem gain_blk (c : Dev nD) (b : Fin 8) (q : Fin 3) (l : Fin 1024) : (iblk m c 19 (point b q) : FVec Ideal S1x1024 .f32) (ix2 0 l) = A11 m c (ix2 0 l) := by
  rw [← gain_entry m c l]
  refine congrArg (V m c main_v18) (funext fun x => Fin.ext ?_)
  have e := index_19 (point b q)
  match x with
  | ⟨0, _⟩ => show (cfg0.win 19).index (point b q) 0 * 1 + 1 * 0 = 0; rw [e]; simp
  | ⟨1, _⟩ => show (cfg0.win 19).index (point b q) 1 * 1024 + 1 * l.val = l.val; rw [e]; simp

theorem w_blk (c : Dev nD) (b : Fin 8) (q : Fin 3) (l : Fin 1024) (j : Fin 1024) : (iblk m c 20 (point b q) : FVec Ideal S1x1024x1024 .bf16) (ix3 0 l j) = A12 m c (ix3 0 l j) := by
  rw [← w_entry m c l j]
  refine congrArg (V m c main_v0) (funext fun x => Fin.ext ?_)
  have e := index_20 (point b q)
  match x with
  | ⟨0, _⟩ => show (cfg0.win 20).index (point b q) 0 * 1 + 1 * 0 = 0; rw [e]; simp
  | ⟨1, _⟩ => show (cfg0.win 20).index (point b q) 1 * 1024 + 1 * l.val = l.val; rw [e]; simp
  | ⟨2, _⟩ => show (cfg0.win 20).index (point b q) 2 * 1024 + 1 * j.val = j.val; rw [e]; simp

theorem w1_blk (c : Dev nD) (b : Fin 8) (q : Fin 3) (l : Fin 1024) (k : Fin 4096) : (iblk m c 21 (point b q) : FVec Ideal S1x1024x4096 .bf16) (ix3 0 l k) = A13 m c (ix3 0 l k) := by
  rw [← w1_entry m c l k]
  refine congrArg (V m c main_v1) (funext fun x => Fin.ext ?_)
  have e := index_21 (point b q)
  match x with
  | ⟨0, _⟩ => show (cfg0.win 21).index (point b q) 0 * 1 + 1 * 0 = 0; rw [e]; simp
  | ⟨1, _⟩ => show (cfg0.win 21).index (point b q) 1 * 1024 + 1 * l.val = l.val; rw [e]; simp
  | ⟨2, _⟩ => show (cfg0.win 21).index (point b q) 2 * 4096 + 1 * k.val = k.val; rw [e]; simp

theorem w2_blk (c : Dev nD) (b : Fin 8) (q : Fin 3) (k : Fin 4096) (j : Fin 1024) : (iblk m c 22 (point b q) : FVec Ideal S1x4096x1024 .bf16) (ix3 0 k j) = A14 m c (ix3 0 k j) := by
  rw [← w2_entry m c k j]
  refine congrArg (V m c main_v2) (funext fun x => Fin.ext ?_)
  have e := index_22 (point b q)
  match x with
  | ⟨0, _⟩ => show (cfg0.win 22).index (point b q) 0 * 1 + 1 * 0 = 0; rw [e]; simp
  | ⟨1, _⟩ => show (cfg0.win 22).index (point b q) 1 * 4096 + 1 * k.val = k.val; rw [e]; simp
  | ⟨2, _⟩ => show (cfg0.win 22).index (point b q) 2 * 1024 + 1 * j.val = j.val; rw [e]; simp

/-- The result's rows, of the arguments in memory: the context's, then the latents'. -/
def res (c : Dev nD) (i : Fin 8) (t : Fin 2304) (j : Fin 1024) : EReal :=
  keys (fun t => row (A10 m c) (A11 m c) (A12 m c) (A13 m c) (A14 m c) (fun l => A6 m c (ix3 i t l)) (fun k => A9 m c (ix1 k)) (fun l => A0 m c (ix3 i t l)) (fun l => A2 m c (ix3 i t l)) (fun l => A4 m c (ix3 i t l)) j)
    (fun t => row (A10 m c) (A11 m c) (A12 m c) (A13 m c) (A14 m c) (fun l => A7 m c (ix3 i t l)) (fun k => A8 m c (ix2 i k)) (fun l => A1 m c (ix3 i t l)) (fun l => A3 m c (ix3 i t l)) (fun l => A5 m c (ix3 i t l)) j) t

/-- Tile `T` of a batch entry's nine, its blocks known. -/
theorem tile_at (c : Dev nD) (b : Fin 8) (q : Fin 3) (T : Fin 9) (r : BitVec 32) (f d o : Vec Ideal S1x256x1024 .bf16) (hc h : Vec Ideal S1x256x1024 .f32) (mod : Vec Ideal S1x1x6144 .f32)
    (hs : Scalar.cmpi .slt (Scalar.addi (Scalar.addi (Scalar.muli (BitVec.ofNat 32 ((grid0.coords (point b q)) 1).val) 3#32) r) 0#32) 1#32 = if T.val = 0 then 1#1 else 0#1)
    (hf : ∀ (a : Fin 256) (l : Fin 1024), f (ix3 0 a l) = keys (fun t => A0 m c (ix3 b t l)) (fun t => A1 m c (ix3 b t l)) ⟨256 * T.val + a.val, by omega⟩)
    (hd : ∀ (a : Fin 256) (l : Fin 1024), d (ix3 0 a l) = keys (fun t => A2 m c (ix3 b t l)) (fun t => A3 m c (ix3 b t l)) ⟨256 * T.val + a.val, by omega⟩)
    (ho : ∀ (a : Fin 256) (l : Fin 1024), o (ix3 0 a l) = keys (fun t => A4 m c (ix3 b t l)) (fun t => A5 m c (ix3 b t l)) ⟨256 * T.val + a.val, by omega⟩)
    (hhc : ∀ (a : Fin 256) (l : Fin 1024), hc (ix3 0 a l) = A6 m c (ix3 b a l))
    (hh : T.val ≠ 0 → ∀ (a : Fin 256) (l : Fin 1024), h (ix3 0 a l) = A7 m c (ix3 b ⟨256 * (T.val - 1) + a.val, by omega⟩ l))
    (hm : ∀ k : Fin 6144, mod (ix3 0 0 k) = if T.val = 0 then A9 m c (ix1 k) else A8 m c (ix2 b k)) (a : Fin 256) (j : Fin 1024) :
    tile (grid0.coords (point b q)) r f d o hc h mod (iblk m c 18 (point b q)) (iblk m c 19 (point b q)) (iblk m c 20 (point b q)) (iblk m c 21 (point b q)) (iblk m c 22 (point b q)) (ix3 0 a j) = res m c b ⟨256 * T.val + a.val, by omega⟩ j := by
  unfold res
  by_cases h0 : T.val = 0
  · have e : ∀ C L, keys C L ⟨256 * T.val + a.val, by omega⟩ = C a := fun C L =>
      (congrArg (keys C L) (Fin.ext (by show 256 * T.val + a.val = a.val; omega))).trans (DiffMath.keys_ctx C L a)
    rw [FirstUnit.tile_context _ _ _ _ _ _ _ _ _ _ _ _ _ (hs.trans (if_pos h0)), PostUnit.stored_apply, PostUnit.layer_apply]
    simp only [PostUnit.gated_apply, hf, hd, ho, hhc, hm, heads_blk m c b q, gain_blk m c b q, w_blk m c b q, w1_blk m c b q, w2_blk m c b q, e, if_pos h0]
  · have e : ∀ C L, keys C L ⟨256 * T.val + a.val, by omega⟩ = L ⟨256 * (T.val - 1) + a.val, by omega⟩ := fun C L =>
      (congrArg (keys C L) (Fin.ext (by show 256 * T.val + a.val = 256 + (256 * (T.val - 1) + a.val); omega))).trans (DiffMath.keys_lat C L ⟨256 * (T.val - 1) + a.val, by omega⟩)
    rw [FirstUnit.tile_latent _ _ _ _ _ _ _ _ _ _ _ _ _ (hs.trans (if_neg h0)), PostUnit.stored_apply, PostUnit.layer_apply]
    simp only [PostUnit.gated_apply, hf, hd, ho, hh h0, hm, heads_blk m c b q, gain_blk m c b q, w_blk m c b q, w1_blk m c b q, w2_blk m c b q, e, if_neg h0]

set_option maxHeartbeats 2000000 in
theorem tile_0 (c : Dev nD) (b : Fin 8) (q : Fin 3) (a : Fin 256) (j : Fin 1024) :
    tile (grid0.coords (point b q)) 0#32 (iblk m c 0 (point b q)) (iblk m c 1 (point b q)) (iblk m c 2 (point b q)) (iblk m c 3 (point b q)) (iblk m c 4 (point b q)) (iblk m c 5 (point b q)) (iblk m c 18 (point b q)) (iblk m c 19 (point b q)) (iblk m c 20 (point b q)) (iblk m c 21 (point b q)) (iblk m c 22 (point b q)) (ix3 0 a j) = res m c b ⟨256 * (3 * q.val + 0) + a.val, by omega⟩ j := by
  have hb := point_div b q
  have hq := point_mod b q
  have e0 := index_0 (point b q)
  have e1 := index_1 (point b q)
  have e2 := index_2 (point b q)
  have e3 := index_3 (point b q)
  have e4 := index_4 (point b q)
  have e5 := index_5 (point b q)
  have es := first_0 (point b q)
  rw [hb, hq] at e0 e1 e2 e4 e5
  rw [hb] at e3
  rw [hq] at es
  exact tile_at m c b q ⟨3 * q.val + 0, by omega⟩ 0#32 _ _ _ _ _ _ es (fun a l => f_at m c _ b _ l (place b (3 * q.val + 0) _ e0 a l)) (fun a l => b_at m c _ b _ l (place b (3 * q.val + 0) _ e1 a l)) (fun a l => o_at m c _ b _ l (place b (3 * q.val + 0) _ e2 a l))
    (fun a l => context_at m c _ b a l (place b 0 _ e3 a l)) (fun _ a l => latent_at m c _ b _ l (place b (3 * q.val + 0 - 1) _ e4 a l)) (fun k => mod_at m c _ b _ k (place_mod _ _ e5 k)) a j

set_option maxHeartbeats 2000000 in
theorem tile_1 (c : Dev nD) (b : Fin 8) (q : Fin 3) (a : Fin 256) (j : Fin 1024) :
    tile (grid0.coords (point b q)) 1#32 (iblk m c 6 (point b q)) (iblk m c 7 (point b q)) (iblk m c 8 (point b q)) (iblk m c 9 (point b q)) (iblk m c 10 (point b q)) (iblk m c 11 (point b q)) (iblk m c 18 (point b q)) (iblk m c 19 (point b q)) (iblk m c 20 (point b q)) (iblk m c 21 (point b q)) (iblk m c 22 (point b q)) (ix3 0 a j) = res m c b ⟨256 * (3 * q.val + 1) + a.val, by omega⟩ j := by
  have hb := point_div b q
  have hq := point_mod b q
  have e0 := index_6 (point b q)
  have e1 := index_7 (point b q)
  have e2 := index_8 (point b q)
  have e3 := index_9 (point b q)
  have e4 := index_10 (point b q)
  have e5 := index_11 (point b q)
  have es := first_1 (point b q)
  rw [hb, hq] at e0 e1 e2 e4 e5
  rw [hb] at e3
  rw [hq] at es
  exact tile_at m c b q ⟨3 * q.val + 1, by omega⟩ 1#32 _ _ _ _ _ _ es (fun a l => f_at m c _ b _ l (place b (3 * q.val + 1) _ e0 a l)) (fun a l => b_at m c _ b _ l (place b (3 * q.val + 1) _ e1 a l)) (fun a l => o_at m c _ b _ l (place b (3 * q.val + 1) _ e2 a l))
    (fun a l => context_at m c _ b a l (place b 0 _ e3 a l)) (fun _ a l => latent_at m c _ b _ l (place b (3 * q.val + 1 - 1) _ e4 a l)) (fun k => mod_at m c _ b _ k (place_mod _ _ e5 k)) a j

set_option maxHeartbeats 2000000 in
theorem tile_2 (c : Dev nD) (b : Fin 8) (q : Fin 3) (a : Fin 256) (j : Fin 1024) :
    tile (grid0.coords (point b q)) 2#32 (iblk m c 12 (point b q)) (iblk m c 13 (point b q)) (iblk m c 14 (point b q)) (iblk m c 15 (point b q)) (iblk m c 16 (point b q)) (iblk m c 17 (point b q)) (iblk m c 18 (point b q)) (iblk m c 19 (point b q)) (iblk m c 20 (point b q)) (iblk m c 21 (point b q)) (iblk m c 22 (point b q)) (ix3 0 a j) = res m c b ⟨256 * (3 * q.val + 2) + a.val, by omega⟩ j := by
  have hb := point_div b q
  have hq := point_mod b q
  have e0 := index_12 (point b q)
  have e1 := index_13 (point b q)
  have e2 := index_14 (point b q)
  have e3 := index_15 (point b q)
  have e4 := index_16 (point b q)
  have e5 := index_17 (point b q)
  have es := first_2 (point b q)
  rw [hb, hq] at e0 e1 e2 e4 e5
  rw [hb] at e3
  rw [hq] at es
  exact tile_at m c b q ⟨3 * q.val + 2, by omega⟩ 2#32 _ _ _ _ _ _ es (fun a l => f_at m c _ b _ l (place b (3 * q.val + 2) _ e0 a l)) (fun a l => b_at m c _ b _ l (place b (3 * q.val + 2) _ e1 a l)) (fun a l => o_at m c _ b _ l (place b (3 * q.val + 2) _ e2 a l))
    (fun a l => context_at m c _ b a l (place b 0 _ e3 a l)) (fun _ a l => latent_at m c _ b _ l (place b (3 * q.val + 2 - 1) _ e4 a l)) (fun k => mod_at m c _ b _ k (place_mod _ _ e5 k)) a j

/-! ## The result -/

/-- A write elsewhere leaves what was written before. -/
theorem canon_skip (r : Rect S1x768x1024) (w : r.shape.Idx → Elt Ideal .f32) (L : List (View.Piece (Elt Ideal) S1x768x1024 .f32)) (y : S1x768x1024.Idx) (h : y ∉ r.set) :
    View.canon (⟨r, w⟩ :: L) y = View.canon L y := View.canon_cons_of_not_mem _ L h

/-- Rows below 256 are not in the second tile. -/
theorem not_mem1 (n : Fin 768) (d : Fin 1024) (h : n.val < 256) : (ix3 0 n d : S1x768x1024.Idx) ∉ r0_29.set := fun hm => by
  have h' : 256 ≤ n.val := (Rect.mem_set_unit.mp hm (1 : Fin 3)).1
  omega

/-- Rows below 512 are not in the third tile. -/
theorem not_mem2 (n : Fin 768) (d : Fin 1024) (h : n.val < 512) : (ix3 0 n d : S1x768x1024.Idx) ∉ r0_30.set := fun hm => by
  have h' : 512 ≤ n.val := (Rect.mem_set_unit.mp hm (1 : Fin 3)).1
  omega

/-- Three tiles' rows, read. -/
theorem three (p0 p1 p2 : Vec Ideal S1x256x1024 .f32) (f : Fin 768 → Fin 1024 → EReal)
    (h0 : ∀ (a : Fin 256) (j : Fin 1024), p0 (ix3 0 a j) = f ⟨a.val, by omega⟩ j) (h1 : ∀ (a : Fin 256) (j : Fin 1024), p1 (ix3 0 a j) = f ⟨256 + a.val, by omega⟩ j)
    (h2 : ∀ (a : Fin 256) (j : Fin 1024), p2 (ix3 0 a j) = f ⟨512 + a.val, by omega⟩ j) (n : Fin 768) (j : Fin 1024) :
    (View.canon [⟨r0_30, p2⟩, ⟨r0_29, p1⟩, ⟨r0_28, p0⟩] : FVec Ideal S1x768x1024 .f32) (ix3 0 n j) = f n j := by
  have hn := n.2
  by_cases c2 : 512 ≤ n.val
  · have e : (ix3 0 n j : S1x768x1024.Idx) = r0_30.emb (ix3 0 ⟨n.val - 512, by omega⟩ j) := by
      funext a; match a with
      | ⟨0, _⟩ => rfl
      | ⟨1, _⟩ => exact Fin.ext (by show n.val = 512 + 1 * (n.val - 512); omega)
      | ⟨2, _⟩ => exact Fin.ext (by show j.val = 0 + 1 * j.val; omega)
    rw [e, View.canon_cons_emb]
    exact (h2 _ j).trans (congrArg (f · j) (Fin.ext (by dsimp only; omega)))
  · rw [canon_skip r0_30 _ _ _ (not_mem2 n j (by omega))]
    by_cases c1 : 256 ≤ n.val
    · have e : (ix3 0 n j : S1x768x1024.Idx) = r0_29.emb (ix3 0 ⟨n.val - 256, by omega⟩ j) := by
        funext a; match a with
        | ⟨0, _⟩ => rfl
        | ⟨1, _⟩ => exact Fin.ext (by show n.val = 256 + 1 * (n.val - 256); omega)
        | ⟨2, _⟩ => exact Fin.ext (by show j.val = 0 + 1 * j.val; omega)
      rw [e, View.canon_cons_emb]
      exact (h1 _ j).trans (congrArg (f · j) (Fin.ext (by dsimp only; omega)))
    · rw [canon_skip r0_29 _ _ _ (not_mem1 n j (by omega))]
      have e : (ix3 0 n j : S1x768x1024.Idx) = r0_28.emb (ix3 0 ⟨n.val, by omega⟩ j) := by
        funext a; match a with
        | ⟨0, _⟩ => rfl
        | ⟨1, _⟩ => exact Fin.ext (by show n.val = 0 + 1 * n.val; omega)
        | ⟨2, _⟩ => exact Fin.ext (by show j.val = 0 + 1 * j.val; omega)
      rw [e, View.canon_cons_emb]
      exact h0 _ j

/-- Where the result's block of a point lies in the result array. -/
theorem read_23 (b : Fin 8) (q : Fin 3) (y : FVec Ideal S8x2304x1024 .f32) (n : Fin 768) (j : Fin 1024) :
    (((cfg0.win 23).blk (point b q)).view.read (Elt Ideal) y : FVec Ideal S1x768x1024 .f32) (ix3 0 n j) = y (ix3 b ⟨768 * q.val + n.val, by omega⟩ j) := by
  refine congrArg y (funext fun x => Fin.ext ?_)
  have e := index_23 (point b q)
  match x with
  | ⟨0, _⟩ => show (cfg0.win 23).index (point b q) 0 * 1 + 1 * 0 = b.val; rw [e]; simp [point_div]
  | ⟨1, _⟩ => show (cfg0.win 23).index (point b q) 1 * 768 + 1 * n.val = 768 * q.val + n.val; rw [e]; simp [point_mod]; omega
  | ⟨2, _⟩ => show (cfg0.win 23).index (point b q) 2 * 1024 + 1 * j.val = j.val; rw [e]; simp

/-- What the result array holds after the run, at an index. -/
theorem final_apply (c : Dev nD) (b : Fin 8) (q : Fin 3) (n : Fin 768) (j : Fin 1024) :
    ((dats m 0 c).arrAt 23 cfg0.N : FVec Ideal S8x2304x1024 .f32) (ix3 b ⟨768 * q.val + n.val, by omega⟩ j) = res m c b ⟨768 * q.val + n.val, by omega⟩ j := by
  refine (read_23 b q ((dats m 0 c).arrAt 23 cfg0.N) n j).symm.trans ?_
  rw [Value.blocks23 m c (point b q) (flush0_23 (point b q)), Value.flushed23, FirstUnit.out_eq]
  refine three _ _ _ (fun n j => res m c b ⟨768 * q.val + n.val, by omega⟩ j) (fun a j => (tile_0 m c b q a j).trans ?_) (fun a j => (tile_1 m c b q a j).trans ?_) (fun a j => (tile_2 m c b q a j).trans ?_) n j
  all_goals exact congrArg (res m c b · j) (Fin.ext (by dsimp only; omega))

end Cert.FirstKernel
-- ==== Proof.FirstEq.lean ====
/-
  The first layer's end: kernel and reference end with one array.
-/
module

public import proofs.«01_k».proof.Proof.FirstKernel

@[expose] public section

noncomputable section

open Idealize.ShloMosaic Idealize.ShloMosaic.TcCoe Idealize.SL.Sem

namespace Cert.FirstEq

/-- Every index of the result is a batch entry, a row of a point's block and a channel. -/
theorem index_form (i : Cert.FirstIdeal.S8x2304x1024.Idx) : ∃ (b : Fin 8) (q : Fin 3) (n : Fin 768) (j : Fin 1024), i = ix3 b ⟨768 * q.val + n.val, by omega⟩ j := by
  have h1 : (i 1).val < 2304 := (i 1).isLt
  refine ⟨i 0, ⟨(i 1).val / 768, by omega⟩, ⟨(i 1).val % 768, by omega⟩, i 2, funext fun x => ?_⟩
  match x with
  | ⟨0, _⟩ => rfl
  | ⟨1, _⟩ => exact Fin.ext (by show (i 1).val = 768 * ((i 1).val / 768) + (i 1).val % 768; omega)
  | ⟨2, _⟩ => rfl

/-- The kernel's result array is the reference's, of the same arguments. -/
theorem final_eq (m : (ℓ : Loc Cert.FirstIdeal.nD Cert.FirstIdeal.τ Cert.FirstIdeal.sig) → Buf (Elt Ideal) ℓ) (c : Dev Cert.FirstIdeal.nD) :
    ((Cert.FirstIdeal.Gen.dats m 0 c).arrAt 23 Cert.FirstIdeal.cfg0.N : FVec Ideal Cert.FirstIdeal.S8x2304x1024 .f32) =
      Cert.FirstRefIdeal.Read.val_main_v142 (F := Ideal) (m ((c : Thread Cert.FirstIdeal.nD Cert.FirstIdeal.τ).loc Cert.FirstIdeal.main_arg0)) (m ((c : Thread Cert.FirstIdeal.nD Cert.FirstIdeal.τ).loc Cert.FirstIdeal.main_arg1)) (m ((c : Thread Cert.FirstIdeal.nD Cert.FirstIdeal.τ).loc Cert.FirstIdeal.main_arg2)) (m ((c : Thread Cert.FirstIdeal.nD Cert.FirstIdeal.τ).loc Cert.FirstIdeal.main_arg3)) (m ((c : Thread Cert.FirstIdeal.nD Cert.FirstIdeal.τ).loc Cert.FirstIdeal.main_arg4)) (m ((c : Thread Cert.FirstIdeal.nD Cert.FirstIdeal.τ).loc Cert.FirstIdeal.main_arg5)) (m ((c : Thread Cert.FirstIdeal.nD Cert.FirstIdeal.τ).loc Cert.FirstIdeal.main_arg6)) (m ((c : Thread Cert.FirstIdeal.nD Cert.FirstIdeal.τ).loc Cert.FirstIdeal.main_arg7)) (m ((c : Thread Cert.FirstIdeal.nD Cert.FirstIdeal.τ).loc Cert.FirstIdeal.main_arg8)) (m ((c : Thread Cert.FirstIdeal.nD Cert.FirstIdeal.τ).loc Cert.FirstIdeal.main_arg9)) (m ((c : Thread Cert.FirstIdeal.nD Cert.FirstIdeal.τ).loc Cert.FirstIdeal.main_arg10)) (m ((c : Thread Cert.FirstIdeal.nD Cert.FirstIdeal.τ).loc Cert.FirstIdeal.main_arg11)) (m ((c : Thread Cert.FirstIdeal.nD Cert.FirstIdeal.τ).loc Cert.FirstIdeal.main_arg12)) (m ((c : Thread Cert.FirstIdeal.nD Cert.FirstIdeal.τ).loc Cert.FirstIdeal.main_arg13)) (m ((c : Thread Cert.FirstIdeal.nD Cert.FirstIdeal.τ).loc Cert.FirstIdeal.main_arg14)) := by
  funext i
  obtain ⟨b, q, n, j, rfl⟩ := index_form i
  exact (FirstKernel.final_apply m c b q n j).trans (FirstRef.out_apply _ _ _ _ _ _ _ _ _ _ _ _ _ _ _ b ⟨768 * q.val + n.val, by omega⟩ j).symm

end Cert.FirstEq
-- ==== Proof.PreMath.lean ====
/-
  The start of a recurrent layer over the extended reals: a row's modulated norm, and one channel of its projection, the
  projection's keys scaled and its gates padded.
-/
module

public import proofs.«01_k».proof.Proof.PostMath
public import proofs.«01_k».proof.Proof.DiffMath

@[expose] public section

noncomputable section

open Idealize.ShloMosaic

namespace Cert.PreMath

open Cert.DiffMath (keys)

/-- A row normed, weighted, scaled and shifted by its modulation. -/
def start (x g : Fin 1024 → EReal) (mod : Fin 6144 → EReal) (j : Fin 1024) : EReal :=
  PostMath.modulated x g (PostMath.part mod 1024 (by omega)) (PostMath.part mod 0 (by omega)) j

/-- One channel of a row's projection. -/
def project (u w : Fin 1024 → EReal) : EReal := ∑ l, u l * w l

/-- The context's rows, then the latents'. -/
def joined (C : Fin 256 → Fin 1024 → EReal) (L : Fin 2048 → Fin 1024 → EReal) (t : Fin 2304) (l : Fin 1024) : EReal := keys (fun t => C t l) (fun t => L t l) t

/-- A context row. -/
theorem joined_context (C : Fin 256 → Fin 1024 → EReal) (L : Fin 2048 → Fin 1024 → EReal) (T : ℕ) (a : Fin 256) (h : 256 * T + a.val < 2304) (h0 : T = 0) :
    joined C L ⟨256 * T + a.val, h⟩ = C a := funext fun l =>
  (congrArg (keys (fun t => C t l) fun t => L t l) (Fin.ext (by show 256 * T + a.val = a.val; omega))).trans (DiffMath.keys_ctx _ _ a)

/-- A latent row. -/
theorem joined_latent (C : Fin 256 → Fin 1024 → EReal) (L : Fin 2048 → Fin 1024 → EReal) (T : ℕ) (a : Fin 256) (h : 256 * T + a.val < 2304) (h0 : T ≠ 0) :
    joined C L ⟨256 * T + a.val, h⟩ = L ⟨256 * (T - 1) + a.val, by omega⟩ := funext fun l =>
  (congrArg (keys (fun t => C t l) fun t => L t l) (Fin.ext (by show 256 * T + a.val = 256 + (256 * (T - 1) + a.val); omega))).trans (DiffMath.keys_lat _ _ ⟨256 * (T - 1) + a.val, by omega⟩)

/-- A function of a row, of the rows joined. -/
theorem keys_apply (f : (Fin 1024 → EReal) → EReal) (C : Fin 256 → Fin 1024 → EReal) (L : Fin 2048 → Fin 1024 → EReal) (t : Fin 2304) :
    keys (fun t => f (C t)) (fun t => f (L t)) t = f (joined C L t) := by
  have e : joined C L t = if h : t.val < 256 then C ⟨t.val, h⟩ else L ⟨t.val - 256, by omega⟩ := by
    funext l
    unfold joined keys
    split_ifs <;> rfl
  rw [e]
  unfold keys
  split_ifs <;> rfl

/-- The keys' scale taken out of the projection. -/
theorem project_eighth (u w : Fin 1024 → EReal) :
    project u (fun l => w l * Ideal.ofBits .f32 0x3E000000#32) = project u w * Ideal.ofBits .f32 0x3E000000#32 := by
  unfold project
  rw [DiffMath.ofBits_eighth, ← DiffMath.sum_mul_coe _ _ _ (by norm_num)]
  exact Finset.sum_congr rfl fun l _ => (mul_assoc _ _ _).symm

/-- Where the weights are none, the projection is none. -/
theorem project_zero (u : Fin 1024 → EReal) : project u (fun _ => 0) = 0 := by
  unfold project
  simp

/-- The gates' weights, padded, project to the padded gates. -/
theorem project_padded (u : Fin 1024 → EReal) (w : Fin 1024 → Fin 3104 → EReal) (j : Fin 128) :
    project u (fun l => if h : j.val < 32 then w l ⟨3072 + j.val, by omega⟩ else 0) = if h : j.val < 32 then project u (fun l => w l ⟨3072 + j.val, by omega⟩) else 0 := by
  split_ifs with h
  · rfl
  · exact project_zero u

/-- The integer zero as a float. -/
theorem converted_zero : (FloatOps.sitofp (F := Ideal) .f32 (0#32) : EReal) = 0 := by
  show (((0#32 : BitVec 32).toInt : ℝ) : EReal) = 0
  simp

end Cert.PreMath
-- ==== Proof.PreUnit.lean ====
/-
  The start of a recurrent layer, written as a few functions of a tile of 256 rows: the modulated norm and the projections to
  the queries, the transposed keys, the values, the output gates and the gates. The kernel bodies are stated to be these
  functions in the modules that read them.
-/
module

public import proofs.«01_k».proof.Proof.PostRead
public import proofs.«01_k».proof.Proof.PreMath
public import proofs.«01_k».proof.Proof.Gen.EnterIdeal.Frame
public import Idealize.ShloMosaic.Lib.Pipeline.Value

@[expose] public section

set_option maxRecDepth 16384

noncomputable section

open Idealize.ShloMosaic Idealize.ShloMosaic.TcCoe Idealize.SL.Sem

namespace Cert.PreUnit

open Cert.EnterIdeal Cert.EnterIdeal.Gen

section
variable {F : FTy → Type} [FloatOps F] [Named F]

/-- A tile's rows normed, weighted, scaled and shifted. -/
def start (x : FVec F S256x1024 .f32) (mod : Vec F S1x1x6144 .f32) (g : Vec F S1x1024 .f32) : FVec F S256x1024 .bf16 :=
  truncf .bf16 (addf (mulf (PostUnit.norm x g) (PostUnit.spread (addf (broadcast S1x1024 (Scalar.ofBits .f32 0x3F800000#32)) (extractStridedSlice S1x1024 ![0, 1024] (PostUnit.row mod) slices_S1x6144_o0_1024_S1x1024))))
    (PostUnit.spread (extractStridedSlice S1x1024 ![0, 0] (PostUnit.row mod) slices_S1x6144_o0_0_S1x1024))) bitsLt_bf16_f32

/-- The queries of a tile. -/
def queries (u : FVec F S256x1024 .bf16) (w : Vec F S1024x512 .bf16) : Vec F S1x256x512 .bf16 :=
  shapeCast S1x256x512 (truncf .bf16 (matmul dot_S256x1024_S1024x512_S256x512_1_0_0_1_n_n none u (shapeCast S1024x512 (View.ld w r0_3) shapeCasts_S1024x512_S1024x512) (constant S256x512 .f32 0x00000000#32)) bitsLt_bf16_f32) shapeCasts_S256x512_S1x256x512

/-- The transposed keys of a tile. -/
def keysT (u : FVec F S256x1024 .bf16) (w : Vec F S512x1024 .bf16) : Vec F S1x512x256 .bf16 :=
  shapeCast S1x512x256 (truncf .bf16 (matmul dot_S512x1024_S256x1024_S512x256_1_1_0_0_n_n none (shapeCast S512x1024 (View.ld w r0_5) shapeCasts_S512x1024_S512x1024) u (constant S512x256 .f32 0x00000000#32)) bitsLt_bf16_f32) shapeCasts_S512x256_S1x512x256

/-- The values, or the output gates, of a tile. -/
def values (u : FVec F S256x1024 .bf16) (w : Vec F S1024x1024 .bf16) : Vec F S1x256x1024 .bf16 :=
  shapeCast S1x256x1024 (truncf .bf16 (matmul dot_S256x1024_S1024x1024_S256x1024_1_0_0_1_n_n none u (shapeCast S1024x1024 (View.ld w r0_7) shapeCasts_S1024x1024_S1024x1024) (constant S256x1024 .f32 0x00000000#32)) bitsLt_bf16_f32) shapeCasts_S256x1024_S1x256x1024

/-- The gates of a tile. -/
def gates (u : FVec F S256x1024 .bf16) (w : Vec F S1024x128 .bf16) : Vec F S1x256x128 .f32 :=
  shapeCast S1x256x128 (matmul dot_S256x1024_S1024x128_S256x128_1_0_0_1_n_n none u (shapeCast S1024x128 (View.ld w r0_9) shapeCasts_S1024x128_S1024x128) (constant S256x128 .f32 0x00000000#32)) shapeCasts_S256x128_S1x256x128

end

/-! ## Read at an index over the extended reals -/

theorem start_apply (x : FVec Ideal S256x1024 .f32) (mod : Vec Ideal S1x1x6144 .f32) (g : Vec Ideal S1x1024 .f32) (a : Fin 256) (j : Fin 1024) :
    start x mod g (ix2 a j) = PreMath.start (fun l => x (ix2 a l)) (fun l => g (ix2 0 l)) (fun k => mod (ix3 0 0 k)) j := by
  have e : ∀ r : FVec Ideal S1x6144 .f32, (addf (mulf (PostUnit.norm x g) (PostUnit.spread (addf (broadcast S1x1024 (Scalar.ofBits .f32 0x3F800000#32)) (extractStridedSlice S1x1024 ![0, 1024] r slices_S1x6144_o0_1024_S1x1024))))
      (PostUnit.spread (extractStridedSlice S1x1024 ![0, 0] r slices_S1x6144_o0_0_S1x1024)) : FVec Ideal S256x1024 .f32) (ix2 a j) =
      PreMath.start (fun l => x (ix2 a l)) (fun l => g (ix2 0 l)) (fun k => r (ix2 0 k)) j := by
    intro r
    unfold PreMath.start PostMath.modulated PostMath.part
    rw [← PostUnit.norm_apply]
    pointwise [PostUnit.spread]
  refine (e (PostUnit.row mod)).trans ?_
  simp only [PostUnit.row_apply]

theorem queries_apply (u : FVec Ideal S256x1024 .bf16) (w : Vec Ideal S1024x512 .bf16) (a : Fin 256) (j : Fin 512) :
    queries u w (ix3 0 a j) = PreMath.project (fun l => u (ix2 a l)) fun l => w (ix2 l j) := by
  unfold PreMath.project
  pointwise [queries, r0_3]

theorem keysT_apply (u : FVec Ideal S256x1024 .bf16) (w : Vec Ideal S512x1024 .bf16) (j : Fin 512) (a : Fin 256) :
    keysT u w (ix3 0 j a) = PreMath.project (fun l => u (ix2 a l)) fun l => w (ix2 j l) := by
  have e : keysT u w (ix3 0 j a) = (∑ l, w (ix2 j l) * u (ix2 a l) : EReal) := by pointwise [keysT, r0_5]
  exact e.trans (Finset.sum_congr rfl fun l _ => mul_comm _ _)

theorem values_apply (u : FVec Ideal S256x1024 .bf16) (w : Vec Ideal S1024x1024 .bf16) (a : Fin 256) (j : Fin 1024) :
    values u w (ix3 0 a j) = PreMath.project (fun l => u (ix2 a l)) fun l => w (ix2 l j) := by
  unfold PreMath.project
  pointwise [values, r0_7]

theorem gates_apply (u : FVec Ideal S256x1024 .bf16) (w : Vec Ideal S1024x128 .bf16) (a : Fin 256) (j : Fin 128) :
    gates u w (ix3 0 a j) = PreMath.project (fun l => u (ix2 a l)) fun l => w (ix2 l j) := by
  unfold PreMath.project
  pointwise [gates, r0_9]

/-! ## Three tiles stored into a block -/

/-- A tile's rows, stored from row `o` of the block on, are the block's. -/
theorem piece_rows {k o : ℕ} {e : EltTy} (inb : ∀ a, (![0, o, 0] : Fin 3 → ℕ) a + (![1, 256, k] : Fin 3 → ℕ) a ≤ (⟨3, ![1, 768, k]⟩ : Shape).size a) (p : Vec Ideal ⟨3, ![1, 256, k]⟩ e) (f : Fin 768 → Fin k → Elt Ideal e) (ho : o ≤ 512)
    (h : ∀ (a : Fin 256) (j : Fin k), p (ix3 0 a j) = f ⟨o + a.val, by omega⟩ j) (x : (⟨3, ![1, 256, k]⟩ : Shape).Idx) :
    p x = f ((Rect.unit (s := ⟨3, ![1, 768, k]⟩) ![0, o, 0] ![1, 256, k] inb).emb x 1) ((Rect.unit (s := ⟨3, ![1, 768, k]⟩) ![0, o, 0] ![1, 256, k] inb).emb x 2) := by
  have e : x = ix3 0 (x 1) (x 2) := by
    funext a
    match a with
    | ⟨0, _⟩ => exact Fin.ext (by have h' : (x 0).val < 1 := (x 0).isLt; show (x 0).val = 0; omega)
    | ⟨1, _⟩ => rfl
    | ⟨2, _⟩ => rfl
  refine (congrArg p e).trans ((h (x 1) (x 2)).trans (congrArg₂ f (Fin.ext ?_) (Fin.ext ?_)))
  · show o + (x 1).val = o + 1 * (x 1).val
    omega
  · show (x 2).val = 0 + 1 * (x 2).val
    omega

/-- Three tiles' rows fill the block. -/
theorem three_rows {k : ℕ} {e : EltTy} (i0 i1 i2) (p0 p1 p2 : Vec Ideal ⟨3, ![1, 256, k]⟩ e) (f : Fin 768 → Fin k → Elt Ideal e)
    (h0 : ∀ (a : Fin 256) (j : Fin k), p0 (ix3 0 a j) = f ⟨0 + a.val, by omega⟩ j) (h1 : ∀ (a : Fin 256) (j : Fin k), p1 (ix3 0 a j) = f ⟨256 + a.val, by omega⟩ j)
    (h2 : ∀ (a : Fin 256) (j : Fin k), p2 (ix3 0 a j) = f ⟨512 + a.val, by omega⟩ j) (n : Fin 768) (j : Fin k)
    (hc : ∃ pc ∈ ([⟨Rect.unit (s := ⟨3, ![1, 768, k]⟩) ![0, 512, 0] ![1, 256, k] i2, p2⟩, ⟨Rect.unit (s := ⟨3, ![1, 768, k]⟩) ![0, 256, 0] ![1, 256, k] i1, p1⟩, ⟨Rect.unit (s := ⟨3, ![1, 768, k]⟩) ![0, 0, 0] ![1, 256, k] i0, p0⟩] : List (View.Piece (Elt Ideal) ⟨3, ![1, 768, k]⟩ e)),
      (ix3 0 n j : (⟨3, ![1, 768, k]⟩ : Shape).Idx) ∈ pc.1.set) :
    (View.canon [⟨Rect.unit (s := ⟨3, ![1, 768, k]⟩) ![0, 512, 0] ![1, 256, k] i2, p2⟩, ⟨Rect.unit (s := ⟨3, ![1, 768, k]⟩) ![0, 256, 0] ![1, 256, k] i1, p1⟩, ⟨Rect.unit (s := ⟨3, ![1, 768, k]⟩) ![0, 0, 0] ![1, 256, k] i0, p0⟩] : Vec Ideal ⟨3, ![1, 768, k]⟩ e) (ix3 0 n j) = f n j :=
  View.canon_apply_of_pieces (fun y => f (y 1) (y 2)) _ (by
    intro p hp
    simp only [List.mem_cons, List.not_mem_nil, or_false] at hp
    rcases hp with rfl | rfl | rfl
    · exact piece_rows i2 p2 f (by omega) h2
    · exact piece_rows i1 p1 f (by omega) h1
    · exact piece_rows i0 p0 f (by omega) h0) _ hc

/-- A tile's columns, stored from column `o` of the block on, are the block's. -/
theorem piece_columns {k o : ℕ} {e : EltTy} (inb : ∀ a, (![0, 0, o] : Fin 3 → ℕ) a + (![1, k, 256] : Fin 3 → ℕ) a ≤ (⟨3, ![1, k, 768]⟩ : Shape).size a) (p : Vec Ideal ⟨3, ![1, k, 256]⟩ e) (f : Fin k → Fin 768 → Elt Ideal e) (ho : o ≤ 512)
    (h : ∀ (j : Fin k) (a : Fin 256), p (ix3 0 j a) = f j ⟨o + a.val, by omega⟩) (x : (⟨3, ![1, k, 256]⟩ : Shape).Idx) :
    p x = f ((Rect.unit (s := ⟨3, ![1, k, 768]⟩) ![0, 0, o] ![1, k, 256] inb).emb x 1) ((Rect.unit (s := ⟨3, ![1, k, 768]⟩) ![0, 0, o] ![1, k, 256] inb).emb x 2) := by
  have e : x = ix3 0 (x 1) (x 2) := by
    funext a
    match a with
    | ⟨0, _⟩ => exact Fin.ext (by have h' : (x 0).val < 1 := (x 0).isLt; show (x 0).val = 0; omega)
    | ⟨1, _⟩ => rfl
    | ⟨2, _⟩ => rfl
  refine (congrArg p e).trans ((h (x 1) (x 2)).trans (congrArg₂ f (Fin.ext ?_) (Fin.ext ?_)))
  · show (x 1).val = 0 + 1 * (x 1).val
    omega
  · show o + (x 2).val = o + 1 * (x 2).val
    omega

/-- Three tiles' columns fill the block. -/
theorem three_columns {k : ℕ} {e : EltTy} (i0 i1 i2) (p0 p1 p2 : Vec Ideal ⟨3, ![1, k, 256]⟩ e) (f : Fin k → Fin 768 → Elt Ideal e)
    (h0 : ∀ (j : Fin k) (a : Fin 256), p0 (ix3 0 j a) = f j ⟨0 + a.val, by omega⟩) (h1 : ∀ (j : Fin k) (a : Fin 256), p1 (ix3 0 j a) = f j ⟨256 + a.val, by omega⟩)
    (h2 : ∀ (j : Fin k) (a : Fin 256), p2 (ix3 0 j a) = f j ⟨512 + a.val, by omega⟩) (j : Fin k) (n : Fin 768)
    (hc : ∃ pc ∈ ([⟨Rect.unit (s := ⟨3, ![1, k, 768]⟩) ![0, 0, 512] ![1, k, 256] i2, p2⟩, ⟨Rect.unit (s := ⟨3, ![1, k, 768]⟩) ![0, 0, 256] ![1, k, 256] i1, p1⟩, ⟨Rect.unit (s := ⟨3, ![1, k, 768]⟩) ![0, 0, 0] ![1, k, 256] i0, p0⟩] : List (View.Piece (Elt Ideal) ⟨3, ![1, k, 768]⟩ e)),
      (ix3 0 j n : (⟨3, ![1, k, 768]⟩ : Shape).Idx) ∈ pc.1.set) :
    (View.canon [⟨Rect.unit (s := ⟨3, ![1, k, 768]⟩) ![0, 0, 512] ![1, k, 256] i2, p2⟩, ⟨Rect.unit (s := ⟨3, ![1, k, 768]⟩) ![0, 0, 256] ![1, k, 256] i1, p1⟩, ⟨Rect.unit (s := ⟨3, ![1, k, 768]⟩) ![0, 0, 0] ![1, k, 256] i0, p0⟩] : Vec Ideal ⟨3, ![1, k, 768]⟩ e) (ix3 0 j n) = f j n :=
  View.canon_apply_of_pieces (fun y => f (y 1) (y 2)) _ (by
    intro p hp
    simp only [List.mem_cons, List.not_mem_nil, or_false] at hp
    rcases hp with rfl | rfl | rfl
    · exact piece_columns i2 p2 f (by omega) h2
    · exact piece_columns i1 p1 f (by omega) h1
    · exact piece_columns i0 p0 f (by omega) h0) _ hc

end Cert.PreUnit
-- ==== Proof.PreHost.lean ====
/-
  The reference's lines of a recurrent layer's start, once for its two layers: the modulated norm of the context's and of the
  latents' rows, their projection, and the parts of the projection joined; each read at an index over the extended reals.
-/
module

public import proofs.«01_k».proof.Proof.FirstRef
public import proofs.«01_k».proof.Proof.PreMath
public import proofs.«01_k».proof.Proof.Gen.EnterRefIdeal.Read

@[expose] public section

set_option maxRecDepth 16384

noncomputable section

open Idealize.ShloMosaic Idealize.ShloMosaic.TcCoe Idealize.SL.Sem

namespace Cert.PreHost

open Cert.EnterRefIdeal Cert.EnterRefIdeal.Gen
open Cert.DiffMath (keys)

/-- A row of weights at each latent row. -/
def gainLatent (g : FVec Ideal S1024 .f32) : FVec Ideal S8x2048x1024 .f32 := broadcastInDim S8x2048x1024 ![0, 1, 2] bcast_S1x1x1024_S8x2048x1024_0_1_2 (broadcastInDim S1x1x1024 ![2] bcast_S1024_S1x1x1024_2 g)
/-- One plus a modulation's scale at each latent row. -/
def scaleLatent (mod : FVec Ideal S8x6144 .f32) : FVec Ideal S8x2048x1024 .f32 := broadcastInDim S8x2048x1024 ![0, 1, 2] bcast_S8x1x1024_S8x2048x1024_0_1_2
  (addf (broadcastInDim S8x1x1024 ![] bcast_S_S8x1x1024 (constant S_ .f32 0x3F800000#32)) (extractStridedSlice S8x1x1024 ![0, 0, 1024] (broadcastInDim S8x1x6144 ![0, 2] bcast_S8x6144_S8x1x6144_0_2 mod) slices_S8x1x6144_S8x1x1024_0_0_1024))
/-- A modulation's shift at each latent row. -/
def shiftLatent (mod : FVec Ideal S8x6144 .f32) : FVec Ideal S8x2048x1024 .f32 := broadcastInDim S8x2048x1024 ![0, 1, 2] bcast_S8x1x1024_S8x2048x1024_0_1_2
  (extractStridedSlice S8x1x1024 ![0, 0, 0] (broadcastInDim S8x1x6144 ![0, 2] bcast_S8x6144_S8x1x6144_0_2 mod) slices_S8x1x6144_S8x1x1024_0_0_0)
/-- The latents' rows normed and modulated. -/
def latent (x : FVec Ideal S8x2048x1024 .f32) (mod : FVec Ideal S8x6144 .f32) (g : FVec Ideal S1024 .f32) : FVec Ideal S8x2048x1024 .f32 :=
  addf (mulf (PostHost.norm FirstRef.facts_latent x (gainLatent g)) (scaleLatent mod)) (shiftLatent mod)

/-- A row of weights at each context row. -/
def gainContext (g : FVec Ideal S1024 .f32) : FVec Ideal S8x256x1024 .f32 := broadcastInDim S8x256x1024 ![0, 1, 2] bcast_S1x1x1024_S8x256x1024_0_1_2 (broadcastInDim S1x1x1024 ![2] bcast_S1024_S1x1x1024_2 g)
/-- One plus the context's scale at each of its rows. -/
def scaleContext (mod : FVec Ideal S6144 .f32) : FVec Ideal S8x256x1024 .f32 := broadcastInDim S8x256x1024 ![0, 1, 2] bcast_S1x1x1024_S8x256x1024_0_1_2
  (addf (broadcastInDim S1x1x1024 ![] bcast_S_S1x1x1024 (constant S_ .f32 0x3F800000#32)) (extractStridedSlice S1x1x1024 ![0, 0, 1024] (broadcastInDim S1x1x6144 ![2] bcast_S6144_S1x1x6144_2 mod) slices_S1x1x6144_S1x1x1024_0_0_1024))
/-- The context's shift at each of its rows. -/
def shiftContext (mod : FVec Ideal S6144 .f32) : FVec Ideal S8x256x1024 .f32 := broadcastInDim S8x256x1024 ![0, 1, 2] bcast_S1x1x1024_S8x256x1024_0_1_2
  (extractStridedSlice S1x1x1024 ![0, 0, 0] (broadcastInDim S1x1x6144 ![2] bcast_S6144_S1x1x6144_2 mod) slices_S1x1x6144_S1x1x1024_0_0_0)
/-- The context's rows normed and modulated. -/
def context (x : FVec Ideal S8x256x1024 .f32) (mod : FVec Ideal S6144 .f32) (g : FVec Ideal S1024 .f32) : FVec Ideal S8x256x1024 .f32 :=
  addf (mulf (PostHost.norm FirstRef.facts_context x (gainContext g)) (scaleContext mod)) (shiftContext mod)

/-- The latents' projection. -/
def projectLatent (u : FVec Ideal S8x2048x1024 .f32) (w : FVec Ideal S1024x3104 .f32) : FVec Ideal S8x2048x3104 .f32 := Host.dotGeneral dot_S8x2048x1024_S1024x3104_S8x2048x3104_2_0_01_1_n_n none u w
/-- The context's projection. -/
def projectContext (u : FVec Ideal S8x256x1024 .f32) (w : FVec Ideal S1024x3104 .f32) : FVec Ideal S8x256x3104 .f32 := Host.dotGeneral dot_S8x256x1024_S1024x3104_S8x256x3104_2_0_01_1_n_n none u w

/-- The queries of two projections. -/
def queries (p : FVec Ideal S8x256x3104 .f32) (r : FVec Ideal S8x2048x3104 .f32) : FVec Ideal S8x2304x512 .bf16 :=
  truncf .bf16 (concatenate S8x2304x512 1 [⟨S8x256x512, extractStridedSlice S8x256x512 ![0, 0, 0] p slices_S8x256x3104_S8x256x512_0_0_0⟩, ⟨S8x2048x512, extractStridedSlice S8x2048x512 ![0, 0, 0] r slices_S8x2048x3104_S8x2048x512_0_0_0⟩] concatenates_S8x256x512_S8x2048x512_S8x2304x512_d1) bitsLt_bf16_f32
/-- The transposed keys, scaled. -/
def keysT (p : FVec Ideal S8x256x3104 .f32) (r : FVec Ideal S8x2048x3104 .f32) : FVec Ideal S8x512x2304 .bf16 :=
  truncf .bf16 (transpose S8x512x2304 [0, 2, 1] (concatenate S8x2304x512 1
    [⟨S8x256x512, mulf (extractStridedSlice S8x256x512 ![0, 0, 512] p slices_S8x256x3104_S8x256x512_0_0_512) (broadcastInDim S8x256x512 ![] bcast_S_S8x256x512 (constant S_ .f32 0x3E000000#32))⟩,
      ⟨S8x2048x512, mulf (extractStridedSlice S8x2048x512 ![0, 0, 512] r slices_S8x2048x3104_S8x2048x512_0_0_512) (broadcastInDim S8x2048x512 ![] bcast_S_S8x2048x512 (constant S_ .f32 0x3E000000#32))⟩] concatenates_S8x256x512_S8x2048x512_S8x2304x512_d1) transposes_S8x2304x512_S8x512x2304_0_2_1) bitsLt_bf16_f32
/-- The values. -/
def values (p : FVec Ideal S8x256x3104 .f32) (r : FVec Ideal S8x2048x3104 .f32) : FVec Ideal S8x2304x1024 .bf16 :=
  truncf .bf16 (concatenate S8x2304x1024 1 [⟨S8x256x1024, extractStridedSlice S8x256x1024 ![0, 0, 1024] p slices_S8x256x3104_S8x256x1024_0_0_1024⟩, ⟨S8x2048x1024, extractStridedSlice S8x2048x1024 ![0, 0, 1024] r slices_S8x2048x3104_S8x2048x1024_0_0_1024⟩] concatenates_S8x256x1024_S8x2048x1024_S8x2304x1024_d1) bitsLt_bf16_f32
/-- The output gates. -/
def outputs (p : FVec Ideal S8x256x3104 .f32) (r : FVec Ideal S8x2048x3104 .f32) : FVec Ideal S8x2304x1024 .bf16 :=
  truncf .bf16 (concatenate S8x2304x1024 1 [⟨S8x256x1024, extractStridedSlice S8x256x1024 ![0, 0, 2048] p slices_S8x256x3104_S8x256x1024_0_0_2048⟩, ⟨S8x2048x1024, extractStridedSlice S8x2048x1024 ![0, 0, 2048] r slices_S8x2048x3104_S8x2048x1024_0_0_2048⟩] concatenates_S8x256x1024_S8x2048x1024_S8x2304x1024_d1) bitsLt_bf16_f32
/-- The gates, padded. -/
def gates (p : FVec Ideal S8x256x3104 .f32) (r : FVec Ideal S8x2048x3104 .f32) : FVec Ideal S8x2304x128 .f32 :=
  pad S8x2304x128 ![0, 0, 0] ![0, 0, 96] ![0, 0, 0] (concatenate S8x2304x32 1 [⟨S8x256x32, extractStridedSlice S8x256x32 ![0, 0, 3072] p slices_S8x256x3104_S8x256x32_0_0_3072⟩, ⟨S8x2048x32, extractStridedSlice S8x2048x32 ![0, 0, 3072] r slices_S8x2048x3104_S8x2048x32_0_0_3072⟩] concatenates_S8x256x32_S8x2048x32_S8x2304x32_d1)
    (sitofp .f32 (constantI S_ 32 0#32)) pads_S8x2304x32_S8x2304x128_000_000_0960 h_S_

/-! ## Read at an index -/

theorem latent_apply (x : FVec Ideal S8x2048x1024 .f32) (mod : FVec Ideal S8x6144 .f32) (g : FVec Ideal S1024 .f32) (i : Fin 8) (t : Fin 2048) (l : Fin 1024) :
    latent x mod g (ix3 i t l) = PreMath.start (fun l => x (ix3 i t l)) (fun l => g (ix1 l)) (fun k => mod (ix2 i k)) l := by
  have hg : ∀ l, gainLatent g (ix3 i t l) = g (ix1 l) := by intro l; pointwise [gainLatent]
  have hs : scaleLatent mod (ix3 i t l) = (Ideal.ofBits .f32 0x3F800000#32 + PostMath.part (fun k => mod (ix2 i k)) 1024 (by omega) l : EReal) := by
    unfold PostMath.part
    pointwise [scaleLatent]
  have hm : shiftLatent mod (ix3 i t l) = PostMath.part (fun k => mod (ix2 i k)) 0 (by omega) l := by
    unfold PostMath.part
    pointwise [shiftLatent]
  show PostHost.norm FirstRef.facts_latent x (gainLatent g) (ix3 i t l) * scaleLatent mod (ix3 i t l) + shiftLatent mod (ix3 i t l) = (_ : EReal)
  rw [PostHost.norm_apply (PostHost.reads_latent FirstRef.facts_latent), hs, hm, funext hg]
  rfl

theorem context_apply (x : FVec Ideal S8x256x1024 .f32) (mod : FVec Ideal S6144 .f32) (g : FVec Ideal S1024 .f32) (i : Fin 8) (t : Fin 256) (l : Fin 1024) :
    context x mod g (ix3 i t l) = PreMath.start (fun l => x (ix3 i t l)) (fun l => g (ix1 l)) (fun k => mod (ix1 k)) l := by
  have hg : ∀ l, gainContext g (ix3 i t l) = g (ix1 l) := by intro l; pointwise [gainContext]
  have hs : scaleContext mod (ix3 i t l) = (Ideal.ofBits .f32 0x3F800000#32 + PostMath.part (fun k => mod (ix1 k)) 1024 (by omega) l : EReal) := by
    unfold PostMath.part
    pointwise [scaleContext]
  have hm : shiftContext mod (ix3 i t l) = PostMath.part (fun k => mod (ix1 k)) 0 (by omega) l := by
    unfold PostMath.part
    pointwise [shiftContext]
  show PostHost.norm FirstRef.facts_context x (gainContext g) (ix3 i t l) * scaleContext mod (ix3 i t l) + shiftContext mod (ix3 i t l) = (_ : EReal)
  rw [PostHost.norm_apply (PostHost.reads_context FirstRef.facts_context), hs, hm, funext hg]
  rfl

theorem projectLatent_apply (u : FVec Ideal S8x2048x1024 .f32) (w : FVec Ideal S1024x3104 .f32) (i : Fin 8) (t : Fin 2048) (k : Fin 3104) :
    projectLatent u w (ix3 i t k) = PreMath.project (fun l => u (ix3 i t l)) fun l => w (ix2 l k) := by
  unfold PreMath.project
  pointwise [projectLatent]

theorem projectContext_apply (u : FVec Ideal S8x256x1024 .f32) (w : FVec Ideal S1024x3104 .f32) (i : Fin 8) (t : Fin 256) (k : Fin 3104) :
    projectContext u w (ix3 i t k) = PreMath.project (fun l => u (ix3 i t l)) fun l => w (ix2 l k) := by
  unfold PreMath.project
  pointwise [projectContext]

section
variable (p : FVec Ideal S8x256x3104 .f32) (r : FVec Ideal S8x2048x3104 .f32) (i : Fin 8) (t : Fin 2304)

theorem queries_apply (j : Fin 512) : queries p r (ix3 i t j) = keys (fun t => p (ix3 i t ⟨j.val, by omega⟩)) (fun t => r (ix3 i t ⟨j.val, by omega⟩)) t := by
  unfold keys
  pointwise [queries]

theorem keysT_apply (j : Fin 512) : keysT p r (ix3 i j t) =
    keys (fun t => p (ix3 i t ⟨512 + j.val, by omega⟩) * Ideal.ofBits .f32 0x3E000000#32) (fun t => r (ix3 i t ⟨512 + j.val, by omega⟩) * Ideal.ofBits .f32 0x3E000000#32) t := by
  unfold keys
  pointwise [keysT]

theorem values_apply (j : Fin 1024) : values p r (ix3 i t j) = keys (fun t => p (ix3 i t ⟨1024 + j.val, by omega⟩)) (fun t => r (ix3 i t ⟨1024 + j.val, by omega⟩)) t := by
  unfold keys
  pointwise [values]

theorem outputs_apply (j : Fin 1024) : outputs p r (ix3 i t j) = keys (fun t => p (ix3 i t ⟨2048 + j.val, by omega⟩)) (fun t => r (ix3 i t ⟨2048 + j.val, by omega⟩)) t := by
  unfold keys
  pointwise [outputs]

theorem gates_apply (j : Fin 128) : gates p r (ix3 i t j) =
    if h : j.val < 32 then keys (fun t => p (ix3 i t ⟨3072 + j.val, by omega⟩)) (fun t => r (ix3 i t ⟨3072 + j.val, by omega⟩)) t else 0 := by
  unfold keys
  pointwise [gates]
  rw [PreMath.converted_zero]

end

/-! ## The results of the arguments: the projections of the context's and the latents' rows, joined -/

section
variable (x0 : FVec Ideal S8x256x1024 .f32) (x1 : FVec Ideal S8x2048x1024 .f32) (ml : FVec Ideal S8x6144 .f32) (mc : FVec Ideal S6144 .f32) (g : FVec Ideal S1024 .f32) (w : FVec Ideal S1024x3104 .f32) (i : Fin 8)

/-- The rows normed and modulated: the context's, then the latents'. -/
def rows (t : Fin 2304) (l : Fin 1024) : EReal :=
  PreMath.joined (fun t => PreMath.start (fun l => x0 (ix3 i t l)) (fun l => g (ix1 l)) fun k => mc (ix1 k)) (fun t => PreMath.start (fun l => x1 (ix3 i t l)) (fun l => g (ix1 l)) fun k => ml (ix2 i k)) t l

/-- The context's projection of the arguments. -/
abbrev pc : FVec Ideal S8x256x3104 .f32 := projectContext (context x0 mc g) w
/-- The latents' projection of the arguments. -/
abbrev pl : FVec Ideal S8x2048x3104 .f32 := projectLatent (latent x1 ml g) w

/-- One channel of the two projections, joined. -/
theorem joined_apply (k : Fin 3104) (t : Fin 2304) :
    keys (fun t => pc x0 mc g w (ix3 i t k)) (fun t => pl x1 ml g w (ix3 i t k)) t = PreMath.project (rows x0 x1 ml mc g i t) fun l => w (ix2 l k) := by
  simp only [projectContext_apply, projectLatent_apply, context_apply, latent_apply]
  exact PreMath.keys_apply (fun u => PreMath.project u fun l => w (ix2 l k)) (fun t => PreMath.start (fun l => x0 (ix3 i t l)) (fun l => g (ix1 l)) fun k => mc (ix1 k)) (fun t => PreMath.start (fun l => x1 (ix3 i t l)) (fun l => g (ix1 l)) fun k => ml (ix2 i k)) t

theorem queries_rows (t : Fin 2304) (j : Fin 512) : queries (pc x0 mc g w) (pl x1 ml g w) (ix3 i t j) = PreMath.project (rows x0 x1 ml mc g i t) fun l => w (ix2 l ⟨j.val, by omega⟩) :=
  (queries_apply _ _ i t j).trans (joined_apply x0 x1 ml mc g w i _ t)

theorem keysT_rows (t : Fin 2304) (j : Fin 512) : keysT (pc x0 mc g w) (pl x1 ml g w) (ix3 i j t) = PreMath.project (rows x0 x1 ml mc g i t) fun l => w (ix2 l ⟨512 + j.val, by omega⟩) * Ideal.ofBits .f32 0x3E000000#32 := by
  rw [PreMath.project_eighth, ← joined_apply x0 x1 ml mc g w i _ t, keysT_apply]
  unfold keys
  split_ifs <;> rfl

theorem values_rows (t : Fin 2304) (j : Fin 1024) : values (pc x0 mc g w) (pl x1 ml g w) (ix3 i t j) = PreMath.project (rows x0 x1 ml mc g i t) fun l => w (ix2 l ⟨1024 + j.val, by omega⟩) :=
  (values_apply _ _ i t j).trans (joined_apply x0 x1 ml mc g w i _ t)

theorem outputs_rows (t : Fin 2304) (j : Fin 1024) : outputs (pc x0 mc g w) (pl x1 ml g w) (ix3 i t j) = PreMath.project (rows x0 x1 ml mc g i t) fun l => w (ix2 l ⟨2048 + j.val, by omega⟩) :=
  (outputs_apply _ _ i t j).trans (joined_apply x0 x1 ml mc g w i _ t)

theorem gates_rows (t : Fin 2304) (j : Fin 128) : gates (pc x0 mc g w) (pl x1 ml g w) (ix3 i t j) =
    PreMath.project (rows x0 x1 ml mc g i t) fun l => if h : j.val < 32 then w (ix2 l ⟨3072 + j.val, by omega⟩) else 0 := by
  rw [PreMath.project_padded _ (fun l k => w (ix2 l k)) j, gates_apply]
  split_ifs with h
  · exact joined_apply x0 x1 ml mc g w i _ t
  · rfl

end

end Cert.PreHost
-- ==== Proof.PreTile.lean ====
/-
  A tile of the start of a recurrent layer is the rows of the joined sequence it stands for, and a grid point's three tiles
  fill its blocks of the results.
-/
module

public import proofs.«01_k».proof.Proof.PreUnit
public import proofs.«01_k».proof.Proof.PreHost

@[expose] public section

set_option maxRecDepth 16384

noncomputable section

open Idealize.ShloMosaic Idealize.ShloMosaic.TcCoe Idealize.SL.Sem

namespace Cert.PreTile

open Cert.EnterIdeal

/-- Tile `T` of a batch entry's nine: its rows normed and modulated are the joined sequence's. -/
theorem start_rows (x0 : FVec Ideal S8x256x1024 .f32) (x1 : FVec Ideal S8x2048x1024 .f32) (ml : FVec Ideal S8x6144 .f32) (mc : FVec Ideal S6144 .f32) (g : FVec Ideal S1024 .f32) (b : Fin 8) (T : ℕ) (hT : T < 9)
    (x : FVec Ideal S256x1024 .f32) (mod : Vec Ideal S1x1x6144 .f32) (gb : Vec Ideal S1x1024 .f32)
    (hc : T = 0 → ∀ (a : Fin 256) (l : Fin 1024), x (ix2 a l) = x0 (ix3 b a l)) (hl : T ≠ 0 → ∀ (a : Fin 256) (l : Fin 1024), x (ix2 a l) = x1 (ix3 b ⟨256 * (T - 1) + a.val, by omega⟩ l))
    (hm : ∀ k : Fin 6144, mod (ix3 0 0 k) = if T = 0 then mc (ix1 k) else ml (ix2 b k)) (hg : ∀ l : Fin 1024, gb (ix2 0 l) = g (ix1 l)) (a : Fin 256) (l : Fin 1024) :
    PreUnit.start x mod gb (ix2 a l) = PreHost.rows x0 x1 ml mc g b ⟨256 * T + a.val, by omega⟩ l := by
  rw [PreUnit.start_apply]
  unfold PreHost.rows
  by_cases h0 : T = 0
  · rw [PreMath.joined_context _ _ T a _ h0]
    simp only [hc h0, hm, hg, if_pos h0]
  · rw [PreMath.joined_latent _ _ T a _ h0]
    simp only [hl h0, hm, hg, if_neg h0]

/-- What a block holds at a row, its tiles' rows each a function `G` of theirs. -/
theorem block_rows {k : ℕ} {e : EltTy} (U : Fin 2304 → Fin 1024 → EReal) (q : Fin 3) (u0 u1 u2 : FVec Ideal S256x1024 .bf16)
    (hu0 : ∀ (a : Fin 256) (l : Fin 1024), u0 (ix2 a l) = U ⟨256 * (3 * q.val + 0) + a.val, by omega⟩ l)
    (hu1 : ∀ (a : Fin 256) (l : Fin 1024), u1 (ix2 a l) = U ⟨256 * (3 * q.val + 1) + a.val, by omega⟩ l)
    (hu2 : ∀ (a : Fin 256) (l : Fin 1024), u2 (ix2 a l) = U ⟨256 * (3 * q.val + 2) + a.val, by omega⟩ l)
    (i0 i1 i2) (S : FVec Ideal S256x1024 .bf16 → Vec Ideal ⟨3, ![1, 256, k]⟩ e) (G : (Fin 1024 → EReal) → Fin k → Elt Ideal e)
    (hS : ∀ (u : FVec Ideal S256x1024 .bf16) (a : Fin 256) (j : Fin k), S u (ix3 0 a j) = G (fun l => u (ix2 a l)) j) (n : Fin 768) (j : Fin k)
    (hc : ∃ pc ∈ ([⟨Rect.unit (s := ⟨3, ![1, 768, k]⟩) ![0, 512, 0] ![1, 256, k] i2, S u2⟩, ⟨Rect.unit (s := ⟨3, ![1, 768, k]⟩) ![0, 256, 0] ![1, 256, k] i1, S u1⟩, ⟨Rect.unit (s := ⟨3, ![1, 768, k]⟩) ![0, 0, 0] ![1, 256, k] i0, S u0⟩] : List (View.Piece (Elt Ideal) ⟨3, ![1, 768, k]⟩ e)),
      (ix3 0 n j : (⟨3, ![1, 768, k]⟩ : Shape).Idx) ∈ pc.1.set) :
    (View.canon [⟨Rect.unit (s := ⟨3, ![1, 768, k]⟩) ![0, 512, 0] ![1, 256, k] i2, S u2⟩, ⟨Rect.unit (s := ⟨3, ![1, 768, k]⟩) ![0, 256, 0] ![1, 256, k] i1, S u1⟩, ⟨Rect.unit (s := ⟨3, ![1, 768, k]⟩) ![0, 0, 0] ![1, 256, k] i0, S u0⟩] : Vec Ideal ⟨3, ![1, 768, k]⟩ e) (ix3 0 n j)
      = G (U ⟨768 * q.val + n.val, by omega⟩) j := by
  refine PreUnit.three_rows i0 i1 i2 _ _ _ (fun n j => G (U ⟨768 * q.val + n.val, by omega⟩) j) (fun a j => (hS u0 a j).trans ?_) (fun a j => (hS u1 a j).trans ?_) (fun a j => (hS u2 a j).trans ?_) n j hc
  · exact congrArg (G · j) ((funext (hu0 a)).trans (congrArg U (Fin.ext (by dsimp only; omega))))
  · exact congrArg (G · j) ((funext (hu1 a)).trans (congrArg U (Fin.ext (by dsimp only; omega))))
  · exact congrArg (G · j) ((funext (hu2 a)).trans (congrArg U (Fin.ext (by dsimp only; omega))))

/-- What a block holds at a column, its tiles' columns each a function `G` of theirs. -/
theorem block_columns {k : ℕ} {e : EltTy} (U : Fin 2304 → Fin 1024 → EReal) (q : Fin 3) (u0 u1 u2 : FVec Ideal S256x1024 .bf16)
    (hu0 : ∀ (a : Fin 256) (l : Fin 1024), u0 (ix2 a l) = U ⟨256 * (3 * q.val + 0) + a.val, by omega⟩ l)
    (hu1 : ∀ (a : Fin 256) (l : Fin 1024), u1 (ix2 a l) = U ⟨256 * (3 * q.val + 1) + a.val, by omega⟩ l)
    (hu2 : ∀ (a : Fin 256) (l : Fin 1024), u2 (ix2 a l) = U ⟨256 * (3 * q.val + 2) + a.val, by omega⟩ l)
    (i0 i1 i2) (S : FVec Ideal S256x1024 .bf16 → Vec Ideal ⟨3, ![1, k, 256]⟩ e) (G : (Fin 1024 → EReal) → Fin k → Elt Ideal e)
    (hS : ∀ (u : FVec Ideal S256x1024 .bf16) (a : Fin 256) (j : Fin k), S u (ix3 0 j a) = G (fun l => u (ix2 a l)) j) (j : Fin k) (n : Fin 768)
    (hc : ∃ pc ∈ ([⟨Rect.unit (s := ⟨3, ![1, k, 768]⟩) ![0, 0, 512] ![1, k, 256] i2, S u2⟩, ⟨Rect.unit (s := ⟨3, ![1, k, 768]⟩) ![0, 0, 256] ![1, k, 256] i1, S u1⟩, ⟨Rect.unit (s := ⟨3, ![1, k, 768]⟩) ![0, 0, 0] ![1, k, 256] i0, S u0⟩] : List (View.Piece (Elt Ideal) ⟨3, ![1, k, 768]⟩ e)),
      (ix3 0 j n : (⟨3, ![1, k, 768]⟩ : Shape).Idx) ∈ pc.1.set) :
    (View.canon [⟨Rect.unit (s := ⟨3, ![1, k, 768]⟩) ![0, 0, 512] ![1, k, 256] i2, S u2⟩, ⟨Rect.unit (s := ⟨3, ![1, k, 768]⟩) ![0, 0, 256] ![1, k, 256] i1, S u1⟩, ⟨Rect.unit (s := ⟨3, ![1, k, 768]⟩) ![0, 0, 0] ![1, k, 256] i0, S u0⟩] : Vec Ideal ⟨3, ![1, k, 768]⟩ e) (ix3 0 j n)
      = G (U ⟨768 * q.val + n.val, by omega⟩) j := by
  refine PreUnit.three_columns i0 i1 i2 _ _ _ (fun j n => G (U ⟨768 * q.val + n.val, by omega⟩) j) (fun j a => (hS u0 a j).trans ?_) (fun j a => (hS u1 a j).trans ?_) (fun j a => (hS u2 a j).trans ?_) j n hc
  · exact congrArg (G · j) ((funext (hu0 a)).trans (congrArg U (Fin.ext (by dsimp only; omega))))
  · exact congrArg (G · j) ((funext (hu1 a)).trans (congrArg U (Fin.ext (by dsimp only; omega))))
  · exact congrArg (G · j) ((funext (hu2 a)).trans (congrArg U (Fin.ext (by dsimp only; omega))))

/-! ## Where blocks lie -/

/-- A place among three axes, by its coordinates. -/
theorem place3 {A B C : ℕ} (y : (⟨3, ![A, B, C]⟩ : Shape).Idx) (i : Fin A) (t : Fin B) (l : Fin C) (h : (y 0).val = i.val ∧ (y 1).val = t.val ∧ (y 2).val = l.val) : y = ix3 i t l := by
  funext x
  refine Fin.ext ?_
  match x with
  | ⟨0, _⟩ => exact h.1
  | ⟨1, _⟩ => exact h.2.1
  | ⟨2, _⟩ => exact h.2.2

/-- A place among two axes, by its coordinates. -/
theorem place2 {A B : ℕ} (y : (⟨2, ![A, B]⟩ : Shape).Idx) (i : Fin A) (l : Fin B) (h : (y 0).val = i.val ∧ (y 1).val = l.val) : y = ix2 i l := by
  funext x
  refine Fin.ext ?_
  match x with
  | ⟨0, _⟩ => exact h.1
  | ⟨1, _⟩ => exact h.2

/-- A block of `s` rows of a batch entry, the `T`-th. -/
theorem block_at (s k B T : ℕ) (I : Fin 3 → ℕ) (e : I = ![B, T, 0]) (n j : ℕ) : I 0 * 1 + 1 * 0 = B ∧ I 1 * s + 1 * n = s * T + n ∧ I 2 * k + 1 * j = j := by
  subst e
  refine ⟨?_, ?_, ?_⟩ <;> simp
  exact mul_comm _ _

/-- A block of `s` columns of a batch entry, the `T`-th. -/
theorem columns_at (s k B T : ℕ) (I : Fin 3 → ℕ) (e : I = ![B, 0, T]) (j n : ℕ) : I 0 * 1 + 1 * 0 = B ∧ I 1 * k + 1 * j = j ∧ I 2 * s + 1 * n = s * T + n := by
  subst e
  refine ⟨?_, ?_, ?_⟩ <;> simp
  exact mul_comm _ _

/-- A whole matrix. -/
theorem whole_at (s k : ℕ) (I : Fin 2 → ℕ) (e : I = ![0, 0]) (n j : ℕ) : I 0 * s + 1 * n = n ∧ I 1 * k + 1 * j = j := by
  subst e
  refine ⟨?_, ?_⟩ <;> simp

/-- The modulation's rows, one for each batch entry and then the context's, read where tile `T` of a batch entry reads them. -/
theorem mod_at (y : FVec Ideal S16x1x6144 .f32) (ml : FVec Ideal S8x6144 .f32) (mc : FVec Ideal S6144 .f32) (hb : ∀ (b : Fin 8) (k : Fin 6144), y (ix3 ⟨b.val, by omega⟩ 0 k) = ml (ix2 b k)) (h8 : ∀ k : Fin 6144, y (ix3 8 0 k) = mc (ix1 k))
    (b : Fin 8) (T : ℕ) (I : Fin 3 → ℕ) (e : I = ![if T = 0 then 8 else b.val, 0, 0]) (k : Fin 6144) (i : S16x1x6144.Idx) (h : (i 0).val = I 0 * 1 + 1 * 0 ∧ (i 2).val = I 2 * 6144 + 1 * k.val) :
    y i = if T = 0 then mc (ix1 k) else ml (ix2 b k) := by
  subst e
  have h1 : (i 1).val = 0 := by have h' : (i 1).val < 1 := (i 1).isLt; omega
  have h2 : (i 2).val = k.val := h.2.trans (by simp)
  split_ifs with h0
  · exact (congrArg y (place3 i 8 0 k ⟨h.1.trans (by simp [h0]), h1, h2⟩)).trans (h8 k)
  · exact (congrArg y (place3 i ⟨b.val, by omega⟩ 0 k ⟨h.1.trans (by simp [h0]), h1, h2⟩)).trans (hb b k)

/-- Every index of a result by rows is a batch entry, a row of a point's block and a channel. -/
theorem index_rows {k : ℕ} (i : (⟨3, ![8, 2304, k]⟩ : Shape).Idx) : ∃ (b : Fin 8) (q : Fin 3) (n : Fin 768) (j : Fin k), i = ix3 b ⟨768 * q.val + n.val, by omega⟩ j := by
  have h1 : (i 1).val < 2304 := (i 1).isLt
  exact ⟨i 0, ⟨(i 1).val / 768, by omega⟩, ⟨(i 1).val % 768, by omega⟩, i 2, place3 i _ _ _ ⟨rfl, by dsimp only; omega, rfl⟩⟩

/-- Every index of a result by columns is a batch entry, a channel and a column of a point's block. -/
theorem index_columns {k : ℕ} (i : (⟨3, ![8, k, 2304]⟩ : Shape).Idx) : ∃ (b : Fin 8) (q : Fin 3) (n : Fin 768) (j : Fin k), i = ix3 b j ⟨768 * q.val + n.val, by omega⟩ := by
  have h2 : (i 2).val < 2304 := (i 2).isLt
  exact ⟨i 0, ⟨(i 2).val / 768, by omega⟩, ⟨(i 2).val % 768, by omega⟩, i 1, place3 i _ _ _ ⟨rfl, rfl, by dsimp only; omega⟩⟩

end Cert.PreTile
-- ==== Proof.EnterUnit.lean ====
/-
  The start of the first layer: its body's stores are three tiles of the layer's start, of the context's rows or the latents'.
-/
module

public import proofs.«01_k».proof.Proof.PreUnit
public import proofs.«01_k».proof.Proof.Gen.EnterIdeal.Frame

@[expose] public section

set_option maxRecDepth 16384

noncomputable section

open Idealize.ShloMosaic Idealize.ShloMosaic.TcCoe Idealize.SL.Sem

namespace Cert.EnterUnit

open Cert.EnterIdeal Cert.EnterIdeal.Gen

section
variable {F : FTy → Type} [FloatOps F] [Named F]

/-- The rows of the `r`-th of a grid point's three tiles: the context's if it is the first of all. -/
def chosen (i : grid0.Coords) (r : BitVec 32) (hc h : Vec F S1x256x1024 .f32) : FVec F S256x1024 .f32 :=
  Scalar.select (Scalar.cmpi .slt (Scalar.addi (Scalar.muli (BitVec.ofNat 32 (i 1).val) 3#32) r) 1#32) (PostUnit.tileOf hc) (PostUnit.tileOf h)

/-- The first tile of all is of the context's rows. -/
theorem chosen_context (i : grid0.Coords) (r : BitVec 32) (hc h : Vec F S1x256x1024 .f32) (hs : Scalar.cmpi .slt (Scalar.addi (Scalar.muli (BitVec.ofNat 32 (i 1).val) 3#32) r) 1#32 = 1#1) : chosen i r hc h = PostUnit.tileOf hc := by
  unfold chosen
  rw [hs]
  rfl

/-- Any other is of the latents'. -/
theorem chosen_latent (i : grid0.Coords) (r : BitVec 32) (hc h : Vec F S1x256x1024 .f32) (hs : Scalar.cmpi .slt (Scalar.addi (Scalar.muli (BitVec.ofNat 32 (i 1).val) 3#32) r) 1#32 = 0#1) : chosen i r hc h = PostUnit.tileOf h := by
  unfold chosen
  rw [hs]
  rfl

variable (i : grid0.Coords) (x0 x1 x2 x3 x4 x5 : Vec F S1x256x1024 .f32) (x6 x7 x8 : Vec F S1x1x6144 .f32) (x9 : Vec F S1x1024 .f32) (x10 : Vec F S1024x512 .bf16) (x11 : Vec F S512x1024 .bf16) (x12 x13 : Vec F S1024x1024 .bf16) (x14 : Vec F S1024x128 .bf16)

theorem queries_eq : out0_15 i x0 x1 x2 x3 x4 x5 x6 x7 x8 x9 x10 x11 x12 x13 x14 =
    View.canon [⟨r0_15, PreUnit.queries (PreUnit.start (chosen i 2#32 x4 x5) x8 x9) x10⟩, ⟨r0_11, PreUnit.queries (PreUnit.start (chosen i 1#32 x2 x3) x7 x9) x10⟩, ⟨r0_4, PreUnit.queries (PreUnit.start (chosen i 0#32 x0 x1) x6 x9) x10⟩] := rfl

theorem keysT_eq : out0_16 i x0 x1 x2 x3 x4 x5 x6 x7 x8 x9 x10 x11 x12 x13 x14 =
    View.canon [⟨r0_16, PreUnit.keysT (PreUnit.start (chosen i 2#32 x4 x5) x8 x9) x11⟩, ⟨r0_12, PreUnit.keysT (PreUnit.start (chosen i 1#32 x2 x3) x7 x9) x11⟩, ⟨r0_6, PreUnit.keysT (PreUnit.start (chosen i 0#32 x0 x1) x6 x9) x11⟩] := rfl

theorem values_eq : out0_17 i x0 x1 x2 x3 x4 x5 x6 x7 x8 x9 x10 x11 x12 x13 x14 =
    View.canon [⟨r0_17, PreUnit.values (PreUnit.start (chosen i 2#32 x4 x5) x8 x9) x12⟩, ⟨r0_13, PreUnit.values (PreUnit.start (chosen i 1#32 x2 x3) x7 x9) x12⟩, ⟨r0_8, PreUnit.values (PreUnit.start (chosen i 0#32 x0 x1) x6 x9) x12⟩] := rfl

theorem outputs_eq : out0_18 i x0 x1 x2 x3 x4 x5 x6 x7 x8 x9 x10 x11 x12 x13 x14 =
    View.canon [⟨r0_17, PreUnit.values (PreUnit.start (chosen i 2#32 x4 x5) x8 x9) x13⟩, ⟨r0_13, PreUnit.values (PreUnit.start (chosen i 1#32 x2 x3) x7 x9) x13⟩, ⟨r0_8, PreUnit.values (PreUnit.start (chosen i 0#32 x0 x1) x6 x9) x13⟩] := rfl

theorem gates_eq : out0_19 i x0 x1 x2 x3 x4 x5 x6 x7 x8 x9 x10 x11 x12 x13 x14 =
    View.canon [⟨r0_18, PreUnit.gates (PreUnit.start (chosen i 2#32 x4 x5) x8 x9) x14⟩, ⟨r0_14, PreUnit.gates (PreUnit.start (chosen i 1#32 x2 x3) x7 x9) x14⟩, ⟨r0_10, PreUnit.gates (PreUnit.start (chosen i 0#32 x0 x1) x6 x9) x14⟩] := rfl

end

end Cert.EnterUnit
-- ==== Proof.EnterRef.lean ====
/-
  The reference's start of the first layer is its lines' functions, of the layer's weights.
-/
module

public import proofs.«01_k».proof.Proof.PreHost
public import proofs.«01_k».proof.Proof.Gen.EnterRefIdeal.Read

@[expose] public section

set_option maxRecDepth 16384

noncomputable section

open Idealize.ShloMosaic Idealize.ShloMosaic.TcCoe Idealize.SL.Sem

namespace Cert.EnterRef

open Cert.EnterRefIdeal Cert.EnterRefIdeal.Gen Cert.EnterRefIdeal.Read

variable (x0 : FVec Ideal S8x256x1024 .f32) (x1 : FVec Ideal S8x2048x1024 .f32) (x2 : FVec Ideal S8x6144 .f32) (x3 : FVec Ideal S6144 .f32) (x4 : FVec Ideal S4x1024 .f32) (x5 : FVec Ideal S2x1024x3104 .f32)

theorem queries_eq : val_main_v78 (F := Ideal) x0 x1 x2 x3 x4 x5 = PreHost.queries (PreHost.pc x0 x3 (val_main_v1 (F := Ideal) x4) (val_main_v3 (F := Ideal) x5)) (PreHost.pl x1 x2 (val_main_v1 (F := Ideal) x4) (val_main_v3 (F := Ideal) x5)) := rfl

theorem keysT_eq : val_main_v80 (F := Ideal) x0 x1 x2 x3 x4 x5 = PreHost.keysT (PreHost.pc x0 x3 (val_main_v1 (F := Ideal) x4) (val_main_v3 (F := Ideal) x5)) (PreHost.pl x1 x2 (val_main_v1 (F := Ideal) x4) (val_main_v3 (F := Ideal) x5)) := rfl

theorem values_eq : val_main_v81 (F := Ideal) x0 x1 x2 x3 x4 x5 = PreHost.values (PreHost.pc x0 x3 (val_main_v1 (F := Ideal) x4) (val_main_v3 (F := Ideal) x5)) (PreHost.pl x1 x2 (val_main_v1 (F := Ideal) x4) (val_main_v3 (F := Ideal) x5)) := rfl

theorem outputs_eq : val_main_v82 (F := Ideal) x0 x1 x2 x3 x4 x5 = PreHost.outputs (PreHost.pc x0 x3 (val_main_v1 (F := Ideal) x4) (val_main_v3 (F := Ideal) x5)) (PreHost.pl x1 x2 (val_main_v1 (F := Ideal) x4) (val_main_v3 (F := Ideal) x5)) := rfl

theorem gates_eq : val_main_v77 (F := Ideal) x0 x1 x2 x3 x4 x5 = PreHost.gates (PreHost.pc x0 x3 (val_main_v1 (F := Ideal) x4) (val_main_v3 (F := Ideal) x5)) (PreHost.pl x1 x2 (val_main_v1 (F := Ideal) x4) (val_main_v3 (F := Ideal) x5)) := rfl

/-- The norm's weights at an index. -/
theorem gain_apply (l : Fin 1024) : val_main_v1 (F := Ideal) x4 (ix1 l) = x4 (ix2 0 l) := by
  pointwise [val_main_v1, val_main_v0]

/-- The projection's weights at an index. -/
theorem weights_apply (l : Fin 1024) (k : Fin 3104) : val_main_v3 (F := Ideal) x5 (ix2 l k) = x5 (ix3 0 l k) := by
  pointwise [val_main_v3, val_main_v2]

end Cert.EnterRef
-- ==== Proof.EnterKernel.lean ====
/-
  The start of the first layer: the kernel's five result arrays are the reference's, of the same arguments.
-/
module

public import proofs.«01_k».proof.Proof.PreTile
public import proofs.«01_k».proof.Proof.EnterUnit
public import proofs.«01_k».proof.Proof.EnterRef
public import proofs.«01_k».proof.Proof.Gen.EnterIdeal.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.EnterKernel

open Cert.EnterIdeal Cert.EnterIdeal.Gen
open Cert.DiffMath (keys)

/-! ## The arrays as they enter the region -/

variable (m : (ℓ : Loc nD τ sig) → Buf (Elt Ideal) ℓ) (c : Dev nD)

/-- An argument in memory. -/
abbrev A0 : FVec Ideal S8x256x1024 .f32 := m ((c : Thread nD τ).loc main_arg0)
abbrev A1 : FVec Ideal S8x2048x1024 .f32 := m ((c : Thread nD τ).loc main_arg1)
abbrev A2 : FVec Ideal S8x6144 .f32 := m ((c : Thread nD τ).loc main_arg2)
abbrev A3 : FVec Ideal S6144 .f32 := m ((c : Thread nD τ).loc main_arg3)
abbrev A4 : FVec Ideal S4x1024 .f32 := m ((c : Thread nD τ).loc main_arg4)
abbrev A5 : FVec Ideal S2x1024x3104 .f32 := m ((c : Thread nD τ).loc main_arg5)

/-- The norm's and the projection's weights of the layer. -/
abbrev gain : FVec Ideal S1024 .f32 := Cert.EnterRefIdeal.Read.val_main_v1 (F := Ideal) (A4 m c)
abbrev weights : FVec Ideal S1024x3104 .f32 := Cert.EnterRefIdeal.Read.val_main_v3 (F := Ideal) (A5 m c)

/-- The rows normed and modulated, of the arguments in memory. -/
abbrev U (b : Fin 8) : Fin 2304 → Fin 1024 → EReal := PreHost.rows (A0 m c) (A1 m c) (A2 m c) (A3 m c) (gain m c) b

theorem context_entry : (V m c main_arg0 : FVec Ideal S8x256x1024 .f32) = A0 m c := by
  unfold V
  rfl

theorem latent_entry : (V m c main_arg1 : FVec Ideal S8x2048x1024 .f32) = A1 m c := by
  unfold V
  rfl

/-- A row of the modulation as an array of one row, at an index. -/
theorem row_apply (x : FVec Ideal S6144 .f32) (k : Fin 6144) : broadcastInDim S1x6144 ![1] bcast_S6144_S1x6144_1 x (ix2 0 k) = x (ix1 k) := by
  pointwise

theorem mod_entry (b : Fin 8) (k : Fin 6144) : (V m c main_v3 : FVec Ideal S16x1x6144 .f32) (ix3 ⟨b.val, by omega⟩ 0 k) = A2 m c (ix2 b k) := by
  unfold V
  after_reads_at
  rfl

theorem mod_entry8 (k : Fin 6144) : (V m c main_v3 : FVec Ideal S16x1x6144 .f32) (ix3 8 0 k) = A3 m c (ix1 k) := by
  unfold V
  after_reads_at
  exact row_apply _ k

theorem gain_entry (l : Fin 1024) : (V m c main_v22 : FVec Ideal S1x1024 .f32) (ix2 0 l) = gain m c (ix1 l) := by
  refine Eq.trans ?_ (EnterRef.gain_apply _ l).symm
  unfold V
  after_reads_at

theorem queries_entry (l : Fin 1024) (j : Fin 512) : (V m c main_v17 : FVec Ideal S1024x512 .bf16) (ix2 l j) = weights m c (ix2 l ⟨j.val, by omega⟩) := by
  refine Eq.trans ?_ (EnterRef.weights_apply _ l ⟨j.val, _⟩).symm
  unfold V
  after_reads_at

theorem keysT_entry (l : Fin 1024) (j : Fin 512) : (V m c main_v18 : FVec Ideal S512x1024 .bf16) (ix2 j l) = (weights m c (ix2 l ⟨512 + j.val, by omega⟩) * Ideal.ofBits .f32 0x3E000000#32 : EReal) := by
  refine Eq.trans ?_ (congrArg (· * (Ideal.ofBits .f32 0x3E000000#32 : EReal)) (EnterRef.weights_apply (A5 m c) l ⟨512 + j.val, by omega⟩).symm)
  unfold V
  after_reads_at

theorem values_entry (l j : Fin 1024) : (V m c main_v19 : FVec Ideal S1024x1024 .bf16) (ix2 l j) = weights m c (ix2 l ⟨1024 + j.val, by omega⟩) := by
  refine Eq.trans ?_ (EnterRef.weights_apply _ l ⟨1024 + j.val, _⟩).symm
  unfold V
  after_reads_at

theorem outputs_entry (l j : Fin 1024) : (V m c main_v20 : FVec Ideal S1024x1024 .bf16) (ix2 l j) = weights m c (ix2 l ⟨2048 + j.val, by omega⟩) := by
  refine Eq.trans ?_ (EnterRef.weights_apply _ l ⟨2048 + j.val, _⟩).symm
  unfold V
  after_reads_at

theorem gates_entry (l : Fin 1024) (j : Fin 128) : (V m c main_v21 : FVec Ideal S1024x128 .bf16) (ix2 l j) = if h : j.val < 32 then weights m c (ix2 l ⟨3072 + j.val, by omega⟩) else (0 : EReal) := by
  simp only [EnterRef.weights_apply]
  unfold V
  after_reads_at
  pointwise
  rw [PreMath.converted_zero]

/-! ## The windows' blocks: the batch entry of a grid point is the point over 3; it makes three tiles -/

/-- The grid point of a batch entry and three tiles. -/
def point (b : Fin 8) (q : Fin 3) : Fin cfg0.N := ⟨b.val * 3 + q.val, by have e : cfg0.N = 24 := N_0; omega⟩

theorem point_div (b : Fin 8) (q : Fin 3) : (point b q).val / 3 = b.val := by unfold point; dsimp only; omega
theorem point_mod (b : Fin 8) (q : Fin 3) : (point b q).val % 3 = q.val := by unfold point; dsimp only; omega

theorem index_0 : ∀ t : Fin grid0.N, (cfg0.win 0).index t = ![t.val / 3, 0, 0] := by decide +kernel
theorem index_1 : ∀ t : Fin grid0.N, (cfg0.win 1).index t = ![t.val / 3, 3 * (t.val % 3) + 0 - 1, 0] := by decide +kernel
theorem index_2 : ∀ t : Fin grid0.N, (cfg0.win 2).index t = ![t.val / 3, 0, 0] := by decide +kernel
theorem index_3 : ∀ t : Fin grid0.N, (cfg0.win 3).index t = ![t.val / 3, 3 * (t.val % 3) + 1 - 1, 0] := by decide +kernel
theorem index_4 : ∀ t : Fin grid0.N, (cfg0.win 4).index t = ![t.val / 3, 0, 0] := by decide +kernel
theorem index_5 : ∀ t : Fin grid0.N, (cfg0.win 5).index t = ![t.val / 3, 3 * (t.val % 3) + 2 - 1, 0] := by decide +kernel
theorem index_6 : ∀ t : Fin grid0.N, (cfg0.win 6).index t = ![if 3 * (t.val % 3) + 0 = 0 then 8 else t.val / 3, 0, 0] := by decide +kernel
theorem index_7 : ∀ t : Fin grid0.N, (cfg0.win 7).index t = ![if 3 * (t.val % 3) + 1 = 0 then 8 else t.val / 3, 0, 0] := by decide +kernel
theorem index_8 : ∀ t : Fin grid0.N, (cfg0.win 8).index t = ![if 3 * (t.val % 3) + 2 = 0 then 8 else t.val / 3, 0, 0] := by decide +kernel
theorem index_9 : ∀ t : Fin grid0.N, (cfg0.win 9).index t = ![0, 0] := by decide +kernel
theorem index_10 : ∀ t : Fin grid0.N, (cfg0.win 10).index t = ![0, 0] := by decide +kernel
theorem index_11 : ∀ t : Fin grid0.N, (cfg0.win 11).index t = ![0, 0] := by decide +kernel
theorem index_12 : ∀ t : Fin grid0.N, (cfg0.win 12).index t = ![0, 0] := by decide +kernel
theorem index_13 : ∀ t : Fin grid0.N, (cfg0.win 13).index t = ![0, 0] := by decide +kernel
theorem index_14 : ∀ t : Fin grid0.N, (cfg0.win 14).index t = ![0, 0] := by decide +kernel
theorem index_15 : ∀ t : Fin grid0.N, (cfg0.win 15).index t = ![t.val / 3, t.val % 3, 0] := by decide +kernel
theorem index_16 : ∀ t : Fin grid0.N, (cfg0.win 16).index t = ![t.val / 3, 0, t.val % 3] := by decide +kernel
theorem index_17 : ∀ t : Fin grid0.N, (cfg0.win 17).index t = ![t.val / 3, t.val % 3, 0] := by decide +kernel
theorem index_18 : ∀ t : Fin grid0.N, (cfg0.win 18).index t = ![t.val / 3, t.val % 3, 0] := by decide +kernel
theorem index_19 : ∀ t : Fin grid0.N, (cfg0.win 19).index t = ![t.val / 3, t.val % 3, 0] := by decide +kernel

/-- Whether a tile is the first of its batch entry, as the body decides it. -/
theorem first_0 : ∀ t : Fin grid0.N, Scalar.cmpi .slt (Scalar.addi (Scalar.muli (BitVec.ofNat 32 ((grid0.coords t) 1).val) 3#32) 0#32) 1#32 = if 3 * (t.val % 3) + 0 = 0 then 1#1 else 0#1 := by decide +kernel
theorem first_1 : ∀ t : Fin grid0.N, Scalar.cmpi .slt (Scalar.addi (Scalar.muli (BitVec.ofNat 32 ((grid0.coords t) 1).val) 3#32) 1#32) 1#32 = if 3 * (t.val % 3) + 1 = 0 then 1#1 else 0#1 := by decide +kernel
theorem first_2 : ∀ t : Fin grid0.N, Scalar.cmpi .slt (Scalar.addi (Scalar.muli (BitVec.ofNat 32 ((grid0.coords t) 1).val) 3#32) 2#32) 1#32 = if 3 * (t.val % 3) + 2 = 0 then 1#1 else 0#1 := by decide +kernel

section
variable (b : Fin 8) (q : Fin 3)

theorem gain_blk (l : Fin 1024) : (iblk m c 9 (point b q) : FVec Ideal S1x1024 .f32) (ix2 0 l) = gain m c (ix1 l) :=
  (congrArg (V m c main_v22 : FVec Ideal S1x1024 .f32) (PreTile.place2 _ 0 l (PreTile.whole_at 1 1024 _ (index_9 (point b q)) 0 l.val))).trans (gain_entry m c l)

theorem queries_blk (l : Fin 1024) (j : Fin 512) : (iblk m c 10 (point b q) : FVec Ideal S1024x512 .bf16) (ix2 l j) = weights m c (ix2 l ⟨j.val, by omega⟩) :=
  (congrArg (V m c main_v17 : FVec Ideal S1024x512 .bf16) (PreTile.place2 _ l j (PreTile.whole_at 1024 512 _ (index_10 (point b q)) l.val j.val))).trans (queries_entry m c l j)

theorem keysT_blk (l : Fin 1024) (j : Fin 512) : (iblk m c 11 (point b q) : FVec Ideal S512x1024 .bf16) (ix2 j l) = (weights m c (ix2 l ⟨512 + j.val, by omega⟩) * Ideal.ofBits .f32 0x3E000000#32 : EReal) :=
  (congrArg (V m c main_v18 : FVec Ideal S512x1024 .bf16) (PreTile.place2 _ j l (PreTile.whole_at 512 1024 _ (index_11 (point b q)) j.val l.val))).trans (keysT_entry m c l j)

theorem values_blk (l : Fin 1024) (j : Fin 1024) : (iblk m c 12 (point b q) : FVec Ideal S1024x1024 .bf16) (ix2 l j) = weights m c (ix2 l ⟨1024 + j.val, by omega⟩) :=
  (congrArg (V m c main_v19 : FVec Ideal S1024x1024 .bf16) (PreTile.place2 _ l j (PreTile.whole_at 1024 1024 _ (index_12 (point b q)) l.val j.val))).trans (values_entry m c l j)

theorem outputs_blk (l : Fin 1024) (j : Fin 1024) : (iblk m c 13 (point b q) : FVec Ideal S1024x1024 .bf16) (ix2 l j) = weights m c (ix2 l ⟨2048 + j.val, by omega⟩) :=
  (congrArg (V m c main_v20 : FVec Ideal S1024x1024 .bf16) (PreTile.place2 _ l j (PreTile.whole_at 1024 1024 _ (index_13 (point b q)) l.val j.val))).trans (outputs_entry m c l j)

theorem gates_blk (l : Fin 1024) (j : Fin 128) : (iblk m c 14 (point b q) : FVec Ideal S1024x128 .bf16) (ix2 l j) = if h : j.val < 32 then weights m c (ix2 l ⟨3072 + j.val, by omega⟩) else (0 : EReal) :=
  (congrArg (V m c main_v21 : FVec Ideal S1024x128 .bf16) (PreTile.place2 _ l j (PreTile.whole_at 1024 128 _ (index_14 (point b q)) l.val j.val))).trans (gates_entry m c l j)

/-- The modulation's block of tile `r`, its window's index known. -/
theorem mod_blk (T : ℕ) (I : Fin 3 → ℕ) (e : I = ![if T = 0 then 8 else b.val, 0, 0]) (k : Fin 6144) (i : S16x1x6144.Idx) (h : (i 0).val = I 0 * 1 + 1 * 0 ∧ (i 2).val = I 2 * 6144 + 1 * k.val) :
    (V m c main_v3 : FVec Ideal S16x1x6144 .f32) i = if T = 0 then A3 m c (ix1 k) else A2 m c (ix2 b k) :=
  PreTile.mod_at _ (A2 m c) (A3 m c) (mod_entry m c) (mod_entry8 m c) b T I e k i h

set_option maxHeartbeats 2000000 in
theorem tile_0 (a : Fin 256) (l : Fin 1024) :
    PreUnit.start (EnterUnit.chosen (grid0.coords (point b q)) 0#32 (iblk m c 0 (point b q)) (iblk m c 1 (point b q))) (iblk m c 6 (point b q)) (iblk m c 9 (point b q)) (ix2 a l) = U m c b ⟨256 * (3 * q.val + 0) + a.val, by omega⟩ l := by
  have hb := point_div b q
  have hq := point_mod b q
  have e0 := index_0 (point b q)
  have e1 := index_1 (point b q)
  have e2 := index_6 (point b q)
  have es := first_0 (point b q)
  rw [hb] at e0
  rw [hb, hq] at e1 e2
  rw [hq] at es
  refine PreTile.start_rows _ _ _ _ _ b (3 * q.val + 0) (by omega) _ _ _ (fun h0 a l => ?_) (fun h0 a l => ?_) (fun k => mod_blk m c b (3 * q.val + 0) _ e2 k _ ⟨rfl, rfl⟩) (gain_blk m c b q) a l
  · rw [EnterUnit.chosen_context _ _ _ _ (es.trans (if_pos h0)), PostUnit.tileOf_apply]
    exact (congrFun (context_entry m c) _).trans (congrArg (A0 m c) (PreTile.place3 _ b a l ((PreTile.block_at 256 1024 b.val 0 _ e0 a.val l.val).imp id (And.imp (fun h => h.trans (by omega)) id))))
  · rw [EnterUnit.chosen_latent _ _ _ _ (es.trans (if_neg h0)), PostUnit.tileOf_apply]
    exact (congrFun (latent_entry m c) _).trans (congrArg (A1 m c) (PreTile.place3 _ b _ l (PreTile.block_at 256 1024 b.val (3 * q.val + 0 - 1) _ e1 a.val l.val)))

set_option maxHeartbeats 2000000 in
theorem tile_1 (a : Fin 256) (l : Fin 1024) :
    PreUnit.start (EnterUnit.chosen (grid0.coords (point b q)) 1#32 (iblk m c 2 (point b q)) (iblk m c 3 (point b q))) (iblk m c 7 (point b q)) (iblk m c 9 (point b q)) (ix2 a l) = U m c b ⟨256 * (3 * q.val + 1) + a.val, by omega⟩ l := by
  have hb := point_div b q
  have hq := point_mod b q
  have e0 := index_2 (point b q)
  have e1 := index_3 (point b q)
  have e2 := index_7 (point b q)
  have es := first_1 (point b q)
  rw [hb] at e0
  rw [hb, hq] at e1 e2
  rw [hq] at es
  refine PreTile.start_rows _ _ _ _ _ b (3 * q.val + 1) (by omega) _ _ _ (fun h0 a l => ?_) (fun h0 a l => ?_) (fun k => mod_blk m c b (3 * q.val + 1) _ e2 k _ ⟨rfl, rfl⟩) (gain_blk m c b q) a l
  · rw [EnterUnit.chosen_context _ _ _ _ (es.trans (if_pos h0)), PostUnit.tileOf_apply]
    exact (congrFun (context_entry m c) _).trans (congrArg (A0 m c) (PreTile.place3 _ b a l ((PreTile.block_at 256 1024 b.val 0 _ e0 a.val l.val).imp id (And.imp (fun h => h.trans (by omega)) id))))
  · rw [EnterUnit.chosen_latent _ _ _ _ (es.trans (if_neg h0)), PostUnit.tileOf_apply]
    exact (congrFun (latent_entry m c) _).trans (congrArg (A1 m c) (PreTile.place3 _ b _ l (PreTile.block_at 256 1024 b.val (3 * q.val + 1 - 1) _ e1 a.val l.val)))

set_option maxHeartbeats 2000000 in
theorem tile_2 (a : Fin 256) (l : Fin 1024) :
    PreUnit.start (EnterUnit.chosen (grid0.coords (point b q)) 2#32 (iblk m c 4 (point b q)) (iblk m c 5 (point b q))) (iblk m c 8 (point b q)) (iblk m c 9 (point b q)) (ix2 a l) = U m c b ⟨256 * (3 * q.val + 2) + a.val, by omega⟩ l := by
  have hb := point_div b q
  have hq := point_mod b q
  have e0 := index_4 (point b q)
  have e1 := index_5 (point b q)
  have e2 := index_8 (point b q)
  have es := first_2 (point b q)
  rw [hb] at e0
  rw [hb, hq] at e1 e2
  rw [hq] at es
  refine PreTile.start_rows _ _ _ _ _ b (3 * q.val + 2) (by omega) _ _ _ (fun h0 a l => ?_) (fun h0 a l => ?_) (fun k => mod_blk m c b (3 * q.val + 2) _ e2 k _ ⟨rfl, rfl⟩) (gain_blk m c b q) a l
  · rw [EnterUnit.chosen_context _ _ _ _ (es.trans (if_pos h0)), PostUnit.tileOf_apply]
    exact (congrFun (context_entry m c) _).trans (congrArg (A0 m c) (PreTile.place3 _ b a l ((PreTile.block_at 256 1024 b.val 0 _ e0 a.val l.val).imp id (And.imp (fun h => h.trans (by omega)) id))))
  · rw [EnterUnit.chosen_latent _ _ _ _ (es.trans (if_neg h0)), PostUnit.tileOf_apply]
    exact (congrFun (latent_entry m c) _).trans (congrArg (A1 m c) (PreTile.place3 _ b _ l (PreTile.block_at 256 1024 b.val (3 * q.val + 2 - 1) _ e1 a.val l.val)))

/-! ## The results -/

set_option maxHeartbeats 2000000 in
theorem queries_at (n : Fin 768) (j : Fin 512) :
    ((dats m 0 c).arrAt 15 cfg0.N : FVec Ideal S8x2304x512 .bf16) (ix3 b ⟨768 * q.val + n.val, by omega⟩ j) = PreMath.project (U m c b ⟨768 * q.val + n.val, by omega⟩) fun l => weights m c (ix2 l ⟨j.val, by omega⟩) := by
  have e := index_15 (point b q)
  rw [point_div b q, point_mod b q] at e
  have h : (((cfg0.win 15).blk (point b q)).view.read (Elt Ideal) ((dats m 0 c).arrAt 15 cfg0.N) : FVec Ideal S1x768x512 .bf16) (ix3 0 n j) = ((dats m 0 c).arrAt 15 cfg0.N : FVec Ideal S8x2304x512 .bf16) (ix3 b ⟨768 * q.val + n.val, by omega⟩ j) :=
    congrArg ((dats m 0 c).arrAt 15 cfg0.N : FVec Ideal S8x2304x512 .bf16) (PreTile.place3 _ b ⟨768 * q.val + n.val, by omega⟩ j (PreTile.block_at 768 512 b.val q.val _ e n.val j.val))
  refine h.symm.trans ?_
  rw [Value.blocks15 m c (point b q) (flush0_15 (point b q)), Value.flushed15, EnterUnit.queries_eq]
  exact PreTile.block_rows (U m c b) q _ _ _ (tile_0 m c b q) (tile_1 m c b q) (tile_2 m c b q) _ _ _ (PreUnit.queries · (iblk m c 10 (point b q))) (fun u j => PreMath.project u fun l => weights m c (ix2 l ⟨j.val, by omega⟩))
    (fun u a j => (PreUnit.queries_apply u _ a j).trans (congrArg (PreMath.project _) (funext fun l => queries_blk m c b q l j))) n j (cover0_15 _ _ _ _)

set_option maxHeartbeats 2000000 in
theorem keysT_at (n : Fin 768) (j : Fin 512) :
    ((dats m 0 c).arrAt 16 cfg0.N : FVec Ideal S8x512x2304 .bf16) (ix3 b j ⟨768 * q.val + n.val, by omega⟩) = PreMath.project (U m c b ⟨768 * q.val + n.val, by omega⟩) fun l => (weights m c (ix2 l ⟨512 + j.val, by omega⟩) * Ideal.ofBits .f32 0x3E000000#32 : EReal) := by
  have e := index_16 (point b q)
  rw [point_div b q, point_mod b q] at e
  have h : (((cfg0.win 16).blk (point b q)).view.read (Elt Ideal) ((dats m 0 c).arrAt 16 cfg0.N) : FVec Ideal S1x512x768 .bf16) (ix3 0 j n) = ((dats m 0 c).arrAt 16 cfg0.N : FVec Ideal S8x512x2304 .bf16) (ix3 b j ⟨768 * q.val + n.val, by omega⟩) :=
    congrArg ((dats m 0 c).arrAt 16 cfg0.N : FVec Ideal S8x512x2304 .bf16) (PreTile.place3 _ b j ⟨768 * q.val + n.val, by omega⟩ (PreTile.columns_at 768 512 b.val q.val _ e j.val n.val))
  refine h.symm.trans ?_
  rw [Value.blocks16 m c (point b q) (flush0_16 (point b q)), Value.flushed16, EnterUnit.keysT_eq]
  exact PreTile.block_columns (U m c b) q _ _ _ (tile_0 m c b q) (tile_1 m c b q) (tile_2 m c b q) _ _ _ (PreUnit.keysT · (iblk m c 11 (point b q))) (fun u j => PreMath.project u fun l => (weights m c (ix2 l ⟨512 + j.val, by omega⟩) * Ideal.ofBits .f32 0x3E000000#32 : EReal))
    (fun u a j => (PreUnit.keysT_apply u _ j a).trans (congrArg (PreMath.project _) (funext fun l => keysT_blk m c b q l j))) j n (cover0_16 _ _ _ _)

set_option maxHeartbeats 2000000 in
theorem values_at (n : Fin 768) (j : Fin 1024) :
    ((dats m 0 c).arrAt 17 cfg0.N : FVec Ideal S8x2304x1024 .bf16) (ix3 b ⟨768 * q.val + n.val, by omega⟩ j) = PreMath.project (U m c b ⟨768 * q.val + n.val, by omega⟩) fun l => weights m c (ix2 l ⟨1024 + j.val, by omega⟩) := by
  have e := index_17 (point b q)
  rw [point_div b q, point_mod b q] at e
  have h : (((cfg0.win 17).blk (point b q)).view.read (Elt Ideal) ((dats m 0 c).arrAt 17 cfg0.N) : FVec Ideal S1x768x1024 .bf16) (ix3 0 n j) = ((dats m 0 c).arrAt 17 cfg0.N : FVec Ideal S8x2304x1024 .bf16) (ix3 b ⟨768 * q.val + n.val, by omega⟩ j) :=
    congrArg ((dats m 0 c).arrAt 17 cfg0.N : FVec Ideal S8x2304x1024 .bf16) (PreTile.place3 _ b ⟨768 * q.val + n.val, by omega⟩ j (PreTile.block_at 768 1024 b.val q.val _ e n.val j.val))
  refine h.symm.trans ?_
  rw [Value.blocks17 m c (point b q) (flush0_17 (point b q)), Value.flushed17, EnterUnit.values_eq]
  exact PreTile.block_rows (U m c b) q _ _ _ (tile_0 m c b q) (tile_1 m c b q) (tile_2 m c b q) _ _ _ (PreUnit.values · (iblk m c 12 (point b q))) (fun u j => PreMath.project u fun l => weights m c (ix2 l ⟨1024 + j.val, by omega⟩))
    (fun u a j => (PreUnit.values_apply u _ a j).trans (congrArg (PreMath.project _) (funext fun l => values_blk m c b q l j))) n j (cover0_17 _ _ _ _)

set_option maxHeartbeats 2000000 in
theorem outputs_at (n : Fin 768) (j : Fin 1024) :
    ((dats m 0 c).arrAt 18 cfg0.N : FVec Ideal S8x2304x1024 .bf16) (ix3 b ⟨768 * q.val + n.val, by omega⟩ j) = PreMath.project (U m c b ⟨768 * q.val + n.val, by omega⟩) fun l => weights m c (ix2 l ⟨2048 + j.val, by omega⟩) := by
  have e := index_18 (point b q)
  rw [point_div b q, point_mod b q] at e
  have h : (((cfg0.win 18).blk (point b q)).view.read (Elt Ideal) ((dats m 0 c).arrAt 18 cfg0.N) : FVec Ideal S1x768x1024 .bf16) (ix3 0 n j) = ((dats m 0 c).arrAt 18 cfg0.N : FVec Ideal S8x2304x1024 .bf16) (ix3 b ⟨768 * q.val + n.val, by omega⟩ j) :=
    congrArg ((dats m 0 c).arrAt 18 cfg0.N : FVec Ideal S8x2304x1024 .bf16) (PreTile.place3 _ b ⟨768 * q.val + n.val, by omega⟩ j (PreTile.block_at 768 1024 b.val q.val _ e n.val j.val))
  refine h.symm.trans ?_
  rw [Value.blocks18 m c (point b q) (flush0_18 (point b q)), Value.flushed18, EnterUnit.outputs_eq]
  exact PreTile.block_rows (U m c b) q _ _ _ (tile_0 m c b q) (tile_1 m c b q) (tile_2 m c b q) _ _ _ (PreUnit.values · (iblk m c 13 (point b q))) (fun u j => PreMath.project u fun l => weights m c (ix2 l ⟨2048 + j.val, by omega⟩))
    (fun u a j => (PreUnit.values_apply u _ a j).trans (congrArg (PreMath.project _) (funext fun l => outputs_blk m c b q l j))) n j (cover0_18 _ _ _ _)

set_option maxHeartbeats 2000000 in
theorem gates_at (n : Fin 768) (j : Fin 128) :
    ((dats m 0 c).arrAt 19 cfg0.N : FVec Ideal S8x2304x128 .f32) (ix3 b ⟨768 * q.val + n.val, by omega⟩ j) = PreMath.project (U m c b ⟨768 * q.val + n.val, by omega⟩) fun l => if h : j.val < 32 then weights m c (ix2 l ⟨3072 + j.val, by omega⟩) else (0 : EReal) := by
  have e := index_19 (point b q)
  rw [point_div b q, point_mod b q] at e
  have h : (((cfg0.win 19).blk (point b q)).view.read (Elt Ideal) ((dats m 0 c).arrAt 19 cfg0.N) : FVec Ideal S1x768x128 .f32) (ix3 0 n j) = ((dats m 0 c).arrAt 19 cfg0.N : FVec Ideal S8x2304x128 .f32) (ix3 b ⟨768 * q.val + n.val, by omega⟩ j) :=
    congrArg ((dats m 0 c).arrAt 19 cfg0.N : FVec Ideal S8x2304x128 .f32) (PreTile.place3 _ b ⟨768 * q.val + n.val, by omega⟩ j (PreTile.block_at 768 128 b.val q.val _ e n.val j.val))
  refine h.symm.trans ?_
  rw [Value.blocks19 m c (point b q) (flush0_19 (point b q)), Value.flushed19, EnterUnit.gates_eq]
  exact PreTile.block_rows (U m c b) q _ _ _ (tile_0 m c b q) (tile_1 m c b q) (tile_2 m c b q) _ _ _ (PreUnit.gates · (iblk m c 14 (point b q))) (fun u j => PreMath.project u fun l => if h : j.val < 32 then weights m c (ix2 l ⟨3072 + j.val, by omega⟩) else (0 : EReal))
    (fun u a j => (PreUnit.gates_apply u _ a j).trans (congrArg (PreMath.project _) (funext fun l => gates_blk m c b q l j))) n j (cover0_19 _ _ _ _)

end

theorem queries_final : ((dats m 0 c).arrAt 15 cfg0.N : FVec Ideal S8x2304x512 .bf16) = Cert.EnterRefIdeal.Read.val_main_v78 (F := Ideal) (A0 m c) (A1 m c) (A2 m c) (A3 m c) (A4 m c) (A5 m c) := by
  funext i
  obtain ⟨b, q, n, j, rfl⟩ := PreTile.index_rows i
  rw [EnterRef.queries_eq]
  exact (queries_at m c b q n j).trans (PreHost.queries_rows _ _ _ _ _ _ b _ j).symm

theorem keysT_final : ((dats m 0 c).arrAt 16 cfg0.N : FVec Ideal S8x512x2304 .bf16) = Cert.EnterRefIdeal.Read.val_main_v80 (F := Ideal) (A0 m c) (A1 m c) (A2 m c) (A3 m c) (A4 m c) (A5 m c) := by
  funext i
  obtain ⟨b, q, n, j, rfl⟩ := PreTile.index_columns i
  rw [EnterRef.keysT_eq]
  exact (keysT_at m c b q n j).trans (PreHost.keysT_rows _ _ _ _ _ _ b _ j).symm

theorem values_final : ((dats m 0 c).arrAt 17 cfg0.N : FVec Ideal S8x2304x1024 .bf16) = Cert.EnterRefIdeal.Read.val_main_v81 (F := Ideal) (A0 m c) (A1 m c) (A2 m c) (A3 m c) (A4 m c) (A5 m c) := by
  funext i
  obtain ⟨b, q, n, j, rfl⟩ := PreTile.index_rows i
  rw [EnterRef.values_eq]
  exact (values_at m c b q n j).trans (PreHost.values_rows _ _ _ _ _ _ b _ j).symm

theorem outputs_final : ((dats m 0 c).arrAt 18 cfg0.N : FVec Ideal S8x2304x1024 .bf16) = Cert.EnterRefIdeal.Read.val_main_v82 (F := Ideal) (A0 m c) (A1 m c) (A2 m c) (A3 m c) (A4 m c) (A5 m c) := by
  funext i
  obtain ⟨b, q, n, j, rfl⟩ := PreTile.index_rows i
  rw [EnterRef.outputs_eq]
  exact (outputs_at m c b q n j).trans (PreHost.outputs_rows _ _ _ _ _ _ b _ j).symm

theorem gates_final : ((dats m 0 c).arrAt 19 cfg0.N : FVec Ideal S8x2304x128 .f32) = Cert.EnterRefIdeal.Read.val_main_v77 (F := Ideal) (A0 m c) (A1 m c) (A2 m c) (A3 m c) (A4 m c) (A5 m c) := by
  funext i
  obtain ⟨b, q, n, j, rfl⟩ := PreTile.index_rows i
  rw [EnterRef.gates_eq]
  exact (gates_at m c b q n j).trans (PreHost.gates_rows _ _ _ _ _ _ b _ j).symm

end Cert.EnterKernel
-- ==== Proof.EnterRun.lean ====
/-
  The start of the first layer: what the reference's run leaves, each result by its name.
-/
module

public import proofs.«01_k».proof.Proof.Gen.EnterRefIdeal.Read
public import proofs.«01_k».proof.Proof.Gen.EnterRefIdeal.Run

@[expose] public section

noncomputable section

open Idealize.ShloMosaic Idealize.ShloMosaic.TcCoe Idealize.SL.Sem

namespace Cert.EnterRun

open Cert.EnterRefIdeal Cert.EnterRefIdeal.Read

/-- The five results of the arguments in memory, and the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v80) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v81) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v82) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v77) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => ⟨(h c).1.trans (val_main_v78_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
      (h c).2.1.trans (val_main_v80_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
      (h c).2.2.1.trans (val_main_v81_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
      (h c).2.2.2.1.trans (val_main_v82_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
      (h c).2.2.2.2.1.trans (val_main_v77_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
      (h c).2.2.2.2.2⟩) (Value.run (F := Ideal) m ρ)

end Cert.EnterRun
-- ==== Proof.AgainUnit.lean ====
/-
  The start of the last layer: its body's stores are three tiles of the layer's start.
-/
module

public import proofs.«01_k».proof.Proof.PreUnit
public import proofs.«01_k».proof.Proof.Gen.AgainIdeal.Frame

@[expose] public section

set_option maxRecDepth 16384

noncomputable section

open Idealize.ShloMosaic Idealize.ShloMosaic.TcCoe Idealize.SL.Sem

namespace Cert.AgainUnit

open Cert.AgainIdeal Cert.AgainIdeal.Gen

section
variable {F : FTy → Type} [FloatOps F] [Named F]

/-- The first tile's rows of a block. -/
def rows0 (x : Vec F S1x768x1024 .f32) : FVec F S256x1024 .f32 := shapeCast S256x1024 (View.ld x r0_1) shapeCasts_S1x256x1024_S256x1024
/-- The second tile's rows. -/
def rows1 (x : Vec F S1x768x1024 .f32) : FVec F S256x1024 .f32 := shapeCast S256x1024 (View.ld x r0_3) shapeCasts_S1x256x1024_S256x1024
/-- The third tile's rows. -/
def rows2 (x : Vec F S1x768x1024 .f32) : FVec F S256x1024 .f32 := shapeCast S256x1024 (View.ld x r0_4) shapeCasts_S1x256x1024_S256x1024

variable (x0 : Vec F S1x768x1024 .f32) (x1 x2 x3 : Vec F S1x1x6144 .f32) (x4 : Vec F S1x1024 .f32) (x5 : Vec F S1024x512 .bf16) (x6 : Vec F S512x1024 .bf16) (x7 x8 : Vec F S1024x1024 .bf16) (x9 : Vec F S1024x128 .bf16)

theorem queries_eq : out0_10 x0 x1 x2 x3 x4 x5 x6 x7 x8 x9 =
    View.canon [⟨r0_15, PreUnit.queries (PreUnit.start (rows2 x0) x3 x4) x5⟩, ⟨r0_12, PreUnit.queries (PreUnit.start (rows1 x0) x2 x4) x5⟩, ⟨r0_6, PreUnit.queries (PreUnit.start (rows0 x0) x1 x4) x5⟩] := rfl

theorem keysT_eq : out0_11 x0 x1 x2 x3 x4 x5 x6 x7 x8 x9 =
    View.canon [⟨r0_16, PreUnit.keysT (PreUnit.start (rows2 x0) x3 x4) x6⟩, ⟨r0_13, PreUnit.keysT (PreUnit.start (rows1 x0) x2 x4) x6⟩, ⟨r0_8, PreUnit.keysT (PreUnit.start (rows0 x0) x1 x4) x6⟩] := rfl

theorem values_eq : out0_12 x0 x1 x2 x3 x4 x5 x6 x7 x8 x9 =
    View.canon [⟨r0_4, PreUnit.values (PreUnit.start (rows2 x0) x3 x4) x7⟩, ⟨r0_3, PreUnit.values (PreUnit.start (rows1 x0) x2 x4) x7⟩, ⟨r0_1, PreUnit.values (PreUnit.start (rows0 x0) x1 x4) x7⟩] := rfl

theorem outputs_eq : out0_13 x0 x1 x2 x3 x4 x5 x6 x7 x8 x9 =
    View.canon [⟨r0_4, PreUnit.values (PreUnit.start (rows2 x0) x3 x4) x8⟩, ⟨r0_3, PreUnit.values (PreUnit.start (rows1 x0) x2 x4) x8⟩, ⟨r0_1, PreUnit.values (PreUnit.start (rows0 x0) x1 x4) x8⟩] := rfl

theorem gates_eq : out0_14 x0 x1 x2 x3 x4 x5 x6 x7 x8 x9 =
    View.canon [⟨r0_17, PreUnit.gates (PreUnit.start (rows2 x0) x3 x4) x9⟩, ⟨r0_14, PreUnit.gates (PreUnit.start (rows1 x0) x2 x4) x9⟩, ⟨r0_11, PreUnit.gates (PreUnit.start (rows0 x0) x1 x4) x9⟩] := rfl

end

/-- The tiles' rows of a block at an index. -/
theorem rows0_apply (x : Vec Ideal S1x768x1024 .f32) (a : Fin 256) (l : Fin 1024) : rows0 x (ix2 a l) = x (ix3 0 ⟨a.val, by omega⟩ l) := by
  pointwise [rows0, r0_1]
theorem rows1_apply (x : Vec Ideal S1x768x1024 .f32) (a : Fin 256) (l : Fin 1024) : rows1 x (ix2 a l) = x (ix3 0 ⟨256 + a.val, by omega⟩ l) := by
  pointwise [rows1, r0_3]
theorem rows2_apply (x : Vec Ideal S1x768x1024 .f32) (a : Fin 256) (l : Fin 1024) : rows2 x (ix2 a l) = x (ix3 0 ⟨512 + a.val, by omega⟩ l) := by
  pointwise [rows2, r0_4]

end Cert.AgainUnit
-- ==== Proof.AgainRef.lean ====
/-
  The reference's start of the last layer is its lines' functions, of the layer's weights.
-/
module

public import proofs.«01_k».proof.Proof.PreHost
public import proofs.«01_k».proof.Proof.Gen.AgainRefIdeal.Read

@[expose] public section

set_option maxRecDepth 16384

noncomputable section

open Idealize.ShloMosaic Idealize.ShloMosaic.TcCoe Idealize.SL.Sem

namespace Cert.AgainRef

open Cert.AgainRefIdeal Cert.AgainRefIdeal.Gen Cert.AgainRefIdeal.Read

variable (x0 : FVec Ideal S8x256x1024 .f32) (x1 : FVec Ideal S8x2048x1024 .f32) (x2 : FVec Ideal S8x6144 .f32) (x3 : FVec Ideal S6144 .f32) (x4 : FVec Ideal S4x1024 .f32) (x5 : FVec Ideal S2x1024x3104 .f32)

theorem queries_eq : val_main_v78 (F := Ideal) x0 x1 x2 x3 x4 x5 = PreHost.queries (PreHost.pc x0 x3 (val_main_v1 (F := Ideal) x4) (val_main_v3 (F := Ideal) x5)) (PreHost.pl x1 x2 (val_main_v1 (F := Ideal) x4) (val_main_v3 (F := Ideal) x5)) := rfl

theorem keysT_eq : val_main_v80 (F := Ideal) x0 x1 x2 x3 x4 x5 = PreHost.keysT (PreHost.pc x0 x3 (val_main_v1 (F := Ideal) x4) (val_main_v3 (F := Ideal) x5)) (PreHost.pl x1 x2 (val_main_v1 (F := Ideal) x4) (val_main_v3 (F := Ideal) x5)) := rfl

theorem values_eq : val_main_v81 (F := Ideal) x0 x1 x2 x3 x4 x5 = PreHost.values (PreHost.pc x0 x3 (val_main_v1 (F := Ideal) x4) (val_main_v3 (F := Ideal) x5)) (PreHost.pl x1 x2 (val_main_v1 (F := Ideal) x4) (val_main_v3 (F := Ideal) x5)) := rfl

theorem outputs_eq : val_main_v82 (F := Ideal) x0 x1 x2 x3 x4 x5 = PreHost.outputs (PreHost.pc x0 x3 (val_main_v1 (F := Ideal) x4) (val_main_v3 (F := Ideal) x5)) (PreHost.pl x1 x2 (val_main_v1 (F := Ideal) x4) (val_main_v3 (F := Ideal) x5)) := rfl

theorem gates_eq : val_main_v77 (F := Ideal) x0 x1 x2 x3 x4 x5 = PreHost.gates (PreHost.pc x0 x3 (val_main_v1 (F := Ideal) x4) (val_main_v3 (F := Ideal) x5)) (PreHost.pl x1 x2 (val_main_v1 (F := Ideal) x4) (val_main_v3 (F := Ideal) x5)) := rfl

/-- The norm's weights at an index. -/
theorem gain_apply (l : Fin 1024) : val_main_v1 (F := Ideal) x4 (ix1 l) = x4 (ix2 3 l) := by
  pointwise [val_main_v1, val_main_v0]

/-- The projection's weights at an index. -/
theorem weights_apply (l : Fin 1024) (k : Fin 3104) : val_main_v3 (F := Ideal) x5 (ix2 l k) = x5 (ix3 1 l k) := by
  pointwise [val_main_v3, val_main_v2]

end Cert.AgainRef
-- ==== Proof.AgainKernel.lean ====
/-
  The start of the last layer: the kernel's five result arrays are the reference's, of the same arguments.
-/
module

public import proofs.«01_k».proof.Proof.PreTile
public import proofs.«01_k».proof.Proof.AgainUnit
public import proofs.«01_k».proof.Proof.AgainRef
public import proofs.«01_k».proof.Proof.Gen.AgainIdeal.Value
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AgainKernel

open Cert.AgainIdeal Cert.AgainIdeal.Gen
open Cert.DiffMath (keys)

/-! ## The arrays as they enter the region -/

variable (m : (ℓ : Loc nD τ sig) → Buf (Elt Ideal) ℓ) (c : Dev nD)

/-- An argument in memory. -/
abbrev A0 : FVec Ideal S8x256x1024 .f32 := m ((c : Thread nD τ).loc main_arg0)
abbrev A1 : FVec Ideal S8x2048x1024 .f32 := m ((c : Thread nD τ).loc main_arg1)
abbrev A2 : FVec Ideal S8x6144 .f32 := m ((c : Thread nD τ).loc main_arg2)
abbrev A3 : FVec Ideal S6144 .f32 := m ((c : Thread nD τ).loc main_arg3)
abbrev A4 : FVec Ideal S4x1024 .f32 := m ((c : Thread nD τ).loc main_arg4)
abbrev A5 : FVec Ideal S2x1024x3104 .f32 := m ((c : Thread nD τ).loc main_arg5)

/-- The norm's and the projection's weights of the layer. -/
abbrev gain : FVec Ideal S1024 .f32 := Cert.AgainRefIdeal.Read.val_main_v1 (F := Ideal) (A4 m c)
abbrev weights : FVec Ideal S1024x3104 .f32 := Cert.AgainRefIdeal.Read.val_main_v3 (F := Ideal) (A5 m c)

/-- The rows normed and modulated, of the arguments in memory. -/
abbrev U (b : Fin 8) : Fin 2304 → Fin 1024 → EReal := PreHost.rows (A0 m c) (A1 m c) (A2 m c) (A3 m c) (gain m c) b

theorem h_entry (i : Fin 8) (t : Fin 2304) (l : Fin 1024) :
    (V m c main_v0 : FVec Ideal S8x2304x1024 .f32) (ix3 i t l) = PreMath.joined (fun t l => A0 m c (ix3 i t l)) (fun t l => A1 m c (ix3 i t l)) t l := by
  unfold PreMath.joined keys V
  after_reads_at

/-- A row of the modulation as an array of one row, at an index. -/
theorem row_apply (x : FVec Ideal S6144 .f32) (k : Fin 6144) : broadcastInDim S1x6144 ![1] bcast_S6144_S1x6144_1 x (ix2 0 k) = x (ix1 k) := by
  pointwise

theorem mod_entry (b : Fin 8) (k : Fin 6144) : (V m c main_v4 : FVec Ideal S16x1x6144 .f32) (ix3 ⟨b.val, by omega⟩ 0 k) = A2 m c (ix2 b k) := by
  unfold V
  after_reads_at
  rfl

theorem mod_entry8 (k : Fin 6144) : (V m c main_v4 : FVec Ideal S16x1x6144 .f32) (ix3 8 0 k) = A3 m c (ix1 k) := by
  unfold V
  after_reads_at
  exact row_apply _ k

theorem gain_entry (l : Fin 1024) : (V m c main_v23 : FVec Ideal S1x1024 .f32) (ix2 0 l) = gain m c (ix1 l) := by
  refine Eq.trans ?_ (AgainRef.gain_apply _ l).symm
  unfold V
  after_reads_at

theorem queries_entry (l : Fin 1024) (j : Fin 512) : (V m c main_v18 : FVec Ideal S1024x512 .bf16) (ix2 l j) = weights m c (ix2 l ⟨j.val, by omega⟩) := by
  refine Eq.trans ?_ (AgainRef.weights_apply _ l ⟨j.val, _⟩).symm
  unfold V
  after_reads_at

theorem keysT_entry (l : Fin 1024) (j : Fin 512) : (V m c main_v19 : FVec Ideal S512x1024 .bf16) (ix2 j l) = (weights m c (ix2 l ⟨512 + j.val, by omega⟩) * Ideal.ofBits .f32 0x3E000000#32 : EReal) := by
  refine Eq.trans ?_ (congrArg (· * (Ideal.ofBits .f32 0x3E000000#32 : EReal)) (AgainRef.weights_apply (A5 m c) l ⟨512 + j.val, by omega⟩).symm)
  unfold V
  after_reads_at

theorem values_entry (l j : Fin 1024) : (V m c main_v20 : FVec Ideal S1024x1024 .bf16) (ix2 l j) = weights m c (ix2 l ⟨1024 + j.val, by omega⟩) := by
  refine Eq.trans ?_ (AgainRef.weights_apply _ l ⟨1024 + j.val, _⟩).symm
  unfold V
  after_reads_at

theorem outputs_entry (l j : Fin 1024) : (V m c main_v21 : FVec Ideal S1024x1024 .bf16) (ix2 l j) = weights m c (ix2 l ⟨2048 + j.val, by omega⟩) := by
  refine Eq.trans ?_ (AgainRef.weights_apply _ l ⟨2048 + j.val, _⟩).symm
  unfold V
  after_reads_at

theorem gates_entry (l : Fin 1024) (j : Fin 128) : (V m c main_v22 : FVec Ideal S1024x128 .bf16) (ix2 l j) = if h : j.val < 32 then weights m c (ix2 l ⟨3072 + j.val, by omega⟩) else (0 : EReal) := by
  simp only [AgainRef.weights_apply]
  unfold V
  after_reads_at
  pointwise
  rw [PreMath.converted_zero]

/-! ## The windows' blocks: the batch entry of a grid point is the point over 3; it makes three tiles -/

/-- The grid point of a batch entry and three tiles. -/
def point (b : Fin 8) (q : Fin 3) : Fin cfg0.N := ⟨b.val * 3 + q.val, by have e : cfg0.N = 24 := N_0; omega⟩

theorem point_div (b : Fin 8) (q : Fin 3) : (point b q).val / 3 = b.val := by unfold point; dsimp only; omega
theorem point_mod (b : Fin 8) (q : Fin 3) : (point b q).val % 3 = q.val := by unfold point; dsimp only; omega

theorem index_0 : ∀ t : Fin grid0.N, (cfg0.win 0).index t = ![t.val / 3, t.val % 3, 0] := by decide +kernel
theorem index_1 : ∀ t : Fin grid0.N, (cfg0.win 1).index t = ![if 3 * (t.val % 3) + 0 = 0 then 8 else t.val / 3, 0, 0] := by decide +kernel
theorem index_2 : ∀ t : Fin grid0.N, (cfg0.win 2).index t = ![if 3 * (t.val % 3) + 1 = 0 then 8 else t.val / 3, 0, 0] := by decide +kernel
theorem index_3 : ∀ t : Fin grid0.N, (cfg0.win 3).index t = ![if 3 * (t.val % 3) + 2 = 0 then 8 else t.val / 3, 0, 0] := by decide +kernel
theorem index_4 : ∀ t : Fin grid0.N, (cfg0.win 4).index t = ![0, 0] := by decide +kernel
theorem index_5 : ∀ t : Fin grid0.N, (cfg0.win 5).index t = ![0, 0] := by decide +kernel
theorem index_6 : ∀ t : Fin grid0.N, (cfg0.win 6).index t = ![0, 0] := by decide +kernel
theorem index_7 : ∀ t : Fin grid0.N, (cfg0.win 7).index t = ![0, 0] := by decide +kernel
theorem index_8 : ∀ t : Fin grid0.N, (cfg0.win 8).index t = ![0, 0] := by decide +kernel
theorem index_9 : ∀ t : Fin grid0.N, (cfg0.win 9).index t = ![0, 0] := by decide +kernel
theorem index_10 : ∀ t : Fin grid0.N, (cfg0.win 10).index t = ![t.val / 3, t.val % 3, 0] := by decide +kernel
theorem index_11 : ∀ t : Fin grid0.N, (cfg0.win 11).index t = ![t.val / 3, 0, t.val % 3] := by decide +kernel
theorem index_12 : ∀ t : Fin grid0.N, (cfg0.win 12).index t = ![t.val / 3, t.val % 3, 0] := by decide +kernel
theorem index_13 : ∀ t : Fin grid0.N, (cfg0.win 13).index t = ![t.val / 3, t.val % 3, 0] := by decide +kernel
theorem index_14 : ∀ t : Fin grid0.N, (cfg0.win 14).index t = ![t.val / 3, t.val % 3, 0] := by decide +kernel

section
variable (b : Fin 8) (q : Fin 3)

theorem gain_blk (l : Fin 1024) : (iblk m c 4 (point b q) : FVec Ideal S1x1024 .f32) (ix2 0 l) = gain m c (ix1 l) :=
  (congrArg (V m c main_v23 : FVec Ideal S1x1024 .f32) (PreTile.place2 _ 0 l (PreTile.whole_at 1 1024 _ (index_4 (point b q)) 0 l.val))).trans (gain_entry m c l)

theorem queries_blk (l : Fin 1024) (j : Fin 512) : (iblk m c 5 (point b q) : FVec Ideal S1024x512 .bf16) (ix2 l j) = weights m c (ix2 l ⟨j.val, by omega⟩) :=
  (congrArg (V m c main_v18 : FVec Ideal S1024x512 .bf16) (PreTile.place2 _ l j (PreTile.whole_at 1024 512 _ (index_5 (point b q)) l.val j.val))).trans (queries_entry m c l j)

theorem keysT_blk (l : Fin 1024) (j : Fin 512) : (iblk m c 6 (point b q) : FVec Ideal S512x1024 .bf16) (ix2 j l) = (weights m c (ix2 l ⟨512 + j.val, by omega⟩) * Ideal.ofBits .f32 0x3E000000#32 : EReal) :=
  (congrArg (V m c main_v19 : FVec Ideal S512x1024 .bf16) (PreTile.place2 _ j l (PreTile.whole_at 512 1024 _ (index_6 (point b q)) j.val l.val))).trans (keysT_entry m c l j)

theorem values_blk (l : Fin 1024) (j : Fin 1024) : (iblk m c 7 (point b q) : FVec Ideal S1024x1024 .bf16) (ix2 l j) = weights m c (ix2 l ⟨1024 + j.val, by omega⟩) :=
  (congrArg (V m c main_v20 : FVec Ideal S1024x1024 .bf16) (PreTile.place2 _ l j (PreTile.whole_at 1024 1024 _ (index_7 (point b q)) l.val j.val))).trans (values_entry m c l j)

theorem outputs_blk (l : Fin 1024) (j : Fin 1024) : (iblk m c 8 (point b q) : FVec Ideal S1024x1024 .bf16) (ix2 l j) = weights m c (ix2 l ⟨2048 + j.val, by omega⟩) :=
  (congrArg (V m c main_v21 : FVec Ideal S1024x1024 .bf16) (PreTile.place2 _ l j (PreTile.whole_at 1024 1024 _ (index_8 (point b q)) l.val j.val))).trans (outputs_entry m c l j)

theorem gates_blk (l : Fin 1024) (j : Fin 128) : (iblk m c 9 (point b q) : FVec Ideal S1024x128 .bf16) (ix2 l j) = if h : j.val < 32 then weights m c (ix2 l ⟨3072 + j.val, by omega⟩) else (0 : EReal) :=
  (congrArg (V m c main_v22 : FVec Ideal S1024x128 .bf16) (PreTile.place2 _ l j (PreTile.whole_at 1024 128 _ (index_9 (point b q)) l.val j.val))).trans (gates_entry m c l j)

/-- The modulation's block of tile `r`, its window's index known. -/
theorem mod_blk (T : ℕ) (I : Fin 3 → ℕ) (e : I = ![if T = 0 then 8 else b.val, 0, 0]) (k : Fin 6144) (i : S16x1x6144.Idx) (h : (i 0).val = I 0 * 1 + 1 * 0 ∧ (i 2).val = I 2 * 6144 + 1 * k.val) :
    (V m c main_v4 : FVec Ideal S16x1x6144 .f32) i = if T = 0 then A3 m c (ix1 k) else A2 m c (ix2 b k) :=
  PreTile.mod_at _ (A2 m c) (A3 m c) (mod_entry m c) (mod_entry8 m c) b T I e k i h

set_option maxHeartbeats 2000000 in
/-- The rows' block at an index. -/
theorem h_blk (n : Fin 768) (l : Fin 1024) : (iblk m c 0 (point b q) : FVec Ideal S1x768x1024 .f32) (ix3 0 n l) =
    PreMath.joined (fun t l => A0 m c (ix3 b t l)) (fun t l => A1 m c (ix3 b t l)) ⟨768 * q.val + n.val, by omega⟩ l := by
  have e := index_0 (point b q)
  rw [point_div b q, point_mod b q] at e
  exact (congrArg (V m c main_v0 : FVec Ideal S8x2304x1024 .f32) (PreTile.place3 _ b ⟨768 * q.val + n.val, by omega⟩ l (PreTile.block_at 768 1024 b.val q.val _ e n.val l.val))).trans (h_entry m c b _ l)

/-- A tile's rows, of the joined sequence. -/
theorem tile_at (r : ℕ) (hr : r < 3) (x : FVec Ideal S256x1024 .f32) (mod : Vec Ideal S1x1x6144 .f32)
    (hx : ∀ (a : Fin 256) (l : Fin 1024), x (ix2 a l) = (iblk m c 0 (point b q) : FVec Ideal S1x768x1024 .f32) (ix3 0 ⟨256 * r + a.val, by omega⟩ l))
    (hm : ∀ k : Fin 6144, mod (ix3 0 0 k) = if 3 * q.val + r = 0 then A3 m c (ix1 k) else A2 m c (ix2 b k)) (a : Fin 256) (l : Fin 1024) :
    PreUnit.start x mod (iblk m c 4 (point b q)) (ix2 a l) = U m c b ⟨256 * (3 * q.val + r) + a.val, by omega⟩ l := by
  have hj : ∀ (a : Fin 256) (l : Fin 1024), x (ix2 a l) = PreMath.joined (fun t l => A0 m c (ix3 b t l)) (fun t l => A1 m c (ix3 b t l)) ⟨256 * (3 * q.val + r) + a.val, by omega⟩ l := fun a l =>
    (hx a l).trans ((h_blk m c b q _ l).trans (congrArg (PreMath.joined _ _ · l) (Fin.ext (by dsimp only; omega))))
  exact PreTile.start_rows _ _ _ _ _ b (3 * q.val + r) (by omega) _ _ _ (fun h0 a l => (hj a l).trans (congrFun (PreMath.joined_context _ _ _ a _ h0) l))
    (fun h0 a l => (hj a l).trans (congrFun (PreMath.joined_latent _ _ _ a _ h0) l)) hm (gain_blk m c b q) a l

set_option maxHeartbeats 2000000 in
theorem tile_0 (a : Fin 256) (l : Fin 1024) :
    PreUnit.start (AgainUnit.rows0 (iblk m c 0 (point b q))) (iblk m c 1 (point b q)) (iblk m c 4 (point b q)) (ix2 a l) = U m c b ⟨256 * (3 * q.val + 0) + a.val, by omega⟩ l := by
  have e := index_1 (point b q)
  rw [point_div b q, point_mod b q] at e
  exact tile_at m c b q 0 (by omega) _ _ (fun a l => (AgainUnit.rows0_apply _ a l).trans (congrArg (fun n => (iblk m c 0 (point b q) : FVec Ideal S1x768x1024 .f32) (ix3 0 n l)) (Fin.ext (by dsimp only; omega)))) (fun k => mod_blk m c b (3 * q.val + 0) _ e k _ ⟨rfl, rfl⟩) a l

set_option maxHeartbeats 2000000 in
theorem tile_1 (a : Fin 256) (l : Fin 1024) :
    PreUnit.start (AgainUnit.rows1 (iblk m c 0 (point b q))) (iblk m c 2 (point b q)) (iblk m c 4 (point b q)) (ix2 a l) = U m c b ⟨256 * (3 * q.val + 1) + a.val, by omega⟩ l := by
  have e := index_2 (point b q)
  rw [point_div b q, point_mod b q] at e
  exact tile_at m c b q 1 (by omega) _ _ (fun a l => AgainUnit.rows1_apply _ a l) (fun k => mod_blk m c b (3 * q.val + 1) _ e k _ ⟨rfl, rfl⟩) a l

set_option maxHeartbeats 2000000 in
theorem tile_2 (a : Fin 256) (l : Fin 1024) :
    PreUnit.start (AgainUnit.rows2 (iblk m c 0 (point b q))) (iblk m c 3 (point b q)) (iblk m c 4 (point b q)) (ix2 a l) = U m c b ⟨256 * (3 * q.val + 2) + a.val, by omega⟩ l := by
  have e := index_3 (point b q)
  rw [point_div b q, point_mod b q] at e
  exact tile_at m c b q 2 (by omega) _ _ (fun a l => AgainUnit.rows2_apply _ a l) (fun k => mod_blk m c b (3 * q.val + 2) _ e k _ ⟨rfl, rfl⟩) a l

/-! ## The results -/

set_option maxHeartbeats 2000000 in
theorem queries_at (n : Fin 768) (j : Fin 512) :
    ((dats m 0 c).arrAt 10 cfg0.N : FVec Ideal S8x2304x512 .bf16) (ix3 b ⟨768 * q.val + n.val, by omega⟩ j) = PreMath.project (U m c b ⟨768 * q.val + n.val, by omega⟩) fun l => weights m c (ix2 l ⟨j.val, by omega⟩) := by
  have e := index_10 (point b q)
  rw [point_div b q, point_mod b q] at e
  have h : (((cfg0.win 10).blk (point b q)).view.read (Elt Ideal) ((dats m 0 c).arrAt 10 cfg0.N) : FVec Ideal S1x768x512 .bf16) (ix3 0 n j) = ((dats m 0 c).arrAt 10 cfg0.N : FVec Ideal S8x2304x512 .bf16) (ix3 b ⟨768 * q.val + n.val, by omega⟩ j) :=
    congrArg ((dats m 0 c).arrAt 10 cfg0.N : FVec Ideal S8x2304x512 .bf16) (PreTile.place3 _ b ⟨768 * q.val + n.val, by omega⟩ j (PreTile.block_at 768 512 b.val q.val _ e n.val j.val))
  refine h.symm.trans ?_
  rw [Value.blocks10 m c (point b q) (flush0_10 (point b q)), Value.flushed10, AgainUnit.queries_eq]
  exact PreTile.block_rows (U m c b) q _ _ _ (tile_0 m c b q) (tile_1 m c b q) (tile_2 m c b q) _ _ _ (PreUnit.queries · (iblk m c 5 (point b q))) (fun u j => PreMath.project u fun l => weights m c (ix2 l ⟨j.val, by omega⟩))
    (fun u a j => (PreUnit.queries_apply u _ a j).trans (congrArg (PreMath.project _) (funext fun l => queries_blk m c b q l j))) n j (cover0_10 _ _ _ _)

set_option maxHeartbeats 2000000 in
theorem keysT_at (n : Fin 768) (j : Fin 512) :
    ((dats m 0 c).arrAt 11 cfg0.N : FVec Ideal S8x512x2304 .bf16) (ix3 b j ⟨768 * q.val + n.val, by omega⟩) = PreMath.project (U m c b ⟨768 * q.val + n.val, by omega⟩) fun l => (weights m c (ix2 l ⟨512 + j.val, by omega⟩) * Ideal.ofBits .f32 0x3E000000#32 : EReal) := by
  have e := index_11 (point b q)
  rw [point_div b q, point_mod b q] at e
  have h : (((cfg0.win 11).blk (point b q)).view.read (Elt Ideal) ((dats m 0 c).arrAt 11 cfg0.N) : FVec Ideal S1x512x768 .bf16) (ix3 0 j n) = ((dats m 0 c).arrAt 11 cfg0.N : FVec Ideal S8x512x2304 .bf16) (ix3 b j ⟨768 * q.val + n.val, by omega⟩) :=
    congrArg ((dats m 0 c).arrAt 11 cfg0.N : FVec Ideal S8x512x2304 .bf16) (PreTile.place3 _ b j ⟨768 * q.val + n.val, by omega⟩ (PreTile.columns_at 768 512 b.val q.val _ e j.val n.val))
  refine h.symm.trans ?_
  rw [Value.blocks11 m c (point b q) (flush0_11 (point b q)), Value.flushed11, AgainUnit.keysT_eq]
  exact PreTile.block_columns (U m c b) q _ _ _ (tile_0 m c b q) (tile_1 m c b q) (tile_2 m c b q) _ _ _ (PreUnit.keysT · (iblk m c 6 (point b q))) (fun u j => PreMath.project u fun l => (weights m c (ix2 l ⟨512 + j.val, by omega⟩) * Ideal.ofBits .f32 0x3E000000#32 : EReal))
    (fun u a j => (PreUnit.keysT_apply u _ j a).trans (congrArg (PreMath.project _) (funext fun l => keysT_blk m c b q l j))) j n (cover0_11 _ _ _ _)

set_option maxHeartbeats 2000000 in
theorem values_at (n : Fin 768) (j : Fin 1024) :
    ((dats m 0 c).arrAt 12 cfg0.N : FVec Ideal S8x2304x1024 .bf16) (ix3 b ⟨768 * q.val + n.val, by omega⟩ j) = PreMath.project (U m c b ⟨768 * q.val + n.val, by omega⟩) fun l => weights m c (ix2 l ⟨1024 + j.val, by omega⟩) := by
  have e := index_12 (point b q)
  rw [point_div b q, point_mod b q] at e
  have h : (((cfg0.win 12).blk (point b q)).view.read (Elt Ideal) ((dats m 0 c).arrAt 12 cfg0.N) : FVec Ideal S1x768x1024 .bf16) (ix3 0 n j) = ((dats m 0 c).arrAt 12 cfg0.N : FVec Ideal S8x2304x1024 .bf16) (ix3 b ⟨768 * q.val + n.val, by omega⟩ j) :=
    congrArg ((dats m 0 c).arrAt 12 cfg0.N : FVec Ideal S8x2304x1024 .bf16) (PreTile.place3 _ b ⟨768 * q.val + n.val, by omega⟩ j (PreTile.block_at 768 1024 b.val q.val _ e n.val j.val))
  refine h.symm.trans ?_
  rw [Value.blocks12 m c (point b q) (flush0_12 (point b q)), Value.flushed12, AgainUnit.values_eq]
  exact PreTile.block_rows (U m c b) q _ _ _ (tile_0 m c b q) (tile_1 m c b q) (tile_2 m c b q) _ _ _ (PreUnit.values · (iblk m c 7 (point b q))) (fun u j => PreMath.project u fun l => weights m c (ix2 l ⟨1024 + j.val, by omega⟩))
    (fun u a j => (PreUnit.values_apply u _ a j).trans (congrArg (PreMath.project _) (funext fun l => values_blk m c b q l j))) n j (cover0_12 _ _ _ _)

set_option maxHeartbeats 2000000 in
theorem outputs_at (n : Fin 768) (j : Fin 1024) :
    ((dats m 0 c).arrAt 13 cfg0.N : FVec Ideal S8x2304x1024 .bf16) (ix3 b ⟨768 * q.val + n.val, by omega⟩ j) = PreMath.project (U m c b ⟨768 * q.val + n.val, by omega⟩) fun l => weights m c (ix2 l ⟨2048 + j.val, by omega⟩) := by
  have e := index_13 (point b q)
  rw [point_div b q, point_mod b q] at e
  have h : (((cfg0.win 13).blk (point b q)).view.read (Elt Ideal) ((dats m 0 c).arrAt 13 cfg0.N) : FVec Ideal S1x768x1024 .bf16) (ix3 0 n j) = ((dats m 0 c).arrAt 13 cfg0.N : FVec Ideal S8x2304x1024 .bf16) (ix3 b ⟨768 * q.val + n.val, by omega⟩ j) :=
    congrArg ((dats m 0 c).arrAt 13 cfg0.N : FVec Ideal S8x2304x1024 .bf16) (PreTile.place3 _ b ⟨768 * q.val + n.val, by omega⟩ j (PreTile.block_at 768 1024 b.val q.val _ e n.val j.val))
  refine h.symm.trans ?_
  rw [Value.blocks13 m c (point b q) (flush0_13 (point b q)), Value.flushed13, AgainUnit.outputs_eq]
  exact PreTile.block_rows (U m c b) q _ _ _ (tile_0 m c b q) (tile_1 m c b q) (tile_2 m c b q) _ _ _ (PreUnit.values · (iblk m c 8 (point b q))) (fun u j => PreMath.project u fun l => weights m c (ix2 l ⟨2048 + j.val, by omega⟩))
    (fun u a j => (PreUnit.values_apply u _ a j).trans (congrArg (PreMath.project _) (funext fun l => outputs_blk m c b q l j))) n j (cover0_13 _ _ _ _)

set_option maxHeartbeats 2000000 in
theorem gates_at (n : Fin 768) (j : Fin 128) :
    ((dats m 0 c).arrAt 14 cfg0.N : FVec Ideal S8x2304x128 .f32) (ix3 b ⟨768 * q.val + n.val, by omega⟩ j) = PreMath.project (U m c b ⟨768 * q.val + n.val, by omega⟩) fun l => if h : j.val < 32 then weights m c (ix2 l ⟨3072 + j.val, by omega⟩) else (0 : EReal) := by
  have e := index_14 (point b q)
  rw [point_div b q, point_mod b q] at e
  have h : (((cfg0.win 14).blk (point b q)).view.read (Elt Ideal) ((dats m 0 c).arrAt 14 cfg0.N) : FVec Ideal S1x768x128 .f32) (ix3 0 n j) = ((dats m 0 c).arrAt 14 cfg0.N : FVec Ideal S8x2304x128 .f32) (ix3 b ⟨768 * q.val + n.val, by omega⟩ j) :=
    congrArg ((dats m 0 c).arrAt 14 cfg0.N : FVec Ideal S8x2304x128 .f32) (PreTile.place3 _ b ⟨768 * q.val + n.val, by omega⟩ j (PreTile.block_at 768 128 b.val q.val _ e n.val j.val))
  refine h.symm.trans ?_
  rw [Value.blocks14 m c (point b q) (flush0_14 (point b q)), Value.flushed14, AgainUnit.gates_eq]
  exact PreTile.block_rows (U m c b) q _ _ _ (tile_0 m c b q) (tile_1 m c b q) (tile_2 m c b q) _ _ _ (PreUnit.gates · (iblk m c 9 (point b q))) (fun u j => PreMath.project u fun l => if h : j.val < 32 then weights m c (ix2 l ⟨3072 + j.val, by omega⟩) else (0 : EReal))
    (fun u a j => (PreUnit.gates_apply u _ a j).trans (congrArg (PreMath.project _) (funext fun l => gates_blk m c b q l j))) n j (cover0_14 _ _ _ _)

end

theorem queries_final : ((dats m 0 c).arrAt 10 cfg0.N : FVec Ideal S8x2304x512 .bf16) = Cert.AgainRefIdeal.Read.val_main_v78 (F := Ideal) (A0 m c) (A1 m c) (A2 m c) (A3 m c) (A4 m c) (A5 m c) := by
  funext i
  obtain ⟨b, q, n, j, rfl⟩ := PreTile.index_rows i
  rw [AgainRef.queries_eq]
  exact (queries_at m c b q n j).trans (PreHost.queries_rows _ _ _ _ _ _ b _ j).symm

theorem keysT_final : ((dats m 0 c).arrAt 11 cfg0.N : FVec Ideal S8x512x2304 .bf16) = Cert.AgainRefIdeal.Read.val_main_v80 (F := Ideal) (A0 m c) (A1 m c) (A2 m c) (A3 m c) (A4 m c) (A5 m c) := by
  funext i
  obtain ⟨b, q, n, j, rfl⟩ := PreTile.index_columns i
  rw [AgainRef.keysT_eq]
  exact (keysT_at m c b q n j).trans (PreHost.keysT_rows _ _ _ _ _ _ b _ j).symm

theorem values_final : ((dats m 0 c).arrAt 12 cfg0.N : FVec Ideal S8x2304x1024 .bf16) = Cert.AgainRefIdeal.Read.val_main_v81 (F := Ideal) (A0 m c) (A1 m c) (A2 m c) (A3 m c) (A4 m c) (A5 m c) := by
  funext i
  obtain ⟨b, q, n, j, rfl⟩ := PreTile.index_rows i
  rw [AgainRef.values_eq]
  exact (values_at m c b q n j).trans (PreHost.values_rows _ _ _ _ _ _ b _ j).symm

theorem outputs_final : ((dats m 0 c).arrAt 13 cfg0.N : FVec Ideal S8x2304x1024 .bf16) = Cert.AgainRefIdeal.Read.val_main_v82 (F := Ideal) (A0 m c) (A1 m c) (A2 m c) (A3 m c) (A4 m c) (A5 m c) := by
  funext i
  obtain ⟨b, q, n, j, rfl⟩ := PreTile.index_rows i
  rw [AgainRef.outputs_eq]
  exact (outputs_at m c b q n j).trans (PreHost.outputs_rows _ _ _ _ _ _ b _ j).symm

theorem gates_final : ((dats m 0 c).arrAt 14 cfg0.N : FVec Ideal S8x2304x128 .f32) = Cert.AgainRefIdeal.Read.val_main_v77 (F := Ideal) (A0 m c) (A1 m c) (A2 m c) (A3 m c) (A4 m c) (A5 m c) := by
  funext i
  obtain ⟨b, q, n, j, rfl⟩ := PreTile.index_rows i
  rw [AgainRef.gates_eq]
  exact (gates_at m c b q n j).trans (PreHost.gates_rows _ _ _ _ _ _ b _ j).symm

end Cert.AgainKernel
-- ==== Proof.AgainRun.lean ====
/-
  The start of the last layer: what the reference's run leaves, each result by its name.
-/
module

public import proofs.«01_k».proof.Proof.Gen.AgainRefIdeal.Read
public import proofs.«01_k».proof.Proof.Gen.AgainRefIdeal.Run

@[expose] public section

noncomputable section

open Idealize.ShloMosaic Idealize.ShloMosaic.TcCoe Idealize.SL.Sem

namespace Cert.AgainRun

open Cert.AgainRefIdeal Cert.AgainRefIdeal.Read

/-- The five results of the arguments in memory, and the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v80) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v81) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v82) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v77) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => ⟨(h c).1.trans (val_main_v78_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
      (h c).2.1.trans (val_main_v80_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
      (h c).2.2.1.trans (val_main_v81_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
      (h c).2.2.2.1.trans (val_main_v82_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
      (h c).2.2.2.2.1.trans (val_main_v77_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
      (h c).2.2.2.2.2⟩) (Value.run (F := Ideal) m ρ)

end Cert.AgainRun
-- ==== Proof.AdaEq.lean ====
/-
  The modulation's call: its result, a row for each batch entry and the context's of every layer, is the reference's.
-/
module

public import proofs.«01_k».proof.Proof.PreMath
public import proofs.«01_k».proof.Proof.PreTile
public import proofs.«01_k».proof.Proof.Gen.AdaIdeal.Value
public import proofs.«01_k».proof.Proof.Gen.AdaRefIdeal.Read
public import Idealize.ShloMosaic.Lib.StableHlo.ReadAt
public import Idealize.ShloMosaic.Lib.Pipeline.ValueKit.Basic

@[expose] public section

set_option maxRecDepth 16384

noncomputable section

open Idealize.ShloMosaic Idealize.ShloMosaic.TcCoe Idealize.SL.Sem
open Idealize.ShloMosaic.Pipeline (Dat)

namespace Cert.AdaEq

open Cert.AdaIdeal Cert.AdaIdeal.Gen

/-- A value times its logistic. -/
def silu (x : EReal) : EReal := x * Ideal.logistic x

/-- A layer's modulation at row `a` and column `k`, of the conditioning's rows. -/
def made (s : FVec Ideal S16x1024 .f32) (w : FVec Ideal S4x1024x6144 .f32) (b : FVec Ideal S4x6144 .f32) (i : Fin 4) (a : Fin 16) (k : Fin 6144) : EReal :=
  PreMath.project (fun l => silu (s (ix2 a l))) (fun l => w (ix3 i l k)) + b (ix2 i k)

/-! ## The reference -/

section
open Cert.AdaRefIdeal.Read

variable (x0 : FVec Ideal S8x1024 .f32) (x1 : FVec Ideal S1024 .f32) (x2 : FVec Ideal S4x1024x6144 .f32) (x3 : FVec Ideal S4x6144 .f32)

theorem silu_apply (a : Fin 16) (l : Fin 1024) : val_main_v3 (F := Ideal) x0 x1 (ix2 a l) = silu (val_main_v2 (F := Ideal) x0 x1 (ix2 a l)) := by
  have one : val_main_call0_v4 (F := Ideal) (ix2 a l) = Ideal.ofBits .f32 0x3F800000#32 := by pointwise [val_main_call0_v4, val_main_call0_cst_0]
  have one' : val_main_call0_v2 (F := Ideal) (ix2 a l) = Ideal.ofBits .f32 0x3F800000#32 := by pointwise [val_main_call0_v2, val_main_call0_cst]
  show (val_main_v2 (F := Ideal) x0 x1 (ix2 a l) * Ideal.div (val_main_call0_v4 (F := Ideal) (ix2 a l)) (val_main_call0_v2 (F := Ideal) (ix2 a l) + Ideal.exp (-(val_main_v2 (F := Ideal) x0 x1 (ix2 a l)))) : EReal) = _
  rw [one, one', Ideal.ofBits_one_f32]
  rfl

theorem layer0 (a : Fin 16) (k : Fin 6144) : val_main_v11 (F := Ideal) x0 x1 x2 x3 (ix2 a k) = made (val_main_v2 (F := Ideal) x0 x1) x2 x3 0 a k := by
  unfold made PreMath.project
  simp only [← silu_apply]
  pointwise [val_main_v11, val_main_v10, val_main_v9, val_main_v8, val_main_v7, val_main_v6, val_main_v5, val_main_v4]

theorem layer1 (a : Fin 16) (k : Fin 6144) : val_main_v19 (F := Ideal) x0 x1 x2 x3 (ix2 a k) = made (val_main_v2 (F := Ideal) x0 x1) x2 x3 1 a k := by
  unfold made PreMath.project
  simp only [← silu_apply]
  pointwise [val_main_v19, val_main_v18, val_main_v17, val_main_v16, val_main_v15, val_main_v14, val_main_v13, val_main_v12]

theorem layer2 (a : Fin 16) (k : Fin 6144) : val_main_v27 (F := Ideal) x0 x1 x2 x3 (ix2 a k) = made (val_main_v2 (F := Ideal) x0 x1) x2 x3 2 a k := by
  unfold made PreMath.project
  simp only [← silu_apply]
  pointwise [val_main_v27, val_main_v26, val_main_v25, val_main_v24, val_main_v23, val_main_v22, val_main_v21, val_main_v20]

theorem layer3 (a : Fin 16) (k : Fin 6144) : val_main_v35 (F := Ideal) x0 x1 x2 x3 (ix2 a k) = made (val_main_v2 (F := Ideal) x0 x1) x2 x3 3 a k := by
  unfold made PreMath.project
  simp only [← silu_apply]
  pointwise [val_main_v35, val_main_v34, val_main_v33, val_main_v32, val_main_v31, val_main_v30, val_main_v29, val_main_v28]

/-- The four layers' results, one after the other. -/
theorem stacked (i : Fin 4) (a : Fin 16) (k : Fin 6144) : val_main_v40 (F := Ideal) x0 x1 x2 x3 (ix3 i a k) = made (val_main_v2 (F := Ideal) x0 x1) x2 x3 i a k := by
  match i with
  | 0 => exact Eq.trans (by pointwise [val_main_v40, val_main_v36]) (layer0 x0 x1 x2 x3 a k)
  | 1 => exact Eq.trans (by pointwise [val_main_v40, val_main_v37]) (layer1 x0 x1 x2 x3 a k)
  | 2 => exact Eq.trans (by pointwise [val_main_v40, val_main_v38]) (layer2 x0 x1 x2 x3 a k)
  | 3 => exact Eq.trans (by pointwise [val_main_v40, val_main_v39]) (layer3 x0 x1 x2 x3 a k)
end

/-! ## The kernel's block -/

/-- One store fills the block. -/
theorem whole (p : Vec Ideal S1x16x1536 .f32) : (View.canon [⟨r0_3, p⟩] : Vec Ideal S1x16x1536 .f32) = p :=
  View.canon_cons_unit_lit (S := S1x16x1536) (off := ![0, 0, 0]) _ p [] (fun a => match a with | 0 => rfl | 1 => rfl | 2 => rfl)

theorem block_apply (s : Vec Ideal S16x1024 .f32) (w : Vec Ideal S1x1024x1536 .f32) (b : Vec Ideal S1x1x1536 .f32) (a : Fin 16) (j : Fin 1536) :
    out0_3 s w b (ix3 0 a j) = (PreMath.project (fun l => silu (s (ix2 a l))) (fun l => w (ix3 0 l j)) + b (ix3 0 0 j) : EReal) := by
  unfold out0_3 PreMath.project silu
  rw [whole]
  pointwise [k0_pay1, r0_0, r0_1, r0_2]

/-! ## The arrays as they enter the region -/

variable (m : (ℓ : Loc nD τ sig) → Buf (Elt Ideal) ℓ) (c : Dev nD)

/-- An argument in memory. -/
abbrev A0 : FVec Ideal S8x1024 .f32 := m ((c : Thread nD τ).loc main_arg0)
abbrev A1 : FVec Ideal S1024 .f32 := m ((c : Thread nD τ).loc main_arg1)
abbrev A2 : FVec Ideal S4x1024x6144 .f32 := m ((c : Thread nD τ).loc main_arg2)
abbrev A3 : FVec Ideal S4x6144 .f32 := m ((c : Thread nD τ).loc main_arg3)

/-- The conditioning's rows. -/
abbrev rows : FVec Ideal S16x1024 .f32 := Cert.AdaRefIdeal.Read.val_main_v2 (F := Ideal) (A0 m c) (A1 m c)

theorem rows_entry : (V m c main_v2 : FVec Ideal S16x1024 .f32) = rows m c := by
  unfold V
  after_reads_at
  rfl

theorem weights_entry : (V m c main_arg2 : FVec Ideal S4x1024x6144 .f32) = A2 m c := by
  unfold V
  rfl

theorem bias_entry (i : Fin 4) (k : Fin 6144) : (V m c main_v3 : FVec Ideal S4x1x6144 .f32) (ix3 i 0 k) = A3 m c (ix2 i k) := by
  entry_read
  pointwise

/-! ## The windows' blocks -/

/-- The grid point of a layer and a quarter of its columns. -/
def point (i : Fin 4) (q : Fin 4) : Fin cfg0.N := ⟨i.val * 4 + q.val, by have e : cfg0.N = 16 := N_0; omega⟩

theorem point_div (i q : Fin 4) : (point i q).val / 4 = i.val := by unfold point; dsimp only; omega
theorem point_mod (i q : Fin 4) : (point i q).val % 4 = q.val := by unfold point; dsimp only; omega

theorem index_0 : ∀ t : Fin grid0.N, (cfg0.win 0).index t = ![0, 0] := by decide +kernel
theorem index_1 : ∀ t : Fin grid0.N, (cfg0.win 1).index t = ![t.val / 4, 0, t.val % 4] := by decide +kernel
theorem index_2 : ∀ t : Fin grid0.N, (cfg0.win 2).index t = ![t.val / 4, 0, t.val % 4] := by decide +kernel
theorem index_3 : ∀ t : Fin grid0.N, (cfg0.win 3).index t = ![t.val / 4, 0, t.val % 4] := by decide +kernel

section
variable (i q : Fin 4)

theorem rows_blk (a : Fin 16) (l : Fin 1024) : (iblk m c 0 (point i q) : FVec Ideal S16x1024 .f32) (ix2 a l) = rows m c (ix2 a l) :=
  (congrFun (rows_entry m c) _).trans (congrArg (rows m c) (PreTile.place2 _ a l (PreTile.whole_at 16 1024 _ (index_0 (point i q)) a.val l.val)))

theorem weights_blk (l : Fin 1024) (j : Fin 1536) : (iblk m c 1 (point i q) : FVec Ideal S1x1024x1536 .f32) (ix3 0 l j) = A2 m c (ix3 i l ⟨1536 * q.val + j.val, by omega⟩) := by
  have e := index_1 (point i q)
  rw [point_div i q, point_mod i q] at e
  exact (congrFun (weights_entry m c) _).trans (congrArg (A2 m c) (PreTile.place3 _ i l ⟨1536 * q.val + j.val, by omega⟩ (PreTile.columns_at 1536 1024 i.val q.val _ e l.val j.val)))

theorem bias_blk (j : Fin 1536) : (iblk m c 2 (point i q) : FVec Ideal S1x1x1536 .f32) (ix3 0 0 j) = A3 m c (ix2 i ⟨1536 * q.val + j.val, by omega⟩) := by
  have e := index_2 (point i q)
  rw [point_div i q, point_mod i q] at e
  exact (congrArg (V m c main_v3 : FVec Ideal S4x1x6144 .f32) (PreTile.place3 _ i 0 ⟨1536 * q.val + j.val, by omega⟩ (PreTile.columns_at 1536 1 i.val q.val _ e 0 j.val))).trans (bias_entry m c i _)

set_option maxHeartbeats 2000000 in
theorem made_at (a : Fin 16) (j : Fin 1536) : ((dats m 0 c).arrAt 3 cfg0.N : FVec Ideal S4x16x6144 .f32) (ix3 i a ⟨1536 * q.val + j.val, by omega⟩) =
    made (rows m c) (A2 m c) (A3 m c) i a ⟨1536 * q.val + j.val, by omega⟩ := by
  have e := index_3 (point i q)
  rw [point_div i q, point_mod i q] at e
  have h : (((cfg0.win 3).blk (point i q)).view.read (Elt Ideal) ((dats m 0 c).arrAt 3 cfg0.N) : FVec Ideal S1x16x1536 .f32) (ix3 0 a j) = ((dats m 0 c).arrAt 3 cfg0.N : FVec Ideal S4x16x6144 .f32) (ix3 i a ⟨1536 * q.val + j.val, by omega⟩) :=
    congrArg ((dats m 0 c).arrAt 3 cfg0.N : FVec Ideal S4x16x6144 .f32) (PreTile.place3 _ i a ⟨1536 * q.val + j.val, by omega⟩ (PreTile.columns_at 1536 16 i.val q.val _ e a.val j.val))
  refine h.symm.trans ?_
  rw [Value.blocks3 m c (point i q) (flush0_3 (point i q)), Value.flushed3]
  refine (block_apply (iblk m c 0 (point i q)) (iblk m c 1 (point i q)) (iblk m c 2 (point i q)) a j).trans ?_
  unfold made
  simp only [rows_blk, weights_blk, bias_blk]
end

/-- The call's result is the reference's. -/
theorem final_eq : ((dats m 0 c).arrAt 3 cfg0.N : FVec Ideal S4x16x6144 .f32) = Cert.AdaRefIdeal.Read.val_main_v40 (F := Ideal) (A0 m c) (A1 m c) (A2 m c) (A3 m c) := by
  funext y
  have hk : (y 2).val < 6144 := (y 2).isLt
  obtain ⟨i, a, k, rfl⟩ : ∃ (i : Fin 4) (a : Fin 16) (k : Fin 6144), y = ix3 i a k := ⟨y 0, y 1, y 2, PreTile.place3 y _ _ _ ⟨rfl, rfl, rfl⟩⟩
  rw [stacked]
  have e : k = ⟨1536 * (⟨k.val / 1536, by omega⟩ : Fin 4).val + (⟨k.val % 1536, by omega⟩ : Fin 1536).val, by dsimp only; omega⟩ := Fin.ext (by dsimp only; omega)
  rw [e]
  exact made_at m c i ⟨k.val / 1536, by omega⟩ a ⟨k.val % 1536, by omega⟩

end Cert.AdaEq
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Split.Skeleton
public import proofs.«01_k».proof.Proof.Gen.Split.Launch
public import proofs.«01_k».proof.Proof.Gen.Split.Points
public import proofs.«01_k».proof.Proof.Gen.Split.Frame
public import proofs.«01_k».proof.Proof.Gen.SplitIdeal.Skeleton
public import proofs.«01_k».proof.Proof.Gen.SplitIdeal.Launch
public import proofs.«01_k».proof.Proof.Gen.SplitIdeal.Points
public import proofs.«01_k».proof.Proof.Gen.SplitIdeal.Frame
public import proofs.«01_k».proof.Proof.Gen.SplitIdeal.Value
public import proofs.«01_k».proof.Proof.Gen.SplitRefIdeal.Run
public import proofs.«01_k».proof.Proof.Gen.SplitRefIdeal.Read
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal.Run
public import proofs.«01_k».proof.Proof.Gen.LastRefIdeal.Read
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstIdeal.Value
public import proofs.«01_k».proof.Proof.Gen.FirstRefIdeal.Run
public import proofs.«01_k».proof.Proof.Gen.FirstRefIdeal.Read
public import proofs.«01_k».proof.Proof.Gen.Enter.Skeleton
public import proofs.«01_k».proof.Proof.Gen.Enter.Launch
public import proofs.«01_k».proof.Proof.Gen.Enter.Points
public import proofs.«01_k».proof.Proof.Gen.Enter.Frame
public import proofs.«01_k».proof.Proof.Gen.EnterIdeal.Skeleton
public import proofs.«01_k».proof.Proof.Gen.EnterIdeal.Launch
public import proofs.«01_k».proof.Proof.Gen.EnterIdeal.Points
public import proofs.«01_k».proof.Proof.Gen.EnterIdeal.Frame
public import proofs.«01_k».proof.Proof.Gen.EnterIdeal.Value
public import proofs.«01_k».proof.Proof.Gen.EnterRefIdeal.Run
public import proofs.«01_k».proof.Proof.Gen.EnterRefIdeal.Read
public import proofs.«01_k».proof.Proof.Gen.Again.Skeleton
public import proofs.«01_k».proof.Proof.Gen.Again.Launch
public import proofs.«01_k».proof.Proof.Gen.Again.Points
public import proofs.«01_k».proof.Proof.Gen.Again.Frame
public import proofs.«01_k».proof.Proof.Gen.AgainIdeal.Skeleton
public import proofs.«01_k».proof.Proof.Gen.AgainIdeal.Launch
public import proofs.«01_k».proof.Proof.Gen.AgainIdeal.Points
public import proofs.«01_k».proof.Proof.Gen.AgainIdeal.Frame
public import proofs.«01_k».proof.Proof.Gen.AgainIdeal.Value
public import proofs.«01_k».proof.Proof.Gen.AgainRefIdeal.Run
public import proofs.«01_k».proof.Proof.Gen.AgainRefIdeal.Read
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.DiffEq
public import proofs.«01_k».proof.Proof.SplitEq
public import proofs.«01_k».proof.Proof.LastEq
public import proofs.«01_k».proof.Proof.FirstEq
public import proofs.«01_k».proof.Proof.EnterKernel
public import proofs.«01_k».proof.Proof.EnterRun
public import proofs.«01_k».proof.Proof.AgainKernel
public import proofs.«01_k».proof.Proof.AgainRun
public import proofs.«01_k».proof.Proof.AdaEq
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The named constant is the scale's float word over the reals. -/
theorem preserves : Cert.preserves_Kernel_KernelIdeal :=
  IdealRules.named_const.statement Cert.KernelIdeal.κ "scale_log2e" .f32 0x3E38AA3B#32 _ rfl

/-- The reference runs and leaves its arguments and the counters as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the differential attention and its reference end with equal results. -/
theorem algebraic : Cert.algebraic_KernelIdeal_ReferenceIdeal := fun m ρ m' ρ' _ hag =>
  ⟨fun c => (Cert.KernelIdeal.Gen.dats m 0 c).arrAt 12 Cert.KernelIdeal.cfg0.N, Cert.KernelIdeal.Value.run_blocks m ρ,
    (θ_run Cert.ReferenceIdeal.defs _ _).mono (fun _ h c => ⟨by
      obtain ⟨h0, h1, h2, h3, h4, h5, h6, h7, h8, h9, h10⟩ := hag c
      refine (h c).1.trans ?_
      rw [Cert.ReferenceIdeal.Read.val_main_v65_eq, h1, h2, h3, h4, h5, h6, h7, h8, h9, h10]
      exact (Cert.DiffEq.final_eq m c).symm, (h c).2⟩) (Cert.ReferenceIdeal.Value.run m' ρ')⟩

/-- The middle layers' end: the reference runs and leaves its arguments and the counters as they were. -/
theorem frame_split_reference : Cert.quiescent_SplitRefIdeal := fun m ρ _ =>
  (θ_run Cert.SplitRefIdeal.defs _ _).mono (fun r h => ⟨fun c => (h c).2, sem_eq_zero_of_no_sems (by decide) r.2⟩)
    (Cert.SplitRefIdeal.Value.run (F := Ideal) m ρ)

/-- From equal arguments the middle layers' end and its reference end with equal results. -/
theorem algebraic_split : Cert.algebraic_SplitIdeal_SplitRefIdeal := fun m ρ m' ρ' _ hag =>
  ⟨fun c => (Cert.SplitIdeal.Gen.dats m 0 c).arrAt 16 Cert.SplitIdeal.cfg0.N, Cert.SplitIdeal.Value.run_blocks m ρ,
    (θ_run Cert.SplitRefIdeal.defs _ _).mono (fun _ h c => ⟨by
      obtain ⟨h0, h1, h2, h3, h4, h5, h6, h7, h8, h9⟩ := hag c
      refine (h c).1.trans ?_
      rw [Cert.SplitRefIdeal.Read.val_main_v88_eq, h0, h1, h2, h3, h4, h5, h6, h7, h8, h9]
      exact (Cert.SplitEq.final_eq m c).symm, (h c).2⟩) (Cert.SplitRefIdeal.Value.run m' ρ')⟩

/-- The last layer's end: the reference runs and leaves its arguments and the counters as they were. -/
theorem frame_last_reference : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

/-- From equal arguments the last layer's end and its reference end with equal results. -/
theorem algebraic_last : Cert.algebraic_LastIdeal_LastRefIdeal := fun m ρ m' ρ' _ hag =>
  ⟨fun c => (Cert.LastIdeal.Gen.dats m 0 c).arrAt 16 Cert.LastIdeal.cfg0.N, Cert.LastIdeal.Value.run_blocks m ρ,
    (θ_run Cert.LastRefIdeal.defs _ _).mono (fun _ h c => ⟨by
      obtain ⟨h0, h1, h2, h3, h4, h5, h6, h7, h8, h9, h10, h11, h12, h13, h14, h15⟩ := hag c
      refine (h c).1.trans ?_
      rw [Cert.LastRefIdeal.Read.val_main_v83_eq, h1, h3, h5, h7, h8, h10, h11, h12, h13, h14, h15]
      exact (Cert.LastEq.final_eq m c).symm, (h c).2⟩) (Cert.LastRefIdeal.Value.run m' ρ')⟩

/-- The first layer's end: the reference runs and leaves its arguments and the counters as they were. -/
theorem frame_first_reference : Cert.quiescent_FirstRefIdeal := fun m ρ _ =>
  (θ_run Cert.FirstRefIdeal.defs _ _).mono (fun r h => ⟨fun c => (h c).2, sem_eq_zero_of_no_sems (by decide) r.2⟩)
    (Cert.FirstRefIdeal.Value.run (F := Ideal) m ρ)

/-- From equal arguments the first layer's end and its reference end with equal results. -/
theorem algebraic_first : Cert.algebraic_FirstIdeal_FirstRefIdeal := fun m ρ m' ρ' _ hag =>
  ⟨fun c => (Cert.FirstIdeal.Gen.dats m 0 c).arrAt 23 Cert.FirstIdeal.cfg0.N, Cert.FirstIdeal.Value.run_blocks m ρ,
    (θ_run Cert.FirstRefIdeal.defs _ _).mono (fun _ h c => ⟨by
      obtain ⟨h0, h1, h2, h3, h4, h5, h6, h7, h8, h9, h10, h11, h12, h13, h14⟩ := hag c
      refine (h c).1.trans ?_
      rw [Cert.FirstRefIdeal.Read.val_main_v142_eq, h0, h1, h2, h3, h4, h5, h6, h7, h8, h9, h10, h11, h12, h13, h14]
      exact (Cert.FirstEq.final_eq m c).symm, (h c).2⟩) (Cert.FirstRefIdeal.Value.run m' ρ')⟩

/-- The first layer's start: the reference runs and leaves its arguments and the counters as they were. -/
theorem frame_enter_reference : Cert.quiescent_EnterRefIdeal := fun m ρ _ =>
  (θ_run Cert.EnterRefIdeal.defs _ _).mono (fun r h => ⟨fun c => (h c).2.2.2.2.2, sem_eq_zero_of_no_sems (by decide) r.2⟩)
    (Cert.EnterRun.run m ρ)

set_option maxHeartbeats 4000000 in
/-- From equal arguments the first layer's start and its reference end with equal results, all five. -/
theorem algebraic_enter : Cert.algebraic_EnterIdeal_EnterRefIdeal := fun m ρ m' ρ' _ hag =>
  ⟨fun c => (Cert.EnterIdeal.Gen.dats m 0 c).arrAt 15 Cert.EnterIdeal.cfg0.N, fun c => (Cert.EnterIdeal.Gen.dats m 0 c).arrAt 16 Cert.EnterIdeal.cfg0.N, fun c => (Cert.EnterIdeal.Gen.dats m 0 c).arrAt 17 Cert.EnterIdeal.cfg0.N, fun c => (Cert.EnterIdeal.Gen.dats m 0 c).arrAt 18 Cert.EnterIdeal.cfg0.N, fun c => (Cert.EnterIdeal.Gen.dats m 0 c).arrAt 19 Cert.EnterIdeal.cfg0.N,
    Cert.EnterIdeal.Value.run_blocks m ρ,
    (θ_run Cert.EnterRefIdeal.defs _ _).mono (fun _ h c => by
      obtain ⟨h0, h1, h2, h3, h4, h5⟩ := hag c
      obtain ⟨rq, rk, rv, ro, rg, hargs⟩ := h c
      rw [h0, h1, h2, h3, h4, h5] at rq rk rv ro rg
      exact ⟨rq.trans (Cert.EnterKernel.queries_final m c).symm, rk.trans (Cert.EnterKernel.keysT_final m c).symm, rv.trans (Cert.EnterKernel.values_final m c).symm, ro.trans (Cert.EnterKernel.outputs_final m c).symm, rg.trans (Cert.EnterKernel.gates_final m c).symm, hargs⟩) (Cert.EnterRun.run m' ρ')⟩

/-- The last layer's start: the reference runs and leaves its arguments and the counters as they were. -/
theorem frame_again_reference : Cert.quiescent_AgainRefIdeal := fun m ρ _ =>
  (θ_run Cert.AgainRefIdeal.defs _ _).mono (fun r h => ⟨fun c => (h c).2.2.2.2.2, sem_eq_zero_of_no_sems (by decide) r.2⟩)
    (Cert.AgainRun.run m ρ)

set_option maxHeartbeats 4000000 in
/-- From equal arguments the last layer's start and its reference end with equal results, all five. -/
theorem algebraic_again : Cert.algebraic_AgainIdeal_AgainRefIdeal := fun m ρ m' ρ' _ hag =>
  ⟨fun c => (Cert.AgainIdeal.Gen.dats m 0 c).arrAt 10 Cert.AgainIdeal.cfg0.N, fun c => (Cert.AgainIdeal.Gen.dats m 0 c).arrAt 11 Cert.AgainIdeal.cfg0.N, fun c => (Cert.AgainIdeal.Gen.dats m 0 c).arrAt 12 Cert.AgainIdeal.cfg0.N, fun c => (Cert.AgainIdeal.Gen.dats m 0 c).arrAt 13 Cert.AgainIdeal.cfg0.N, fun c => (Cert.AgainIdeal.Gen.dats m 0 c).arrAt 14 Cert.AgainIdeal.cfg0.N,
    Cert.AgainIdeal.Value.run_blocks m ρ,
    (θ_run Cert.AgainRefIdeal.defs _ _).mono (fun _ h c => by
      obtain ⟨h0, h1, h2, h3, h4, h5⟩ := hag c
      obtain ⟨rq, rk, rv, ro, rg, hargs⟩ := h c
      rw [h0, h1, h2, h3, h4, h5] at rq rk rv ro rg
      exact ⟨rq.trans (Cert.AgainKernel.queries_final m c).symm, rk.trans (Cert.AgainKernel.keysT_final m c).symm, rv.trans (Cert.AgainKernel.values_final m c).symm, ro.trans (Cert.AgainKernel.outputs_final m c).symm, rg.trans (Cert.AgainKernel.gates_final m c).symm, hargs⟩) (Cert.AgainRun.run m' ρ')⟩

/-- The modulation: the reference runs and leaves its arguments and the counters as they were. -/
theorem frame_ada_reference : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- From equal arguments the modulation and its reference end with equal results. -/
theorem algebraic_ada : Cert.algebraic_AdaIdeal_AdaRefIdeal := fun m ρ m' ρ' _ hag =>
  ⟨fun c => (Cert.AdaIdeal.Gen.dats m 0 c).arrAt 3 Cert.AdaIdeal.cfg0.N, Cert.AdaIdeal.Value.run_blocks m ρ,
    (θ_run Cert.AdaRefIdeal.defs _ _).mono (fun _ h c => ⟨by
      obtain ⟨h0, h1, h2, h3⟩ := hag c
      refine (h c).1.trans ?_
      rw [Cert.AdaRefIdeal.Read.val_main_v40_eq, h0, h1, h2, h3]
      exact (Cert.AdaEq.final_eq m c).symm, (h c).2⟩) (Cert.AdaRefIdeal.Value.run m' ρ')⟩

/-- All the claims. -/
theorem claim : Cert.Claim := ⟨Cert.Kernel.Gen.facts, Cert.KernelIdeal.Gen.facts, Cert.ReferenceIdeal.Gen.facts, Cert.Split.Gen.facts, Cert.SplitIdeal.Gen.facts, Cert.SplitRefIdeal.Gen.facts, Cert.Last.Gen.facts, Cert.LastIdeal.Gen.facts, Cert.LastRefIdeal.Gen.facts, Cert.First.Gen.facts, Cert.FirstIdeal.Gen.facts, Cert.FirstRefIdeal.Gen.facts, Cert.Enter.Gen.facts, Cert.EnterIdeal.Gen.facts, Cert.EnterRefIdeal.Gen.facts, Cert.Again.Gen.facts, Cert.AgainIdeal.Gen.facts, Cert.AgainRefIdeal.Gen.facts, Cert.Ada.Gen.facts, Cert.AdaIdeal.Gen.facts, Cert.AdaRefIdeal.Gen.facts,
  fun m ρ _ => Cert.Kernel.Gen.frame m ρ, fun m ρ _ => Cert.KernelIdeal.Gen.frame m ρ, frame_reference,
  fun m ρ _ => Cert.Split.Gen.frame m ρ, fun m ρ _ => Cert.SplitIdeal.Gen.frame m ρ, frame_split_reference,
  fun m ρ _ => Cert.Last.Gen.frame m ρ, fun m ρ _ => Cert.LastIdeal.Gen.frame m ρ, frame_last_reference,
  fun m ρ _ => Cert.First.Gen.frame m ρ, fun m ρ _ => Cert.FirstIdeal.Gen.frame m ρ, frame_first_reference,
  fun m ρ _ => Cert.Enter.Gen.frame m ρ, fun m ρ _ => Cert.EnterIdeal.Gen.frame m ρ, frame_enter_reference,
  fun m ρ _ => Cert.Again.Gen.frame m ρ, fun m ρ _ => Cert.AgainIdeal.Gen.frame m ρ, frame_again_reference,
  fun m ρ _ => Cert.Ada.Gen.frame m ρ, fun m ρ _ => Cert.AdaIdeal.Gen.frame m ρ, frame_ada_reference,
  preserves, algebraic, trivial, algebraic_split, trivial, algebraic_last, trivial, algebraic_first, trivial, algebraic_enter, trivial, algebraic_again, trivial, algebraic_ada⟩

end Cert.Proof

end
